-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_weights_finite [hPre_weights_finite : Cert.Pre_weights_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_weights_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).1 = (fun _ => 1#1)
    ∧ (Cert.Pre_weights_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).2.1 = (fun _ => 1#1)
    ∧ (Cert.Pre_weights_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).2.2.1 = (fun _ => 1#1)
    ∧ (Cert.Pre_weights_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_weights_finite [hPre_weights_finite : Cert.Pre_weights_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_weights_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).1 = (fun _ => 1#1)
    ∧ (Cert.Pre_weights_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).2.1 = (fun _ => 1#1)
    ∧ (Cert.Pre_weights_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).2.2.1 = (fun _ => 1#1)
    ∧ (Cert.Pre_weights_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Kernel4Ideal_pre_weights_finite [hKernel4Ideal : Cert.Kernel4Ideal.Facts] [hPre_weights_finite : Cert.Pre_weights_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_weights_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Reference4Ideal_pre_weights_finite [hReference4Ideal : Cert.Reference4Ideal.Facts] [hPre_weights_finite : Cert.Pre_weights_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_weights_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_v4) = v1 c
          ∧ r.2.mem ((c.tc : Thread Cert.Reference2Ideal.nD Cert.Reference2Ideal.τ).loc Cert.Reference2Ideal.main_v6) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v16_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal_pre_weights_finite [hKernel4Ideal : Cert.Kernel4Ideal.Facts] [hReference4Ideal : Cert.Reference4Ideal.Facts] [hPre_weights_finite : Cert.Pre_weights_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_weights_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v16_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16_1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v50) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_weights_finite : Cert.Pre_weights_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_weights_finite (hKernel4Ideal := hKernel4Ideal) (hPre_weights_finite := hPre_weights_finite)
    ∧ quiescent_Reference4Ideal (hReference4Ideal := hReference4Ideal)
    ∧ quiescent_Reference4Ideal_pre_weights_finite (hReference4Ideal := hReference4Ideal) (hPre_weights_finite := hPre_weights_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_weights_finite (hKernel4Ideal := hKernel4Ideal) (hReference4Ideal := hReference4Ideal) (hPre_weights_finite := hPre_weights_finite)
-- ==== Pre_weights_finite.lean ====
abbrev S4x4096x1024 : Shape := ⟨3, ![4, 4096, 1024]⟩
abbrev S4x4096x512 : Shape := ⟨3, ![4, 4096, 512]⟩
abbrev S4x4096x2048 : Shape := ⟨3, ![4, 4096, 2048]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S1024x32 : Shape := ⟨2, ![1024, 32]⟩
abbrev S_ : Shape := ⟨0, ![]⟩

class Facts : Prop where
  bcast_S_S1024 : S_.BroadcastsInDim S1024 (![] : Fin 0 → Fin S1024.rank)
  bcast_S_S1024x4 : S_.BroadcastsInDim S1024x4 (![] : Fin 0 → Fin S1024x4.rank)
  bcast_S_S1024x32 : S_.BroadcastsInDim S1024x32 (![] : Fin 0 → Fin S1024x32.rank)

variable [Facts]

def fn {F : FTy → Type} [FloatOps F] (main_arg0 : FVec F S4x4096x1024 .f32) (main_arg1 : FVec F S4x4096x512 .bf16) (main_arg2 : FVec F S4x4096x512 .bf16) (main_arg3 : FVec F S4x4096x2048 .f32) (main_arg4 : FVec F S512x1024 .f32) (main_arg5 : FVec F S512x1024 .f32) (main_arg6 : FVec F S1024x1024 .f32) (main_arg7 : FVec F S1024 .f32) (main_arg8 : FVec F S1024 .f32) (main_arg9 : FVec F S1024x4 .f32) (main_arg10 : FVec F S1024x32 .f32) : IVec S1024 1 × IVec S1024 1 × IVec S1024x4 1 × IVec S1024x32 1 :=
  let main_v0 : FVec F S1024 .f32 := Host.absf main_arg7
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024 .f32 := Host.absf main_arg8
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4 .f32 := Host.absf main_arg9
  let main_cst_1 : FVec F S_ .f32 := constant S_ .f32 0x7F800000#32
  let main_v7 : FVec F S1024x4 .f32 := broadcastInDim S1024x4 ![] bcast_S_S1024x4 main_cst_1
  let main_v8 : IVec S1024x4 1 := cmpf .olt main_v6 main_v7
  let main_v9 : FVec F S1024x32 .f32 := Host.absf main_arg10
  let main_cst_2 : FVec F S_ .f32 := constant S_ .f32 0x7F800000#32
  let main_v10 : FVec F S1024x32 .f32 := broadcastInDim S1024x32 ![] bcast_S_S1024x32 main_cst_2
  let main_v11 : IVec S1024x32 1 := cmpf .olt main_v9 main_v10
  (main_v2, main_v5, main_v8, main_v11)
-- ==== Kernel.lean ====
abbrev S4x4096x2048 : Shape := ⟨3, ![4, 4096, 2048]⟩
abbrev S2x512 : Shape := ⟨2, ![2, 512]⟩
abbrev S512 : Shape := ⟨1, ![512]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S512x1 : Shape := ⟨2, ![512, 1]⟩
abbrev S1x512 : Shape := ⟨2, ![1, 512]⟩
abbrev S512x512 : Shape := ⟨2, ![512, 512]⟩
abbrev S4x4096x512 : Shape := ⟨3, ![4, 4096, 512]⟩
abbrev S1x256x2048 : Shape := ⟨3, ![1, 256, 2048]⟩
abbrev S1x256x512 : Shape := ⟨3, ![1, 256, 512]⟩
abbrev S4x128x128 : Shape := ⟨3, ![4, 128, 128]⟩
abbrev S256x512 : Shape := ⟨2, ![256, 512]⟩
abbrev S256x2048 : Shape := ⟨2, ![256, 2048]⟩
abbrev S64x128 : Shape := ⟨2, ![64, 128]⟩
abbrev S1x128 : Shape := ⟨2, ![1, 128]⟩
abbrev S16x128 : Shape := ⟨2, ![16, 128]⟩
abbrev S16x16 : Shape := ⟨2, ![16, 16]⟩
abbrev S32x128 : Shape := ⟨2, ![32, 128]⟩
abbrev S16x32 : Shape := ⟨2, ![16, 32]⟩
abbrev S48x128 : Shape := ⟨2, ![48, 128]⟩
abbrev S16x48 : Shape := ⟨2, ![16, 48]⟩
abbrev S16x64 : Shape := ⟨2, ![16, 64]⟩
abbrev S128x64 : Shape := ⟨2, ![128, 64]⟩
abbrev S128x128 : Shape := ⟨2, ![128, 128]⟩
abbrev S1x128x128 : Shape := ⟨3, ![1, 128, 128]⟩

abbrev nBuf : Space → Nat
  | .hbm => 97
  | .vmem => 15
  | .smem => 0
  | _ => 0

abbrev bufTy : (tb : Table) → Fin (tcTables nBuf tb) → BufTy
  | .hbm, ⟨0, _⟩ => ⟨S4x4096x2048, .f32⟩
  | .hbm, ⟨1, _⟩ => ⟨S2x512, .f32⟩
  | .hbm, ⟨2, _⟩ => ⟨S512, .f32⟩
  | .hbm, ⟨3, _⟩ => ⟨S256, .i32⟩
  | .hbm, ⟨4, _⟩ => ⟨S256x1, .i32⟩
  | .hbm, ⟨5, _⟩ => ⟨S_, .i32⟩
  | .hbm, ⟨6, _⟩ => ⟨S_, .i32⟩
  | .hbm, ⟨7, _⟩ => ⟨S256x1, .i32⟩
  | .hbm, ⟨8, _⟩ => ⟨S256x1, .i32⟩
  | .hbm, ⟨9, _⟩ => ⟨S256x1, .i32⟩
  | .hbm, ⟨10, _⟩ => ⟨S_, .i32⟩
  | .hbm, ⟨11, _⟩ => ⟨S256x1, .i32⟩
  | .hbm, ⟨12, _⟩ => ⟨S256x1, .i1⟩
  | .hbm, ⟨13, _⟩ => ⟨S256x1, .i32⟩
  | .hbm, ⟨14, _⟩ => ⟨S256x1, .i32⟩
  | .hbm, ⟨15, _⟩ => ⟨S_, .i32⟩
  | .hbm, ⟨16, _⟩ => ⟨S256x1, .i32⟩
  | .hbm, ⟨17, _⟩ => ⟨S256x1, .i1⟩
  | .hbm, ⟨18, _⟩ => ⟨S256x1, .i1⟩
  | .hbm, ⟨19, _⟩ => ⟨S_, .i32⟩
  | .hbm, ⟨20, _⟩ => ⟨S256x1, .i32⟩
  | .hbm, ⟨21, _⟩ => ⟨S256x1, .i32⟩
  | .hbm, ⟨22, _⟩ => ⟨S256x1, .i32⟩
  | .hbm, ⟨23, _⟩ => ⟨S1x256, .i32⟩
  | .hbm, ⟨24, _⟩ => ⟨S_, .i32⟩
  | .hbm, ⟨25, _⟩ => ⟨S_, .i32⟩
  | .hbm, ⟨26, _⟩ => ⟨S1x256, .i32⟩
  | .hbm, ⟨27, _⟩ => ⟨S1x256, .i32⟩
  | .hbm, ⟨28, _⟩ => ⟨S1x256, .i32⟩
  | .hbm, ⟨29, _⟩ => ⟨S_, .i32⟩
  | .hbm, ⟨30, _⟩ => ⟨S1x256, .i32⟩
  | .hbm, ⟨31, _⟩ => ⟨S1x256, .i1⟩
  | .hbm, ⟨32, _⟩ => ⟨S1x256, .i32⟩
  | .hbm, ⟨33, _⟩ => ⟨S1x256, .i32⟩
  | .hbm, ⟨34, _⟩ => ⟨S_, .i32⟩
  | .hbm, ⟨35, _⟩ => ⟨S1x256, .i32⟩
  | .hbm, ⟨36, _⟩ => ⟨S1x256, .i1⟩
  | .hbm, ⟨37, _⟩ => ⟨S1x256, .i1⟩
  | .hbm, ⟨38, _⟩ => ⟨S_, .i32⟩
  | .hbm, ⟨39, _⟩ => ⟨S1x256, .i32⟩
  | .hbm, ⟨40, _⟩ => ⟨S1x256, .i32⟩
  | .hbm, ⟨41, _⟩ => ⟨S1x256, .i32⟩
  | .hbm, ⟨42, _⟩ => ⟨S256x256, .i32⟩
  | .hbm, ⟨43, _⟩ => ⟨S256x256, .i32⟩
  | .hbm, ⟨44, _⟩ => ⟨S256x256, .i1⟩
  | .hbm, ⟨45, _⟩ => ⟨S256x1, .i32⟩
  | .hbm, ⟨46, _⟩ => ⟨S1x256, .i32⟩
  | .hbm, ⟨47, _⟩ => ⟨S256x256, .i32⟩
  | .hbm, ⟨48, _⟩ => ⟨S256x256, .i32⟩
  | .hbm, ⟨49, _⟩ => ⟨S256x256, .i1⟩
  | .hbm, ⟨50, _⟩ => ⟨S256x256, .i1⟩
  | .hbm, ⟨51, _⟩ => ⟨S256x256, .bf16⟩
  | .hbm, ⟨52, _⟩ => ⟨S512, .i32⟩
  | .hbm, ⟨53, _⟩ => ⟨S512x1, .i32⟩
  | .hbm, ⟨54, _⟩ => ⟨S_, .i32⟩
  | .hbm, ⟨55, _⟩ => ⟨S_, .i32⟩
  | .hbm, ⟨56, _⟩ => ⟨S512x1, .i32⟩
  | .hbm, ⟨57, _⟩ => ⟨S512x1, .i32⟩
  | .hbm, ⟨58, _⟩ => ⟨S512x1, .i32⟩
  | .hbm, ⟨59, _⟩ => ⟨S_, .i32⟩
  | .hbm, ⟨60, _⟩ => ⟨S512x1, .i32⟩
  | .hbm, ⟨61, _⟩ => ⟨S512x1, .i1⟩
  | .hbm, ⟨62, _⟩ => ⟨S512x1, .i32⟩
  | .hbm, ⟨63, _⟩ => ⟨S512x1, .i32⟩
  | .hbm, ⟨64, _⟩ => ⟨S_, .i32⟩
  | .hbm, ⟨65, _⟩ => ⟨S512x1, .i32⟩
  | .hbm, ⟨66, _⟩ => ⟨S512x1, .i1⟩
  | .hbm, ⟨67, _⟩ => ⟨S512x1, .i1⟩
  | .hbm, ⟨68, _⟩ => ⟨S_, .i32⟩
  | .hbm, ⟨69, _⟩ => ⟨S512x1, .i32⟩
  | .hbm, ⟨70, _⟩ => ⟨S512x1, .i32⟩
  | .hbm, ⟨71, _⟩ => ⟨S512x1, .i32⟩
  | .hbm, ⟨72, _⟩ => ⟨S1x512, .i32⟩
  | .hbm, ⟨73, _⟩ => ⟨S_, .i32⟩
  | .hbm, ⟨74, _⟩ => ⟨S_, .i32⟩
  | .hbm, ⟨75, _⟩ => ⟨S1x512, .i32⟩
  | .hbm, ⟨76, _⟩ => ⟨S1x512, .i32⟩
  | .hbm, ⟨77, _⟩ => ⟨S1x512, .i32⟩
  | .hbm, ⟨78, _⟩ => ⟨S_, .i32⟩
  | .hbm, ⟨79, _⟩ => ⟨S1x512, .i32⟩
  | .hbm, ⟨80, _⟩ => ⟨S1x512, .i1⟩
  | .hbm, ⟨81, _⟩ => ⟨S1x512, .i32⟩
  | .hbm, ⟨82, _⟩ => ⟨S1x512, .i32⟩
  | .hbm, ⟨83, _⟩ => ⟨S_, .i32⟩
  | .hbm, ⟨84, _⟩ => ⟨S1x512, .i32⟩
  | .hbm, ⟨85, _⟩ => ⟨S1x512, .i1⟩
  | .hbm, ⟨86, _⟩ => ⟨S1x512, .i1⟩
  | .hbm, ⟨87, _⟩ => ⟨S_, .i32⟩
  | .hbm, ⟨88, _⟩ => ⟨S1x512, .i32⟩
  | .hbm, ⟨89, _⟩ => ⟨S1x512, .i32⟩
  | .hbm, ⟨90, _⟩ => ⟨S1x512, .i32⟩
  | .hbm, ⟨91, _⟩ => ⟨S512x512, .i32⟩
  | .hbm, ⟨92, _⟩ => ⟨S512x512, .i32⟩
  | .hbm, ⟨93, _⟩ => ⟨S512x512, .i1⟩
  | .hbm, ⟨94, _⟩ => ⟨S512x512, .bf16⟩
  | .hbm, ⟨95, _⟩ => ⟨S1x512, .f32⟩
  | .hbm, ⟨96, _⟩ => ⟨S4x4096x512, .bf16⟩
  | .local _ .vmem, ⟨0, _⟩ => ⟨S1x256x2048, .f32⟩
  | .local _ .vmem, ⟨1, _⟩ => ⟨S1x256x2048, .f32⟩
  | .local _ .vmem, ⟨2, _⟩ => ⟨S2x512, .f32⟩
  | .local _ .vmem, ⟨3, _⟩ => ⟨S1x512, .f32⟩
  | .local _ .vmem, ⟨4, _⟩ => ⟨S256x256, .bf16⟩
  | .local _ .vmem, ⟨5, _⟩ => ⟨S512x512, .bf16⟩
  | .local _ .vmem, ⟨6, _⟩ => ⟨S1x256x512, .bf16⟩
  | .local _ .vmem, ⟨7, _⟩ => ⟨S1x256x512, .bf16⟩
  | .local _ .vmem, ⟨8, _⟩ => ⟨S4x128x128, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v2 : Ref sig .tc := ⟨.hbm, 22, rfl⟩
abbrev main_v3 : Ref sig .tc := ⟨.hbm, 23, rfl⟩
abbrev main_c_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_c : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_0 : Ref sig .tc := ⟨.hbm, 38, rfl⟩
abbrev main_call1_v12 : Ref sig .tc := ⟨.hbm, 39, rfl⟩
abbrev main_call1_v13 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_c_1 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_c : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_0 : Ref sig .tc := ⟨.hbm, 68, rfl⟩
abbrev main_call2_v12 : Ref sig .tc := ⟨.hbm, 69, rfl⟩
abbrev main_call2_v13 : Ref sig .tc := ⟨.hbm, 70, rfl⟩
abbrev main_v17 : Ref sig .tc := ⟨.hbm, 71, rfl⟩
abbrev main_v18 : Ref sig .tc := ⟨.hbm, 72, rfl⟩
abbrev main_c_2 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_v6 : Ref sig .tc := ⟨.hbm, 80, rfl⟩
abbrev main_call3_v7 : Ref sig .tc := ⟨.hbm, 81, rfl⟩
abbrev main_call3_v8 : Ref sig .tc := ⟨.hbm, 82, rfl⟩
abbrev main_call3_c : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_call3_c_0 : Ref sig .tc := ⟨.hbm, 87, rfl⟩
abbrev main_call3_v12 : Ref sig .tc := ⟨.hbm, 88, rfl⟩
abbrev main_call3_v13 : Ref sig .tc := ⟨.hbm, 89, rfl⟩
abbrev main_v19 : Ref sig .tc := ⟨.hbm, 90, rfl⟩
abbrev main_v20 : Ref sig .tc := ⟨.hbm, 91, rfl⟩
abbrev main_v21 : Ref sig .tc := ⟨.hbm, 92, rfl⟩
abbrev main_v22 : Ref sig .tc := ⟨.hbm, 93, rfl⟩
abbrev main_v23 : Ref sig .tc := ⟨.hbm, 94, rfl⟩
abbrev main_v24 : Ref sig .tc := ⟨.hbm, 95, rfl⟩
abbrev main_v25 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 16], ![false, false]⟩

def k0_mult1 : BitVec 32 :=
  let c0_i32_31 : BitVec 32 := 0#32
  let c4_i32 : BitVec 32 := 4#32
  let v77 : BitVec 32 := Scalar.muli c0_i32_31 c4_i32
  let c0_i32_32 : BitVec 32 := 0#32
  let v78 : BitVec 32 := Scalar.addi v77 c0_i32_32
  let c64_i32 : BitVec 32 := 64#32
  let v79 : BitVec 32 := Scalar.muli v78 c64_i32
  v79
def k0_mult2 : BitVec 32 :=
  let c0_i32_31 : BitVec 32 := 0#32
  let c4_i32_33 : BitVec 32 := 4#32
  let v81 : BitVec 32 := Scalar.muli c0_i32_31 c4_i32_33
  let c1_i32 : BitVec 32 := 1#32
  let v82 : BitVec 32 := Scalar.addi v81 c1_i32
  let c64_i32_34 : BitVec 32 := 64#32
  let v83 : BitVec 32 := Scalar.muli v82 c64_i32_34
  v83
def k0_mult3 : BitVec 32 :=
  let c0_i32_31 : BitVec 32 := 0#32
  let c4_i32_35 : BitVec 32 := 4#32
  let v85 : BitVec 32 := Scalar.muli c0_i32_31 c4_i32_35
  let c2_i32 : BitVec 32 := 2#32
  let v86 : BitVec 32 := Scalar.addi v85 c2_i32
  let c64_i32_36 : BitVec 32 := 64#32
  let v87 : BitVec 32 := Scalar.muli v86 c64_i32_36
  v87
def k0_mult4 : BitVec 32 :=
  let c0_i32_31 : BitVec 32 := 0#32
  let c4_i32_37 : BitVec 32 := 4#32
  let v89 : BitVec 32 := Scalar.muli c0_i32_31 c4_i32_37
  let c3_i32 : BitVec 32 := 3#32
  let v90 : BitVec 32 := Scalar.addi v89 c3_i32
  let c64_i32_38 : BitVec 32 := 64#32
  let v91 : BitVec 32 := Scalar.muli v90 c64_i32_38
  v91
def k0_off1 (c0_i32_32 : BitVec 32) : Fin 2 → Nat :=
  let c0_i32_31 : BitVec 32 := 0#32
  let c4_i32 : BitVec 32 := 4#32
  let v77 : BitVec 32 := Scalar.muli c0_i32_31 c4_i32
  let v78 : BitVec 32 := Scalar.addi v77 c0_i32_32
  let c64_i32 : BitVec 32 := 64#32
  let v79 : BitVec 32 := Scalar.muli v78 c64_i32
  let v80 : BitVec 32 := v79
  let v93 : Index := Scalar.indexCast v80
  let c0_39 : Index := 0#32
  ![v93.toNat, 0]
def k0_off2 (c0_i32_32 : BitVec 32) : Fin 2 → Nat :=
  let c0_i32_31 : BitVec 32 := 0#32
  let c4_i32 : BitVec 32 := 4#32
  let v77 : BitVec 32 := Scalar.muli c0_i32_31 c4_i32
  let v78 : BitVec 32 := Scalar.addi v77 c0_i32_32
  let c64_i32 : BitVec 32 := 64#32
  let v79 : BitVec 32 := Scalar.muli v78 c64_i32
  let v80 : BitVec 32 := v79
  let v103 : Index := Scalar.indexCast v80
  let c128 : Index := 128#32
  ![v103.toNat, 128]
def k0_off3 (c0_i32_32 : BitVec 32) : Fin 2 → Nat :=
  let c0_i32_31 : BitVec 32 := 0#32
  let c4_i32 : BitVec 32 := 4#32
  let v77 : BitVec 32 := Scalar.muli c0_i32_31 c4_i32
  let v78 : BitVec 32 := Scalar.addi v77 c0_i32_32
  let c64_i32 : BitVec 32 := 64#32
  let v79 : BitVec 32 := Scalar.muli v78 c64_i32
  let v80 : BitVec 32 := v79
  let v113 : Index := Scalar.indexCast v80
  let c256 : Index := 256#32
  ![v113.toNat, 256]
def k0_off4 (c0_i32_32 : BitVec 32) : Fin 2 → Nat :=
  let c0_i32_31 : BitVec 32 := 0#32
  let c4_i32 : BitVec 32 := 4#32
  let v77 : BitVec 32 := Scalar.muli c0_i32_31 c4_i32
  let v78 : BitVec 32 := Scalar.addi v77 c0_i32_32
  let c64_i32 : BitVec 32 := 64#32
  let v79 : BitVec 32 := Scalar.muli v78 c64_i32
  let v80 : BitVec 32 := v79
  let v123 : Index := Scalar.indexCast v80
  let c384 : Index := 384#32
  ![v123.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x4096x2048 : Shape := ⟨3, ![4, 4096, 2048]⟩
abbrev S2x512 : Shape := ⟨2, ![2, 512]⟩
abbrev S512 : Shape := ⟨1, ![512]⟩
abbrev S_ : Shape := ⟨0, ![]⟩
abbrev S1x512 : Shape := ⟨2, ![1, 512]⟩
abbrev S4x4096x512 : Shape := ⟨3, ![4, 4096, 512]⟩
abbrev S1x1x512 : Shape := ⟨3, ![1, 1, 512]⟩
abbrev S4x64x64x4x128 : Shape := ⟨5, ![4, 64, 64, 4, 128]⟩
abbrev S64x4x4x64x128 : Shape := ⟨5, ![64, 4, 4, 64, 128]⟩
abbrev S64x64 : Shape := ⟨2, ![64, 64]⟩
abbrev S64x64x1 : Shape := ⟨3, ![64, 64, 1]⟩
abbrev S4x4x128x128 : Shape := ⟨4, ![4, 4, 128, 128]⟩
abbrev S1x4x4x64x128 : Shape := ⟨5, ![1, 4, 4, 64, 128]⟩
abbrev S4x4x64x128 : Shape := ⟨4, ![4, 4, 64, 128]⟩
abbrev S4x4x64x1x128 : Shape := ⟨5, ![4, 4, 64, 1, 128]⟩
abbrev S4x4x1x64x128 : Shape := ⟨5, ![4, 4, 1, 64, 128]⟩
abbrev S4x4x64x64x128 : Shape := ⟨5, ![4, 4, 64, 64, 128]⟩
abbrev S4x4x64x64 : Shape := ⟨4, ![4, 4, 64, 64]⟩
abbrev S4x4x1x128 : Shape := ⟨4, ![4, 4, 1, 128]⟩
abbrev S4x4x128 : Shape := ⟨3, ![4, 4, 128]⟩
abbrev S4x4x128x1 : Shape := ⟨4, ![4, 4, 128, 1]⟩
abbrev S4x4096x4x128 : Shape := ⟨4, ![4, 4096, 4, 128]⟩
abbrev S4x4096x4 : Shape := ⟨3, ![4, 4096, 4]⟩
abbrev S4x4096x4x1 : Shape := ⟨4, ![4, 4096, 4, 1]⟩

abbrev nBuf : Space → Nat
  | .hbm => 203
  | .vmem => 0
  | .smem => 0
  | _ => 0

abbrev hbmTy0_0 (i : Nat) : BufTy := match i % 128 with
  | 0 => ⟨S4x4096x2048, .f32⟩
  | 1 => ⟨S2x512, .f32⟩
  | 2 => ⟨S512, .f32⟩
  | 3 => ⟨S_, .f32⟩
  | 4 => ⟨S512, .f32⟩
  | 5 => ⟨S_, .f32⟩
  | 6 => ⟨S512, .f32⟩
  | 7 => ⟨S512, .f32⟩
  | 8 => ⟨S1x512, .f32⟩
  | 9 => ⟨S2x512, .f32⟩
  | 10 => ⟨S2x512, .f32⟩
  | 11 => ⟨S2x512, .f32⟩
  | 12 => ⟨S_, .f32⟩
  | 13 => ⟨S512, .f32⟩
  | 14 => ⟨S1x512, .f32⟩
  | 15 => ⟨S2x512, .f32⟩
  | 16 => ⟨S2x512, .f32⟩
  | 17 => ⟨S_, .f32⟩
  | 18 => ⟨S_, .f32⟩
  | 19 => ⟨S2x512, .f32⟩
  | 20 => ⟨S1x512, .f32⟩
  | 21 => ⟨S512, .f32⟩
  | 22 => ⟨S4x4096x512, .f32⟩
  | 23 => ⟨S_, .f32⟩
  | 24 => ⟨S512, .f32⟩
  | 25 => ⟨S512, .f32⟩
  | 26 => ⟨S4x4096x512, .f32⟩
  | 27 => ⟨S4x4096x512, .f32⟩
  | 28 => ⟨S_, .f32⟩
  | 29 => ⟨S4x4096x512, .f32⟩
  | 30 => ⟨S4x4096x512, .f32⟩
  | 31 => ⟨S_, .f32⟩
  | 32 => ⟨S4x4096x512, .f32⟩
  | 33 => ⟨S4x4096x512, .f32⟩
  | 34 => ⟨S1x1x512, .f32⟩
  | 35 => ⟨S4x4096x512, .f32⟩
  | 36 => ⟨S4x4096x512, .f32⟩
  | 37 => ⟨S1x1x512, .f32⟩
  | 38 => ⟨S4x4096x512, .f32⟩
  | 39 => ⟨S4x4096x512, .f32⟩
  | 40 => ⟨S_, .f32⟩
  | 41 => ⟨S512, .f32⟩
  | 42 => ⟨S512, .f32⟩
  | 43 => ⟨S4x4096x512, .f32⟩
  | 44 => ⟨S4x4096x512, .f32⟩
  | 45 => ⟨S4x4096x512, .f32⟩
  | 46 => ⟨S_, .f32⟩
  | 47 => ⟨S4x4096x512, .f32⟩
  | 48 => ⟨S4x4096x512, .f32⟩
  | 49 => ⟨S_, .f32⟩
  | 50 => ⟨S4x4096x512, .f32⟩
  | 51 => ⟨S4x4096x512, .f32⟩
  | 52 => ⟨S1x1x512, .f32⟩
  | 53 => ⟨S4x4096x512, .f32⟩
  | 54 => ⟨S4x4096x512, .f32⟩
  | 55 => ⟨S4x4096x512, .f32⟩
  | 56 => ⟨S4x4096x512, .f32⟩
  | 57 => ⟨S4x4096x512, .f32⟩
  | 58 => ⟨S4x4096x512, .f32⟩
  | 59 => ⟨S_, .f32⟩
  | 60 => ⟨S4x4096x512, .f32⟩
  | 61 => ⟨S4x4096x512, .f32⟩
  | 62 => ⟨S_, .f32⟩
  | 63 => ⟨S4x4096x512, .f32⟩
  | 64 => ⟨S4x4096x512, .f32⟩
  | 65 => ⟨S4x4096x512, .f32⟩
  | 66 => ⟨S4x4096x512, .f32⟩
  | 67 => ⟨S4x4096x512, .f32⟩
  | 68 => ⟨S4x64x64x4x128, .f32⟩
  | 69 => ⟨S64x4x4x64x128, .f32⟩
  | 70 => ⟨S4x64x64x4x128, .f32⟩
  | 71 => ⟨S64x4x4x64x128, .f32⟩
  | 72 => ⟨S4x64x64x4x128, .f32⟩
  | 73 => ⟨S64x4x4x64x128, .f32⟩
  | 74 => ⟨S_, .f32⟩
  | 75 => ⟨S_, .f32⟩
  | 76 => ⟨S64x4x4x64x128, .f32⟩
  | 77 => ⟨S4x64x64x4x128, .f32⟩
  | 78 => ⟨S64x4x4x64x128, .f32⟩
  | 79 => ⟨S_, .i1⟩
  | 80 => ⟨S64x64, .i1⟩
  | 81 => ⟨S64x64, .i32⟩
  | 82 => ⟨S_, .i32⟩
  | 83 => ⟨S64x64, .i32⟩
  | 84 => ⟨S64x64, .i32⟩
  | 85 => ⟨S64x64, .i32⟩
  | 86 => ⟨S64x64, .i1⟩
  | 87 => ⟨S_, .i1⟩
  | 88 => ⟨S64x64, .i1⟩
  | 89 => ⟨S64x64, .i1⟩
  | 90 => ⟨S64x64x1, .i1⟩
  | 91 => ⟨S_, .f32⟩
  | 92 => ⟨S4x4x128x128, .f32⟩
  | 93 => ⟨S_, .f32⟩
  | 94 => ⟨S64x4x4x64x128, .f32⟩
  | 95 => ⟨S_, .i32⟩
  | 96 => ⟨S64x4x4x64x128, .f32⟩
  | 97 => ⟨S64x4x4x64x128, .f32⟩
  | 98 => ⟨S64x4x4x64x128, .f32⟩
  | 99 => ⟨S64x4x4x64x128, .f32⟩
  | 100 => ⟨S64x64x1, .i1⟩
  | 101 => ⟨S_, .i32⟩
  | 102 => ⟨S4x4x128x128, .f32⟩
  | 103 => ⟨S64x4x4x64x128, .f32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S1x4x4x64x128, .f32⟩
  | 111 => ⟨S4x4x64x128, .f32⟩
  | 112 => ⟨S_, .i32⟩
  | 113 => ⟨S_, .i32⟩
  | 114 => ⟨S_, .i32⟩
  | 115 => ⟨S_, .i32⟩
  | 116 => ⟨S1x4x4x64x128, .f32⟩
  | 117 => ⟨S4x4x64x128, .f32⟩
  | 118 => ⟨S_, .i32⟩
  | 119 => ⟨S_, .i32⟩
  | 120 => ⟨S_, .i32⟩
  | 121 => ⟨S_, .i32⟩
  | 122 => ⟨S1x4x4x64x128, .f32⟩
  | 123 => ⟨S4x4x64x128, .f32⟩
  | 124 => ⟨S_, .i32⟩
  | 125 => ⟨S_, .i32⟩
  | 126 => ⟨S_, .i32⟩
  | 127 => ⟨S_, .i32⟩
  | _ => ⟨S4x4096x2048, .f32⟩

abbrev hbmTy0_1 (i : Nat) : BufTy := match i % 128 with
  | 0 => ⟨S1x4x4x64x128, .f32⟩
  | 1 => ⟨S4x4x64x128, .f32⟩
  | 2 => ⟨S4x4x64x1x128, .f32⟩
  | 3 => ⟨S4x4x1x64x128, .f32⟩
  | 4 => ⟨S4x4x64x64x128, .f32⟩
  | 5 => ⟨S4x4x64x64x128, .f32⟩
  | 6 => ⟨S4x4x64x64x128, .f32⟩
  | 7 => ⟨S_, .f32⟩
  | 8 => ⟨S_, .f32⟩
  | 9 => ⟨S4x4x64x64x128, .i1⟩
  | 10 => ⟨S4x4x64x64x128, .f32⟩
  | 11 => ⟨S4x4x64x64x128, .f32⟩
  | 12 => ⟨S4x4x64x64x128, .f32⟩
  | 13 => ⟨S4x4x64x1x128, .f32⟩
  | 14 => ⟨S4x4x1x64x128, .f32⟩
  | 15 => ⟨S4x4x64x64x128, .f32⟩
  | 16 => ⟨S4x4x64x64x128, .f32⟩
  | 17 => ⟨S4x4x64x64x128, .f32⟩
  | 18 => ⟨S4x4x64x64x128, .f32⟩
  | 19 => ⟨S_, .f32⟩
  | 20 => ⟨S4x4x64x64, .f32⟩
  | 21 => ⟨S4x4x64x128, .f32⟩
  | 22 => ⟨S4x4x64x128, .f32⟩
  | 23 => ⟨S4x4x64x128, .f32⟩
  | 24 => ⟨S4x4x64x128, .f32⟩
  | 25 => ⟨S4x4x64x128, .f32⟩
  | 26 => ⟨S4x4x1x128, .f32⟩
  | 27 => ⟨S4x4x128, .f32⟩
  | 28 => ⟨S4x4x128, .f32⟩
  | 29 => ⟨S4x4x128x1, .f32⟩
  | 30 => ⟨S4x4x128x128, .f32⟩
  | 31 => ⟨S4x4x128x128, .f32⟩
  | 32 => ⟨S4x4x64x128, .f32⟩
  | 33 => ⟨S4x4x64x128, .f32⟩
  | 34 => ⟨S4x4x64x128, .f32⟩
  | 35 => ⟨S4x4x64x128, .f32⟩
  | 36 => ⟨S4x4x128x128, .f32⟩
  | 37 => ⟨S4x4x128x128, .f32⟩
  | 38 => ⟨S1x4x4x64x128, .f32⟩
  | 39 => ⟨S_, .i32⟩
  | 40 => ⟨S_, .i32⟩
  | 41 => ⟨S_, .i32⟩
  | 42 => ⟨S_, .i32⟩
  | 43 => ⟨S64x4x4x64x128, .f32⟩
  | 44 => ⟨S_, .i32⟩
  | 45 => ⟨S_, .i32⟩
  | 46 => ⟨S4x64x64x4x128, .f32⟩
  | 47 => ⟨S4x4096x4x128, .f32⟩
  | 48 => ⟨S4x4096x4x128, .f32⟩
  | 49 => ⟨S_, .f32⟩
  | 50 => ⟨S4x4096x4, .f32⟩
  | 51 => ⟨S4x4096x4x1, .f32⟩
  | 52 => ⟨S_, .f32⟩
  | 53 => ⟨S4x4096x4x1, .f32⟩
  | 54 => ⟨S4x4096x4x1, .f32⟩
  | 55 => ⟨S_, .f32⟩
  | 56 => ⟨S4x4096x4x1, .f32⟩
  | 57 => ⟨S4x4096x4x1, .f32⟩
  | 58 => ⟨S4x4096x4x1, .f32⟩
  | 59 => ⟨S4x4096x4x128, .f32⟩
  | 60 => ⟨S4x4096x4x128, .f32⟩
  | 61 => ⟨S4x4096x512, .f32⟩
  | 62 => ⟨S1x1x512, .f32⟩
  | 63 => ⟨S4x4096x512, .f32⟩
  | 64 => ⟨S4x4096x512, .f32⟩
  | 65 => ⟨S4x4096x512, .f32⟩
  | 66 => ⟨S4x4096x512, .f32⟩
  | 67 => ⟨S_, .f32⟩
  | 68 => ⟨S4x4096x512, .f32⟩
  | 69 => ⟨S4x4096x512, .f32⟩
  | 70 => ⟨S_, .f32⟩
  | 71 => ⟨S4x4096x512, .f32⟩
  | 72 => ⟨S4x4096x512, .f32⟩
  | 73 => ⟨S4x4096x512, .f32⟩
  | 74 => ⟨S4x4096x512, .bf16⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_call2_call0_cst : Ref sig .tc := ⟨.hbm, 74, rfl⟩
abbrev main_call2_call0_v0 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c : Ref sig .tc := ⟨.hbm, 79, rfl⟩
abbrev main_v55 : Ref sig .tc := ⟨.hbm, 80, rfl⟩
abbrev main_call3_v0 : Ref sig .tc := ⟨.hbm, 81, rfl⟩
abbrev main_call3_c : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_c_0 : Ref sig .tc := ⟨.hbm, 87, rfl⟩
abbrev main_call3_v5 : Ref sig .tc := ⟨.hbm, 88, rfl⟩
abbrev main_v56 : Ref sig .tc := ⟨.hbm, 89, rfl⟩
abbrev main_v57 : Ref sig .tc := ⟨.hbm, 90, rfl⟩
abbrev main_cst_8 : Ref sig .tc := ⟨.hbm, 91, rfl⟩
abbrev main_v58 : Ref sig .tc := ⟨.hbm, 92, rfl⟩
abbrev main_cst_9 : Ref sig .tc := ⟨.hbm, 93, rfl⟩
abbrev main_v59 : Ref sig .tc := ⟨.hbm, 94, rfl⟩
abbrev main_c_10 : Ref sig .tc := ⟨.hbm, 95, rfl⟩
abbrev main_v60_0 : Ref sig .tc := ⟨.hbm, 96, rfl⟩
abbrev main_v60_1 : Ref sig .tc := ⟨.hbm, 97, rfl⟩
abbrev main_v60_2 : Ref sig .tc := ⟨.hbm, 98, rfl⟩
abbrev main_v60_3 : Ref sig .tc := ⟨.hbm, 99, rfl⟩
abbrev main_v60_4 : Ref sig .tc := ⟨.hbm, 100, rfl⟩
abbrev main_v60_5 : Ref sig .tc := ⟨.hbm, 101, rfl⟩
abbrev main_v60_6 : Ref sig .tc := ⟨.hbm, 102, rfl⟩
abbrev main_v60_7 : Ref sig .tc := ⟨.hbm, 103, rfl⟩
abbrev main_while0c_c_23 : Ref sig .tc := ⟨.hbm, 104, rfl⟩
abbrev main_while0c_v85 : Ref sig .tc := ⟨.hbm, 105, rfl⟩
abbrev main_while0b_call4_c : Ref sig .tc := ⟨.hbm, 106, rfl⟩
abbrev main_while0b_call4_c_0 : Ref sig .tc := ⟨.hbm, 107, rfl⟩
abbrev main_while0b_call4_c_1 : Ref sig .tc := ⟨.hbm, 108, rfl⟩
abbrev main_while0b_call4_c_2 : Ref sig .tc := ⟨.hbm, 109, rfl⟩
abbrev main_while0b_call4_v0 : Ref sig .tc := ⟨.hbm, 110, rfl⟩
abbrev main_while0b_v85 : Ref sig .tc := ⟨.hbm, 111, rfl⟩
abbrev main_while0b_call5_c : Ref sig .tc := ⟨.hbm, 112, rfl⟩
abbrev main_while0b_call5_c_0 : Ref sig .tc := ⟨.hbm, 113, rfl⟩
abbrev main_while0b_call5_c_1 : Ref sig .tc := ⟨.hbm, 114, rfl⟩
abbrev main_while0b_call5_c_2 : Ref sig .tc := ⟨.hbm, 115, rfl⟩
abbrev main_while0b_call5_v0 : Ref sig .tc := ⟨.hbm, 116, rfl⟩
abbrev main_while0b_v86 : Ref sig .tc := ⟨.hbm, 117, rfl⟩
abbrev main_while0b_call6_c : Ref sig .tc := ⟨.hbm, 118, rfl⟩
abbrev main_while0b_call6_c_0 : Ref sig .tc := ⟨.hbm, 119, rfl⟩
abbrev main_while0b_call6_c_1 : Ref sig .tc := ⟨.hbm, 120, rfl⟩
abbrev main_while0b_call6_c_2 : Ref sig .tc := ⟨.hbm, 121, rfl⟩
abbrev main_while0b_call6_v0 : Ref sig .tc := ⟨.hbm, 122, rfl⟩
abbrev main_while0b_v87 : Ref sig .tc := ⟨.hbm, 123, rfl⟩
abbrev main_while0b_call7_c : Ref sig .tc := ⟨.hbm, 124, rfl⟩
abbrev main_while0b_call7_c_0 : Ref sig .tc := ⟨.hbm, 125, rfl⟩
abbrev main_while0b_call7_c_1 : Ref sig .tc := ⟨.hbm, 126, rfl⟩
abbrev main_while0b_call7_c_2 : Ref sig .tc := ⟨.hbm, 127, rfl⟩
abbrev main_while0b_call7_v0 : Ref sig .tc := ⟨.hbm, 128, rfl⟩
abbrev main_while0b_v88 : Ref sig .tc := ⟨.hbm, 129, rfl⟩
abbrev main_while0b_v89 : Ref sig .tc := ⟨.hbm, 130, rfl⟩
abbrev main_while0b_v90 : Ref sig .tc := ⟨.hbm, 131, rfl⟩
abbrev main_while0b_v91 : Ref sig .tc := ⟨.hbm, 132, rfl⟩
abbrev main_while0b_v92 : Ref sig .tc := ⟨.hbm, 133, rfl⟩
abbrev main_while0b_v93 : Ref sig .tc := ⟨.hbm, 134, rfl⟩
abbrev main_while0b_cst_23 : Ref sig .tc := ⟨.hbm, 135, rfl⟩
abbrev main_while0b_call8_v0 : Ref sig .tc := ⟨.hbm, 136, rfl⟩
abbrev main_while0b_call8_v1 : Ref sig .tc := ⟨.hbm, 137, rfl⟩
abbrev main_while0b_call8_v2 : Ref sig .tc := ⟨.hbm, 138, rfl⟩
abbrev main_while0b_v94 : Ref sig .tc := ⟨.hbm, 139, rfl⟩
abbrev main_while0b_v95 : Ref sig .tc := ⟨.hbm, 140, rfl⟩
abbrev main_while0b_v96 : Ref sig .tc := ⟨.hbm, 141, rfl⟩
abbrev main_while0b_v97 : Ref sig .tc := ⟨.hbm, 142, rfl⟩
abbrev main_while0b_v98 : Ref sig .tc := ⟨.hbm, 143, rfl⟩
abbrev main_while0b_v99 : Ref sig .tc := ⟨.hbm, 144, rfl⟩
abbrev main_while0b_v100 : Ref sig .tc := ⟨.hbm, 145, rfl⟩
abbrev main_while0b_v101 : Ref sig .tc := ⟨.hbm, 146, rfl⟩
abbrev main_while0b_cst_24 : Ref sig .tc := ⟨.hbm, 147, rfl⟩
abbrev main_while0b_v102 : Ref sig .tc := ⟨.hbm, 148, rfl⟩
abbrev main_while0b_v103 : Ref sig .tc := ⟨.hbm, 149, rfl⟩
abbrev main_while0b_v104 : Ref sig .tc := ⟨.hbm, 150, rfl⟩
abbrev main_while0b_v105 : Ref sig .tc := ⟨.hbm, 151, rfl⟩
abbrev main_while0b_v106 : Ref sig .tc := ⟨.hbm, 152, rfl⟩
abbrev main_while0b_v107 : Ref sig .tc := ⟨.hbm, 153, rfl⟩
abbrev main_while0b_v108 : Ref sig .tc := ⟨.hbm, 154, rfl⟩
abbrev main_while0b_v109 : Ref sig .tc := ⟨.hbm, 155, rfl⟩
abbrev main_while0b_v110 : Ref sig .tc := ⟨.hbm, 156, rfl⟩
abbrev main_while0b_v111 : Ref sig .tc := ⟨.hbm, 157, rfl⟩
abbrev main_while0b_v112 : Ref sig .tc := ⟨.hbm, 158, rfl⟩
abbrev main_while0b_v113 : Ref sig .tc := ⟨.hbm, 159, rfl⟩
abbrev main_while0b_v114 : Ref sig .tc := ⟨.hbm, 160, rfl⟩
abbrev main_while0b_v115 : Ref sig .tc := ⟨.hbm, 161, rfl⟩
abbrev main_while0b_v116 : Ref sig .tc := ⟨.hbm, 162, rfl⟩
abbrev main_while0b_v117 : Ref sig .tc := ⟨.hbm, 163, rfl⟩
abbrev main_while0b_v118 : Ref sig .tc := ⟨.hbm, 164, rfl⟩
abbrev main_while0b_v119 : Ref sig .tc := ⟨.hbm, 165, rfl⟩
abbrev main_while0b_call9_v0 : Ref sig .tc := ⟨.hbm, 166, rfl⟩
abbrev main_while0b_call9_c : Ref sig .tc := ⟨.hbm, 167, rfl⟩
abbrev main_while0b_call9_c_0 : Ref sig .tc := ⟨.hbm, 168, rfl⟩
abbrev main_while0b_call9_c_1 : Ref sig .tc := ⟨.hbm, 169, rfl⟩
abbrev main_while0b_call9_c_2 : Ref sig .tc := ⟨.hbm, 170, rfl⟩
abbrev main_while0b_v120 : Ref sig .tc := ⟨.hbm, 171, rfl⟩
abbrev main_while0b_c_25 : Ref sig .tc := ⟨.hbm, 172, rfl⟩
abbrev main_while0b_v121 : Ref sig .tc := ⟨.hbm, 173, rfl⟩
abbrev main_v61 : Ref sig .tc := ⟨.hbm, 174, rfl⟩
abbrev main_v62 : Ref sig .tc := ⟨.hbm, 175, rfl⟩
abbrev main_v63 : Ref sig .tc := ⟨.hbm, 176, rfl⟩
abbrev main_cst_11 : Ref sig .tc := ⟨.hbm, 177, rfl⟩
abbrev main_v64 : Ref sig .tc := ⟨.hbm, 178, rfl⟩
abbrev main_v65 : Ref sig .tc := ⟨.hbm, 179, rfl⟩
abbrev main_cst_12 : Ref sig .tc := ⟨.hbm, 180, rfl⟩
abbrev main_v66 : Ref sig .tc := ⟨.hbm, 181, rfl⟩
abbrev main_v67 : Ref sig .tc := ⟨.hbm, 182, rfl⟩
abbrev main_cst_13 : Ref sig .tc := ⟨.hbm, 183, rfl⟩
abbrev main_v68 : Ref sig .tc := ⟨.hbm, 184, rfl⟩
abbrev main_v69 : Ref sig .tc := ⟨.hbm, 185, rfl⟩
abbrev main_v70 : Ref sig .tc := ⟨.hbm, 186, rfl⟩
abbrev main_v71 : Ref sig .tc := ⟨.hbm, 187, rfl⟩
abbrev main_v72 : Ref sig .tc := ⟨.hbm, 188, rfl⟩
abbrev main_v73 : Ref sig .tc := ⟨.hbm, 189, rfl⟩
abbrev main_v74 : Ref sig .tc := ⟨.hbm, 190, rfl⟩
abbrev main_v75 : Ref sig .tc := ⟨.hbm, 191, rfl⟩
abbrev main_v76 : Ref sig .tc := ⟨.hbm, 192, rfl⟩
abbrev main_v77 : Ref sig .tc := ⟨.hbm, 193, rfl⟩
abbrev main_v78 : Ref sig .tc := ⟨.hbm, 194, rfl⟩
abbrev main_cst_14 : Ref sig .tc := ⟨.hbm, 195, rfl⟩
abbrev main_v79 : Ref sig .tc := ⟨.hbm, 196, rfl⟩
abbrev main_v80 : Ref sig .tc := ⟨.hbm, 197, rfl⟩
abbrev main_cst_15 : Ref sig .tc := ⟨.hbm, 198, rfl⟩
abbrev main_v81 : Ref sig .tc := ⟨.hbm, 199, rfl⟩
abbrev main_v82 : Ref sig .tc := ⟨.hbm, 200, rfl⟩
abbrev main_v83 : Ref sig .tc := ⟨.hbm, 201, rfl⟩
abbrev main_v84 : Ref sig .tc := ⟨.hbm, 202, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4x4096x1024 : Shape := ⟨3, ![4, 4096, 1024]⟩
abbrev S1024x5888 : Shape := ⟨2, ![1024, 5888]⟩
abbrev S16384x1024 : Shape := ⟨2, ![16384, 1024]⟩
abbrev S1024x1792 : Shape := ⟨2, ![1024, 1792]⟩
abbrev S1024x2048 : Shape := ⟨2, ![1024, 2048]⟩
abbrev S16384x1792 : Shape := ⟨2, ![16384, 1792]⟩
abbrev S16384x2048 : Shape := ⟨2, ![16384, 2048]⟩
abbrev S256x1024 : Shape := ⟨2, ![256, 1024]⟩
abbrev S256x1792 : Shape := ⟨2, ![256, 1792]⟩
abbrev S256x2048 : Shape := ⟨2, ![256, 2048]⟩

abbrev nBuf : Space → Nat
  | .hbm => 10
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S1024x5888, .f32⟩
  | .hbm, ⟨2, _⟩ => ⟨S16384x1024, .f32⟩
  | .hbm, ⟨3, _⟩ => ⟨S1024x5888, .bf16⟩
  | .hbm, ⟨4, _⟩ => ⟨S1024x1792, .bf16⟩
  | .hbm, ⟨5, _⟩ => ⟨S1024x2048, .bf16⟩
  | .hbm, ⟨6, _⟩ => ⟨S1024x2048, .bf16⟩
  | .hbm, ⟨7, _⟩ => ⟨S16384x1792, .f32⟩
  | .hbm, ⟨8, _⟩ => ⟨S16384x2048, .f32⟩
  | .hbm, ⟨9, _⟩ => ⟨S16384x2048, .f32⟩
  | .local _ .vmem, ⟨0, _⟩ => ⟨S256x1024, .f32⟩
  | .local _ .vmem, ⟨1, _⟩ => ⟨S256x1024, .f32⟩
  | .local _ .vmem, ⟨2, _⟩ => ⟨S1024x1792, .bf16⟩
  | .local _ .vmem, ⟨3, _⟩ => ⟨S1024x2048, .bf16⟩
  | .local _ .vmem, ⟨4, _⟩ => ⟨S1024x2048, .bf16⟩
  | .local _ .vmem, ⟨5, _⟩ => ⟨S256x1792, .f32⟩
  | .local _ .vmem, ⟨6, _⟩ => ⟨S256x1792, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev main_v5_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S4x4096x1024 : Shape := ⟨3, ![4, 4096, 1024]⟩
abbrev S1024x5888 : Shape := ⟨2, ![1024, 5888]⟩
abbrev S4x4096x5888 : Shape := ⟨3, ![4, 4096, 5888]⟩
abbrev S4x4096x1792 : Shape := ⟨3, ![4, 4096, 1792]⟩
abbrev S16384x1792 : Shape := ⟨2, ![16384, 1792]⟩
abbrev S4x4096x2048 : Shape := ⟨3, ![4, 4096, 2048]⟩
abbrev S16384x2048 : Shape := ⟨2, ![16384, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x5888, .f32⟩
  | .hbm, ⟨2, _⟩ => ⟨S4x4096x5888, .f32⟩
  | .hbm, ⟨3, _⟩ => ⟨S4x4096x1792, .f32⟩
  | .hbm, ⟨4, _⟩ => ⟨S16384x1792, .f32⟩
  | .hbm, ⟨5, _⟩ => ⟨S4x4096x2048, .f32⟩
  | .hbm, ⟨6, _⟩ => ⟨S16384x2048, .f32⟩
  | .hbm, ⟨7, _⟩ => ⟨S4x4096x2048, .f32⟩
  | .hbm, ⟨8, _⟩ => ⟨S16384x2048, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096x512 : Shape := ⟨3, ![4, 4096, 512]⟩
abbrev S4x4096x2048 : Shape := ⟨3, ![4, 4096, 2048]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S1024x32 : Shape := ⟨2, ![1024, 32]⟩
abbrev S16384x1024 : Shape := ⟨2, ![16384, 1024]⟩
abbrev S_ : Shape := ⟨0, ![]⟩
abbrev S128x1024 : Shape := ⟨2, ![128, 1024]⟩
abbrev S4x1024 : Shape := ⟨2, ![4, 1024]⟩
abbrev S1 : Shape := ⟨1, ![1]⟩
abbrev S32x1024 : Shape := ⟨2, ![32, 1024]⟩
abbrev S16384x512 : Shape := ⟨2, ![16384, 512]⟩
abbrev S16384x2048 : Shape := ⟨2, ![16384, 2048]⟩
abbrev S1x1024 : Shape := ⟨2, ![1, 1024]⟩
abbrev S128x16384 : Shape := ⟨2, ![128, 16384]⟩
abbrev S512x512 : Shape := ⟨2, ![512, 512]⟩
abbrev S512x2048 : Shape := ⟨2, ![512, 2048]⟩
abbrev S128x512 : Shape := ⟨2, ![128, 512]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S128x256 : Shape := ⟨2, ![128, 256]⟩

abbrev nBuf : Space → Nat
  | .hbm => 32
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S4x4096x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x4, .f32⟩
  | .hbm, ⟨10, _⟩ => ⟨S1024x32, .f32⟩
  | .hbm, ⟨11, _⟩ => ⟨S16384x1024, .f32⟩
  | .hbm, ⟨12, _⟩ => ⟨S_, .f32⟩
  | .hbm, ⟨13, _⟩ => ⟨S128x1024, .f32⟩
  | .hbm, ⟨14, _⟩ => ⟨S4x1024, .f32⟩
  | .hbm, ⟨15, _⟩ => ⟨S_, .i32⟩
  | .hbm, ⟨16, _⟩ => ⟨S1, .i32⟩
  | .hbm, ⟨17, _⟩ => ⟨S128x1024, .f32⟩
  | .hbm, ⟨18, _⟩ => ⟨S32x1024, .f32⟩
  | .hbm, ⟨19, _⟩ => ⟨S_, .i32⟩
  | .hbm, ⟨20, _⟩ => ⟨S1, .i32⟩
  | .hbm, ⟨21, _⟩ => ⟨S128x1024, .f32⟩
  | .hbm, ⟨22, _⟩ => ⟨S16384x512, .bf16⟩
  | .hbm, ⟨23, _⟩ => ⟨S16384x512, .bf16⟩
  | .hbm, ⟨24, _⟩ => ⟨S16384x2048, .f32⟩
  | .hbm, ⟨25, _⟩ => ⟨S512x1024, .bf16⟩
  | .hbm, ⟨26, _⟩ => ⟨S512x1024, .bf16⟩
  | .hbm, ⟨27, _⟩ => ⟨S1024x1024, .bf16⟩
  | .hbm, ⟨28, _⟩ => ⟨S1x1024, .f32⟩
  | .hbm, ⟨29, _⟩ => ⟨S1x1024, .f32⟩
  | .hbm, ⟨30, _⟩ => ⟨S16384x1024, .f32⟩
  | .hbm, ⟨31, _⟩ => ⟨S128x16384, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S128x1024, .f32⟩
  | .local _ .vmem, ⟨14, _⟩ => ⟨S512x1024, .f32⟩
  | .local _ .vmem, ⟨15, _⟩ => ⟨S512x1024, .f32⟩
  | .local _ .vmem, ⟨16, _⟩ => ⟨S128x512, .f32⟩
  | .local _ .vmem, ⟨17, _⟩ => ⟨S128x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S4x4096x1024 : Shape := ⟨3, ![4, 4096, 1024]⟩
abbrev S4x4096x512 : Shape := ⟨3, ![4, 4096, 512]⟩
abbrev S4x4096x2048 : Shape := ⟨3, ![4, 4096, 2048]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S1024x32 : Shape := ⟨2, ![1024, 32]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 63
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S4x4096x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x4, .f32⟩
  | .hbm, ⟨10, _⟩ => ⟨S1024x32, .f32⟩
  | .hbm, ⟨11, _⟩ => ⟨S4x4096x512, .f32⟩
  | .hbm, ⟨12, _⟩ => ⟨S4x4096x512, .f32⟩
  | .hbm, ⟨13, _⟩ => ⟨S4x4096x2048, .f32⟩
  | .hbm, ⟨14, _⟩ => ⟨S4x4096x2048, .f32⟩
  | .hbm, ⟨15, _⟩ => ⟨S_, .f32⟩
  | .hbm, ⟨16, _⟩ => ⟨S4x4096x2048, .f32⟩
  | .hbm, ⟨17, _⟩ => ⟨S4x4096x2048, .f32⟩
  | .hbm, ⟨18, _⟩ => ⟨S_, .f32⟩
  | .hbm, ⟨19, _⟩ => ⟨S4x4096x2048, .f32⟩
  | .hbm, ⟨20, _⟩ => ⟨S4x4096x2048, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S_, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S_, .f32⟩
  | .hbm, ⟨34, _⟩ => ⟨S4x4096, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S_, .f32⟩
  | .hbm, ⟨43, _⟩ => ⟨S4x4096, .f32⟩
  | .hbm, ⟨44, _⟩ => ⟨S4x4096x1, .f32⟩
  | .hbm, ⟨45, _⟩ => ⟨S_, .f32⟩
  | .hbm, ⟨46, _⟩ => ⟨S4x4096x1, .f32⟩
  | .hbm, ⟨47, _⟩ => ⟨S4x4096x1, .f32⟩
  | .hbm, ⟨48, _⟩ => ⟨S4x4096x1024, .f32⟩
  | .hbm, ⟨49, _⟩ => ⟨S4x4096x1024, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x4096x1, .f32⟩
  | .hbm, ⟨54, _⟩ => ⟨S4x4096x1024, .f32⟩
  | .hbm, ⟨55, _⟩ => ⟨S4x4096x1024, .f32⟩
  | .hbm, ⟨56, _⟩ => ⟨S1x1x1024, .f32⟩
  | .hbm, ⟨57, _⟩ => ⟨S4x4096x1024, .f32⟩
  | .hbm, ⟨58, _⟩ => ⟨S4x4096x1024, .f32⟩
  | .hbm, ⟨59, _⟩ => ⟨S1x1x1024, .f32⟩
  | .hbm, ⟨60, _⟩ => ⟨S4x4096x1024, .f32⟩
  | .hbm, ⟨61, _⟩ => ⟨S4x4096x1024, .f32⟩
  | .hbm, ⟨62, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]
-- ==== Kernel4.lean ====
abbrev S4x4096x1024 : Shape := ⟨3, ![4, 4096, 1024]⟩
abbrev S4x4096x512 : Shape := ⟨3, ![4, 4096, 512]⟩
abbrev S4x4096x2048 : Shape := ⟨3, ![4, 4096, 2048]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S1024x32 : Shape := ⟨2, ![1024, 32]⟩
abbrev S16384x1024 : Shape := ⟨2, ![16384, 1024]⟩
abbrev S_ : Shape := ⟨0, ![]⟩
abbrev S128x1024 : Shape := ⟨2, ![128, 1024]⟩
abbrev S4x1024 : Shape := ⟨2, ![4, 1024]⟩
abbrev S1 : Shape := ⟨1, ![1]⟩
abbrev S32x1024 : Shape := ⟨2, ![32, 1024]⟩
abbrev S16384x512 : Shape := ⟨2, ![16384, 512]⟩
abbrev S16384x2048 : Shape := ⟨2, ![16384, 2048]⟩
abbrev S1x1024 : Shape := ⟨2, ![1, 1024]⟩
abbrev S128x16384 : Shape := ⟨2, ![128, 16384]⟩
abbrev S512x512 : Shape := ⟨2, ![512, 512]⟩
abbrev S512x2048 : Shape := ⟨2, ![512, 2048]⟩
abbrev S128x512 : Shape := ⟨2, ![128, 512]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S128x256 : Shape := ⟨2, ![128, 256]⟩

abbrev nBuf : Space → Nat
  | .hbm => 32
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S4x4096x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x4, .f32⟩
  | .hbm, ⟨10, _⟩ => ⟨S1024x32, .f32⟩
  | .hbm, ⟨11, _⟩ => ⟨S16384x1024, .f32⟩
  | .hbm, ⟨12, _⟩ => ⟨S_, .f32⟩
  | .hbm, ⟨13, _⟩ => ⟨S128x1024, .f32⟩
  | .hbm, ⟨14, _⟩ => ⟨S4x1024, .f32⟩
  | .hbm, ⟨15, _⟩ => ⟨S_, .i32⟩
  | .hbm, ⟨16, _⟩ => ⟨S1, .i32⟩
  | .hbm, ⟨17, _⟩ => ⟨S128x1024, .f32⟩
  | .hbm, ⟨18, _⟩ => ⟨S32x1024, .f32⟩
  | .hbm, ⟨19, _⟩ => ⟨S_, .i32⟩
  | .hbm, ⟨20, _⟩ => ⟨S1, .i32⟩
  | .hbm, ⟨21, _⟩ => ⟨S128x1024, .f32⟩
  | .hbm, ⟨22, _⟩ => ⟨S16384x512, .bf16⟩
  | .hbm, ⟨23, _⟩ => ⟨S16384x512, .bf16⟩
  | .hbm, ⟨24, _⟩ => ⟨S16384x2048, .f32⟩
  | .hbm, ⟨25, _⟩ => ⟨S512x1024, .bf16⟩
  | .hbm, ⟨26, _⟩ => ⟨S512x1024, .bf16⟩
  | .hbm, ⟨27, _⟩ => ⟨S1024x1024, .bf16⟩
  | .hbm, ⟨28, _⟩ => ⟨S1x1024, .f32⟩
  | .hbm, ⟨29, _⟩ => ⟨S1x1024, .f32⟩
  | .hbm, ⟨30, _⟩ => ⟨S16384x1024, .f32⟩
  | .hbm, ⟨31, _⟩ => ⟨S128x16384, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S128x1024, .f32⟩
  | .local _ .vmem, ⟨14, _⟩ => ⟨S512x1024, .f32⟩
  | .local _ .vmem, ⟨15, _⟩ => ⟨S512x1024, .f32⟩
  | .local _ .vmem, ⟨16, _⟩ => ⟨S128x512, .f32⟩
  | .local _ .vmem, ⟨17, _⟩ => ⟨S128x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S4x4096x1024 : Shape := ⟨3, ![4, 4096, 1024]⟩
abbrev S4x4096x512 : Shape := ⟨3, ![4, 4096, 512]⟩
abbrev S4x4096x2048 : Shape := ⟨3, ![4, 4096, 2048]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S1024x32 : Shape := ⟨2, ![1024, 32]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩
abbrev S16384x4 : Shape := ⟨2, ![16384, 4]⟩
abbrev S16384x32 : Shape := ⟨2, ![16384, 32]⟩
abbrev S4x16384 : Shape := ⟨2, ![4, 16384]⟩
abbrev S32x16384 : Shape := ⟨2, ![32, 16384]⟩
abbrev S88x16384 : Shape := ⟨2, ![88, 16384]⟩
abbrev S128x16384 : Shape := ⟨2, ![128, 16384]⟩

abbrev nBuf : Space → Nat
  | .hbm => 72
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S4x4096x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x4, .f32⟩
  | .hbm, ⟨10, _⟩ => ⟨S1024x32, .f32⟩
  | .hbm, ⟨11, _⟩ => ⟨S4x4096x512, .f32⟩
  | .hbm, ⟨12, _⟩ => ⟨S4x4096x512, .f32⟩
  | .hbm, ⟨13, _⟩ => ⟨S4x4096x2048, .f32⟩
  | .hbm, ⟨14, _⟩ => ⟨S4x4096x2048, .f32⟩
  | .hbm, ⟨15, _⟩ => ⟨S_, .f32⟩
  | .hbm, ⟨16, _⟩ => ⟨S4x4096x2048, .f32⟩
  | .hbm, ⟨17, _⟩ => ⟨S4x4096x2048, .f32⟩
  | .hbm, ⟨18, _⟩ => ⟨S_, .f32⟩
  | .hbm, ⟨19, _⟩ => ⟨S4x4096x2048, .f32⟩
  | .hbm, ⟨20, _⟩ => ⟨S4x4096x2048, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S_, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S_, .f32⟩
  | .hbm, ⟨34, _⟩ => ⟨S4x4096, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S_, .f32⟩
  | .hbm, ⟨43, _⟩ => ⟨S4x4096, .f32⟩
  | .hbm, ⟨44, _⟩ => ⟨S4x4096x1, .f32⟩
  | .hbm, ⟨45, _⟩ => ⟨S_, .f32⟩
  | .hbm, ⟨46, _⟩ => ⟨S4x4096x1, .f32⟩
  | .hbm, ⟨47, _⟩ => ⟨S4x4096x1, .f32⟩
  | .hbm, ⟨48, _⟩ => ⟨S4x4096x1024, .f32⟩
  | .hbm, ⟨49, _⟩ => ⟨S4x4096x1024, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x4096x1, .f32⟩
  | .hbm, ⟨54, _⟩ => ⟨S4x4096x1024, .f32⟩
  | .hbm, ⟨55, _⟩ => ⟨S4x4096x1024, .f32⟩
  | .hbm, ⟨56, _⟩ => ⟨S1x1x1024, .f32⟩
  | .hbm, ⟨57, _⟩ => ⟨S4x4096x1024, .f32⟩
  | .hbm, ⟨58, _⟩ => ⟨S4x4096x1024, .f32⟩
  | .hbm, ⟨59, _⟩ => ⟨S1x1x1024, .f32⟩
  | .hbm, ⟨60, _⟩ => ⟨S4x4096x1024, .f32⟩
  | .hbm, ⟨61, _⟩ => ⟨S4x4096x1024, .f32⟩
  | .hbm, ⟨62, _⟩ => ⟨S16384x1024, .f32⟩
  | .hbm, ⟨63, _⟩ => ⟨S16384x4, .f32⟩
  | .hbm, ⟨64, _⟩ => ⟨S16384x32, .f32⟩
  | .hbm, ⟨65, _⟩ => ⟨S4x16384, .f32⟩
  | .hbm, ⟨66, _⟩ => ⟨S_, .f32⟩
  | .hbm, ⟨67, _⟩ => ⟨S4x16384, .f32⟩
  | .hbm, ⟨68, _⟩ => ⟨S32x16384, .f32⟩
  | .hbm, ⟨69, _⟩ => ⟨S_, .f32⟩
  | .hbm, ⟨70, _⟩ => ⟨S88x16384, .f32⟩
  | .hbm, ⟨71, _⟩ => ⟨S128x16384, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]
-- ==== Proof.Spec.lean ====
/-
  The HGRN2 recurrence in plain terms, over the extended reals: the gate, what one chunk of 64 rows adds to its own rows and to
  the state, and the few facts about extended reals that let two ways of computing it agree.
-/
module

public import Idealize.ShloMosaic.PureOps.Ideal
public import Idealize.ShloMosaic.Lib.IdealHost
public import Mathlib.Analysis.SpecialFunctions.Trigonometric.DerivHyp
public import Mathlib.Analysis.SpecialFunctions.Log.Basic
public import Mathlib.Tactic.Ring
public import Mathlib.Tactic.FieldSimp
public import Mathlib.Tactic.Positivity
public import Mathlib.Tactic.NormNum

@[expose] public section

noncomputable section

open scoped BigOperators
open Idealize.ShloMosaic

namespace Cert.Hgrn

/-- An extended real that is a real number. -/
def Fin' (x : EReal) : Prop := ∃ r : ℝ, x = (r : EReal)

/-- The literal one half. -/
theorem half_lit : Ideal.ofBits .f32 0x3F000000#32 = (((1 : ℝ) / 2 : ℝ) : EReal) := by
  simp only [Ideal.ofBits, Ideal.ieee, BitVec.extractLsb', BitVec.toNat_ofNat]
  norm_num [Nat.shiftRight_eq_div_pow]

/-- The literal one. -/
theorem one_lit : Ideal.ofBits .f32 0x3F800000#32 = (1 : EReal) := by
  simp only [Ideal.ofBits, Ideal.ieee, BitVec.extractLsb', BitVec.toNat_ofNat]
  norm_num [Nat.shiftRight_eq_div_pow]

/-- The literal one of a 128th. -/
theorem r128_lit : Ideal.ofBits .f32 0x3C000000#32 = (((1 : ℝ) / 128 : ℝ) : EReal) := by
  simp only [Ideal.ofBits, Ideal.ieee, BitVec.extractLsb', BitVec.toNat_ofNat]
  norm_num [Nat.shiftRight_eq_div_pow]

/-- The literal 128. -/
theorem c128_lit : Ideal.ofBits .f32 0x43000000#32 = ((128 : ℝ) : EReal) := by
  simp only [Ideal.ofBits, Ideal.ieee, BitVec.extractLsb', BitVec.toNat_ofNat]
  norm_num [Nat.shiftRight_eq_div_pow]

/-- The literal zero. -/
theorem zero_lit : Ideal.ofBits .f32 0x00000000#32 = (0 : EReal) := by
  simp only [Ideal.ofBits, Ideal.ieee, BitVec.extractLsb', BitVec.toNat_ofNat]
  norm_num [Nat.shiftRight_eq_div_pow]

/-- The literal minus infinity. -/
theorem ninf_lit : Ideal.ofBits .f32 0xFF800000#32 = (⊥ : EReal) := by
  simp only [Ideal.ofBits, Ideal.ieee, BitVec.extractLsb', BitVec.toNat_ofNat]
  norm_num [Nat.shiftRight_eq_div_pow]

/-- Half a hyperbolic tangent of half the argument, plus a half, is the logistic function — at the infinities too. -/
theorem half_tanh (x : EReal) :
    (((1 : ℝ) / 2 : ℝ) : EReal) * Ideal.tanh ((((1 : ℝ) / 2 : ℝ) : EReal) * x) + (((1 : ℝ) / 2 : ℝ) : EReal) = Ideal.logistic x := by
  induction x with
  | bot =>
    rw [EReal.coe_mul_bot_of_pos (by norm_num), Ideal.tanh_bot, Ideal.logistic_bot]
    rw [show (-1 : EReal) = ((-1 : ℝ) : EReal) by simp, ← EReal.coe_mul, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have e2 : Real.exp (-r) = Real.exp (-(1 / 2 * r)) * Real.exp (-(1 / 2 * r)) := by rw [← Real.exp_add]; congr 1; ring
    have e1 : Real.exp (1 / 2 * r) * Real.exp (-(1 / 2 * r)) = 1 := by rw [← Real.exp_add]; simp
    rw [e2]
    set a := Real.exp (1 / 2 * r)
    set b := Real.exp (-(1 / 2 * r))
    have ha : 0 < a := Real.exp_pos _
    have hb : 0 < b := Real.exp_pos _
    have h1 : a + b ≠ 0 := by positivity
    have h2 : 1 + b * b ≠ 0 := by positivity
    field_simp
    nlinarith [e1]

/-- The logistic function takes real values only, between 0 and 1. -/
theorem logistic_real (x : EReal) : ∃ r : ℝ, 0 ≤ r ∧ r ≤ 1 ∧ Ideal.logistic x = (r : EReal) := by
  induction x with
  | bot => exact ⟨0, le_refl _, by norm_num, by rw [Ideal.logistic_bot]; rfl⟩
  | top => exact ⟨1, by norm_num, le_refl _, by rw [Ideal.logistic_top]; rfl⟩
  | coe r =>
    have : 0 < Real.exp (-r) := Real.exp_pos _
    exact ⟨_, by positivity, inv_le_one_of_one_le₀ (by linarith), Ideal.logistic_coe r⟩

/-- One minus the logistic function is the logistic function of the negated argument. -/
theorem one_sub_logistic (x : EReal) : 1 - Ideal.logistic x = Ideal.logistic (-x) := by
  induction x with
  | bot => rw [Ideal.logistic_bot, EReal.neg_bot, Ideal.logistic_top, sub_zero]
  | top =>
    rw [Ideal.logistic_top, EReal.neg_top, Ideal.logistic_bot]
    rw [show (1 : EReal) = ((1 : ℝ) : EReal) by rfl, ← EReal.coe_sub]; norm_num
  | coe r =>
    rw [← EReal.coe_neg, Ideal.logistic_coe, Ideal.logistic_coe, show (1 : EReal) = ((1 : ℝ) : EReal) by rfl, ← EReal.coe_sub]
    congr 1
    rw [neg_neg]
    have h : Real.exp r * Real.exp (-r) = 1 := by rw [← Real.exp_add]; simp
    have ha : 0 < Real.exp r := Real.exp_pos _
    have hb : 0 < Real.exp (-r) := Real.exp_pos _
    set a := Real.exp r
    set b := Real.exp (-r)
    have h1 : 1 + a ≠ 0 := by positivity
    have h2 : 1 + b ≠ 0 := by positivity
    field_simp
    nlinarith [h]

/-- The query: the raw column times its logistic. -/
def gateQ (x : EReal) : EReal := x * Ideal.logistic x

/-- The key: one minus the forget gate, of lower bound `lb`. -/
def gateK (lb z : EReal) : EReal := (1 - lb) * Ideal.logistic (-z)

/-- The logarithm of the forget gate. -/
def gateL (lb z : EReal) : EReal := Ideal.log (lb + (1 - lb) * Ideal.logistic z)

/-- The forget gate's logarithm is not plus infinity when its lower bound is not: the bound is then minus infinity or a real, the gate too. -/
theorem gateL_ne_top {lb : EReal} (h : lb ≠ ⊤) (z : EReal) : gateL lb z ≠ ⊤ := by
  obtain ⟨s, s0, s1, hs⟩ := logistic_real z
  unfold gateL
  rw [hs]
  induction lb with
  | bot => rw [EReal.bot_add, Ideal.log_bot]; exact bot_ne_top
  | top => exact absurd rfl h
  | coe r =>
    rw [show (1 : EReal) = ((1 : ℝ) : EReal) by rfl, ← EReal.coe_sub, ← EReal.coe_mul, ← EReal.coe_add, Ideal.log_coe]
    split
    · exact bot_ne_top
    · exact EReal.coe_ne_top _

/-- The sum of the rows of `lf` up to and with row `r`. -/
def cum (lf : Fin 64 → Fin 128 → EReal) (r : Fin 64) (e : Fin 128) : EReal := ∑ s : Fin 64, if s ≤ r then lf s e else 0

/-- A finite sum of reals is a real. -/
theorem sum_real {ι : Type} (s : Finset ι) (f : ι → EReal) (h : ∀ i ∈ s, Fin' (f i)) : Fin' (∑ i ∈ s, f i) := by
  classical
  induction s using Finset.induction_on with
  | empty => exact ⟨0, by simp⟩
  | insert a s ha ih =>
    rw [Finset.sum_insert ha]
    obtain ⟨x, hx⟩ := h a (Finset.mem_insert_self _ _)
    obtain ⟨y, hy⟩ := ih fun i hi => h i (Finset.mem_insert_of_mem hi)
    exact ⟨x + y, by rw [hx, hy, EReal.coe_add]⟩

/-- The chunk's attention: query row `r` against key row `s`, with the decay between them, for rows not after `r`. -/
def att (q k b : Fin 64 → Fin 128 → EReal) (r s : Fin 64) : EReal :=
  if s ≤ r then ∑ e : Fin 128, q r e * k s e * Ideal.exp (b r e - b s e) else 0

/-- A row of the chunk's result: its own rows through the attention, and the state `S` (value channel, key channel) before it. -/
def out (q k v b : Fin 64 → Fin 128 → EReal) (S : Fin 128 → Fin 128 → EReal) (r : Fin 64) (w : Fin 128) : EReal :=
  ∑ s : Fin 64, att q k b r s * v s w + ∑ e : Fin 128, q r e * Ideal.exp (b r e) * S w e

/-- The state after the chunk. -/
def next (k v b : Fin 64 → Fin 128 → EReal) (S : Fin 128 → Fin 128 → EReal) (w e : Fin 128) : EReal :=
  S w e * Ideal.exp (b 63 e) + ∑ s : Fin 64, v s w * (k s e * Ideal.exp (b 63 e - b s e))

/-- Splitting the decay between two rows at any real reference point changes no product; and where the later row's sum is minus infinity,
    both products are zero whatever the reference point is. -/
theorem split_decay {q k x y m : EReal} (h : x = ⊥ ∨ (Fin' x ∧ Fin' y ∧ Fin' m)) :
    q * Ideal.exp (x - m) * (k * Ideal.exp (m - y)) = q * k * Ideal.exp (x - y) := by
  rcases h with rfl | ⟨⟨x, rfl⟩, ⟨y, rfl⟩, ⟨m, rfl⟩⟩
  · rw [sub_eq_add_neg, sub_eq_add_neg ⊥ y, EReal.bot_add, EReal.bot_add, Ideal.exp_bot, mul_zero, zero_mul, mul_zero]
  · rw [← EReal.coe_sub, ← EReal.coe_sub, ← EReal.coe_sub, Ideal.exp_coe, Ideal.exp_coe, Ideal.exp_coe,
      mul_mul_mul_comm, ← EReal.coe_mul, ← Real.exp_add, show x - m + (m - y) = x - y by ring]

/-- A value that is not an infinity is a real. -/
theorem real_of_ne {x : EReal} (h0 : x ≠ ⊥) (h1 : x ≠ ⊤) : Fin' x := ⟨x.toReal, (EReal.coe_toReal h1 h0).symm⟩

/-- A real minus itself is zero. -/
theorem sub_self_real {x : EReal} (hx : Fin' x) : x - x = 0 := by
  obtain ⟨x, rfl⟩ := hx
  rw [← EReal.coe_sub, sub_self]; rfl

/-- A sum with a term at minus infinity is minus infinity. -/
theorem sum_of_bot {ι : Type} [DecidableEq ι] (s : Finset ι) (f : ι → EReal) (i : ι) (hi : i ∈ s) (h : f i = ⊥) : ∑ j ∈ s, f j = ⊥ := by
  rw [← Finset.add_sum_erase s f hi, h, EReal.bot_add]

/-- The running sums of logarithms none of which is plus infinity: at a row the sum is minus infinity, or it, the sums before it and
    the logarithms before it are all real. -/
theorem cum_dec {lf : Fin 64 → Fin 128 → EReal} (h : ∀ r e, lf r e ≠ ⊤) (r s : Fin 64) (e : Fin 128) (hs : s ≤ r) :
    cum lf r e = ⊥ ∨ (Fin' (cum lf r e) ∧ Fin' (cum lf s e) ∧ Fin' (lf s e)) := by
  by_cases hb : ∃ i, i ≤ r ∧ lf i e = ⊥
  · obtain ⟨i, hi, hb⟩ := hb
    exact .inl (sum_of_bot _ _ i (Finset.mem_univ _) (by rw [if_pos hi, hb]))
  · have hreal : ∀ i, i ≤ r → Fin' (lf i e) := fun i hi => real_of_ne (fun hh => hb ⟨i, hi, hh⟩) (h i e)
    have hc : ∀ t, t ≤ r → Fin' (cum lf t e) := fun t ht => sum_real _ _ fun i _ => by
      split
      · next hi => exact hreal i (le_trans hi ht)
      · exact ⟨0, rfl⟩
    exact .inr ⟨hc r le_rfl, hc s hs, hreal s hs⟩

/-- Terms counted or not, and corrected by what remains of each after itself and of that after itself: the corrections change no sum. -/
theorem sum_corrected {ι : Type} [Fintype ι] [DecidableEq ι] (p : ι → Prop) [DecidablePred p] (w f : ι → EReal) (hw : ∀ c, w c = if p c then 1 else 0)
    (hf : ∀ c, f c ≠ ⊤) : ∑ c, w c * f c + (∑ c, w c * (f c - f c) + ∑ c, w c * ((f c - f c) - (f c - f c))) = ∑ c, w c * f c := by
  by_cases hb : ∃ c, p c ∧ f c = ⊥
  · obtain ⟨c, hc, hb⟩ := hb
    rw [sum_of_bot _ (fun c => w c * f c) c (Finset.mem_univ _) (by show w c * f c = ⊥; rw [hw, if_pos hc, hb, one_mul]), EReal.bot_add]
  · have h1 : ∀ c, w c * (f c - f c) = 0 ∧ w c * ((f c - f c) - (f c - f c)) = 0 := fun c => by
      rw [hw]
      by_cases hc : p c
      · rw [sub_self_real (real_of_ne (fun hh => hb ⟨c, hc, hh⟩) (hf c)), sub_zero, mul_zero]
        exact ⟨rfl, rfl⟩
      · rw [if_neg hc, zero_mul, zero_mul]
        exact ⟨rfl, rfl⟩
    rw [Finset.sum_eq_zero fun c _ => (h1 c).1, Finset.sum_eq_zero fun c _ => (h1 c).2, add_zero, add_zero]

/-- The state before chunk `n`: nothing before the first. `k v b` are indexed by the chunk. -/
def state (k v b : ℕ → Fin 64 → Fin 128 → EReal) : ℕ → Fin 128 → Fin 128 → EReal
  | 0 => fun _ _ => 0
  | n + 1 => next (k n) (v n) (b n) (state k v b n)

/-- The normalised, weighted and gated result at one place: `row` is the head's 128 results there, `w` the place's lane in the head,
    `nw` its weight, `g` its raw gate. The small constant is the literal the layer adds. -/
def finish (row : Fin 128 → EReal) (w : Fin 128) (nw g : EReal) : EReal :=
  row w * Ideal.rsqrt ((∑ e : Fin 128, row e * row e) * (((1 : ℝ) / 128 : ℝ) : EReal) + Ideal.ofBits .f32 0x358637BD#32) * nw
    * Ideal.logistic g

end Cert.Hgrn

end
-- ==== Proof.Gates.lean ====
/-
  The HGRN2 layer of a whole sequence in plain terms: the gates at a chunk's row and lane, and the result at a row and a lane.
-/
module

public import proofs.«01_k».proof.Proof.Spec

@[expose] public section

noncomputable section

open scoped BigOperators
open Idealize.ShloMosaic

namespace Cert.Hgrn

/-- The lower bound of the forget gate from the two logits of a lane: the first one's part in their softmax. -/
def lbE (a b : EReal) : EReal :=
  Ideal.div (Ideal.exp (a - max a b)) (Ideal.exp (a - max a b) + Ideal.exp (b - max a b))

/-- A value minus a larger one is not plus infinity. -/
theorem sub_max_ne_top {a m : EReal} (h : a ≤ m) : a - m ≠ ⊤ := by
  induction m with
  | bot => rw [le_bot_iff.1 h, sub_eq_add_neg, EReal.bot_add]; exact bot_ne_top
  | top => rw [sub_eq_add_neg, EReal.neg_top, EReal.add_bot]; exact bot_ne_top
  | coe r =>
    induction a with
    | bot => rw [sub_eq_add_neg, EReal.bot_add]; exact bot_ne_top
    | top => exact absurd h (not_le.2 (EReal.coe_lt_top r))
    | coe a => rw [← EReal.coe_sub]; exact EReal.coe_ne_top _

/-- Its exponential is a real, not below zero. -/
theorem exp_real {x : EReal} (h : x ≠ ⊤) : ∃ r : ℝ, 0 ≤ r ∧ Ideal.exp x = (r : EReal) := by
  induction x with
  | bot => exact ⟨0, le_rfl, Ideal.exp_bot⟩
  | top => exact absurd rfl h
  | coe r => exact ⟨Real.exp r, (Real.exp_pos r).le, Ideal.exp_coe r⟩

/-- The lower bound is never plus infinity, whatever the logits are. -/
theorem lbE_ne_top (a b : EReal) : lbE a b ≠ ⊤ := by
  obtain ⟨x, hx, ex⟩ := exp_real (sub_max_ne_top (le_max_left a b))
  obtain ⟨y, hy, ey⟩ := exp_real (sub_max_ne_top (le_max_right a b))
  unfold lbE
  rw [ex, ey, ← EReal.coe_add]
  by_cases h : x + y = 0
  · have h0 : x = 0 := by linarith
    rw [h, h0, Ideal.div]
    simp
  · rw [Ideal.div_coe h, ← EReal.coe_mul]
    exact EReal.coe_ne_top _

/-- The largest of two values and minus infinity. -/
theorem fold_max2 (f : Fin 2 → EReal) : (Finset.univ : Finset (Fin 2)).fold max ⊥ f = max (f 0) (f 1) := by
  have : (Finset.univ : Finset (Fin 2)) = {0, 1} := rfl
  rw [this, Finset.fold_insert (by decide), Finset.fold_singleton, max_bot_right]

/-- Row `r` of chunk `n`. -/
def rowOf (n : ℕ) (r : Fin 64) : Fin 4096 := ⟨(64 * n + r.val) % 4096, Nat.mod_lt _ (by decide)⟩

/-- Lane `e` of head `h`. -/
def laneOf (h : Fin 4) (e : Fin 128) : Fin 512 := ⟨128 * h.val + e.val, by omega⟩

/-- Lane `l` of the projections' group `g`: queries, forget logits, values, output gates. -/
def colOf (g : Fin 4) (l : Fin 512) : Fin 2048 := ⟨512 * g.val + l.val, by omega⟩

variable (X : Fin 4 → Fin 4096 → Fin 2048 → EReal) (L : Fin 2 → Fin 512 → EReal) (N : Fin 512 → EReal)

/-- The lower bound of a lane's forget gate. -/
def lbOf (l : Fin 512) : EReal := lbE (L 0 l) (L 1 l)

/-- The queries of batch `b`, head `h`, by chunk. -/
def gq (b h : Fin 4) (n : ℕ) (r : Fin 64) (e : Fin 128) : EReal := gateQ (X b (rowOf n r) (colOf 0 (laneOf h e)))
/-- The keys. -/
def gk (b h : Fin 4) (n : ℕ) (r : Fin 64) (e : Fin 128) : EReal := gateK (lbOf L (laneOf h e)) (X b (rowOf n r) (colOf 1 (laneOf h e)))
/-- The values. -/
def gv (b h : Fin 4) (n : ℕ) (r : Fin 64) (w : Fin 128) : EReal := X b (rowOf n r) (colOf 2 (laneOf h w))
/-- The logarithms of the forget gates. -/
def gl (b h : Fin 4) (n : ℕ) (r : Fin 64) (e : Fin 128) : EReal := gateL (lbOf L (laneOf h e)) (X b (rowOf n r) (colOf 1 (laneOf h e)))
/-- Their running sums within the chunk. -/
def gb (b h : Fin 4) (n : ℕ) (r : Fin 64) (e : Fin 128) : EReal := cum (gl X L b h n) r e

/-- The recurrence's row `r` of chunk `n`, before it is normalised. -/
def rowE (b h : Fin 4) (n : ℕ) (r : Fin 64) (w : Fin 128) : EReal :=
  out (gq X b h n) (gk X L b h n) (gv X b h n) (gb X L b h n) (state (gk X L b h) (gv X b h) (gb X L b h) n) r w

/-- The layer's result at batch `b`, row `t`, lane `l`. -/
def hgrn (b : Fin 4) (t : Fin 4096) (l : Fin 512) : EReal :=
  finish (rowE X L b ⟨l.val / 128, by omega⟩ (t.val / 64) ⟨t.val % 64, Nat.mod_lt _ (by decide)⟩) ⟨l.val % 128, Nat.mod_lt _ (by decide)⟩ (N l) (X b t (colOf 3 l))

variable {L}

/-- No logarithm of a forget gate is plus infinity. -/
theorem gl_ne_top (b h : Fin 4) (n : ℕ) (r : Fin 64) (e : Fin 128) : gl X L b h n r e ≠ ⊤ :=
  gateL_ne_top (lbE_ne_top _ _) _

/-- So a running sum of them is minus infinity, or all it was summed from is real. -/
theorem gb_dec (b h : Fin 4) (n : ℕ) (r s : Fin 64) (e : Fin 128) (hs : s ≤ r) :
    gb X L b h n r e = ⊥ ∨ (Fin' (gb X L b h n r e) ∧ Fin' (gb X L b h n s e) ∧ Fin' (gl X L b h n s e)) :=
  cum_dec (gl_ne_top X b h n) r s e hs

end Cert.Hgrn

end
-- ==== Proof.RefKeep.lean ====
/-
  The buffers the reference's loop and the lines around it never write: its arguments, and the raw gate columns read after the loop.
-/
module

public import proofs.«01_k».proof.Proof.Gen.ReferenceIdeal.Run
public import Idealize.ShloMosaic.Lib.Quiescent
public import Idealize.ShloMosaic.Lib.StableHlo.RunHlo

@[expose] public section

noncomputable section

namespace Cert.Hgrn.Ref

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]

/-- What the loop's condition and body write. -/
def loopW : List (Ref sig .tc) := condOps_W ++ while0Ops0_W ++ while0Ops0_1_W ++ while0Ops0_2_W ++ while0Ops0_3_W ++ while0Ops0_4_W ++ while0Ops0_5_W
  ++ while0Ops0_6_W ++ while0Ops0_7_W ++ while0Ops0_8_W

/-- A buffer the loop does not write is, before every trip, as it was at the loop's entry. -/
theorem atTrip_keep (W₀ : Dev nD → Valuation τ sig (Elt F)) (c : Dev nD) {r : Ref sig .tc} (hr : r ∉ loopW) :
    ∀ k, atTrip condOps bodyI W₀ k c (Proc.devRef .tc r) = W₀ c (Proc.devRef .tc r)
  | 0 => rfl
  | k + 1 => by
    have h := hr
    simp only [loopW, List.mem_append, not_or] at h
    obtain ⟨⟨⟨⟨⟨⟨⟨⟨⟨h0, h1⟩, h2⟩, h3⟩, h4⟩, h5⟩, h6⟩, h7⟩, h8⟩, h9⟩ := h
    rw [atTrip_succ]
    simp only [afterL_cons, afterL_nil]
    rw [after_of_writes_sub _ _ while0Ops0_8_writes h9, after_of_writes_sub _ _ while0Ops0_7_writes h8, after_of_writes_sub _ _ while0Ops0_6_writes h7,
      after_of_writes_sub _ _ while0Ops0_5_writes h6, after_of_writes_sub _ _ while0Ops0_4_writes h5, after_of_writes_sub _ _ while0Ops0_3_writes h4,
      after_of_writes_sub _ _ while0Ops0_2_writes h3, after_of_writes_sub _ _ while0Ops0_1_writes h2, after_of_writes_sub _ _ while0Ops0_writes h1,
      after_of_writes_sub _ _ condOps_writes h0]
    exact atTrip_keep W₀ c hr k

variable (m : (ℓ : Loc nD τ sig) → Buf (Elt F) ℓ) (c : Dev nD)

/-- The lines before the loop leave the arguments as they were. -/
theorem entry_arg0 : entryContents preI m c (Proc.devRef .tc main_arg0) = m (c, Proc.devRef .tc main_arg0) := by
  simp only [entryContents, afterL_cons, afterL_nil]
  after_reads_simp
theorem entry_arg1 : entryContents preI m c (Proc.devRef .tc main_arg1) = m (c, Proc.devRef .tc main_arg1) := by
  simp only [entryContents, afterL_cons, afterL_nil]
  after_reads_simp
theorem entry_arg2 : entryContents preI m c (Proc.devRef .tc main_arg2) = m (c, Proc.devRef .tc main_arg2) := by
  simp only [entryContents, afterL_cons, afterL_nil]
  after_reads_simp

/-- The failing condition's operations change none of the buffers the body leaves alone. -/
theorem exit_keep {r : Ref sig .tc} (hr : r ∉ loopW) :
    after condOps (atTrip condOps bodyI (entryContents preI m) 64 c) (Proc.devRef .tc r) = entryContents preI m c (Proc.devRef .tc r) := by
  have h : r ∉ condOps_W := fun h => hr (by simp only [loopW, List.mem_append]; tauto)
  rw [after_of_writes_sub _ _ condOps_writes h]
  exact atTrip_keep _ c hr 64

theorem final_arg0 : finalContents condOps preI bodyI postI 64 m c (Proc.devRef .tc main_arg0) = m (c, Proc.devRef .tc main_arg0) := by
  simp only [finalContents, afterL_cons, afterL_nil]
  rw [← entry_arg0 m c, ← exit_keep m c (r := main_arg0) (by decide +kernel)]
  after_reads_simp
theorem final_arg1 : finalContents condOps preI bodyI postI 64 m c (Proc.devRef .tc main_arg1) = m (c, Proc.devRef .tc main_arg1) := by
  simp only [finalContents, afterL_cons, afterL_nil]
  rw [← entry_arg1 m c, ← exit_keep m c (r := main_arg1) (by decide +kernel)]
  after_reads_simp
theorem final_arg2 : finalContents condOps preI bodyI postI 64 m c (Proc.devRef .tc main_arg2) = m (c, Proc.devRef .tc main_arg2) := by
  simp only [finalContents, afterL_cons, afterL_nil]
  rw [← entry_arg2 m c, ← exit_keep m c (r := main_arg2) (by decide +kernel)]
  after_reads_simp

/-- The reference's frame: every execution ends, with its arguments unchanged and every counter at zero. -/
theorem frame (ρ : Dev nD → PrngReg) : θ_run (defs (F := F)) (onTc (τ := τ) (main (F := F))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_mono (run_fold m ρ) (fun r h => ⟨fun c => ⟨(h c main_arg0 rfl).trans (final_arg0 m c), (h c main_arg1 rfl).trans (final_arg1 m c), (h c main_arg2 rfl).trans (final_arg2 m c)⟩,
    sem_eq_zero_of_no_sems rfl _⟩)

end Cert.Hgrn.Ref

end
-- ==== Proof.RefOps.lean ====
/-
  The reference's array operations read at an index: running sums, products over stacked heads, and the two layouts (rows of a
  batch, and chunks of rows per batch and head).
-/
module

public import proofs.«01_k».proof.Proof.Gates
public import proofs.«01_k».proof.Proof.RefKeep
public import Idealize.ShloMosaic.Lib.StableHlo.ReadAt
public import Idealize.ShloMosaic.Lib.StackMember

@[expose] public section

set_option maxHeartbeats 1000000

noncomputable section

open scoped BigOperators
open Idealize.ShloMosaic hiding ix1 ix2 ix3 ix4 ix5
open Idealize.ShloMosaic.ValueIdx
open Idealize.ShloMosaic.TcCoe Idealize.SL.Sem Idealize.ShloMosaic.StableHlo
open Cert.ReferenceIdeal Cert.ReferenceIdeal.Gen Cert.ReferenceIdeal.Value

namespace Cert.Hgrn.Ref

/-- A left fold that adds one term at a time is the start plus the sum. -/
theorem foldl_sum {n : ℕ} (f : Fin n → EReal) (v : EReal) : (List.finRange n).foldl (fun r i => r + f i) v = v + ∑ i, f i := by
  have h : ∀ (l : List (Fin n)) (v : EReal), l.foldl (fun r i => r + f i) v = v + (l.map f).sum := by
    intro l
    induction l with
    | nil => intro v; simp
    | cons a l ih => intro v; rw [List.foldl_cons, ih, List.map_cons, List.sum_cons, add_assoc]
  rw [h, Fin.sum_univ_def]

/-- A running sum along the rows of a chunk: what the windows of 64 rows, padded by 63 before the first, hold. -/
theorem cumsum_apply (x : S64x4x4x64x128.Idx → EReal) (init : S_.Idx → EReal) (h0 : ∀ i, init i = 0)
    (h : S64x4x4x64x128.ReduceWindows ![1, 1, 1, 64, 1] ![1, 1, 1, 1, 1] ![0, 0, 0, 63, 0] ![0, 0, 0, 0, 0] S64x4x4x64x128) (hu : 0 < S_.numel)
    (n : Fin 64) (b g : Fin 4) (r : Fin 64) (e : Fin 128) :
    (Host.reduceWindowAdd (F := Ideal) (φ := .f32) ![1, 1, 1, 64, 1] ![1, 1, 1, 1, 1] ![0, 0, 0, 63, 0] ![0, 0, 0, 0, 0] x init h hu (ix5 n b g r e) : EReal)
      = ∑ s : Fin 64, if s ≤ r then x (ix5 n b g s e) else 0 := by
  refine (foldl_sum _ _).trans ?_
  show init _ + _ = _
  rw [h0, zero_add]
  have hw : ∀ i : Fin 64, ∀ a : Fin 5, ((Shape.mk 5 ![1, 1, 1, 64, 1]).rowMajor.symm i a).val = if a = 3 then i.val else 0 := by decide +kernel
  refine Eq.trans ?_ (Equiv.sum_comp (Equiv.addRight (r + 1)) (fun s : Fin 64 => if s ≤ r then x (ix5 n b g s e) else 0))
  refine Finset.sum_congr rfl fun (i : Fin 64) _ => ?_
  have hv : (i + (r + 1)).val = (i.val + r.val + 1) % 64 := by
    rw [Fin.val_add, Fin.val_add]; show (i.val + (r.val + 1) % 64) % 64 = _; omega
  show _ = if i + (r + 1) ≤ r then x (ix5 n b g (i + (r + 1)) e) else 0
  by_cases hr : 63 ≤ r.val + i.val
  · have hc : i + (r + 1) ≤ r := by rw [Fin.le_def, hv]; omega
    rw [if_pos hc, dif_pos (by
      intro a
      match a with
      | ⟨0, _⟩ => exact ⟨Nat.zero_le _, lt_of_eq_of_lt (congrArg (fun z => n.val * 1 + z - 0) (hw i 0)) (by show n.val * 1 + 0 - 0 < 64; omega)⟩
      | ⟨1, _⟩ => exact ⟨Nat.zero_le _, lt_of_eq_of_lt (congrArg (fun z => b.val * 1 + z - 0) (hw i 1)) (by show b.val * 1 + 0 - 0 < 4; omega)⟩
      | ⟨2, _⟩ => exact ⟨Nat.zero_le _, lt_of_eq_of_lt (congrArg (fun z => g.val * 1 + z - 0) (hw i 2)) (by show g.val * 1 + 0 - 0 < 4; omega)⟩
      | ⟨3, _⟩ => exact ⟨le_of_le_of_eq (by show 63 ≤ r.val * 1 + i.val; omega) (congrArg (fun z => r.val * 1 + z) (hw i 3)).symm,
          lt_of_eq_of_lt (congrArg (fun z => r.val * 1 + z - 63) (hw i 3)) (by show r.val * 1 + i.val - 63 < 64; omega)⟩
      | ⟨4, _⟩ => exact ⟨Nat.zero_le _, lt_of_eq_of_lt (congrArg (fun z => e.val * 1 + z - 0) (hw i 4)) (by show e.val * 1 + 0 - 0 < 128; omega)⟩)]
    congr 1
    funext a
    apply Fin.ext
    match a with
    | ⟨0, _⟩ => exact (congrArg (fun z => n.val * 1 + z - 0) (hw i 0)).trans (by show n.val * 1 + 0 - 0 = n.val; omega)
    | ⟨1, _⟩ => exact (congrArg (fun z => b.val * 1 + z - 0) (hw i 1)).trans (by show b.val * 1 + 0 - 0 = b.val; omega)
    | ⟨2, _⟩ => exact (congrArg (fun z => g.val * 1 + z - 0) (hw i 2)).trans (by show g.val * 1 + 0 - 0 = g.val; omega)
    | ⟨3, _⟩ => exact (congrArg (fun z => r.val * 1 + z - 63) (hw i 3)).trans (by show r.val * 1 + i.val - 63 = (i + (r + 1)).val; rw [hv]; omega)
    | ⟨4, _⟩ => exact (congrArg (fun z => e.val * 1 + z - 0) (hw i 4)).trans (by show e.val * 1 + 0 - 0 = e.val; omega)
  · have hc : ¬ i + (r + 1) ≤ r := by rw [Fin.le_def, hv]; omega
    rw [if_neg hc, dif_neg (by
      intro hh
      have h3 := (hh 3).1
      have h3 : 63 ≤ r.val * 1 + i.val := le_of_le_of_eq h3 (congrArg (fun z => r.val * 1 + z) (hw i 3))
      omega)]

/-- The first row of a running sum of two rows is the first row. -/
theorem cumrow_apply (x : S2x512.Idx → EReal) (init : S_.Idx → EReal) (h0 : ∀ i, init i = 0)
    (h : S2x512.ReduceWindows ![2, 1] ![1, 1] ![1, 0] ![0, 0] S2x512) (hu : 0 < S_.numel) (l : Fin 512) :
    (Host.reduceWindowAdd (F := Ideal) (φ := .f32) ![2, 1] ![1, 1] ![1, 0] ![0, 0] x init h hu (ix2 0 l) : EReal) = x (ix2 0 l) := by
  refine (foldl_sum _ _).trans ?_
  show init _ + _ = _
  rw [h0, zero_add]
  have hw : ∀ i : Fin 2, ∀ a : Fin 2, ((Shape.mk 2 ![2, 1]).rowMajor.symm i a).val = if a = 0 then i.val else 0 := by decide +kernel
  refine (Fin.sum_univ_two (M := EReal) _).trans ?_
  rw [dif_neg (by
      intro hh
      have h3 := (hh 0).1
      have h3 : 1 ≤ 0 * 1 + 0 := le_of_le_of_eq h3 (congrArg (fun z => 0 * 1 + z) (hw 0 0))
      exact absurd h3 (by decide)), dif_pos (by
      intro a
      match a with
      | ⟨0, _⟩ => exact ⟨le_of_le_of_eq (by decide : 1 ≤ 0 * 1 + 1) (congrArg (fun z => 0 * 1 + z) (hw 1 0)).symm,
          lt_of_eq_of_lt (congrArg (fun z => 0 * 1 + z - 1) (hw 1 0)) (by decide : 0 * 1 + 1 - 1 < 2)⟩
      | ⟨1, _⟩ => exact ⟨Nat.zero_le _, lt_of_eq_of_lt (congrArg (fun z => l.val * 1 + z - 0) (hw 1 1)) (by show l.val * 1 + 0 - 0 < 512; omega)⟩), zero_add]
  congr 1
  funext a
  apply Fin.ext
  match a with
  | ⟨0, _⟩ => exact congrArg (fun z => 0 * 1 + z - 1) (hw 1 0)
  | ⟨1, _⟩ => exact (congrArg (fun z => l.val * 1 + z - 0) (hw 1 1)).trans (by show l.val * 1 + 0 - 0 = l.val; omega)

/-- The weights times the values, per batch and head. -/
theorem dot_av (A : S4x4x64x64.Idx → EReal) (B : S4x4x64x128.Idx → EReal) (b h : Fin 4) (r : Fin 64) (w : Fin 128) :
    (Host.dotGeneral (F := Ideal) (φ₁ := .f32) (φ₂ := .f32) dot_S4x4x64x64_S4x4x64x128_S4x4x64x128_3_2_2_3_01_01 none A B (ix4 b h r w) : EReal) = ∑ s : Fin 64, A (ix4 b h r s) * B (ix4 b h s w) := by
  refine (Ideal.dotGeneral_apply (φ₁ := .f32) (φ₂ := .f32) dot_S4x4x64x64_S4x4x64x128_S4x4x64x128_3_2_2_3_01_01 none _ A B _).trans ?_
  rw [← Equiv.sum_comp (contrEquiv1 dot_S4x4x64x64_S4x4x64x128_S4x4x64x128_3_2_2_3_01_01 64 rfl rfl).symm]
  refine Finset.sum_congr rfl fun s _ => ?_
  have c3 := contrEquiv1_symm_val dot_S4x4x64x64_S4x4x64x128_S4x4x64x128_3_2_2_3_01_01 64 rfl rfl s
  congr 2
  · funext ax; apply Fin.ext
    match ax with
    | ⟨0, _⟩ => rfl
    | ⟨1, _⟩ => rfl
    | ⟨2, _⟩ => rfl
    | ⟨3, _⟩ => exact c3
  · funext ax; apply Fin.ext
    match ax with
    | ⟨0, _⟩ => rfl
    | ⟨1, _⟩ => rfl
    | ⟨2, _⟩ => exact c3
    | ⟨3, _⟩ => rfl

/-- The decayed queries times the states. -/
theorem dot_qs (A : S4x4x64x128.Idx → EReal) (B : S4x4x128x128.Idx → EReal) (b h : Fin 4) (r : Fin 64) (w : Fin 128) :
    (Host.dotGeneral (F := Ideal) (φ₁ := .f32) (φ₂ := .f32) dot_S4x4x64x128_S4x4x128x128_S4x4x64x128_3_2_2_3_01_01 none A B (ix4 b h r w) : EReal) = ∑ e : Fin 128, A (ix4 b h r e) * B (ix4 b h e w) := by
  refine (Ideal.dotGeneral_apply (φ₁ := .f32) (φ₂ := .f32) dot_S4x4x64x128_S4x4x128x128_S4x4x64x128_3_2_2_3_01_01 none _ A B _).trans ?_
  rw [← Equiv.sum_comp (contrEquiv1 dot_S4x4x64x128_S4x4x128x128_S4x4x64x128_3_2_2_3_01_01 128 rfl rfl).symm]
  refine Finset.sum_congr rfl fun s _ => ?_
  have c3 := contrEquiv1_symm_val dot_S4x4x64x128_S4x4x128x128_S4x4x64x128_3_2_2_3_01_01 128 rfl rfl s
  congr 2
  · funext ax; apply Fin.ext
    match ax with
    | ⟨0, _⟩ => rfl
    | ⟨1, _⟩ => rfl
    | ⟨2, _⟩ => rfl
    | ⟨3, _⟩ => exact c3
  · funext ax; apply Fin.ext
    match ax with
    | ⟨0, _⟩ => rfl
    | ⟨1, _⟩ => rfl
    | ⟨2, _⟩ => exact c3
    | ⟨3, _⟩ => rfl

/-- The decayed keys times the values. -/
theorem dot_kv (A B : S4x4x64x128.Idx → EReal) (b h : Fin 4) (e w : Fin 128) :
    (Host.dotGeneral (F := Ideal) (φ₁ := .f32) (φ₂ := .f32) dot_S4x4x64x128_S4x4x64x128_S4x4x128x128_2_2_3_3_01_01 none A B (ix4 b h e w) : EReal) = ∑ s : Fin 64, A (ix4 b h s e) * B (ix4 b h s w) := by
  refine (Ideal.dotGeneral_apply (φ₁ := .f32) (φ₂ := .f32) dot_S4x4x64x128_S4x4x64x128_S4x4x128x128_2_2_3_3_01_01 none _ A B _).trans ?_
  rw [← Equiv.sum_comp (contrEquiv1 dot_S4x4x64x128_S4x4x64x128_S4x4x128x128_2_2_3_3_01_01 64 rfl rfl).symm]
  refine Finset.sum_congr rfl fun s _ => ?_
  have c3 := contrEquiv1_symm_val dot_S4x4x64x128_S4x4x64x128_S4x4x128x128_2_2_3_3_01_01 64 rfl rfl s
  congr 2
  · funext ax; apply Fin.ext
    match ax with
    | ⟨0, _⟩ => rfl
    | ⟨1, _⟩ => rfl
    | ⟨2, _⟩ => exact c3
    | ⟨3, _⟩ => rfl
  · funext ax; apply Fin.ext
    match ax with
    | ⟨0, _⟩ => rfl
    | ⟨1, _⟩ => rfl
    | ⟨2, _⟩ => exact c3
    | ⟨3, _⟩ => rfl

/-- Rows of a batch laid out as chunks of 64 rows per batch and head. -/
theorem chunked (x : S4x4096x512.Idx → EReal) (h1 : S4x4096x512.ShapeCasts S4x64x64x4x128) (h2 : S4x64x64x4x128.Transposes [1, 0, 3, 2, 4] S64x4x4x64x128)
    (n : Fin 64) (b h : Fin 4) (r : Fin 64) (e : Fin 128) :
    transpose S64x4x4x64x128 [1, 0, 3, 2, 4] (shapeCast S4x64x64x4x128 x h1) h2 (ix5 n b h r e) = x (ix3 b (rowOf n.val r) (laneOf h e)) := by
  rw [transpose_apply _ _ _ _ (ix5 b n r h e) (fun a => match a with | ⟨0, _⟩ => rfl | ⟨1, _⟩ => rfl | ⟨2, _⟩ => rfl | ⟨3, _⟩ => rfl | ⟨4, _⟩ => rfl)]
  refine shapeCast_apply x h1 _ _ ?_
  rw [Shape.rowMajor_val_three, Shape.rowMajor_val_five]
  show (b.val * 4096 + (64 * n.val + r.val) % 4096) * 512 + (128 * h.val + e.val) = (((b.val * 64 + n.val) * 64 + r.val) * 4 + h.val) * 128 + e.val
  omega

/-- And back: a row of a batch, one head's lanes. -/
theorem unchunked (x : S64x4x4x64x128.Idx → EReal) (h1 : S64x4x4x64x128.Transposes [1, 0, 3, 2, 4] S4x64x64x4x128) (h2 : S4x64x64x4x128.ShapeCasts S4x4096x4x128)
    (b : Fin 4) (t : Fin 4096) (h : Fin 4) (e : Fin 128) :
    shapeCast S4x4096x4x128 (transpose S4x64x64x4x128 [1, 0, 3, 2, 4] x h1) h2 (ix4 b t h e)
      = x (ix5 (⟨t.val / 64, by omega⟩ : Fin 64) b h (⟨t.val % 64, by omega⟩ : Fin 64) e) := by
  refine (shapeCast_apply _ h2 _ (ix5 b (⟨t.val / 64, by omega⟩ : Fin 64) (⟨t.val % 64, by omega⟩ : Fin 64) h e) ?_).trans ?_
  · rw [Shape.rowMajor_val_four, Shape.rowMajor_val_five]
    show (((b.val * 64 + t.val / 64) * 64 + t.val % 64) * 4 + h.val) * 128 + e.val = ((b.val * 4096 + t.val) * 4 + h.val) * 128 + e.val
    omega
  · exact transpose_apply _ _ _ _ _ (fun a => match a with | ⟨0, _⟩ => rfl | ⟨1, _⟩ => rfl | ⟨2, _⟩ => rfl | ⟨3, _⟩ => rfl | ⟨4, _⟩ => rfl)

end Cert.Hgrn.Ref

end
-- ==== Proof.RefGate.lean ====
/-
  The reference's lines before its loop, entry by entry: the forget gates' lower bounds, the keys and the gates' logarithms.
-/
module

public import proofs.«01_k».proof.Proof.RefOps

@[expose] public section

set_option maxHeartbeats 2000000

noncomputable section

open scoped BigOperators
open Idealize.ShloMosaic hiding ix1 ix2 ix3 ix4 ix5
open Idealize.ShloMosaic.ValueIdx
open Idealize.ShloMosaic.TcCoe Idealize.SL.Sem Idealize.ShloMosaic.StableHlo
open Cert.ReferenceIdeal Cert.ReferenceIdeal.Gen Cert.ReferenceIdeal.Value

namespace Cert.Hgrn.Ref

/-- The softmax of the two rows of logits, as the reference computes it. -/
def softR (A : FVec Ideal S2x512 .f32) : FVec Ideal S2x512 .f32 :=
  let M := broadcastInDim S2x512 ![0, 1] bcast_S1x512_S2x512_0_1 (broadcastInDim S1x512 ![1] bcast_S512_S1x512_1
    (maximumf (broadcastInDim S512 ![] bcast_S_S512 (constant S_ .f32 0xFF800000#32))
      (Host.reduce FloatOps.maximumf A (constant S_ .f32 0xFF800000#32) reducesTo_S2x512_S512_d0 h_S_)))
  Host.divf (Host.exp (subf A M)) (broadcastInDim S2x512 ![0, 1] bcast_S1x512_S2x512_0_1 (broadcastInDim S1x512 ![1] bcast_S512_S1x512_1
    (Host.reduceAdd (Host.exp (subf A M)) (constant S_ .f32 0x00000000#32) reducesTo_S2x512_S512_d0 h_S_)))

/-- A row spread over both rows. -/
theorem both_rows (x : S512.Idx → EReal) (i : Fin 2) (l : Fin 512) :
    broadcastInDim S2x512 ![0, 1] bcast_S1x512_S2x512_0_1 (broadcastInDim S1x512 ![1] bcast_S512_S1x512_1 x) (ix2 i l) = x (ix1 l) :=
  (broadcastInDim_apply _ _ _ _ (ix2 (0 : Fin 1) l) (fun a => match a with | ⟨0, _⟩ => rfl | ⟨1, _⟩ => rfl)).trans
    (broadcastInDim_apply _ _ _ _ (ix1 l) (fun a => match a with | ⟨0, _⟩ => rfl))

/-- The index of a reduced pair's member. -/
theorem lift_two (h : S2x512.Reduces [0] S512) (l : Fin 512) (i : Fin 2) : h.lift (ix1 l) i = ix2 i l := by
  funext a
  match a with
  | ⟨0, _⟩ => rfl
  | ⟨1, _⟩ => rfl

theorem max_two (A : S2x512.Idx → EReal) (l : Fin 512) :
    (maximumf (F := Ideal) (φ := .f32) (broadcastInDim S512 ![] bcast_S_S512 (constant S_ .f32 0xFF800000#32))
      (Host.reduce FloatOps.maximumf A (constant S_ .f32 0xFF800000#32) reducesTo_S2x512_S512_d0 h_S_) (ix1 l) : EReal) = max (A (ix2 0 l)) (A (ix2 1 l)) := by
  have e := Host.reduce_eq_fold_single (α := EReal) max A (fun _ : S_.Idx => Ideal.ofBits .f32 0xFF800000#32) reducesTo_S2x512_S512_d0 (by decide : S2x512.Reduces [0] S512) h_S_ (ix1 l)
  refine (congrArg (fun y : EReal => max (Ideal.ofBits .f32 0xFF800000#32) y) e).trans ?_
  rw [ninf_lit, max_bot_left]
  refine (fold_max2 _).trans ?_
  exact congrArg₂ (fun x y : EReal => max x y) (congrArg A (lift_two _ l 0)) (congrArg A (lift_two _ l 1))

theorem soft_row (A : S2x512.Idx → EReal) (l : Fin 512) : (softR A (ix2 0 l) : EReal) = lbE (A (ix2 0 l)) (A (ix2 1 l)) := by
  have hm : ∀ i : Fin 2, _ = max (A (ix2 0 l)) (A (ix2 1 l)) := fun i => (both_rows _ i l).trans (max_two A l)
  have hx : ∀ i : Fin 2, (Host.exp (F := Ideal) (φ := .f32) (subf A (broadcastInDim S2x512 ![0, 1] bcast_S1x512_S2x512_0_1 (broadcastInDim S1x512 ![1] bcast_S512_S1x512_1
      (maximumf (broadcastInDim S512 ![] bcast_S_S512 (constant S_ .f32 0xFF800000#32))
        (Host.reduce FloatOps.maximumf A (constant S_ .f32 0xFF800000#32) reducesTo_S2x512_S512_d0 h_S_))))) (ix2 i l) : EReal)
      = Ideal.exp (A (ix2 i l) - max (A (ix2 0 l)) (A (ix2 1 l))) := fun i => congrArg (fun y : EReal => Ideal.exp (A (ix2 i l) - y)) (hm i)
  unfold softR lbE
  refine congrArg₂ Ideal.div (hx 0) ?_
  refine (both_rows _ 0 l).trans ?_
  refine (Ideal.hostReduceAdd_single reducesTo_S2x512_S512_d0 (by decide : S2x512.Reduces [0] S512) _ _ (ix1 l)).trans ?_
  refine (congrArg₂ (fun x y : EReal => x + y) zero_lit (Fin.sum_univ_two (M := EReal) _)).trans ?_
  rw [zero_add, lift_two, lift_two]
  exact congrArg₂ (fun x y : EReal => x + y) (hx 0) (hx 1)

/-- The forget gates' lower bounds: the first row of the softmax's running sum. -/
def lbR (A : FVec Ideal S2x512 .f32) : FVec Ideal S512 .f32 :=
  shapeCast S512 (extractStridedSlice S1x512 ![0, 0] (Host.reduceWindowAdd ![2, 1] ![1, 1] ![1, 0] ![0, 0] (softR A)
    (broadcastInDim S_ ![] bcast_S_S_ (constant S_ .f32 0x00000000#32)) reduceWindows_S2x512_S2x512_w2s1p1_0_w1s1p0_0 h_S_) slices_S2x512_S1x512_0_0) shapeCasts_S1x512_S512

theorem lbR_apply (A : S2x512.Idx → EReal) (l : Fin 512) : (lbR A (ix1 l) : EReal) = lbE (A (ix2 0 l)) (A (ix2 1 l)) := by
  unfold lbR
  refine (shapeCast_apply _ _ _ (ix2 (0 : Fin 1) l) ?_).trans ?_
  · rw [Shape.rowMajor_val_one, Shape.rowMajor_val_two]
    show 0 * 512 + l.val = l.val
    omega
  refine (extractStridedSlice_apply _ _ _ _ (ix2 (0 : Fin 2) l) (fun a => match a with | ⟨0, _⟩ => rfl | ⟨1, _⟩ => (Nat.zero_add _).symm)).trans ?_
  exact (cumrow_apply _ _ (fun _ => zero_lit) _ _ l).trans (soft_row A l)

/-- A lane's number spread over all rows. -/
theorem all_rows (x : S512.Idx → EReal) (b : Fin 4) (t : Fin 4096) (l : Fin 512) :
    broadcastInDim S4x4096x512 ![0, 1, 2] bcast_S1x1x512_S4x4096x512_0_1_2 (broadcastInDim S1x1x512 ![2] bcast_S512_S1x1x512_2 x) (ix3 b t l) = x (ix1 l) :=
  (broadcastInDim_apply _ _ _ _ (ix3 (0 : Fin 1) (0 : Fin 1) l) (fun a => match a with | ⟨0, _⟩ => rfl | ⟨1, _⟩ => rfl | ⟨2, _⟩ => rfl)).trans
    (broadcastInDim_apply _ _ _ _ (ix1 l) (fun a => match a with | ⟨0, _⟩ => rfl))

/-- One over one plus the exponential of the negated argument. -/
def sigR (x : FVec Ideal S4x4096x512 .f32) : FVec Ideal S4x4096x512 .f32 :=
  Host.divf (broadcastInDim S4x4096x512 ![] bcast_S_S4x4096x512 (constant S_ .f32 0x3F800000#32))
    (addf (broadcastInDim S4x4096x512 ![] bcast_S_S4x4096x512 (constant S_ .f32 0x3F800000#32)) (Host.exp (Host.negf x)))

theorem sigR_apply (x : S4x4096x512.Idx → EReal) (i : S4x4096x512.Idx) : (sigR x i : EReal) = Ideal.logistic (x i) := by
  show Ideal.div (Ideal.ofBits .f32 0x3F800000#32) (Ideal.ofBits .f32 0x3F800000#32 + Ideal.exp (-(x i))) = _
  rw [one_lit]
  rfl

/-- One minus the lower bounds, at every row. -/
def restR (A : FVec Ideal S2x512 .f32) : FVec Ideal S4x4096x512 .f32 :=
  broadcastInDim S4x4096x512 ![0, 1, 2] bcast_S1x1x512_S4x4096x512_0_1_2 (broadcastInDim S1x1x512 ![2] bcast_S512_S1x1x512_2
    (subf (broadcastInDim S512 ![] bcast_S_S512 (constant S_ .f32 0x3F800000#32)) (lbR A)))

theorem restR_apply (A : S2x512.Idx → EReal) (b : Fin 4) (t : Fin 4096) (l : Fin 512) : (restR A (ix3 b t l) : EReal) = 1 - lbE (A (ix2 0 l)) (A (ix2 1 l)) :=
  (all_rows _ b t l).trans (congrArg₂ (fun x y : EReal => x - y) one_lit (lbR_apply A l))

/-- A group of 512 columns of the projections. -/
theorem cols (off : ℕ) (g : Fin 4) (hg : off = 512 * g.val) (x : S4x4096x2048.Idx → EReal) (h : S4x4096x2048.Slices ![0, 0, off] S4x4096x512) (b : Fin 4) (t : Fin 4096) (l : Fin 512) :
    extractStridedSlice S4x4096x512 ![0, 0, off] x h (ix3 b t l) = x (ix3 b t (colOf g l)) := by
  refine extractStridedSlice_apply _ _ _ _ _ (fun a => ?_)
  match a with
  | ⟨0, _⟩ => exact (Nat.zero_add _).symm
  | ⟨1, _⟩ => exact (Nat.zero_add _).symm
  | ⟨2, _⟩ => show 512 * g.val + l.val = off + l.val; rw [hg]

/-- The keys and the forget gates' logarithms, row by row. -/
def kR (X : FVec Ideal S4x4096x2048 .f32) (A : FVec Ideal S2x512 .f32) : FVec Ideal S4x4096x512 .f32 :=
  mulf (restR A) (sigR (Host.negf (extractStridedSlice S4x4096x512 ![0, 0, 512] X slices_S4x4096x2048_S4x4096x512_0_0_512)))
def lR (X : FVec Ideal S4x4096x2048 .f32) (A : FVec Ideal S2x512 .f32) : FVec Ideal S4x4096x512 .f32 :=
  Host.log (addf (broadcastInDim S4x4096x512 ![0, 1, 2] bcast_S1x1x512_S4x4096x512_0_1_2 (broadcastInDim S1x1x512 ![2] bcast_S512_S1x1x512_2 (lbR A)))
    (mulf (restR A) (sigR (extractStridedSlice S4x4096x512 ![0, 0, 512] X slices_S4x4096x2048_S4x4096x512_0_0_512))))

theorem kR_apply (X : S4x4096x2048.Idx → EReal) (A : S2x512.Idx → EReal) (b : Fin 4) (t : Fin 4096) (l : Fin 512) :
    (kR X A (ix3 b t l) : EReal) = gateK (lbE (A (ix2 0 l)) (A (ix2 1 l))) (X (ix3 b t (colOf 1 l))) :=
  congrArg₂ (fun x y : EReal => x * y) (restR_apply A b t l) ((sigR_apply _ _).trans (congrArg (fun y : EReal => Ideal.logistic (-y)) (cols 512 1 rfl X _ b t l)))

theorem lR_apply (X : S4x4096x2048.Idx → EReal) (A : S2x512.Idx → EReal) (b : Fin 4) (t : Fin 4096) (l : Fin 512) :
    (lR X A (ix3 b t l) : EReal) = gateL (lbE (A (ix2 0 l)) (A (ix2 1 l))) (X (ix3 b t (colOf 1 l))) :=
  congrArg Ideal.log (congrArg₂ (fun x y : EReal => x + y) ((all_rows _ b t l).trans (lbR_apply A l))
    (congrArg₂ (fun x y : EReal => x * y) (restR_apply A b t l) ((sigR_apply _ _).trans (congrArg Ideal.logistic (cols 512 1 rfl X _ b t l)))))

end Cert.Hgrn.Ref

end
-- ==== Proof.RefPre.lean ====
/-
  What the reference's loop is entered with: queries, keys, running sums and values per chunk, the mask, the zero states.
-/
module

public import proofs.«01_k».proof.Proof.RefGate

@[expose] public section

set_option maxHeartbeats 2000000

noncomputable section

open scoped BigOperators
open Idealize.ShloMosaic hiding ix1 ix2 ix3 ix4 ix5
open Idealize.ShloMosaic.ValueIdx
open Idealize.ShloMosaic.TcCoe Idealize.SL.Sem Idealize.ShloMosaic.StableHlo
open Cert.ReferenceIdeal Cert.ReferenceIdeal.Gen Cert.ReferenceIdeal.Value

namespace Cert.Hgrn.Ref

variable (m : (ℓ : Loc nD τ sig) → Buf (Elt Ideal) ℓ) (c : Dev nD)

/-- The projections. -/
def rX (b : Fin 4) (t : Fin 4096) (j : Fin 2048) : EReal := (m (c, Proc.tc.devRef main_arg0) : S4x4096x2048.Idx → EReal) (ix3 b t j)
/-- The lower bounds' logits. -/
def rL (i : Fin 2) (l : Fin 512) : EReal := (m (c, Proc.tc.devRef main_arg1) : S2x512.Idx → EReal) (ix2 i l)
/-- The norm's weights. -/
def rN (l : Fin 512) : EReal := (m (c, Proc.tc.devRef main_arg2) : S512.Idx → EReal) (ix1 l)

/-- The queries the loop is entered with. -/
theorem entry_q (n : Fin 64) (b h : Fin 4) (r : Fin 64) (e : Fin 128) :
    (entryContents preI m c (Proc.devRef .tc main_v60_0) : S64x4x4x64x128.Idx → EReal) (ix5 n b h r e) = gq (rX m c) b h n.val r e := by
  simp only [entryContents, afterL_cons, afterL_nil]
  after_reads_simp
  simp -implicitDefEqProofs only [StableHlo.TRef.toBuf, StableHlo.TRef.ofBuf, cast_cast, cast_eq]
  refine (chunked (mulf (F := Ideal) (φ := .f32) (extractStridedSlice S4x4096x512 ![0, 0, 0] (m (c, Proc.tc.devRef main_arg0)) slices_S4x4096x2048_S4x4096x512_0_0_0)
    (sigR (extractStridedSlice S4x4096x512 ![0, 0, 0] (m (c, Proc.tc.devRef main_arg0)) slices_S4x4096x2048_S4x4096x512_0_0_0))) _ _ n b h r e).trans ?_
  unfold gq gateQ rX
  exact congrArg₂ (fun x y : EReal => x * y) (cols 0 0 rfl _ _ b _ _) ((sigR_apply _ _).trans (congrArg Ideal.logistic (cols 0 0 rfl _ _ b _ _)))

/-- The keys. -/
theorem entry_k (n : Fin 64) (b h : Fin 4) (r : Fin 64) (e : Fin 128) :
    (entryContents preI m c (Proc.devRef .tc main_v60_1) : S64x4x4x64x128.Idx → EReal) (ix5 n b h r e) = gk (rX m c) (rL m c) b h n.val r e := by
  simp only [entryContents, afterL_cons, afterL_nil]
  after_reads_simp
  simp -implicitDefEqProofs only [StableHlo.TRef.toBuf, StableHlo.TRef.ofBuf, cast_cast, cast_eq]
  have e : ∀ T : FVec Ideal S4x4096x512 .f32, T = kR (launchContents m c (Proc.devRef .tc main_arg0)) (launchContents m c (Proc.devRef .tc main_arg1)) → (id (transpose S64x4x4x64x128 [1, 0, 3, 2, 4] (fun i => shapeCast main_v48.ty.shape T shapeCasts_S4x4096x512_S4x64x64x4x128 i) transposes_S4x64x64x4x128_S64x4x4x64x128_1_0_3_2_4)
      (ix5 n b h r e) : EReal) = gk (rX m c) (rL m c) b h n.val r e := fun T hT => by
    refine (chunked T _ _ n b h r e).trans ?_
    rw [hT]
    exact kR_apply (launchContents m c (Proc.devRef .tc main_arg0)) (launchContents m c (Proc.devRef .tc main_arg1)) b (rowOf n.val r) (laneOf h e)
  refine e _ ?_
  rfl

/-- The running sums of the forget gates' logarithms. -/
theorem entry_b (n : Fin 64) (b h : Fin 4) (r : Fin 64) (e : Fin 128) :
    (entryContents preI m c (Proc.devRef .tc main_v60_2) : S64x4x4x64x128.Idx → EReal) (ix5 n b h r e) = gb (rX m c) (rL m c) b h n.val r e := by
  simp only [entryContents, afterL_cons, afterL_nil]
  after_reads_simp
  simp -implicitDefEqProofs only [StableHlo.TRef.toBuf, StableHlo.TRef.ofBuf, cast_cast, cast_eq]
  refine (cumsum_apply (transpose S64x4x4x64x128 [1, 0, 3, 2, 4] (shapeCast S4x64x64x4x128 (lR (m (c, Proc.tc.devRef main_arg0)) (m (c, Proc.tc.devRef main_arg1)))
    shapeCasts_S4x4096x512_S4x64x64x4x128) transposes_S4x64x64x4x128_S64x4x4x64x128_1_0_3_2_4) _ (fun _ => zero_lit) _ _ n b h r e).trans ?_
  unfold gb cum
  refine Finset.sum_congr rfl fun s _ => if_congr Iff.rfl ?_ rfl
  exact (chunked _ _ _ n b h s e).trans (lR_apply _ _ _ _ _)

/-- The values. -/
theorem entry_v (n : Fin 64) (b h : Fin 4) (r : Fin 64) (e : Fin 128) :
    (entryContents preI m c (Proc.devRef .tc main_v60_3) : S64x4x4x64x128.Idx → EReal) (ix5 n b h r e) = gv (rX m c) b h n.val r e := by
  simp only [entryContents, afterL_cons, afterL_nil]
  after_reads_simp
  exact (chunked (extractStridedSlice S4x4096x512 ![0, 0, 1024] (m (c, Proc.tc.devRef main_arg0)) slices_S4x4096x2048_S4x4096x512_0_0_1024) _ _ n b h r e).trans (cols 1024 2 rfl _ _ _ _ _)

/-- The mask: a row sees itself and the rows before it. -/
theorem mask_word : ∀ r s : Fin 64, Scalar.select (IntOp.cmpi .sge (IntOp.addi (BitVec.ofNat 32 r.val) 0#32) (BitVec.ofNat 32 s.val)) 1#1 0#1 = if s ≤ r then 1#1 else 0#1 := by
  decide +kernel

theorem entry_m (r s : Fin 64) :
    (entryContents preI m c (Proc.devRef .tc main_v60_4) : S64x64x1.Idx → BitVec 1) (ix3 r s (0 : Fin 1)) = if s ≤ r then 1#1 else 0#1 := by
  simp only [entryContents, afterL_cons, afterL_nil]
  after_reads_simp
  simp -implicitDefEqProofs only [StableHlo.TRef.toBuf, StableHlo.TRef.ofBuf, cast_cast, cast_eq]
  refine (broadcastInDim_apply _ _ _ _ (ix2 r s) (fun a => match a with | ⟨0, _⟩ => rfl | ⟨1, _⟩ => rfl)).trans ?_
  exact mask_word r s

/-- The states. -/
theorem entry_s (b h : Fin 4) (e w : Fin 128) : ((entryContents preI m c (Proc.devRef .tc main_v60_6) : S4x4x128x128.Idx → EReal) (ix4 b h e w) : EReal) = (0 : EReal) := by
  simp only [entryContents, afterL_cons, afterL_nil]
  after_reads_simp
  exact zero_lit

/-- The trip's count. -/
theorem entry_c : entryContents preI m c (Proc.devRef .tc main_v60_5) = fun _ => BitVec.ofNat 32 0 := ctr_entry m c

/-- The columns that gate the result, read after the loop. -/
theorem entry_g (b : Fin 4) (t : Fin 4096) (l : Fin 512) :
    (entryContents preI m c (Proc.devRef .tc main_v45) : S4x4096x512.Idx → EReal) (ix3 b t l) = rX m c b t (colOf 3 l) := by
  simp only [entryContents, afterL_cons, afterL_nil]
  after_reads_simp
  exact cols 1536 3 rfl _ _ _ _ _

end Cert.Hgrn.Ref

end
-- ==== Proof.RefTrip.lean ====
/-
  One trip of the reference's loop, in the recurrence's terms: the chunk's output is stored at the trip's index, the states advance.
-/
module

public import proofs.«01_k».proof.Proof.RefOps

@[expose] public section

set_option maxHeartbeats 1000000

noncomputable section

open scoped BigOperators
open Idealize.ShloMosaic hiding ix1 ix2 ix3 ix4 ix5
open Idealize.ShloMosaic.ValueIdx
open Idealize.ShloMosaic.TcCoe Idealize.SL.Sem Idealize.ShloMosaic.StableHlo
open Cert.ReferenceIdeal Cert.ReferenceIdeal.Gen Cert.ReferenceIdeal.Value

namespace Cert.Hgrn.Ref

theorem word_toInt (k : ℕ) (hk : k < 64) : (BitVec.ofNat 32 k).toInt = k := by
  rw [BitVec.toInt_eq_toNat_of_lt (by rw [BitVec.toNat_ofNat, Nat.mod_eq_of_lt (by omega)]; omega), BitVec.toNat_ofNat, Nat.mod_eq_of_lt (by omega)]

theorem mul_of_zero (a y : EReal) (h : y = 0) : a * y = 0 := by rw [h, mul_zero]
theorem exp_of_bot (y : EReal) (h : y = ⊥) : Ideal.exp y = 0 := by rw [h, Ideal.exp_bot]

/-- The stack's member at a start. -/
theorem slice_at (x : S64x4x4x64x128.Idx → EReal) (st : Fin 5 → Int) (k : Fin 64) (h0 : st 0 = k.val) (h1 : st 1 = 0) (h2 : st 2 = 0) (h3 : st 3 = 0) (h4 : st 4 = 0)
    (hf : S64x4x4x64x128.Slices (fun _ => 0) S1x4x4x64x128) (hc : S1x4x4x64x128.ShapeCasts S4x4x64x128) (b h : Fin 4) (r : Fin 64) (e : Fin 128) :
    shapeCast S4x4x64x128 (Host.dynamicSlice S1x4x4x64x128 x st hf) hc (ix4 b h r e) = x (ix5 k b h r e) := by
  refine (shapeCast_apply _ hc _ (ix5 (0 : Fin 1) b h r e) ?_).trans ?_
  · rw [Shape.rowMajor_val_four, Shape.rowMajor_val_five]
    show (((0 * 4 + b.val) * 4 + h.val) * 64 + r.val) * 128 + e.val = ((b.val * 4 + h.val) * 64 + r.val) * 128 + e.val
    omega
  · rw [Host.dynamicSlice_apply]
    congr 1
    funext a
    apply Fin.ext
    match a with
    | ⟨0, _⟩ =>
      refine (congrArg (· + 0) (Host.clampedStart_of_le hf.1 st 0 k.val h0 (by show k.val + 1 ≤ 64; omega))).trans ?_
      rfl
    | ⟨1, _⟩ => exact (congrArg (· + b.val) (Host.clampedStart_of_le hf.1 st 1 0 h1 (by show 0 + 4 ≤ 4; omega))).trans (Nat.zero_add _)
    | ⟨2, _⟩ => exact (congrArg (· + h.val) (Host.clampedStart_of_le hf.1 st 2 0 h2 (by show 0 + 4 ≤ 4; omega))).trans (Nat.zero_add _)
    | ⟨3, _⟩ => exact (congrArg (· + r.val) (Host.clampedStart_of_le hf.1 st 3 0 h3 (by show 0 + 64 ≤ 64; omega))).trans (Nat.zero_add _)
    | ⟨4, _⟩ => exact (congrArg (· + e.val) (Host.clampedStart_of_le hf.1 st 4 0 h4 (by show 0 + 128 ≤ 128; omega))).trans (Nat.zero_add _)

/-- The stack with one member replaced. -/
theorem update_at (x : S64x4x4x64x128.Idx → EReal) (u : S1x4x4x64x128.Idx → EReal) (st : Fin 5 → Int) (k : Fin 64) (h0 : st 0 = k.val) (h1 : st 1 = 0) (h2 : st 2 = 0)
    (h3 : st 3 = 0) (h4 : st 4 = 0) (hf : S64x4x4x64x128.Slices (fun _ => 0) S1x4x4x64x128) (n : Fin 64) (b h : Fin 4) (r : Fin 64) (e : Fin 128) :
    Host.dynamicUpdateSlice x u st hf (ix5 n b h r e) = if n = k then u (ix5 (0 : Fin 1) b h r e) else x (ix5 n b h r e) := by
  have c0 : Host.clampedStart S64x4x4x64x128 S1x4x4x64x128 hf.1 st 0 = k.val := Host.clampedStart_of_le hf.1 st 0 k.val h0 (by show k.val + 1 ≤ 64; omega)
  have c1 : Host.clampedStart S64x4x4x64x128 S1x4x4x64x128 hf.1 st 1 = 0 := Host.clampedStart_of_le hf.1 st 1 0 h1 (by show 0 + 4 ≤ 4; omega)
  have c2 : Host.clampedStart S64x4x4x64x128 S1x4x4x64x128 hf.1 st 2 = 0 := Host.clampedStart_of_le hf.1 st 2 0 h2 (by show 0 + 4 ≤ 4; omega)
  have c3 : Host.clampedStart S64x4x4x64x128 S1x4x4x64x128 hf.1 st 3 = 0 := Host.clampedStart_of_le hf.1 st 3 0 h3 (by show 0 + 64 ≤ 64; omega)
  have c4 : Host.clampedStart S64x4x4x64x128 S1x4x4x64x128 hf.1 st 4 = 0 := Host.clampedStart_of_le hf.1 st 4 0 h4 (by show 0 + 128 ≤ 128; omega)
  rw [Host.dynamicUpdateSlice_apply]
  by_cases hn : n = k
  · rw [if_pos hn, dif_pos (by
      intro a
      match a with
      | ⟨0, _⟩ => exact ⟨le_of_eq_of_le c0 (by rw [hn]), lt_of_lt_of_eq (by rw [hn]; exact Nat.lt_succ_self _) (congrArg (· + 1) c0).symm⟩
      | ⟨1, _⟩ => exact ⟨le_of_eq_of_le c1 (Nat.zero_le _), lt_of_lt_of_eq (by show b.val < 0 + 4; omega) (congrArg (· + 4) c1).symm⟩
      | ⟨2, _⟩ => exact ⟨le_of_eq_of_le c2 (Nat.zero_le _), lt_of_lt_of_eq (by show h.val < 0 + 4; omega) (congrArg (· + 4) c2).symm⟩
      | ⟨3, _⟩ => exact ⟨le_of_eq_of_le c3 (Nat.zero_le _), lt_of_lt_of_eq (by show r.val < 0 + 64; omega) (congrArg (· + 64) c3).symm⟩
      | ⟨4, _⟩ => exact ⟨le_of_eq_of_le c4 (Nat.zero_le _), lt_of_lt_of_eq (by show e.val < 0 + 128; omega) (congrArg (· + 128) c4).symm⟩)]
    congr 1
    funext a
    apply Fin.ext
    match a with
    | ⟨0, _⟩ => exact (congrArg (fun z => n.val - z) c0).trans (by show n.val - k.val = 0; rw [hn]; exact Nat.sub_self _)
    | ⟨1, _⟩ => exact congrArg (fun z => b.val - z) c1
    | ⟨2, _⟩ => exact congrArg (fun z => h.val - z) c2
    | ⟨3, _⟩ => exact congrArg (fun z => r.val - z) c3
    | ⟨4, _⟩ => exact congrArg (fun z => e.val - z) c4
  · rw [if_neg hn, dif_neg (by
      intro hh
      obtain ⟨ha, hb⟩ := hh 0
      have ha : k.val ≤ n.val := le_of_eq_of_le c0.symm ha
      have hb : n.val < k.val + 1 := lt_of_lt_of_eq hb (congrArg (· + 1) c0)
      exact hn (Fin.ext (by omega)))]

variable (V0 : Valuation τ sig (Elt Ideal)) (k : Fin 64)
variable (h5 : V0 (Proc.devRef .tc main_v60_5) = fun _ => BitVec.ofNat 32 k.val)

/-- The queries, keys, sums and values a trip reads, and its states with the columns first. -/
def tq (b h : Fin 4) (r : Fin 64) (e : Fin 128) : EReal := (V0 (Proc.devRef .tc main_v60_0) : S64x4x4x64x128.Idx → EReal) (ix5 k b h r e)
def tk (b h : Fin 4) (r : Fin 64) (e : Fin 128) : EReal := (V0 (Proc.devRef .tc main_v60_1) : S64x4x4x64x128.Idx → EReal) (ix5 k b h r e)
def tb (b h : Fin 4) (r : Fin 64) (e : Fin 128) : EReal := (V0 (Proc.devRef .tc main_v60_2) : S64x4x4x64x128.Idx → EReal) (ix5 k b h r e)
def tv (b h : Fin 4) (r : Fin 64) (e : Fin 128) : EReal := (V0 (Proc.devRef .tc main_v60_3) : S64x4x4x64x128.Idx → EReal) (ix5 k b h r e)
def tS (b h : Fin 4) (w e : Fin 128) : EReal := (V0 (Proc.devRef .tc main_v60_6) : S4x4x128x128.Idx → EReal) (ix4 b h e w)

include h5

theorem start0 : ((![V0 (Proc.devRef .tc main_v60_5), constantI S_ 32 0#32, constantI S_ 32 0#32, constantI S_ 32 0#32, constantI S_ 32 0#32] : Fin 5 → (⟨S_, .i32⟩ : BufTy).Contents (Elt Ideal))
    0 (Shape.Idx.first h_S_)).toInt = k.val := by
  show (V0 (Proc.devRef .tc main_v60_5) (Shape.Idx.first h_S_) : BitVec 32).toInt = _
  rw [h5]
  exact word_toInt k.val k.isLt

theorem read_q (b h : Fin 4) (r : Fin 64) (e : Fin 128) : (res_main_while0b_v85 V0 : S4x4x64x128.Idx → EReal) (ix4 b h r e) = tq V0 k b h r e :=
  slice_at _ _ k (start0 V0 k h5) rfl rfl rfl rfl _ _ b h r e
theorem read_k (b h : Fin 4) (r : Fin 64) (e : Fin 128) : (res_main_while0b_v86 V0 : S4x4x64x128.Idx → EReal) (ix4 b h r e) = tk V0 k b h r e :=
  slice_at _ _ k (start0 V0 k h5) rfl rfl rfl rfl _ _ b h r e
theorem read_b (b h : Fin 4) (r : Fin 64) (e : Fin 128) : (res_main_while0b_v87 V0 : S4x4x64x128.Idx → EReal) (ix4 b h r e) = tb V0 k b h r e :=
  slice_at _ _ k (start0 V0 k h5) rfl rfl rfl rfl _ _ b h r e
theorem read_v (b h : Fin 4) (r : Fin 64) (e : Fin 128) : (res_main_while0b_v88 V0 : S4x4x64x128.Idx → EReal) (ix4 b h r e) = tv V0 k b h r e :=
  slice_at _ _ k (start0 V0 k h5) rfl rfl rfl rfl _ _ b h r e

/-- The chunk's last sums. -/
theorem read_last (b h : Fin 4) (e : Fin 128) : (res_main_while0b_v108 V0 : S4x4x1x128.Idx → EReal) (ix4 b h (0 : Fin 1) e) = tb V0 k b h 63 e := by
  unfold res_main_while0b_v108
  refine (extractStridedSlice_apply _ _ _ _ (ix4 b h (63 : Fin 64) e) (fun a => ?_)).trans (read_b V0 k h5 b h 63 e)
  match a with
  | ⟨0, _⟩ => exact (Nat.zero_add _).symm
  | ⟨1, _⟩ => exact (Nat.zero_add _).symm
  | ⟨2, _⟩ => rfl
  | ⟨3, _⟩ => exact (Nat.zero_add _).symm

/-- The states a trip leaves. -/
theorem step_states (b h : Fin 4) (w e : Fin 128) :
    (step_main_v60_6 V0 : S4x4x128x128.Idx → EReal) (ix4 b h e w) = next (tk V0 k b h) (tv V0 k b h) (tb V0 k b h) (tS V0 b h) w e := by
  unfold step_main_v60_6 next
  refine (congrArg₂ (fun x y : EReal => x + y) (x' := tS V0 b h w e * Ideal.exp (tb V0 k b h 63 e)) ?_ (dot_kv _ _ b h e w)).trans ?_
  · refine (congrArg₂ (fun x y : EReal => x * y) (?_ : _ = Ideal.exp (tb V0 k b h 63 e)) rfl).trans (mul_comm _ _)
    refine (broadcastInDim_apply _ _ _ _ (ix4 b h e (0 : Fin 1)) (fun a => match a with | ⟨0, _⟩ => rfl | ⟨1, _⟩ => rfl | ⟨2, _⟩ => rfl | ⟨3, _⟩ => rfl)).trans ?_
    refine (broadcastInDim_apply _ _ _ _ (ix3 b h e) (fun a => match a with | ⟨0, _⟩ => rfl | ⟨1, _⟩ => rfl | ⟨2, _⟩ => rfl)).trans ?_
    refine congrArg Ideal.exp ?_
    refine (shapeCast_apply _ _ _ (ix4 b h (0 : Fin 1) e) ?_).trans (read_last V0 k h5 b h e)
    rw [Shape.rowMajor_val_four, Shape.rowMajor_val_three]
    show ((b.val * 4 + h.val) * 1 + 0) * 128 + e.val = (b.val * 4 + h.val) * 128 + e.val
    omega
  · refine congrArg (fun x : EReal => _ + x) (Finset.sum_congr rfl fun s _ => ?_)
    refine (mul_comm _ _).trans ?_
    refine congrArg₂ (fun x y : EReal => x * y) (read_v V0 k h5 b h s w) (congrArg₂ (fun x y : EReal => x * y) (read_k V0 k h5 b h s e) (congrArg Ideal.exp ?_))
    refine congrArg₂ (fun x y : EReal => x - y) ?_ (read_b V0 k h5 b h s e)
    exact (broadcastInDim_apply _ _ _ _ (ix4 b h (0 : Fin 1) e) (fun a => match a with | ⟨0, _⟩ => rfl | ⟨1, _⟩ => rfl | ⟨2, _⟩ => rfl | ⟨3, _⟩ => rfl)).trans (read_last V0 k h5 b h e)

omit h5 in
/-- A row's array spread over the rows it is compared with. -/
theorem spread_row (x : S4x4x64x128.Idx → EReal) (h1 : S4x4x64x128.BroadcastsInDim S4x4x64x1x128 ![0, 1, 2, 4]) (h2 : S4x4x64x1x128.BroadcastsInDim S4x4x64x64x128 ![0, 1, 2, 3, 4])
    (b h : Fin 4) (r s : Fin 64) (e : Fin 128) :
    broadcastInDim S4x4x64x64x128 ![0, 1, 2, 3, 4] h2 (broadcastInDim S4x4x64x1x128 ![0, 1, 2, 4] h1 x) (ix5 b h r s e) = x (ix4 b h r e) :=
  (broadcastInDim_apply _ _ _ _ (ix5 b h r (0 : Fin 1) e) (fun a => match a with | ⟨0, _⟩ => rfl | ⟨1, _⟩ => rfl | ⟨2, _⟩ => rfl | ⟨3, _⟩ => rfl | ⟨4, _⟩ => rfl)).trans
    (broadcastInDim_apply _ _ _ _ (ix4 b h r e) (fun a => match a with | ⟨0, _⟩ => rfl | ⟨1, _⟩ => rfl | ⟨2, _⟩ => rfl | ⟨3, _⟩ => rfl))
omit h5 in
/-- And the other way round. -/
theorem spread_col (x : S4x4x64x128.Idx → EReal) (h1 : S4x4x64x128.BroadcastsInDim S4x4x1x64x128 ![0, 1, 3, 4]) (h2 : S4x4x1x64x128.BroadcastsInDim S4x4x64x64x128 ![0, 1, 2, 3, 4])
    (b h : Fin 4) (r s : Fin 64) (e : Fin 128) :
    broadcastInDim S4x4x64x64x128 ![0, 1, 2, 3, 4] h2 (broadcastInDim S4x4x1x64x128 ![0, 1, 3, 4] h1 x) (ix5 b h r s e) = x (ix4 b h s e) :=
  (broadcastInDim_apply _ _ _ _ (ix5 b h (0 : Fin 1) s e) (fun a => match a with | ⟨0, _⟩ => rfl | ⟨1, _⟩ => rfl | ⟨2, _⟩ => rfl | ⟨3, _⟩ => rfl | ⟨4, _⟩ => rfl)).trans
    (broadcastInDim_apply _ _ _ _ (ix4 b h s e) (fun a => match a with | ⟨0, _⟩ => rfl | ⟨1, _⟩ => rfl | ⟨2, _⟩ => rfl | ⟨3, _⟩ => rfl))

omit h5 in
/-- A sum over the lanes. -/
theorem lanes_sum (x : S4x4x64x64x128.Idx → EReal) (init : S_.Idx → EReal) (h0 : ∀ i, init i = 0) (h' : S4x4x64x64x128.ReducesTo [4] S4x4x64x64) (hu : 0 < S_.numel)
    (b h : Fin 4) (r s : Fin 64) : (Host.reduceAdd (F := Ideal) (φ := .f32) x init h' hu (ix4 b h r s) : EReal) = ∑ e : Fin 128, x (ix5 b h r s e) := by
  refine (Ideal.hostReduceAdd_single h' (by decide : S4x4x64x64x128.Reduces [4] S4x4x64x64) x _ _).trans ?_
  rw [h0, zero_add]
  refine Finset.sum_congr rfl fun e _ => congrArg x ?_
  funext a
  match a with
  | ⟨0, _⟩ => rfl
  | ⟨1, _⟩ => rfl
  | ⟨2, _⟩ => rfl
  | ⟨3, _⟩ => rfl
  | ⟨4, _⟩ => rfl

/-- The outputs a trip leaves: its own chunk's, and the others as they were. -/
theorem step_out (hm : ∀ r s : Fin 64, (V0 (Proc.devRef .tc main_v60_4) : S64x64x1.Idx → BitVec 1) (ix3 r s (0 : Fin 1)) = if s ≤ r then 1#1 else 0#1)
    (n : Fin 64) (b h : Fin 4) (r : Fin 64) (w : Fin 128) :
    (step_main_v60_7 V0 : S64x4x4x64x128.Idx → EReal) (ix5 n b h r w)
      = if n = k then out (tq V0 k b h) (tk V0 k b h) (tv V0 k b h) (tb V0 k b h) (tS V0 b h) r w
        else (V0 (Proc.devRef .tc main_v60_7) : S64x4x4x64x128.Idx → EReal) (ix5 n b h r w) := by
  unfold step_main_v60_7
  refine (update_at _ _ _ k (start0 V0 k h5) rfl rfl rfl rfl _ n b h r w).trans ?_
  refine if_congr Iff.rfl ?_ rfl
  refine (broadcastInDim_apply _ _ _ _ (ix4 b h r w) (fun a => match a with | ⟨0, _⟩ => rfl | ⟨1, _⟩ => rfl | ⟨2, _⟩ => rfl | ⟨3, _⟩ => rfl)).trans ?_
  unfold out
  refine congrArg₂ (fun x y : EReal => x + y) ((dot_av _ _ b h r w).trans ?_) ((dot_qs _ _ b h r w).trans ?_)
  · refine Finset.sum_congr rfl fun s _ => congrArg₂ (fun x y : EReal => x * y) ?_ (read_v V0 k h5 b h s w)
    refine (lanes_sum _ _ (fun _ => zero_lit) _ _ b h r s).trans ?_
    unfold att
    by_cases hs : s ≤ r
    · rw [if_pos hs]
      refine Finset.sum_congr rfl fun e _ => ?_
      refine congrArg₂ (fun x y : EReal => x * y) (congrArg₂ (fun x y : EReal => x * y) ((spread_row _ _ _ b h r s e).trans (read_q V0 k h5 b h r e))
        ((spread_col _ _ _ b h r s e).trans (read_k V0 k h5 b h s e))) (congrArg Ideal.exp ?_)
      rw [select_apply, broadcastInDim_apply _ _ _ _ (ix3 r s (0 : Fin 1)) (fun a => match a with | ⟨0, _⟩ => rfl | ⟨1, _⟩ => rfl | ⟨2, _⟩ => rfl), hm r s, if_pos hs]
      exact congrArg₂ (fun x y : EReal => x - y) ((spread_row _ _ _ b h r s e).trans (read_b V0 k h5 b h r e)) ((spread_col _ _ _ b h r s e).trans (read_b V0 k h5 b h s e))
    · rw [if_neg hs]
      refine Finset.sum_eq_zero fun e _ => ?_
      refine mul_of_zero _ _ ?_
      refine exp_of_bot _ ?_
      rw [select_apply, broadcastInDim_apply _ _ _ _ (ix3 r s (0 : Fin 1)) (fun a => match a with | ⟨0, _⟩ => rfl | ⟨1, _⟩ => rfl | ⟨2, _⟩ => rfl), hm r s, if_neg hs]
      exact ninf_lit
  · refine Finset.sum_congr rfl fun e _ => congrArg₂ (fun x y : EReal => x * y) (congrArg₂ (fun x y : EReal => x * y) (read_q V0 k h5 b h r e) (congrArg Ideal.exp (read_b V0 k h5 b h r e))) rfl

end Cert.Hgrn.Ref

end
-- ==== Proof.RefLoop.lean ====
/-
  The reference's loop as a whole: before trip k the states are the recurrence's after k chunks, and the first k chunks' outputs are stored.
-/
module

public import proofs.«01_k».proof.Proof.RefPre
public import proofs.«01_k».proof.Proof.RefTrip

@[expose] public section

set_option maxHeartbeats 2000000

noncomputable section

open scoped BigOperators
open Idealize.ShloMosaic hiding ix1 ix2 ix3 ix4 ix5
open Idealize.ShloMosaic.ValueIdx
open Idealize.ShloMosaic.TcCoe Idealize.SL.Sem Idealize.ShloMosaic.StableHlo
open Cert.ReferenceIdeal Cert.ReferenceIdeal.Gen Cert.ReferenceIdeal.Value

namespace Cert.Hgrn.Ref

variable (m : (ℓ : Loc nD τ sig) → Buf (Elt Ideal) ℓ) (c : Dev nD)

/-- The loop's buffers before trip `k`, in the recurrence's terms. -/
structure Good (V : Valuation τ sig (Elt Ideal)) (k : ℕ) : Prop where
  q : V (Proc.devRef .tc main_v60_0) = entryContents preI m c (Proc.devRef .tc main_v60_0)
  kk : V (Proc.devRef .tc main_v60_1) = entryContents preI m c (Proc.devRef .tc main_v60_1)
  b : V (Proc.devRef .tc main_v60_2) = entryContents preI m c (Proc.devRef .tc main_v60_2)
  v : V (Proc.devRef .tc main_v60_3) = entryContents preI m c (Proc.devRef .tc main_v60_3)
  mask : V (Proc.devRef .tc main_v60_4) = entryContents preI m c (Proc.devRef .tc main_v60_4)
  count : V (Proc.devRef .tc main_v60_5) = fun _ => BitVec.ofNat 32 k
  states : ∀ b h, tS V b h = state (gk (rX m c) (rL m c) b h) (gv (rX m c) b h) (gb (rX m c) (rL m c) b h) k
  outs : ∀ (n : Fin 64) (b h : Fin 4) (r : Fin 64) (w : Fin 128), n.val < k →
    ((V (Proc.devRef .tc main_v60_7) : S64x4x4x64x128.Idx → EReal) (ix5 n b h r w) : EReal) = rowE (rX m c) (rL m c) b h n.val r w

theorem good_zero : Good m c (entryContents preI m c) 0 where
  q := rfl
  kk := rfl
  b := rfl
  v := rfl
  mask := rfl
  count := entry_c m c
  states b h := by
    funext w e
    exact entry_s m c b h e w
  outs n b h r w hn := absurd hn (Nat.not_lt_zero _)

/-- One trip. -/
theorem good_succ (V : Valuation τ sig (Elt Ideal)) (k : Fin 64) (g : Good m c V k.val) : Good m c (STEP V) (k.val + 1) := by
  have hq : ∀ b h, tq V k b h = gq (rX m c) b h k.val := fun b h => by
    funext r e
    exact (congrFun g.q _).trans (entry_q m c k b h r e)
  have hk : ∀ b h, tk V k b h = gk (rX m c) (rL m c) b h k.val := fun b h => by
    funext r e
    exact (congrFun g.kk _).trans (entry_k m c k b h r e)
  have hb : ∀ b h, tb V k b h = gb (rX m c) (rL m c) b h k.val := fun b h => by
    funext r e
    exact (congrFun g.b _).trans (entry_b m c k b h r e)
  have hv : ∀ b h, tv V k b h = gv (rX m c) b h k.val := fun b h => by
    funext r e
    exact (congrFun g.v _).trans (entry_v m c k b h r e)
  exact
    { q := (STEP_main_v60_0 V).trans g.q
      kk := (STEP_main_v60_1 V).trans g.kk
      b := (STEP_main_v60_2 V).trans g.b
      v := (STEP_main_v60_3 V).trans g.v
      mask := (STEP_main_v60_4 V).trans g.mask
      count := by
        refine (STEP_main_v60_5 V).trans ?_
        funext i
        refine (congrArg (fun x : BitVec 32 => x + 1#32) (congrFun g.count i)).trans ?_
        exact (BitVec.ofNat_add _ _).symm
      states := fun b h => by
        funext w e
        refine (congrFun (STEP_main_v60_6 V) (ix4 b h e w)).trans ((step_states V k g.count b h w e).trans ?_)
        rw [hk, hv, hb, g.states]
        rfl
      outs := fun n b h r w hn => by
        refine (congrFun (STEP_main_v60_7 V) (ix5 n b h r w)).trans ((step_out V k g.count (fun r s => (congrFun g.mask _).trans (entry_m m c r s)) n b h r w).trans ?_)
        by_cases hnk : n = k
        · subst hnk
          rw [if_pos rfl, hq, hk, hv, hb, g.states]
          rfl
        · rw [if_neg hnk]
          exact g.outs n b h r w (by have := Fin.val_ne_of_ne hnk; omega) }

theorem good_iter : ∀ k, k ≤ 64 → Good m c (STEP^[k] (entryContents preI m c)) k
  | 0, _ => good_zero m c
  | k + 1, h => by
    rw [Function.iterate_succ_apply']
    exact good_succ m c _ ⟨k, h⟩ (good_iter k (Nat.le_of_succ_le h))

/-- What the loop leaves: every chunk's output. -/
theorem loop_out (n : Fin 64) (b h : Fin 4) (r : Fin 64) (w : Fin 128) :
    ((after condOps (atTrip condOps bodyI (entryContents preI m) 64 c) (Proc.devRef .tc main_v60_7) : S64x4x4x64x128.Idx → EReal) (ix5 n b h r w) : EReal)
      = rowE (rX m c) (rL m c) b h n.val r w :=
  (congrFun (cond_keeps _ main_v60_7 (by decide)) _).trans
    ((congrFun (atK_agree m c 64 main_v60_7 (by decide)) _).trans ((good_iter m c 64 le_rfl).outs n b h r w n.isLt))

end Cert.Hgrn.Ref

end
-- ==== Proof.RefPost.lean ====
/-
  The reference's lines after the loop: the chunks' outputs laid back, normalised per head, weighted and gated.
-/
module

public import proofs.«01_k».proof.Proof.RefOps

@[expose] public section

set_option maxHeartbeats 2000000

noncomputable section

open scoped BigOperators
open Idealize.ShloMosaic hiding ix1 ix2 ix3 ix4 ix5
open Idealize.ShloMosaic.ValueIdx
open Idealize.ShloMosaic.TcCoe Idealize.SL.Sem Idealize.ShloMosaic.StableHlo
open Cert.ReferenceIdeal Cert.ReferenceIdeal.Gen Cert.ReferenceIdeal.Value

namespace Cert.Hgrn.Ref

/-- The rows laid back per head. -/
def flatR (O : FVec Ideal S64x4x4x64x128 .f32) : FVec Ideal S4x4096x4x128 .f32 :=
  shapeCast S4x4096x4x128 (transpose S4x64x64x4x128 [1, 0, 3, 2, 4] O transposes_S64x4x4x64x128_S4x64x64x4x128_1_0_3_2_4) shapeCasts_S4x64x64x4x128_S4x4096x4x128

/-- The reciprocal root of each head's mean square, at every lane. -/
def rootR (Y : FVec Ideal S4x4096x4x128 .f32) : FVec Ideal S4x4096x4x128 .f32 :=
  broadcastInDim S4x4096x4x128 ![0, 1, 2, 3] bcast_S4x4096x4x1_S4x4096x4x128_0_1_2_3 (Host.rsqrt (addf (Host.divf
    (broadcastInDim S4x4096x4x1 ![0, 1, 2] bcast_S4x4096x4_S4x4096x4x1_0_1_2 (Host.reduceAdd (mulf Y Y) (constant S_ .f32 0x00000000#32) reducesTo_S4x4096x4x128_S4x4096x4_d3 h_S_))
    (broadcastInDim S4x4096x4x1 ![] bcast_S_S4x4096x4x1 (constant S_ .f32 0x43000000#32))) (broadcastInDim S4x4096x4x1 ![] bcast_S_S4x4096x4x1 (constant S_ .f32 0x358637BD#32))))

/-- One over one plus the exponential of the negated gate columns. -/
def openR (G : FVec Ideal S4x4096x512 .f32) : FVec Ideal S4x4096x512 .f32 :=
  Host.divf (broadcastInDim S4x4096x512 ![] bcast_S_S4x4096x512 (constant S_ .f32 0x3F800000#32))
    (addf (broadcastInDim S4x4096x512 ![] bcast_S_S4x4096x512 (constant S_ .f32 0x3F800000#32)) (Host.exp (Host.negf G)))

/-- The lines after the loop, in one term. -/
def postR (O : FVec Ideal S64x4x4x64x128 .f32) (N : FVec Ideal S512 .f32) (G : FVec Ideal S4x4096x512 .f32) : FVec Ideal S4x4096x512 .bf16 :=
  truncf .bf16 (mulf (mulf (shapeCast S4x4096x512 (mulf (flatR O) (rootR (flatR O))) shapeCasts_S4x4096x4x128_S4x4096x512)
    (broadcastInDim S4x4096x512 ![0, 1, 2] bcast_S1x1x512_S4x4096x512_0_1_2 (broadcastInDim S1x1x512 ![2] bcast_S512_S1x1x512_2 N))) (openR G)) bitsLt_bf16_f32

theorem openR_apply (G : S4x4096x512.Idx → EReal) (i : S4x4096x512.Idx) : (openR G i : EReal) = Ideal.logistic (G i) := by
  show Ideal.div (Ideal.ofBits .f32 0x3F800000#32) (Ideal.ofBits .f32 0x3F800000#32 + Ideal.exp (-(G i))) = _
  rw [one_lit]
  rfl

/-- The index of a reduced head's lane. -/
theorem lift_lane (h : S4x4096x4x128.Reduces [3] S4x4096x4) (b : Fin 4) (t : Fin 4096) (a : Fin 4) (e : Fin 128) : h.lift (ix3 b t a) e = ix4 b t a e := by
  funext d
  match d with
  | ⟨0, _⟩ => rfl
  | ⟨1, _⟩ => rfl
  | ⟨2, _⟩ => rfl
  | ⟨3, _⟩ => rfl

theorem rootR_apply (Y : S4x4096x4x128.Idx → EReal) (b : Fin 4) (t : Fin 4096) (a : Fin 4) (w : Fin 128) :
    (rootR Y (ix4 b t a w) : EReal)
      = Ideal.rsqrt ((∑ e : Fin 128, Y (ix4 b t a e) * Y (ix4 b t a e)) * (((1 : ℝ) / 128 : ℝ) : EReal) + Ideal.ofBits .f32 0x358637BD#32) := by
  unfold rootR
  refine (broadcastInDim_apply _ _ _ _ (ix4 b t a (0 : Fin 1)) (fun d => match d with | ⟨0, _⟩ => rfl | ⟨1, _⟩ => rfl | ⟨2, _⟩ => rfl | ⟨3, _⟩ => rfl)).trans ?_
  refine congrArg (fun x : EReal => Ideal.rsqrt (x + Ideal.ofBits .f32 0x358637BD#32)) (?_ : Ideal.div _ (Ideal.ofBits .f32 0x43000000#32) = _)
  rw [c128_lit]
  refine (Ideal.div_coe (by norm_num) _).trans (congrArg (fun x : EReal => x * (((1 : ℝ) / 128 : ℝ) : EReal)) ?_)
  refine (broadcastInDim_apply _ _ _ _ (ix3 b t a) (fun d => match d with | ⟨0, _⟩ => rfl | ⟨1, _⟩ => rfl | ⟨2, _⟩ => rfl)).trans ?_
  refine (Ideal.hostReduceAdd_single reducesTo_S4x4096x4x128_S4x4096x4_d3 (by decide : S4x4096x4x128.Reduces [3] S4x4096x4) _ _ (ix3 b t a)).trans ?_
  refine (congrArg (fun x : EReal => x + _) zero_lit).trans ((zero_add _).trans ?_)
  refine Finset.sum_congr rfl fun e _ => ?_
  exact congrArg (fun i => (Y i * Y i : EReal)) (lift_lane _ b t a e)

theorem postR_apply (O : S64x4x4x64x128.Idx → EReal) (N : S512.Idx → EReal) (G : S4x4096x512.Idx → EReal) (b : Fin 4) (t : Fin 4096) (l : Fin 512) :
    (postR O N G (ix3 b t l) : EReal)
      = finish (fun w => O (ix5 (⟨t.val / 64, by omega⟩ : Fin 64) b (⟨l.val / 128, by omega⟩ : Fin 4) (⟨t.val % 64, Nat.mod_lt _ (by decide)⟩ : Fin 64) w))
        ⟨l.val % 128, Nat.mod_lt _ (by decide)⟩ (N (ix1 l)) (G (ix3 b t l)) := by
  have hf : ∀ w : Fin 128, (flatR O (ix4 b t (⟨l.val / 128, by omega⟩ : Fin 4) w) : EReal)
      = O (ix5 (⟨t.val / 64, by omega⟩ : Fin 64) b (⟨l.val / 128, by omega⟩ : Fin 4) (⟨t.val % 64, Nat.mod_lt _ (by decide)⟩ : Fin 64) w) :=
    fun w => unchunked O _ _ b t _ w
  unfold finish
  refine congrArg₂ (fun x y : EReal => x * y) (congrArg₂ (fun x y : EReal => x * y) ?_ ?_) (openR_apply G _)
  · refine (shapeCast_apply _ _ _ (ix4 b t (⟨l.val / 128, by omega⟩ : Fin 4) (⟨l.val % 128, Nat.mod_lt _ (by decide)⟩ : Fin 128)) ?_).trans ?_
    · rw [Shape.rowMajor_val_three, Shape.rowMajor_val_four]
      show ((b.val * 4096 + t.val) * 4 + l.val / 128) * 128 + l.val % 128 = (b.val * 4096 + t.val) * 512 + l.val
      omega
    · refine congrArg₂ (fun x y : EReal => x * y) (hf _) ((rootR_apply _ b t _ _).trans ?_)
      refine congrArg (fun x : EReal => Ideal.rsqrt (x * _ + _)) (Finset.sum_congr rfl fun e _ => ?_)
      rw [hf]
  · exact (broadcastInDim_apply _ _ _ _ (ix3 (0 : Fin 1) (0 : Fin 1) l) (fun a => match a with | ⟨0, _⟩ => rfl | ⟨1, _⟩ => rfl | ⟨2, _⟩ => rfl)).trans
      (broadcastInDim_apply _ _ _ _ (ix1 l) (fun a => match a with | ⟨0, _⟩ => rfl))

/-- The lines after the loop compute that term from what the loop left. -/
theorem post_reads (W : Valuation τ sig (Elt Ideal)) : after (hostOps0_9 (F := Ideal)) W (Proc.devRef .tc main_v84)
    = postR (W (Proc.devRef .tc main_v60_7)) (W (Proc.devRef .tc main_arg2)) (W (Proc.devRef .tc main_v45)) := by
  after_reads_simp
  rfl

end Cert.Hgrn.Ref

end
-- ==== Proof.Read2.lean ====
/-
  Two-axis arrays read at an index: the slices, row broadcasts, products and stacked blocks the kernel's chunk arithmetic uses.
-/
module

public import Idealize.ShloMosaic.PureOps.Ideal.Laws
public import Idealize.ShloMosaic.Lib.MatmulPlain
public import Idealize.ShloMosaic.Lib.ValueIdx
public import Idealize.ShloMosaic.Lib.ValueIdxCore
public import Idealize.ShloMosaic.Lib.Pipeline.Value
public import Idealize.ShloMosaic.Lib.Pointwise.ShapeOpsCore
public import Idealize.ShloMosaic.Lib.Pointwise.ElementwiseCore
public import Idealize.ShloMosaic.Lib.Pointwise.SelectCore

@[expose] public section

noncomputable section

open scoped BigOperators
open Idealize.ShloMosaic hiding ix1 ix2 ix3 ix4 ix5
open Idealize.ShloMosaic.ValueIdx

namespace Cert.Hgrn

/-- A two-axis array as a function of its two coordinates. -/
def at2 {a b : ℕ} {α : Type} (x : (⟨2, ![a, b]⟩ : Shape).Idx → α) (i : Fin a) (j : Fin b) : α := x (ix2 i j)

variable {α : Type}

/-- A slice at offsets `o`, `p`, read at `(i, j)`. -/
theorem slice2 {a b c d : ℕ} (o p : ℕ) (x : (⟨2, ![a, b]⟩ : Shape).Idx → α) (h : Shape.Slices ⟨2, ![a, b]⟩ ![o, p] ⟨2, ![c, d]⟩)
    (i : Fin c) (j : Fin d) (hi : o + i.val < a) (hj : p + j.val < b) :
    extractStridedSlice ⟨2, ![c, d]⟩ ![o, p] x h (ix2 i j) = x (ix2 ⟨o + i.val, hi⟩ ⟨p + j.val, hj⟩) :=
  extractStridedSlice_apply _ _ _ _ _ fun ax => by
    match ax with
    | ⟨0, _⟩ => rfl
    | ⟨1, _⟩ => rfl

/-- One row broadcast down `a` rows reads that row. -/
theorem bcastRow {a b : ℕ} (x : (⟨2, ![1, b]⟩ : Shape).Idx → α) (h : Shape.Broadcasts ⟨2, ![1, b]⟩ ⟨2, ![a, b]⟩) (i : Fin a) (j : Fin b) :
    broadcastTo ⟨2, ![a, b]⟩ x h (ix2 i j) = x (ix2 0 j) :=
  broadcastTo_apply _ _ _ _ fun ax => by
    match ax with
    | ⟨0, _⟩ => rfl
    | ⟨1, _⟩ =>
      show j.val = if b = 1 then 0 else j.val
      split
      · have := j.isLt; omega
      · rfl

/-- A transposed matrix. -/
theorem transpose2 {a b : ℕ} (x : (⟨2, ![a, b]⟩ : Shape).Idx → α) (h : Shape.Transposes ⟨2, ![a, b]⟩ [1, 0] ⟨2, ![b, a]⟩) (i : Fin b) (j : Fin a) :
    transpose ⟨2, ![b, a]⟩ [1, 0] x h (ix2 i j) = x (ix2 j i) :=
  transpose_apply _ _ _ _ _ fun ax => by
    match ax with
    | ⟨0, _⟩ => rfl
    | ⟨1, _⟩ => rfl

/-- The product `[m,k] × [k,n]` onto zero. -/
theorem mmPlain {m k n : ℕ} {φ₁ φ₂ : FTy} (w : DotDims.WF ⟨2, ![m, k]⟩ ⟨2, ![k, n]⟩ ⟨2, ![m, n]⟩ [1] [0] [0] [1] [] [])
    (l : FVec Ideal ⟨2, ![m, k]⟩ φ₁) (r : FVec Ideal ⟨2, ![k, n]⟩ φ₂) (i : Fin m) (j : Fin n) :
    matmul (⟨[1], [0], [0], [1], [], [], w⟩ : DotDims _ _ _) none l r (constant ⟨2, ![m, n]⟩ .f32 0x00000000#32) (ix2 i j)
      = ∑ c : Fin k, l (ix2 i c) * r (ix2 c j) := by
  refine (Ideal.matmul_plain_apply (M := m) (K := k) (N := n) none l r _ i j).trans ?_
  show Ideal.ofBits .f32 0x00000000#32 + _ = _
  rw [Ideal.ofBits_zero_f32, zero_add]

/-- The product `[m,k] × [n,k]ᵀ` onto zero. -/
theorem mmTrans {m k n : ℕ} {φ₁ φ₂ : FTy} (w : DotDims.WF ⟨2, ![m, k]⟩ ⟨2, ![n, k]⟩ ⟨2, ![m, n]⟩ [1] [1] [0] [0] [] [])
    (l : FVec Ideal ⟨2, ![m, k]⟩ φ₁) (r : FVec Ideal ⟨2, ![n, k]⟩ φ₂) (i : Fin m) (j : Fin n) :
    matmul (⟨[1], [1], [0], [0], [], [], w⟩ : DotDims _ _ _) none l r (constant ⟨2, ![m, n]⟩ .f32 0x00000000#32) (ix2 i j)
      = ∑ c : Fin k, l (ix2 i c) * r (ix2 j c) := by
  refine (Ideal.matmul_transposedRhs_apply (M := m) (K := k) (N := n) none l r _ i j).trans ?_
  show Ideal.ofBits .f32 0x00000000#32 + _ = _
  rw [Ideal.ofBits_zero_f32, zero_add]

/-- Of a sum over `n` places only the first `h` count when the rest are zero. -/
theorem sum_head {h n : ℕ} (hn : h ≤ n) (f : Fin n → EReal) (hf : ∀ s : Fin n, h ≤ s.val → f s = 0) :
    ∑ s : Fin h, f ⟨s.val, lt_of_lt_of_le s.isLt hn⟩ = ∑ s : Fin n, f s := by
  obtain ⟨d, rfl⟩ := Nat.exists_eq_add_of_le hn
  rw [Fin.sum_univ_add, Finset.sum_eq_zero (s := Finset.univ) (f := fun i : Fin d => f (Fin.natAdd h i)), add_zero]
  · rfl
  · intro i _
    exact hf _ (by simp)

/-- Small words compare as their numbers do: the masks "key row not after query row". -/
theorem sle_words (a b l : ℕ) (ha : a < 64) (hb : b < 64) (hl : l < 64) :
    IntOp.cmpi .sle (BitVec.ofNat 32 a) (IntOp.addi (BitVec.ofNat 32 b) (BitVec.ofNat 32 l)) = if a ≤ l + b then 1#1 else 0#1 := by
  have h1 : (BitVec.ofNat 32 a).toInt = a := by
    rw [BitVec.toInt_eq_toNat_of_lt (by rw [BitVec.toNat_ofNat]; omega), BitVec.toNat_ofNat]; omega
  have h2 : (BitVec.ofNat 32 b + BitVec.ofNat 32 l).toInt = b + l := by
    rw [← BitVec.ofNat_add, BitVec.toInt_eq_toNat_of_lt (by rw [BitVec.toNat_ofNat]; omega), BitVec.toNat_ofNat]; omega
  show BitVec.ofBool (BitVec.sle _ _) = _
  rw [BitVec.sle]
  show BitVec.ofBool (decide ((BitVec.ofNat 32 a).toInt ≤ (BitVec.ofNat 32 b + BitVec.ofNat 32 l).toInt)) = _
  rw [h1, h2]
  by_cases h : a ≤ l + b
  · rw [if_pos h, decide_eq_true (by omega)]; rfl
  · rw [if_neg h, decide_eq_false (by omega)]; rfl

/-- The printed mask of a block of attention rows starting at `lo`. -/
theorem mask2 {a b : ℕ} (lo : ℕ) (h1 : Shape.Iotas ⟨2, ![a, b]⟩ .tc 32 [1]) (h0 : Shape.Iotas ⟨2, ![a, b]⟩ .tc 32 [0]) (r : Fin a) (s : Fin b)
    (ha : a ≤ 64) (hb : b ≤ 64) (hl : lo < 64) :
    cmpi .sle (iota .tc ⟨2, ![a, b]⟩ 32 [1] h1) (addi (iota .tc ⟨2, ![a, b]⟩ 32 [0] h0) (broadcast ⟨2, ![a, b]⟩ (BitVec.ofNat 32 lo))) (ix2 r s)
      = if s.val ≤ lo + r.val then 1#1 else 0#1 := by
  have e1 : iota .tc ⟨2, ![a, b]⟩ 32 [1] h1 (ix2 r s) = BitVec.ofNat 32 s.val :=
    (iota_apply _ _ _ _).trans (congrArg _ (by show 0 * b + s.val = s.val; omega))
  have e0 : iota .tc ⟨2, ![a, b]⟩ 32 [0] h0 (ix2 r s) = BitVec.ofNat 32 r.val :=
    (iota_apply _ _ _ _).trans (congrArg _ (by show 0 * a + r.val = r.val; omega))
  refine Eq.trans ?_ (sle_words s.val r.val lo (by omega) (by omega) hl)
  show IntOp.cmpi .sle (iota .tc ⟨2, ![a, b]⟩ 32 [1] h1 (ix2 r s)) (IntOp.addi (iota .tc ⟨2, ![a, b]⟩ 32 [0] h0 (ix2 r s)) (BitVec.ofNat 32 lo)) = _
  rw [e1, e0]

end Cert.Hgrn

end
-- ==== Proof.Chunk.lean ====
/-
  One chunk of 64 rows of one head, as the kernel computes it: the four blocks of 16 attention rows, their products with the
  values, the update of the state, each as one expression of the chunk's arrays; and what each holds.
-/
module

public import proofs.«01_k».proof.Proof.Gen.KernelIdeal.Skeleton
public import proofs.«01_k».proof.Proof.Spec
public import proofs.«01_k».proof.Proof.Read2

@[expose] public section

noncomputable section

open scoped BigOperators
open Idealize.ShloMosaic hiding ix1 ix2 ix3 ix4 ix5
open Idealize.ShloMosaic.ValueIdx
open Cert.KernelIdeal Cert.KernelIdeal.Gen

namespace Cert.Hgrn

section Ops
variable {F : FTy → Type} [FloatOps F]

/-- The reference row of attention block 0: the cumulative gate just before row 0. -/
def ref0 (lf bc : FVec F S64x128 .f32) : FVec F S1x128 .f32 :=
  subf (extractStridedSlice S1x128 ![0, 0] bc slices_S64x128_o0_0_S1x128) (extractStridedSlice S1x128 ![0, 0] lf slices_S64x128_o0_0_S1x128)

/-- Attention block 0: query rows 0 to 15 against key rows 0 to 15, masked. -/
def blk0 (q k lf bc : FVec F S64x128 .f32) : FVec F S16x16 .f32 :=
  select (cmpi .sle (iota .tc S16x16 32 [1] iota_S16x16_d1_w32) (addi (iota .tc S16x16 32 [0] iota_S16x16_d0_w32) (broadcast S16x16 0#32)))
    (matmul dot_S16x128_S16x128_S16x16_1_1_0_0_n_n none
      (truncf .bf16 (mulf (extractStridedSlice S16x128 ![0, 0] q slices_S64x128_o0_0_S16x128)
        (exp (subf (extractStridedSlice S16x128 ![0, 0] bc slices_S64x128_o0_0_S16x128) (broadcastTo S16x128 (ref0 lf bc) broadcasts_S1x128_S16x128)))) bitsLt_bf16_f32)
      (truncf .bf16 (mulf (extractStridedSlice S16x128 ![0, 0] k slices_S64x128_o0_0_S16x128) (exp (subf (broadcastTo S16x128 (ref0 lf bc) broadcasts_S1x128_S16x128) (extractStridedSlice S16x128 ![0, 0] bc slices_S64x128_o0_0_S16x128)))) bitsLt_bf16_f32)
      (constant S16x16 .f32 0x00000000#32))
    (broadcast S16x16 (Scalar.ofBits .f32 0x00000000#32))

/-- Attention block 0 times the values. -/
def intra0 (v : FVec F S64x128 .f32) (a : FVec F S16x16 .f32) : FVec F S16x128 .f32 :=
  matmul dot_S16x16_S16x128_S16x128_1_0_0_1_n_n none (truncf .bf16 a bitsLt_bf16_f32) (truncf .bf16 (extractStridedSlice S16x128 ![0, 0] v slices_S64x128_o0_0_S16x128) bitsLt_bf16_f32) (constant S16x128 .f32 0x00000000#32)

/-- The reference row of attention block 1: the cumulative gate just before row 16. -/
def ref16 (lf bc : FVec F S64x128 .f32) : FVec F S1x128 .f32 :=
  subf (extractStridedSlice S1x128 ![16, 0] bc slices_S64x128_o16_0_S1x128) (extractStridedSlice S1x128 ![16, 0] lf slices_S64x128_o16_0_S1x128)

/-- Attention block 1: query rows 16 to 31 against key rows 0 to 31, masked. -/
def blk16 (q k lf bc : FVec F S64x128 .f32) : FVec F S16x32 .f32 :=
  select (cmpi .sle (iota .tc S16x32 32 [1] iota_S16x32_d1_w32) (addi (iota .tc S16x32 32 [0] iota_S16x32_d0_w32) (broadcast S16x32 16#32)))
    (matmul dot_S16x128_S32x128_S16x32_1_1_0_0_n_n none
      (truncf .bf16 (mulf (extractStridedSlice S16x128 ![16, 0] q slices_S64x128_o16_0_S16x128)
        (exp (subf (extractStridedSlice S16x128 ![16, 0] bc slices_S64x128_o16_0_S16x128) (broadcastTo S16x128 (ref16 lf bc) broadcasts_S1x128_S16x128)))) bitsLt_bf16_f32)
      (truncf .bf16 (mulf (extractStridedSlice S32x128 ![0, 0] k slices_S64x128_o0_0_S32x128) (exp (subf (broadcastTo S32x128 (ref16 lf bc) broadcasts_S1x128_S32x128) (extractStridedSlice S32x128 ![0, 0] bc slices_S64x128_o0_0_S32x128)))) bitsLt_bf16_f32)
      (constant S16x32 .f32 0x00000000#32))
    (broadcast S16x32 (Scalar.ofBits .f32 0x00000000#32))

/-- Attention block 1 times the values. -/
def intra16 (v : FVec F S64x128 .f32) (a : FVec F S16x32 .f32) : FVec F S16x128 .f32 :=
  matmul dot_S16x32_S32x128_S16x128_1_0_0_1_n_n none (truncf .bf16 a bitsLt_bf16_f32) (truncf .bf16 (extractStridedSlice S32x128 ![0, 0] v slices_S64x128_o0_0_S32x128) bitsLt_bf16_f32) (constant S16x128 .f32 0x00000000#32)

/-- The reference row of attention block 2: the cumulative gate just before row 32. -/
def ref32 (lf bc : FVec F S64x128 .f32) : FVec F S1x128 .f32 :=
  subf (extractStridedSlice S1x128 ![32, 0] bc slices_S64x128_o32_0_S1x128) (extractStridedSlice S1x128 ![32, 0] lf slices_S64x128_o32_0_S1x128)

/-- Attention block 2: query rows 32 to 47 against key rows 0 to 47, masked. -/
def blk32 (q k lf bc : FVec F S64x128 .f32) : FVec F S16x48 .f32 :=
  select (cmpi .sle (iota .tc S16x48 32 [1] iota_S16x48_d1_w32) (addi (iota .tc S16x48 32 [0] iota_S16x48_d0_w32) (broadcast S16x48 32#32)))
    (matmul dot_S16x128_S48x128_S16x48_1_1_0_0_n_n none
      (truncf .bf16 (mulf (extractStridedSlice S16x128 ![32, 0] q slices_S64x128_o32_0_S16x128)
        (exp (subf (extractStridedSlice S16x128 ![32, 0] bc slices_S64x128_o32_0_S16x128) (broadcastTo S16x128 (ref32 lf bc) broadcasts_S1x128_S16x128)))) bitsLt_bf16_f32)
      (truncf .bf16 (mulf (extractStridedSlice S48x128 ![0, 0] k slices_S64x128_o0_0_S48x128) (exp (subf (broadcastTo S48x128 (ref32 lf bc) broadcasts_S1x128_S48x128) (extractStridedSlice S48x128 ![0, 0] bc slices_S64x128_o0_0_S48x128)))) bitsLt_bf16_f32)
      (constant S16x48 .f32 0x00000000#32))
    (broadcast S16x48 (Scalar.ofBits .f32 0x00000000#32))

/-- Attention block 2 times the values. -/
def intra32 (v : FVec F S64x128 .f32) (a : FVec F S16x48 .f32) : FVec F S16x128 .f32 :=
  matmul dot_S16x48_S48x128_S16x128_1_0_0_1_n_n none (truncf .bf16 a bitsLt_bf16_f32) (truncf .bf16 (extractStridedSlice S48x128 ![0, 0] v slices_S64x128_o0_0_S48x128) bitsLt_bf16_f32) (constant S16x128 .f32 0x00000000#32)

/-- The reference row of attention block 3: the cumulative gate just before row 48. -/
def ref48 (lf bc : FVec F S64x128 .f32) : FVec F S1x128 .f32 :=
  subf (extractStridedSlice S1x128 ![48, 0] bc slices_S64x128_o48_0_S1x128) (extractStridedSlice S1x128 ![48, 0] lf slices_S64x128_o48_0_S1x128)

/-- Attention block 3: query rows 48 to 63 against key rows 0 to 63, masked. -/
def blk48 (q k lf bc : FVec F S64x128 .f32) : FVec F S16x64 .f32 :=
  select (cmpi .sle (iota .tc S16x64 32 [1] iota_S16x64_d1_w32) (addi (iota .tc S16x64 32 [0] iota_S16x64_d0_w32) (broadcast S16x64 48#32)))
    (matmul dot_S16x128_S64x128_S16x64_1_1_0_0_n_n none
      (truncf .bf16 (mulf (extractStridedSlice S16x128 ![48, 0] q slices_S64x128_o48_0_S16x128)
        (exp (subf (extractStridedSlice S16x128 ![48, 0] bc slices_S64x128_o48_0_S16x128) (broadcastTo S16x128 (ref48 lf bc) broadcasts_S1x128_S16x128)))) bitsLt_bf16_f32)
      (truncf .bf16 (mulf k (exp (subf (broadcastTo S64x128 (ref48 lf bc) broadcasts_S1x128_S64x128) bc))) bitsLt_bf16_f32)
      (constant S16x64 .f32 0x00000000#32))
    (broadcast S16x64 (Scalar.ofBits .f32 0x00000000#32))

/-- Attention block 3 times the values. -/
def intra48 (v : FVec F S64x128 .f32) (a : FVec F S16x64 .f32) : FVec F S16x128 .f32 :=
  matmul dot_S16x64_S64x128_S16x128_1_0_0_1_n_n none (truncf .bf16 a bitsLt_bf16_f32) (truncf .bf16 v bitsLt_bf16_f32) (constant S16x128 .f32 0x00000000#32)

/-- The four blocks' products, stacked: what the chunk's rows get from the chunk itself. -/
def intra (q k v lf bc : FVec F S64x128 .f32) : FVec F S64x128 .f32 :=
  concatenate S64x128 0 [⟨S16x128, intra0 v (blk0 q k lf bc)⟩, ⟨S16x128, intra16 v (blk16 q k lf bc)⟩, ⟨S16x128, intra32 v (blk32 q k lf bc)⟩, ⟨S16x128, intra48 v (blk48 q k lf bc)⟩]
    concatenates_S16x128_S16x128_S16x128_S16x128_S64x128_d0

/-- The chunk's rows: from the chunk itself, and from the state before it. -/
def chunkO (q k v lf bc : FVec F S64x128 .f32) (st : FVec F S128x128 .f32) : FVec F S64x128 .f32 :=
  addf (intra q k v lf bc) (matmul dot_S64x128_S128x128_S64x128_1_1_0_0_n_n none (truncf .bf16 (mulf q (exp bc)) bitsLt_bf16_f32) (truncf .bf16 st bitsLt_bf16_f32)
    (constant S64x128 .f32 0x00000000#32))

/-- The state after the chunk. -/
def chunkS (k v bc : FVec F S64x128 .f32) (st : FVec F S128x128 .f32) : FVec F S128x128 .f32 :=
  addf (mulf st (broadcastTo S128x128 (exp (extractStridedSlice S1x128 ![63, 0] bc slices_S64x128_o63_0_S1x128)) broadcasts_S1x128_S128x128))
    (matmul dot_S128x64_S64x128_S128x128_1_0_0_1_n_n none
      (truncf .bf16 (transpose S128x64 [1, 0] v transposes_S64x128_p1_0_S128x64) bitsLt_bf16_f32)
      (truncf .bf16 (mulf k (exp (subf (broadcastTo S64x128 (extractStridedSlice S1x128 ![63, 0] bc slices_S64x128_o63_0_S1x128) broadcasts_S1x128_S64x128) bc))) bitsLt_bf16_f32)
      (constant S128x128 .f32 0x00000000#32))

end Ops

/-- Attention block 0 holds rows 0 to 15 of the chunk's attention. -/
theorem blk0_apply (q k lf bc : FVec Ideal S64x128 .f32) (hd : ∀ r s e, s ≤ r → at2 bc r e = ⊥ ∨ (Fin' (at2 bc r e) ∧ Fin' (at2 bc s e) ∧ Fin' (at2 lf s e))) (r : Fin 16) (s : Fin 16) :
    blk0 q k lf bc (ix2 r s) = att (at2 q) (at2 k) (at2 bc) ⟨0 + r.val, by omega⟩ ⟨s.val, by omega⟩ := by
  have hm : ∀ e : Fin 128, Fin' (at2 bc ⟨0, by omega⟩ e) → Fin' (at2 lf ⟨0, by omega⟩ e) → Fin' (ref0 lf bc (ix2 0 e)) := fun e hb hl => by
    obtain ⟨x, hx⟩ := hb
    obtain ⟨y, hy⟩ := hl
    refine ⟨x - y, ?_⟩
    show extractStridedSlice S1x128 ![0, 0] bc _ (ix2 0 e) - extractStridedSlice S1x128 ![0, 0] lf _ (ix2 0 e) = _
    rw [slice2 0 0 bc _ 0 e (by decide) (by omega), slice2 0 0 lf _ 0 e (by decide) (by omega), EReal.coe_sub, ← hx, ← hy]
    simp only [Nat.zero_add]; rfl
  have hmask : (cmpi .sle (iota .tc S16x16 32 [1] iota_S16x16_d1_w32) (addi (iota .tc S16x16 32 [0] iota_S16x16_d0_w32) (broadcast S16x16 0#32))) (ix2 r s)
      = if s.val ≤ 0 + r.val then 1#1 else 0#1 :=
    mask2 0 _ _ r s (by omega) (by omega) (by omega)
  unfold blk0
  rw [select_apply, hmask]
  unfold att
  by_cases h : s.val ≤ 0 + r.val
  · rw [if_pos h, if_pos (show (⟨s.val, _⟩ : Fin 64) ≤ ⟨0 + r.val, _⟩ from h)]
    refine (if_pos rfl).trans ((mmTrans dot_S16x128_S16x128_S16x16_1_1_0_0_n_n_wf _ _ r s).trans (Finset.sum_congr rfl fun e _ => ?_))
    refine Eq.trans ?_ (split_decay ((hd ⟨0 + r.val, by omega⟩ ⟨s.val, by omega⟩ e h).imp_right fun hx =>
      ⟨hx.1, hx.2.1, (hd ⟨0 + r.val, by omega⟩ ⟨0, by omega⟩ e (Nat.le_add_right _ _)).elim (fun hbot => absurd hx.1 (by rw [hbot]; exact fun ⟨z, hz⟩ => EReal.coe_ne_bot z hz.symm))
        fun hy => hm e hy.2.1 hy.2.2⟩))
    show extractStridedSlice S16x128 ![0, 0] q slices_S64x128_o0_0_S16x128 (ix2 r e)
        * Ideal.exp (extractStridedSlice S16x128 ![0, 0] bc slices_S64x128_o0_0_S16x128 (ix2 r e) - broadcastTo S16x128 (ref0 lf bc) broadcasts_S1x128_S16x128 (ix2 r e))
      * (extractStridedSlice S16x128 ![0, 0] k slices_S64x128_o0_0_S16x128 (ix2 s e) * Ideal.exp (broadcastTo S16x128 (ref0 lf bc) broadcasts_S1x128_S16x128 (ix2 s e) - extractStridedSlice S16x128 ![0, 0] bc slices_S64x128_o0_0_S16x128 (ix2 s e))) = _
    rw [(show extractStridedSlice S16x128 ![0, 0] q _ (ix2 r e) = at2 q ⟨0 + r.val, by omega⟩ e from (slice2 0 0 q _ r e (by omega) (by omega)).trans (by simp only [Nat.zero_add]; rfl)),
      (show extractStridedSlice S16x128 ![0, 0] bc _ (ix2 r e) = at2 bc ⟨0 + r.val, by omega⟩ e from (slice2 0 0 bc _ r e (by omega) (by omega)).trans (by simp only [Nat.zero_add]; rfl)),
      bcastRow (a := 16) (ref0 lf bc) _ r e, bcastRow (a := 16) (ref0 lf bc) _ s e, (show extractStridedSlice S16x128 ![0, 0] k _ (ix2 s e) = at2 k ⟨s.val, by omega⟩ e from (slice2 0 0 k _ s e (by omega) (by omega)).trans (by simp only [Nat.zero_add]; rfl)),
      (show extractStridedSlice S16x128 ![0, 0] bc _ (ix2 s e) = at2 bc ⟨s.val, by omega⟩ e from (slice2 0 0 bc _ s e (by omega) (by omega)).trans (by simp only [Nat.zero_add]; rfl))]
  · rw [if_neg h, if_neg (show ¬ (⟨s.val, _⟩ : Fin 64) ≤ ⟨0 + r.val, _⟩ from h)]
    exact (if_neg (by decide)).trans Ideal.ofBits_zero_f32

/-- Its product with the values: the sum over all the chunk's key rows, the rows it leaves out counting zero. -/
theorem intra0_apply (q k v lf bc : FVec Ideal S64x128 .f32) (hd : ∀ r s e, s ≤ r → at2 bc r e = ⊥ ∨ (Fin' (at2 bc r e) ∧ Fin' (at2 bc s e) ∧ Fin' (at2 lf s e))) (r : Fin 16) (w : Fin 128) :
    intra0 v (blk0 q k lf bc) (ix2 r w) = ∑ s : Fin 64, att (at2 q) (at2 k) (at2 bc) ⟨0 + r.val, by omega⟩ s * at2 v s w := by
  rw [← sum_head (h := 16) (by omega) (fun s => att (at2 q) (at2 k) (at2 bc) ⟨0 + r.val, by omega⟩ s * at2 v s w) fun s hs => by
    show att _ _ _ _ _ * _ = 0
    unfold att
    rw [if_neg (fun hle : s ≤ (⟨0 + r.val, _⟩ : Fin 64) => by have : s.val ≤ 0 + r.val := hle; omega), zero_mul]]
  refine (mmPlain dot_S16x16_S16x128_S16x128_1_0_0_1_n_n_wf _ _ r w).trans (Finset.sum_congr rfl fun s _ => ?_)
  show blk0 q k lf bc (ix2 r s) * extractStridedSlice S16x128 ![0, 0] v slices_S64x128_o0_0_S16x128 (ix2 s w) = _
  rw [blk0_apply q k lf bc hd r s, slice2 0 0 v _ s w (by omega) (by omega)]
  simp only [Nat.zero_add]
  rfl

/-- Attention block 1 holds rows 16 to 31 of the chunk's attention. -/
theorem blk16_apply (q k lf bc : FVec Ideal S64x128 .f32) (hd : ∀ r s e, s ≤ r → at2 bc r e = ⊥ ∨ (Fin' (at2 bc r e) ∧ Fin' (at2 bc s e) ∧ Fin' (at2 lf s e))) (r : Fin 16) (s : Fin 32) :
    blk16 q k lf bc (ix2 r s) = att (at2 q) (at2 k) (at2 bc) ⟨16 + r.val, by omega⟩ ⟨s.val, by omega⟩ := by
  have hm : ∀ e : Fin 128, Fin' (at2 bc ⟨16, by omega⟩ e) → Fin' (at2 lf ⟨16, by omega⟩ e) → Fin' (ref16 lf bc (ix2 0 e)) := fun e hb hl => by
    obtain ⟨x, hx⟩ := hb
    obtain ⟨y, hy⟩ := hl
    refine ⟨x - y, ?_⟩
    show extractStridedSlice S1x128 ![16, 0] bc _ (ix2 0 e) - extractStridedSlice S1x128 ![16, 0] lf _ (ix2 0 e) = _
    rw [slice2 16 0 bc _ 0 e (by decide) (by omega), slice2 16 0 lf _ 0 e (by decide) (by omega), EReal.coe_sub, ← hx, ← hy]
    simp only [Nat.zero_add]; rfl
  have hmask : (cmpi .sle (iota .tc S16x32 32 [1] iota_S16x32_d1_w32) (addi (iota .tc S16x32 32 [0] iota_S16x32_d0_w32) (broadcast S16x32 16#32))) (ix2 r s)
      = if s.val ≤ 16 + r.val then 1#1 else 0#1 :=
    mask2 16 _ _ r s (by omega) (by omega) (by omega)
  unfold blk16
  rw [select_apply, hmask]
  unfold att
  by_cases h : s.val ≤ 16 + r.val
  · rw [if_pos h, if_pos (show (⟨s.val, _⟩ : Fin 64) ≤ ⟨16 + r.val, _⟩ from h)]
    refine (if_pos rfl).trans ((mmTrans dot_S16x128_S32x128_S16x32_1_1_0_0_n_n_wf _ _ r s).trans (Finset.sum_congr rfl fun e _ => ?_))
    refine Eq.trans ?_ (split_decay ((hd ⟨16 + r.val, by omega⟩ ⟨s.val, by omega⟩ e h).imp_right fun hx =>
      ⟨hx.1, hx.2.1, (hd ⟨16 + r.val, by omega⟩ ⟨16, by omega⟩ e (Nat.le_add_right _ _)).elim (fun hbot => absurd hx.1 (by rw [hbot]; exact fun ⟨z, hz⟩ => EReal.coe_ne_bot z hz.symm))
        fun hy => hm e hy.2.1 hy.2.2⟩))
    show extractStridedSlice S16x128 ![16, 0] q slices_S64x128_o16_0_S16x128 (ix2 r e)
        * Ideal.exp (extractStridedSlice S16x128 ![16, 0] bc slices_S64x128_o16_0_S16x128 (ix2 r e) - broadcastTo S16x128 (ref16 lf bc) broadcasts_S1x128_S16x128 (ix2 r e))
      * (extractStridedSlice S32x128 ![0, 0] k slices_S64x128_o0_0_S32x128 (ix2 s e) * Ideal.exp (broadcastTo S32x128 (ref16 lf bc) broadcasts_S1x128_S32x128 (ix2 s e) - extractStridedSlice S32x128 ![0, 0] bc slices_S64x128_o0_0_S32x128 (ix2 s e))) = _
    rw [(show extractStridedSlice S16x128 ![16, 0] q _ (ix2 r e) = at2 q ⟨16 + r.val, by omega⟩ e from (slice2 16 0 q _ r e (by omega) (by omega)).trans (by simp only [Nat.zero_add]; rfl)),
      (show extractStridedSlice S16x128 ![16, 0] bc _ (ix2 r e) = at2 bc ⟨16 + r.val, by omega⟩ e from (slice2 16 0 bc _ r e (by omega) (by omega)).trans (by simp only [Nat.zero_add]; rfl)),
      bcastRow (a := 16) (ref16 lf bc) _ r e, bcastRow (a := 32) (ref16 lf bc) _ s e, (show extractStridedSlice S32x128 ![0, 0] k _ (ix2 s e) = at2 k ⟨s.val, by omega⟩ e from (slice2 0 0 k _ s e (by omega) (by omega)).trans (by simp only [Nat.zero_add]; rfl)),
      (show extractStridedSlice S32x128 ![0, 0] bc _ (ix2 s e) = at2 bc ⟨s.val, by omega⟩ e from (slice2 0 0 bc _ s e (by omega) (by omega)).trans (by simp only [Nat.zero_add]; rfl))]
  · rw [if_neg h, if_neg (show ¬ (⟨s.val, _⟩ : Fin 64) ≤ ⟨16 + r.val, _⟩ from h)]
    exact (if_neg (by decide)).trans Ideal.ofBits_zero_f32

/-- Its product with the values: the sum over all the chunk's key rows, the rows it leaves out counting zero. -/
theorem intra16_apply (q k v lf bc : FVec Ideal S64x128 .f32) (hd : ∀ r s e, s ≤ r → at2 bc r e = ⊥ ∨ (Fin' (at2 bc r e) ∧ Fin' (at2 bc s e) ∧ Fin' (at2 lf s e))) (r : Fin 16) (w : Fin 128) :
    intra16 v (blk16 q k lf bc) (ix2 r w) = ∑ s : Fin 64, att (at2 q) (at2 k) (at2 bc) ⟨16 + r.val, by omega⟩ s * at2 v s w := by
  rw [← sum_head (h := 32) (by omega) (fun s => att (at2 q) (at2 k) (at2 bc) ⟨16 + r.val, by omega⟩ s * at2 v s w) fun s hs => by
    show att _ _ _ _ _ * _ = 0
    unfold att
    rw [if_neg (fun hle : s ≤ (⟨16 + r.val, _⟩ : Fin 64) => by have : s.val ≤ 16 + r.val := hle; omega), zero_mul]]
  refine (mmPlain dot_S16x32_S32x128_S16x128_1_0_0_1_n_n_wf _ _ r w).trans (Finset.sum_congr rfl fun s _ => ?_)
  show blk16 q k lf bc (ix2 r s) * extractStridedSlice S32x128 ![0, 0] v slices_S64x128_o0_0_S32x128 (ix2 s w) = _
  rw [blk16_apply q k lf bc hd r s, slice2 0 0 v _ s w (by omega) (by omega)]
  simp only [Nat.zero_add]
  rfl

/-- Attention block 2 holds rows 32 to 47 of the chunk's attention. -/
theorem blk32_apply (q k lf bc : FVec Ideal S64x128 .f32) (hd : ∀ r s e, s ≤ r → at2 bc r e = ⊥ ∨ (Fin' (at2 bc r e) ∧ Fin' (at2 bc s e) ∧ Fin' (at2 lf s e))) (r : Fin 16) (s : Fin 48) :
    blk32 q k lf bc (ix2 r s) = att (at2 q) (at2 k) (at2 bc) ⟨32 + r.val, by omega⟩ ⟨s.val, by omega⟩ := by
  have hm : ∀ e : Fin 128, Fin' (at2 bc ⟨32, by omega⟩ e) → Fin' (at2 lf ⟨32, by omega⟩ e) → Fin' (ref32 lf bc (ix2 0 e)) := fun e hb hl => by
    obtain ⟨x, hx⟩ := hb
    obtain ⟨y, hy⟩ := hl
    refine ⟨x - y, ?_⟩
    show extractStridedSlice S1x128 ![32, 0] bc _ (ix2 0 e) - extractStridedSlice S1x128 ![32, 0] lf _ (ix2 0 e) = _
    rw [slice2 32 0 bc _ 0 e (by decide) (by omega), slice2 32 0 lf _ 0 e (by decide) (by omega), EReal.coe_sub, ← hx, ← hy]
    simp only [Nat.zero_add]; rfl
  have hmask : (cmpi .sle (iota .tc S16x48 32 [1] iota_S16x48_d1_w32) (addi (iota .tc S16x48 32 [0] iota_S16x48_d0_w32) (broadcast S16x48 32#32))) (ix2 r s)
      = if s.val ≤ 32 + r.val then 1#1 else 0#1 :=
    mask2 32 _ _ r s (by omega) (by omega) (by omega)
  unfold blk32
  rw [select_apply, hmask]
  unfold att
  by_cases h : s.val ≤ 32 + r.val
  · rw [if_pos h, if_pos (show (⟨s.val, _⟩ : Fin 64) ≤ ⟨32 + r.val, _⟩ from h)]
    refine (if_pos rfl).trans ((mmTrans dot_S16x128_S48x128_S16x48_1_1_0_0_n_n_wf _ _ r s).trans (Finset.sum_congr rfl fun e _ => ?_))
    refine Eq.trans ?_ (split_decay ((hd ⟨32 + r.val, by omega⟩ ⟨s.val, by omega⟩ e h).imp_right fun hx =>
      ⟨hx.1, hx.2.1, (hd ⟨32 + r.val, by omega⟩ ⟨32, by omega⟩ e (Nat.le_add_right _ _)).elim (fun hbot => absurd hx.1 (by rw [hbot]; exact fun ⟨z, hz⟩ => EReal.coe_ne_bot z hz.symm))
        fun hy => hm e hy.2.1 hy.2.2⟩))
    show extractStridedSlice S16x128 ![32, 0] q slices_S64x128_o32_0_S16x128 (ix2 r e)
        * Ideal.exp (extractStridedSlice S16x128 ![32, 0] bc slices_S64x128_o32_0_S16x128 (ix2 r e) - broadcastTo S16x128 (ref32 lf bc) broadcasts_S1x128_S16x128 (ix2 r e))
      * (extractStridedSlice S48x128 ![0, 0] k slices_S64x128_o0_0_S48x128 (ix2 s e) * Ideal.exp (broadcastTo S48x128 (ref32 lf bc) broadcasts_S1x128_S48x128 (ix2 s e) - extractStridedSlice S48x128 ![0, 0] bc slices_S64x128_o0_0_S48x128 (ix2 s e))) = _
    rw [(show extractStridedSlice S16x128 ![32, 0] q _ (ix2 r e) = at2 q ⟨32 + r.val, by omega⟩ e from (slice2 32 0 q _ r e (by omega) (by omega)).trans (by simp only [Nat.zero_add]; rfl)),
      (show extractStridedSlice S16x128 ![32, 0] bc _ (ix2 r e) = at2 bc ⟨32 + r.val, by omega⟩ e from (slice2 32 0 bc _ r e (by omega) (by omega)).trans (by simp only [Nat.zero_add]; rfl)),
      bcastRow (a := 16) (ref32 lf bc) _ r e, bcastRow (a := 48) (ref32 lf bc) _ s e, (show extractStridedSlice S48x128 ![0, 0] k _ (ix2 s e) = at2 k ⟨s.val, by omega⟩ e from (slice2 0 0 k _ s e (by omega) (by omega)).trans (by simp only [Nat.zero_add]; rfl)),
      (show extractStridedSlice S48x128 ![0, 0] bc _ (ix2 s e) = at2 bc ⟨s.val, by omega⟩ e from (slice2 0 0 bc _ s e (by omega) (by omega)).trans (by simp only [Nat.zero_add]; rfl))]
  · rw [if_neg h, if_neg (show ¬ (⟨s.val, _⟩ : Fin 64) ≤ ⟨32 + r.val, _⟩ from h)]
    exact (if_neg (by decide)).trans Ideal.ofBits_zero_f32

/-- Its product with the values: the sum over all the chunk's key rows, the rows it leaves out counting zero. -/
theorem intra32_apply (q k v lf bc : FVec Ideal S64x128 .f32) (hd : ∀ r s e, s ≤ r → at2 bc r e = ⊥ ∨ (Fin' (at2 bc r e) ∧ Fin' (at2 bc s e) ∧ Fin' (at2 lf s e))) (r : Fin 16) (w : Fin 128) :
    intra32 v (blk32 q k lf bc) (ix2 r w) = ∑ s : Fin 64, att (at2 q) (at2 k) (at2 bc) ⟨32 + r.val, by omega⟩ s * at2 v s w := by
  rw [← sum_head (h := 48) (by omega) (fun s => att (at2 q) (at2 k) (at2 bc) ⟨32 + r.val, by omega⟩ s * at2 v s w) fun s hs => by
    show att _ _ _ _ _ * _ = 0
    unfold att
    rw [if_neg (fun hle : s ≤ (⟨32 + r.val, _⟩ : Fin 64) => by have : s.val ≤ 32 + r.val := hle; omega), zero_mul]]
  refine (mmPlain dot_S16x48_S48x128_S16x128_1_0_0_1_n_n_wf _ _ r w).trans (Finset.sum_congr rfl fun s _ => ?_)
  show blk32 q k lf bc (ix2 r s) * extractStridedSlice S48x128 ![0, 0] v slices_S64x128_o0_0_S48x128 (ix2 s w) = _
  rw [blk32_apply q k lf bc hd r s, slice2 0 0 v _ s w (by omega) (by omega)]
  simp only [Nat.zero_add]
  rfl

/-- Attention block 3 holds rows 48 to 63 of the chunk's attention. -/
theorem blk48_apply (q k lf bc : FVec Ideal S64x128 .f32) (hd : ∀ r s e, s ≤ r → at2 bc r e = ⊥ ∨ (Fin' (at2 bc r e) ∧ Fin' (at2 bc s e) ∧ Fin' (at2 lf s e))) (r : Fin 16) (s : Fin 64) :
    blk48 q k lf bc (ix2 r s) = att (at2 q) (at2 k) (at2 bc) ⟨48 + r.val, by omega⟩ ⟨s.val, by omega⟩ := by
  have hm : ∀ e : Fin 128, Fin' (at2 bc ⟨48, by omega⟩ e) → Fin' (at2 lf ⟨48, by omega⟩ e) → Fin' (ref48 lf bc (ix2 0 e)) := fun e hb hl => by
    obtain ⟨x, hx⟩ := hb
    obtain ⟨y, hy⟩ := hl
    refine ⟨x - y, ?_⟩
    show extractStridedSlice S1x128 ![48, 0] bc _ (ix2 0 e) - extractStridedSlice S1x128 ![48, 0] lf _ (ix2 0 e) = _
    rw [slice2 48 0 bc _ 0 e (by decide) (by omega), slice2 48 0 lf _ 0 e (by decide) (by omega), EReal.coe_sub, ← hx, ← hy]
    simp only [Nat.zero_add]; rfl
  have hmask : (cmpi .sle (iota .tc S16x64 32 [1] iota_S16x64_d1_w32) (addi (iota .tc S16x64 32 [0] iota_S16x64_d0_w32) (broadcast S16x64 48#32))) (ix2 r s)
      = if s.val ≤ 48 + r.val then 1#1 else 0#1 :=
    mask2 48 _ _ r s (by omega) (by omega) (by omega)
  unfold blk48
  rw [select_apply, hmask]
  unfold att
  by_cases h : s.val ≤ 48 + r.val
  · rw [if_pos h, if_pos (show (⟨s.val, _⟩ : Fin 64) ≤ ⟨48 + r.val, _⟩ from h)]
    refine (if_pos rfl).trans ((mmTrans dot_S16x128_S64x128_S16x64_1_1_0_0_n_n_wf _ _ r s).trans (Finset.sum_congr rfl fun e _ => ?_))
    refine Eq.trans ?_ (split_decay ((hd ⟨48 + r.val, by omega⟩ ⟨s.val, by omega⟩ e h).imp_right fun hx =>
      ⟨hx.1, hx.2.1, (hd ⟨48 + r.val, by omega⟩ ⟨48, by omega⟩ e (Nat.le_add_right _ _)).elim (fun hbot => absurd hx.1 (by rw [hbot]; exact fun ⟨z, hz⟩ => EReal.coe_ne_bot z hz.symm))
        fun hy => hm e hy.2.1 hy.2.2⟩))
    show extractStridedSlice S16x128 ![48, 0] q slices_S64x128_o48_0_S16x128 (ix2 r e)
        * Ideal.exp (extractStridedSlice S16x128 ![48, 0] bc slices_S64x128_o48_0_S16x128 (ix2 r e) - broadcastTo S16x128 (ref48 lf bc) broadcasts_S1x128_S16x128 (ix2 r e))
      * (k (ix2 s e) * Ideal.exp (broadcastTo S64x128 (ref48 lf bc) broadcasts_S1x128_S64x128 (ix2 s e) - bc (ix2 s e))) = _
    rw [(show extractStridedSlice S16x128 ![48, 0] q _ (ix2 r e) = at2 q ⟨48 + r.val, by omega⟩ e from (slice2 48 0 q _ r e (by omega) (by omega)).trans (by simp only [Nat.zero_add]; rfl)),
      (show extractStridedSlice S16x128 ![48, 0] bc _ (ix2 r e) = at2 bc ⟨48 + r.val, by omega⟩ e from (slice2 48 0 bc _ r e (by omega) (by omega)).trans (by simp only [Nat.zero_add]; rfl)),
      bcastRow (a := 16) (ref48 lf bc) _ r e, bcastRow (a := 64) (ref48 lf bc) _ s e]
    rfl
  · rw [if_neg h, if_neg (show ¬ (⟨s.val, _⟩ : Fin 64) ≤ ⟨48 + r.val, _⟩ from h)]
    exact (if_neg (by decide)).trans Ideal.ofBits_zero_f32

/-- Its product with the values: the sum over all the chunk's key rows, the rows it leaves out counting zero. -/
theorem intra48_apply (q k v lf bc : FVec Ideal S64x128 .f32) (hd : ∀ r s e, s ≤ r → at2 bc r e = ⊥ ∨ (Fin' (at2 bc r e) ∧ Fin' (at2 bc s e) ∧ Fin' (at2 lf s e))) (r : Fin 16) (w : Fin 128) :
    intra48 v (blk48 q k lf bc) (ix2 r w) = ∑ s : Fin 64, att (at2 q) (at2 k) (at2 bc) ⟨48 + r.val, by omega⟩ s * at2 v s w := by
  rw [← sum_head (h := 64) (by omega) (fun s => att (at2 q) (at2 k) (at2 bc) ⟨48 + r.val, by omega⟩ s * at2 v s w) fun s hs => by
    show att _ _ _ _ _ * _ = 0
    unfold att
    rw [if_neg (fun hle : s ≤ (⟨48 + r.val, _⟩ : Fin 64) => by have : s.val ≤ 48 + r.val := hle; omega), zero_mul]]
  refine (mmPlain dot_S16x64_S64x128_S16x128_1_0_0_1_n_n_wf _ _ r w).trans (Finset.sum_congr rfl fun s _ => ?_)
  show blk48 q k lf bc (ix2 r s) * v (ix2 s w) = _
  rw [blk48_apply q k lf bc hd r s]
  rfl

/-- The stacked products: every row of the chunk against every key row. -/
theorem intra_apply (q k v lf bc : FVec Ideal S64x128 .f32) (hd : ∀ r s e, s ≤ r → at2 bc r e = ⊥ ∨ (Fin' (at2 bc r e) ∧ Fin' (at2 bc s e) ∧ Fin' (at2 lf s e))) (r : Fin 64) (w : Fin 128) :
    intra q k v lf bc (ix2 r w) = ∑ s : Fin 64, att (at2 q) (at2 k) (at2 bc) r s * at2 v s w := by
  have key : ∀ (lo : ℕ) (hlo : lo + 16 ≤ 64) (p : Fin 16 → EReal),
      (∀ i : Fin 16, p i = ∑ s : Fin 64, att (at2 q) (at2 k) (at2 bc) ⟨lo + i.val, by omega⟩ s * at2 v s w) →
      ∀ h : r.val - lo < 16, lo ≤ r.val → p ⟨r.val - lo, h⟩ = ∑ s : Fin 64, att (at2 q) (at2 k) (at2 bc) r s * at2 v s w :=
    fun lo hlo p hp h hle => (hp _).trans (by
      congr 1; funext s; congr 2; exact Fin.ext (by show lo + (r.val - lo) = r.val; omega))
  unfold intra
  rw [concatenate_apply]
  simp only [concatenateAt_cons, concatenateAt_singleton]
  have hr : ((ix2 r w : S64x128.Idx) 0).val = r.val := rfl
  split
  · next h =>
    refine Eq.trans ?_ (key 0 (by omega) (fun i => intra0 v (blk0 q k lf bc) (ix2 i w)) (fun i => intra0_apply q k v lf bc hd i w) (by have : r.val < 16 := h; omega) (by omega))
    refine congrArg _ (funext fun ax => Fin.ext ?_)
    match ax with
    | ⟨0, _⟩ => rfl
    | ⟨1, _⟩ => rfl
  · next h0 =>
    have g0 : ¬ r.val < 16 := h0
    split
    · next h =>
      refine Eq.trans ?_ (key 16 (by omega) (fun i => intra16 v (blk16 q k lf bc) (ix2 i w)) (fun i => intra16_apply q k v lf bc hd i w) (by have : r.val - 16 < 16 := h; omega) (by omega))
      refine congrArg _ (funext fun ax => Fin.ext ?_)
      match ax with
      | ⟨0, _⟩ => rfl
      | ⟨1, _⟩ => rfl
    · next h1 =>
      have g1 : ¬ r.val - 16 < 16 := h1
      split
      · next h =>
        refine Eq.trans ?_ (key 32 (by omega) (fun i => intra32 v (blk32 q k lf bc) (ix2 i w)) (fun i => intra32_apply q k v lf bc hd i w) (by have : r.val - 16 - 16 < 16 := h; omega) (by omega))
        refine congrArg _ (funext fun ax => Fin.ext ?_)
        match ax with
        | ⟨0, _⟩ => show r.val - 16 - 16 = r.val - 32; omega
        | ⟨1, _⟩ => rfl
      · next h2 =>
        have g2 : ¬ r.val - 16 - 16 < 16 := h2
        refine Eq.trans ?_ (key 48 (by omega) (fun i => intra48 v (blk48 q k lf bc) (ix2 i w)) (fun i => intra48_apply q k v lf bc hd i w) (by omega) (by omega))
        refine congrArg _ (funext fun ax => Fin.ext ?_)
        match ax with
        | ⟨0, _⟩ => show r.val - 16 - 16 - 16 = r.val - 48; omega
        | ⟨1, _⟩ => rfl

/-- The chunk's rows are the recurrence's. -/
theorem chunkO_apply (q k v lf bc : FVec Ideal S64x128 .f32) (st : FVec Ideal S128x128 .f32) (hd : ∀ r s e, s ≤ r → at2 bc r e = ⊥ ∨ (Fin' (at2 bc r e) ∧ Fin' (at2 bc s e) ∧ Fin' (at2 lf s e)))
    (r : Fin 64) (w : Fin 128) :
    chunkO q k v lf bc st (ix2 r w) = out (at2 q) (at2 k) (at2 v) (at2 bc) (at2 st) r w := by
  unfold chunkO out
  refine congrArg₂ (· + ·) (intra_apply q k v lf bc hd r w) ?_
  exact mmTrans dot_S64x128_S128x128_S64x128_1_1_0_0_n_n_wf _ _ r w

/-- The state after the chunk is the recurrence's. -/
theorem chunkS_apply (k v bc : FVec Ideal S64x128 .f32) (st : FVec Ideal S128x128 .f32) (w e : Fin 128) :
    chunkS k v bc st (ix2 w e) = next (at2 k) (at2 v) (at2 bc) (at2 st) w e := by
  have h63 : ∀ e : Fin 128, extractStridedSlice S1x128 ![63, 0] bc slices_S64x128_o63_0_S1x128 (ix2 0 e) = at2 bc 63 e := fun e =>
    (slice2 63 0 bc _ 0 e (by decide) (by omega)).trans (by simp only [Nat.zero_add]; rfl)
  unfold chunkS next
  refine congrArg₂ (· + ·) ?_ ((mmPlain dot_S128x64_S64x128_S128x128_1_0_0_1_n_n_wf _ _ w e).trans (Finset.sum_congr rfl fun s _ => ?_))
  · show st (ix2 w e) * broadcastTo S128x128 _ _ (ix2 w e) = _
    rw [bcastRow (a := 128)]
    show st (ix2 w e) * Ideal.exp (extractStridedSlice S1x128 ![63, 0] bc slices_S64x128_o63_0_S1x128 (ix2 0 e)) = _
    rw [h63]; rfl
  · show transpose S128x64 [1, 0] v _ (ix2 w s) * (k (ix2 s e) * Ideal.exp (broadcastTo S64x128 _ _ (ix2 s e) - bc (ix2 s e))) = _
    rw [transpose2 v, bcastRow (a := 64), h63]; rfl

end Cert.Hgrn

end
-- ==== Proof.Loads.lean ====
/-
  What the kernel's loads read: a grid point's block of projections, its chunks of 64 rows by 128 columns held in scratch, a
  head's state; and the point's arrays as functions of its blocks.
-/
module

public import proofs.«01_k».proof.Proof.Chunk
public import Idealize.ShloMosaic.Lib.Pipeline.ReadBack
public import Idealize.ShloMosaic.Lib.Pipeline.ValueKit

@[expose] public section

noncomputable section

open Idealize.ShloMosaic hiding ix1 ix2 ix3 ix4 ix5
open Idealize.ShloMosaic.ValueIdx
open Idealize.ShloMosaic.TcCoe Idealize.SL.Sem
open Cert.KernelIdeal Cert.KernelIdeal.Gen

namespace Cert.Hgrn

variable {F : FTy → Type} [FloatOps F]

theorem inb_0_0 : ∀ a, (![0, 0] : Fin 2 → Nat) a + S64x128.size a ≤ S256x512.size a := by decide
theorem inb_0_1 : ∀ a, (![0, 128] : Fin 2 → Nat) a + S64x128.size a ≤ S256x512.size a := by decide
theorem inb_0_2 : ∀ a, (![0, 256] : Fin 2 → Nat) a + S64x128.size a ≤ S256x512.size a := by decide
theorem inb_0_3 : ∀ a, (![0, 384] : Fin 2 → Nat) a + S64x128.size a ≤ S256x512.size a := by decide
theorem inb_1_0 : ∀ a, (![64, 0] : Fin 2 → Nat) a + S64x128.size a ≤ S256x512.size a := by decide
theorem inb_1_1 : ∀ a, (![64, 128] : Fin 2 → Nat) a + S64x128.size a ≤ S256x512.size a := by decide
theorem inb_1_2 : ∀ a, (![64, 256] : Fin 2 → Nat) a + S64x128.size a ≤ S256x512.size a := by decide
theorem inb_1_3 : ∀ a, (![64, 384] : Fin 2 → Nat) a + S64x128.size a ≤ S256x512.size a := by decide
theorem inb_2_0 : ∀ a, (![128, 0] : Fin 2 → Nat) a + S64x128.size a ≤ S256x512.size a := by decide
theorem inb_2_1 : ∀ a, (![128, 128] : Fin 2 → Nat) a + S64x128.size a ≤ S256x512.size a := by decide
theorem inb_2_2 : ∀ a, (![128, 256] : Fin 2 → Nat) a + S64x128.size a ≤ S256x512.size a := by decide
theorem inb_2_3 : ∀ a, (![128, 384] : Fin 2 → Nat) a + S64x128.size a ≤ S256x512.size a := by decide
theorem inb_3_0 : ∀ a, (![192, 0] : Fin 2 → Nat) a + S64x128.size a ≤ S256x512.size a := by decide
theorem inb_3_1 : ∀ a, (![192, 128] : Fin 2 → Nat) a + S64x128.size a ≤ S256x512.size a := by decide
theorem inb_3_2 : ∀ a, (![192, 256] : Fin 2 → Nat) a + S64x128.size a ≤ S256x512.size a := by decide
theorem inb_3_3 : ∀ a, (![192, 384] : Fin 2 → Nat) a + S64x128.size a ≤ S256x512.size a := by decide

/-- Rows `64n ..` of head `h`'s columns of a block. -/
def cutF (X : FVec F S256x512 .f32) (n : Fin 4) (h : Fin 4) : FVec F S64x128 .f32 := fun j =>
  X (ix2 ⟨64 * n.val + (j 0).val, by have h0 : (j 0 : Nat) < 64 := (j 0).isLt; omega⟩ ⟨128 * h.val + (j 1).val, by have h1 : (j 1 : Nat) < 128 := (j 1).isLt; omega⟩)

/-- A load of a chunk from a scratch block that was stored whole reads those rows and columns. -/
theorem readChunk (a : Memref sig .tc .vmem S256x512 .f32) (X : FVec F S256x512 .f32) (n h : Fin 4) (o p : ℕ)
    (inb : ∀ x, (![o, p] : Fin 2 → Nat) x + S64x128.size x ≤ S256x512.size x) (ho : o = 64 * n.val) (hp : p = 128 * h.val) :
    a.view.readCov (Val := Elt F) [⟨Rect.unit (s := S256x512) ![0, 0] S256x512.size inb_S256x512_S256x512_0_0, X⟩] (Rect.unit (s := S256x512) ![o, p] S64x128.size inb).toLoadRect = cutF X n h := by
  subst ho hp
  rw [View.readCov_fill _ _ _ _ _ (by intro x; match x with | ⟨0, _⟩ => rfl | ⟨1, _⟩ => rfl)]
  funext j
  unfold cutF
  show X _ = X _
  congr 1
  funext x
  apply Fin.ext
  match x with
  | ⟨0, _⟩ => show 64 * n.val + 1 * (j 0).val = 64 * n.val + (j 0).val; omega
  | ⟨1, _⟩ => show 128 * h.val + 1 * (j 1).val = 128 * h.val + (j 1).val; omega

/-- Head `h`'s state of the four. -/
def headF (S : FVec F S4x128x128 .f32) (h : Fin 4) : FVec F S128x128 .f32 := fun j => S (ix3 h (j 0) (j 1))

/-- The states a row of the grid starts from. -/
def zeros : FVec F S4x128x128 .f32 := k0_pay1

theorem head_cast (S : FVec F S4x128x128 .f32) (h : Fin 4) (X : FVec F S1x128x128 .f32) (hX : ∀ i j, X (ix3 0 i j) = S (ix3 h i j)) :
    shapeCast S128x128 X shapeCasts_S1x128x128_S128x128 = headF S h := by
  funext j
  obtain ⟨a, b, rfl⟩ : ∃ a b, j = ix2 a b := ⟨j 0, j 1, ValueIdx.eq_ix2 j⟩
  exact (shapeCast_apply _ _ _ (ix3 (0 : Fin 1) a b) (by
    rw [Shape.rowMajor_val_three, Shape.rowMajor_val_two]
    show (0 * 128 + a.val) * 128 + b.val = a.val * 128 + b.val; omega)).trans (hX a b)

/-- A head's state as a load of the carried scratch reads it. -/
theorem readSt (a : Memref sig .tc .vmem S4x128x128 .f32) (ha : a.IsWhole) (S : FVec F S4x128x128 .f32) (h : Fin 4) (o : ℕ) (ho : o = h.val)
    (inb : ∀ x, (![o, 0, 0] : Fin 3 → Nat) x + S1x128x128.size x ≤ S4x128x128.size x) :
    shapeCast S128x128 (View.readAt (Elt F) a.view (Rect.unit (s := S4x128x128) ![o, 0, 0] S1x128x128.size inb).toLoadRect (ha.unread S)) shapeCasts_S1x128x128_S128x128 = headF S h := by
  subst ho
  refine head_cast S h _ fun i j => ?_
  rw [View.readAt_eq_ld, ha.read_unread]
  show S _ = S _
  congr 1
  funext x
  apply Fin.ext
  match x with
  | ⟨0, _⟩ => show h.val + 1 * 0 = h.val; omega
  | ⟨1, _⟩ => show 0 + 1 * i.val = i.val; omega
  | ⟨2, _⟩ => show 0 + 1 * j.val = j.val; omega

/-- A head's state as a load reads it after the states were zeroed. -/
theorem readStZero (a : Memref sig .tc .vmem S4x128x128 .f32) (h : Fin 4) (o : ℕ) (ho : o = h.val)
    (inb : ∀ x, (![o, 0, 0] : Fin 3 → Nat) x + S1x128x128.size x ≤ S4x128x128.size x) :
    shapeCast S128x128 (a.view.readCov (Val := Elt F) [⟨Rect.unit (s := S4x128x128) ![0, 0, 0] S4x128x128.size inb_S4x128x128_S4x128x128_0_0_0, k0_pay1⟩] (Rect.unit (s := S4x128x128) ![o, 0, 0] S1x128x128.size inb).toLoadRect)
      shapeCasts_S1x128x128_S128x128 = headF (zeros (F := F)) h := by
  subst ho
  refine head_cast _ h _ fun i j => ?_
  rw [View.readCov_fill _ _ _ _ _ (by intro x; match x with | ⟨0, _⟩ => rfl | ⟨1, _⟩ => rfl | ⟨2, _⟩ => rfl)]
  show k0_pay1 _ = zeros _
  unfold zeros
  congr 1
  funext x
  apply Fin.ext
  match x with
  | ⟨0, _⟩ => show h.val + 1 * 0 = h.val; omega
  | ⟨1, _⟩ => show 0 + 1 * i.val = i.val; omega
  | ⟨2, _⟩ => show 0 + 1 * j.val = j.val; omega

theorem readU (a : Memref sig .tc .vmem S1x256x2048 .f32) (ha : a.IsWhole) (X : Vec F S1x256x2048 .f32) :
    View.readAt (Elt F) a.view (Rect.unit (s := S1x256x2048) ![0, 0, 0] S1x256x2048.size inb_S1x256x2048_S1x256x2048_0_0_0).toLoadRect (ha.unread X) = X := by
  rw [View.readAt_eq_ld, ha.read_unread]
  exact View.ld_unit_zero (S := S1x256x2048) (by funext x; match x with | ⟨0, _⟩ => rfl | ⟨1, _⟩ => rfl | ⟨2, _⟩ => rfl) _ _

theorem hz2 : (![0, 0] : Fin 2 → Nat) = fun _ => 0 := by funext x; match x with | ⟨0, _⟩ => rfl | ⟨1, _⟩ => rfl

theorem readL (a : Memref sig .tc .vmem S2x512 .f32) (ha : a.IsWhole) (X : Vec F S2x512 .f32) :
    View.readAt (Elt F) a.view (Rect.unit (s := S2x512) ![0, 0] S2x512.size inb_S2x512_S2x512_0_0).toLoadRect (ha.unread X) = X := by
  rw [View.readAt_eq_ld, ha.read_unread]
  exact View.ld_unit_zero (S := S2x512) hz2 _ _

theorem readN (a : Memref sig .tc .vmem S1x512 .f32) (ha : a.IsWhole) (X : Vec F S1x512 .f32) :
    View.readAt (Elt F) a.view (Rect.unit (s := S1x512) ![0, 0] S1x512.size inb_S1x512_S1x512_0_0).toLoadRect (ha.unread X) = X := by
  rw [View.readAt_eq_ld, ha.read_unread]
  exact View.ld_unit_zero (S := S1x512) hz2 _ _

theorem readT (a : Memref sig .tc .vmem S256x256 .bf16) (ha : a.IsWhole) (X : Vec F S256x256 .bf16) :
    View.readAt (Elt F) a.view (Rect.unit (s := S256x256) ![0, 0] S256x256.size inb_S256x256_S256x256_0_0).toLoadRect (ha.unread X) = X := by
  rw [View.readAt_eq_ld, ha.read_unread]
  exact View.ld_unit_zero (S := S256x256) hz2 _ _

theorem readG (a : Memref sig .tc .vmem S512x512 .bf16) (ha : a.IsWhole) (X : Vec F S512x512 .bf16) :
    View.readAt (Elt F) a.view (Rect.unit (s := S512x512) ![0, 0] S512x512.size inb_S512x512_S512x512_0_0).toLoadRect (ha.unread X) = X := by
  rw [View.readAt_eq_ld, ha.read_unread]
  exact View.ld_unit_zero (S := S512x512) hz2 _ _

/-- A point's queries, keys, values, log decays and their running sums, from its blocks. -/
def qOf (u : Vec F S1x256x2048 .f32) : FVec F S256x512 .f32 := k0_pay7 (k0_pay6 u)
def kOf (u : Vec F S1x256x2048 .f32) (lb : Vec F S2x512 .f32) : FVec F S256x512 .f32 := k0_pay8 (k0_pay3 lb) (k0_pay4 u)
def vOf (u : Vec F S1x256x2048 .f32) : FVec F S256x512 .f32 := k0_pay9 (k0_pay2 u)
def lOf (u : Vec F S1x256x2048 .f32) (lb : Vec F S2x512 .f32) : FVec F S256x512 .f32 := k0_pay11 (k0_pay5 u lb)
def bOf (u : Vec F S1x256x2048 .f32) (lb : Vec F S2x512 .f32) (tri : Vec F S256x256 .bf16) : FVec F S256x512 .f32 := k0_pay12 (k0_pay5 u lb) tri

/-- A head's state after `n` chunks, from the states the point starts with. -/
def stF (K V B : FVec F S256x512 .f32) (S : FVec F S4x128x128 .f32) (h : Fin 4) : ℕ → FVec F S128x128 .f32
  | 0 => headF S h
  | n + 1 => chunkS (cutF K (Fin.ofNat 4 n) h) (cutF V (Fin.ofNat 4 n) h) (cutF B (Fin.ofNat 4 n) h) (stF K V B S h n)

/-- A head's rows of chunk `n`. -/
def outF (Q K V L B : FVec F S256x512 .f32) (S : FVec F S4x128x128 .f32) (n h : Fin 4) : FVec F S64x128 .f32 :=
  chunkO (cutF Q n h) (cutF K n h) (cutF V n h) (cutF L n h) (cutF B n h) (stF K V B S h n.val)

/-- The point's rows, all heads side by side. -/
def rowsF (Q K V L B : FVec F S256x512 .f32) (S : FVec F S4x128x128 .f32) : FVec F S256x512 .f32 := fun j =>
  outF Q K V L B S ⟨(j 0).val / 64, by have h0 : (j 0 : Nat) < 256 := (j 0).isLt; omega⟩ ⟨(j 1).val / 128, by have h0 : (j 1 : Nat) < 512 := (j 1).isLt; omega⟩
    (ix2 ⟨(j 0).val % 64, Nat.mod_lt _ (by decide)⟩ ⟨(j 1).val % 128, Nat.mod_lt _ (by decide)⟩)

theorem tileRows (Q K V L B : FVec F S256x512 .f32) (S : FVec F S4x128x128 .f32) (n h : Fin 4) (o p : ℕ) (ho : o = 64 * n.val) (hp : p = 128 * h.val) (y : S256x512.Idx) :
    View.TileAt (Val := Elt F) (e := .f32) y ![o, p] S64x128.size (outF Q K V L B S n h) (rowsF Q K V L B S y) := by
  intro x hx
  have e0 : (y 0 : Nat) = o + x 0 := hx 0
  have e1 : (y 1 : Nat) = p + x 1 := hx 1
  have h0 : (x 0 : Nat) < 64 := (x 0).isLt
  have h1 : (x 1 : Nat) < 128 := (x 1).isLt
  unfold rowsF
  have a0 : (⟨(y 0).val / 64, by have h0 : (y 0 : Nat) < 256 := (y 0).isLt; omega⟩ : Fin 4) = n := Fin.ext (by show (y 0).val / 64 = n.val; omega)
  have a1 : (⟨(y 1).val / 128, by have h0 : (y 1 : Nat) < 512 := (y 1).isLt; omega⟩ : Fin 4) = h := Fin.ext (by show (y 1).val / 128 = h.val; omega)
  rw [a0, a1]
  congr 1
  funext a
  apply Fin.ext
  match a with
  | ⟨0, _⟩ => show (x 0).val = (y 0).val % 64; omega
  | ⟨1, _⟩ => show (x 1).val = (y 1).val % 128; omega

/-- The 16 stored chunks, read back whole, are the point's rows. -/
theorem readRows (a : Memref sig .tc .vmem S256x512 .f32) (Q K V L B : FVec F S256x512 .f32) (S : FVec F S4x128x128 .f32) :
    a.view.readCov (Val := Elt F) [⟨Rect.unit (s := S256x512) ![192, 384] S64x128.size inb_3_3, outF Q K V L B S 3 3⟩, ⟨Rect.unit (s := S256x512) ![192, 256] S64x128.size inb_3_2, outF Q K V L B S 3 2⟩, ⟨Rect.unit (s := S256x512) ![192, 128] S64x128.size inb_3_1, outF Q K V L B S 3 1⟩, ⟨Rect.unit (s := S256x512) ![192, 0] S64x128.size inb_3_0, outF Q K V L B S 3 0⟩, ⟨Rect.unit (s := S256x512) ![128, 384] S64x128.size inb_2_3, outF Q K V L B S 2 3⟩, ⟨Rect.unit (s := S256x512) ![128, 256] S64x128.size inb_2_2, outF Q K V L B S 2 2⟩, ⟨Rect.unit (s := S256x512) ![128, 128] S64x128.size inb_2_1, outF Q K V L B S 2 1⟩, ⟨Rect.unit (s := S256x512) ![128, 0] S64x128.size inb_2_0, outF Q K V L B S 2 0⟩, ⟨Rect.unit (s := S256x512) ![64, 384] S64x128.size inb_1_3, outF Q K V L B S 1 3⟩, ⟨Rect.unit (s := S256x512) ![64, 256] S64x128.size inb_1_2, outF Q K V L B S 1 2⟩, ⟨Rect.unit (s := S256x512) ![64, 128] S64x128.size inb_1_1, outF Q K V L B S 1 1⟩, ⟨Rect.unit (s := S256x512) ![64, 0] S64x128.size inb_1_0, outF Q K V L B S 1 0⟩, ⟨Rect.unit (s := S256x512) ![0, 384] S64x128.size inb_0_3, outF Q K V L B S 0 3⟩, ⟨Rect.unit (s := S256x512) ![0, 256] S64x128.size inb_0_2, outF Q K V L B S 0 2⟩, ⟨Rect.unit (s := S256x512) ![0, 128] S64x128.size inb_0_1, outF Q K V L B S 0 1⟩, ⟨Rect.unit (s := S256x512) ![0, 0] S64x128.size inb_0_0, outF Q K V L B S 0 0⟩] (Rect.unit (s := S256x512) ![0, 0] S256x512.size inb_S256x512_S256x512_0_0).toLoadRect = rowsF Q K V L B S := by
  rw [View.readCov_eq_canon']
  funext j
  have hj : (Rect.unit (s := S256x512) ![0, 0] S256x512.size inb_S256x512_S256x512_0_0).toLoadRect.idx j = j := by
    funext x
    apply Fin.ext
    match x with
    | ⟨0, _⟩ => show 0 + 1 * (j 0).val = (j 0).val; omega
    | ⟨1, _⟩ => show 0 + 1 * (j 1).val = (j 1).val; omega
  rw [hj]
  refine View.canon_eq_of_allAt _ j _ ?_ ?_
  · have h0 : (j 0 : Nat) < 256 := (j 0).isLt
    have h1 : (j 1 : Nat) < 512 := (j 1).isLt
    have key : ∀ (o p : ℕ) (inb : ∀ x, (![o, p] : Fin 2 → Nat) x + S64x128.size x ≤ S256x512.size x), (j 0).val / 64 * 64 = o → (j 1).val / 128 * 128 = p →
        j ∈ (Rect.unit (s := S256x512) ![o, p] S64x128.size inb).set := by
      intro o p inb e0 e1
      rw [Rect.mem_set_unit]
      intro x
      match x with
      | ⟨0, _⟩ => show o ≤ (j 0).val ∧ (j 0).val < o + 64; omega
      | ⟨1, _⟩ => show p ≤ (j 1).val ∧ (j 1).val < p + 128; omega
    have c0 : (j 0).val / 64 = 0 ∨ (j 0).val / 64 = 1 ∨ (j 0).val / 64 = 2 ∨ (j 0).val / 64 = 3 := by omega
    have c1 : (j 1).val / 128 = 0 ∨ (j 1).val / 128 = 1 ∨ (j 1).val / 128 = 2 ∨ (j 1).val / 128 = 3 := by omega
    rcases c0 with e0 | e0 | e0 | e0 <;> rcases c1 with e1 | e1 | e1 | e1
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), key 0 0 inb_0_0 (by omega) (by omega)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), key 0 128 inb_0_1 (by omega) (by omega)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), key 0 256 inb_0_2 (by omega) (by omega)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), key 0 384 inb_0_3 (by omega) (by omega)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), key 64 0 inb_1_0 (by omega) (by omega)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), key 64 128 inb_1_1 (by omega) (by omega)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), key 64 256 inb_1_2 (by omega) (by omega)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), key 64 384 inb_1_3 (by omega) (by omega)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), key 128 0 inb_2_0 (by omega) (by omega)⟩
    · exact ⟨_, List.mem_cons_of_mem _ (List.mem_cons_of_mem _ (List.mem_cons_of_mem _ (List.mem_cons_of_mem _ (List.mem_cons_of_mem _ (List.mem_cons_of_mem _ (List.mem_cons_self)))))), key 128 128 inb_2_1 (by omega) (by omega)⟩
    · exact ⟨_, List.mem_cons_of_mem _ (List.mem_cons_of_mem _ (List.mem_cons_of_mem _ (List.mem_cons_of_mem _ (List.mem_cons_of_mem _ (List.mem_cons_self))))), key 128 256 inb_2_2 (by omega) (by omega)⟩
    · exact ⟨_, List.mem_cons_of_mem _ (List.mem_cons_of_mem _ (List.mem_cons_of_mem _ (List.mem_cons_of_mem _ (List.mem_cons_self)))), key 128 384 inb_2_3 (by omega) (by omega)⟩
    · exact ⟨_, List.mem_cons_of_mem _ (List.mem_cons_of_mem _ (List.mem_cons_of_mem _ (List.mem_cons_self))), key 192 0 inb_3_0 (by omega) (by omega)⟩
    · exact ⟨_, List.mem_cons_of_mem _ (List.mem_cons_of_mem _ (List.mem_cons_self)), key 192 128 inb_3_1 (by omega) (by omega)⟩
    · exact ⟨_, List.mem_cons_of_mem _ (List.mem_cons_self), key 192 256 inb_3_2 (by omega) (by omega)⟩
    · exact ⟨_, List.mem_cons_self, key 192 384 inb_3_3 (by omega) (by omega)⟩
  · refine View.allAt_cons_unit _ _ _ _ _ (tileRows Q K V L B S 3 3 _ _ rfl rfl j) (View.allAt_cons_unit _ _ _ _ _ (tileRows Q K V L B S 3 2 _ _ rfl rfl j) (View.allAt_cons_unit _ _ _ _ _ (tileRows Q K V L B S 3 1 _ _ rfl rfl j) (View.allAt_cons_unit _ _ _ _ _ (tileRows Q K V L B S 3 0 _ _ rfl rfl j) (View.allAt_cons_unit _ _ _ _ _ (tileRows Q K V L B S 2 3 _ _ rfl rfl j) (View.allAt_cons_unit _ _ _ _ _ (tileRows Q K V L B S 2 2 _ _ rfl rfl j) (View.allAt_cons_unit _ _ _ _ _ (tileRows Q K V L B S 2 1 _ _ rfl rfl j) (View.allAt_cons_unit _ _ _ _ _ (tileRows Q K V L B S 2 0 _ _ rfl rfl j) (View.allAt_cons_unit _ _ _ _ _ (tileRows Q K V L B S 1 3 _ _ rfl rfl j) (View.allAt_cons_unit _ _ _ _ _ (tileRows Q K V L B S 1 2 _ _ rfl rfl j) (View.allAt_cons_unit _ _ _ _ _ (tileRows Q K V L B S 1 1 _ _ rfl rfl j) (View.allAt_cons_unit _ _ _ _ _ (tileRows Q K V L B S 1 0 _ _ rfl rfl j) (View.allAt_cons_unit _ _ _ _ _ (tileRows Q K V L B S 0 3 _ _ rfl rfl j) (View.allAt_cons_unit _ _ _ _ _ (tileRows Q K V L B S 0 2 _ _ rfl rfl j) (View.allAt_cons_unit _ _ _ _ _ (tileRows Q K V L B S 0 1 _ _ rfl rfl j) (View.allAt_cons_unit _ _ _ _ _ (tileRows Q K V L B S 0 0 _ _ rfl rfl j) (View.allAt_nil _ _))))))))))))))))

end Cert.Hgrn
-- ==== Proof.WordsA.lean ====
/-
  The kernel's run at one grid point, its named intermediates read as chunk steps: the state of each of the four heads after
  each of the four chunks of 64 rows, and the 16 blocks of output rows. Here the first point of a row of the grid, which zeroes the states.
-/
module

public import proofs.«01_k».proof.Proof.Chunk
public import proofs.«01_k».proof.Proof.Loads
public import proofs.«01_k».proof.Proof.Gen.KernelIdeal.Frame

@[expose] public section

set_option maxHeartbeats 1000000

noncomputable section

open Idealize.ShloMosaic Idealize.ShloMosaic.TcCoe Idealize.SL.Sem
open Cert.KernelIdeal Cert.KernelIdeal.Gen

namespace Cert.Hgrn

variable {F : FTy → Type} [FloatOps F]
variable (c : Dev nD) (arg2 : Memref sig .tc .vmem S1x256x2048 .f32) (harg2 : arg2.IsWhole) (arg3 : Memref sig .tc .vmem S2x512 .f32) (harg3 : arg3.IsWhole)
variable (arg4 : Memref sig .tc .vmem S1x512 .f32) (harg4 : arg4.IsWhole)
variable (arg5 : Memref sig .tc .vmem S256x256 .bf16) (harg5 : arg5.IsWhole) (arg6 : Memref sig .tc .vmem S512x512 .bf16) (harg6 : arg6.IsWhole)
variable (arg8 : Memref sig .tc .vmem S4x128x128 .f32) (harg8 : arg8.IsWhole)
variable (arg9 arg10 arg11 arg12 arg13 arg14 : Memref sig .tc .vmem S256x512 .f32)
variable (x0 : Vec F S1x256x2048 .f32) (x1 : Vec F S2x512 .f32) (x2 : Vec F S1x512 .f32) (x3 : Vec F S256x256 .bf16) (x4 : Vec F S512x512 .bf16) (xs0 : Vec F S4x128x128 .f32)

/-- Head 0's state after chunk 0. -/
theorem stA_0_0 : kernelRun0_A.sl.r_276 (F := F) c arg2 harg2 arg3 harg3 arg5 harg5 arg8 arg10 arg11 arg13 x0 x1 x3 = stF (kOf (F := F) x0 x1) (vOf (F := F) x0) (bOf (F := F) x0 x1 x3) (zeros (F := F)) 0 1 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![0, 0] S64x128.size inb_0_0).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![0, 0] S64x128.size inb_0_0).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![0, 0] S64x128.size inb_0_0).toLoadRect) (shapeCast S128x128 (arg8.view.readCov (Val := Elt F) [⟨Rect.unit (s := S4x128x128) ![0, 0, 0] S4x128x128.size inb_S4x128x128_S4x128x128_0_0_0, k0_pay1⟩] (Rect.unit (s := S4x128x128) ![0, 0, 0] S1x128x128.size inb_S4x128x128_S1x128x128_0_0_0).toLoadRect) shapeCasts_S1x128x128_S128x128) from rfl).trans ?_
  rw [readChunk _ _ 0 0 0 0 _ rfl rfl, readChunk _ _ 0 0 0 0 _ rfl rfl, readChunk _ _ 0 0 0 0 _ rfl rfl, readStZero arg8 0 0 rfl _, readU, readL, readT]
  rfl

/-- Head 1's state after chunk 0. -/
theorem stA_0_1 : kernelRun0_A.sl.r_277 (F := F) c arg2 harg2 arg3 harg3 arg5 harg5 arg8 arg10 arg11 arg13 x0 x1 x3 = stF (kOf (F := F) x0 x1) (vOf (F := F) x0) (bOf (F := F) x0 x1 x3) (zeros (F := F)) 1 1 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![0, 128] S64x128.size inb_0_1).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![0, 128] S64x128.size inb_0_1).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![0, 128] S64x128.size inb_0_1).toLoadRect) (shapeCast S128x128 (arg8.view.readCov (Val := Elt F) [⟨Rect.unit (s := S4x128x128) ![0, 0, 0] S4x128x128.size inb_S4x128x128_S4x128x128_0_0_0, k0_pay1⟩] (Rect.unit (s := S4x128x128) ![1, 0, 0] S1x128x128.size inb_S4x128x128_S1x128x128_1_0_0).toLoadRect) shapeCasts_S1x128x128_S128x128) from rfl).trans ?_
  rw [readChunk _ _ 0 1 0 128 _ rfl rfl, readChunk _ _ 0 1 0 128 _ rfl rfl, readChunk _ _ 0 1 0 128 _ rfl rfl, readStZero arg8 1 1 rfl _, readU, readL, readT]
  rfl

/-- Head 2's state after chunk 0. -/
theorem stA_0_2 : kernelRun0_A.sl.r_278 (F := F) c arg2 harg2 arg3 harg3 arg5 harg5 arg8 arg10 arg11 arg13 x0 x1 x3 = stF (kOf (F := F) x0 x1) (vOf (F := F) x0) (bOf (F := F) x0 x1 x3) (zeros (F := F)) 2 1 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![0, 256] S64x128.size inb_0_2).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![0, 256] S64x128.size inb_0_2).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![0, 256] S64x128.size inb_0_2).toLoadRect) (shapeCast S128x128 (arg8.view.readCov (Val := Elt F) [⟨Rect.unit (s := S4x128x128) ![0, 0, 0] S4x128x128.size inb_S4x128x128_S4x128x128_0_0_0, k0_pay1⟩] (Rect.unit (s := S4x128x128) ![2, 0, 0] S1x128x128.size inb_S4x128x128_S1x128x128_2_0_0).toLoadRect) shapeCasts_S1x128x128_S128x128) from rfl).trans ?_
  rw [readChunk _ _ 0 2 0 256 _ rfl rfl, readChunk _ _ 0 2 0 256 _ rfl rfl, readChunk _ _ 0 2 0 256 _ rfl rfl, readStZero arg8 2 2 rfl _, readU, readL, readT]
  rfl

/-- Head 3's state after chunk 0. -/
theorem stA_0_3 : kernelRun0_A.sl.r_279 (F := F) c arg2 harg2 arg3 harg3 arg5 harg5 arg8 arg10 arg11 arg13 x0 x1 x3 = stF (kOf (F := F) x0 x1) (vOf (F := F) x0) (bOf (F := F) x0 x1 x3) (zeros (F := F)) 3 1 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![0, 384] S64x128.size inb_0_3).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![0, 384] S64x128.size inb_0_3).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![0, 384] S64x128.size inb_0_3).toLoadRect) (shapeCast S128x128 (arg8.view.readCov (Val := Elt F) [⟨Rect.unit (s := S4x128x128) ![0, 0, 0] S4x128x128.size inb_S4x128x128_S4x128x128_0_0_0, k0_pay1⟩] (Rect.unit (s := S4x128x128) ![3, 0, 0] S1x128x128.size inb_S4x128x128_S1x128x128_3_0_0).toLoadRect) shapeCasts_S1x128x128_S128x128) from rfl).trans ?_
  rw [readChunk _ _ 0 3 0 384 _ rfl rfl, readChunk _ _ 0 3 0 384 _ rfl rfl, readChunk _ _ 0 3 0 384 _ rfl rfl, readStZero arg8 3 3 rfl _, readU, readL, readT]
  rfl

/-- Head 0's state after chunk 1. -/
theorem stA_1_0 : kernelRun0_A.sl.r_281 (F := F) c arg2 harg2 arg3 harg3 arg5 harg5 arg8 arg10 arg11 arg13 x0 x1 x3 = stF (kOf (F := F) x0 x1) (vOf (F := F) x0) (bOf (F := F) x0 x1 x3) (zeros (F := F)) 0 2 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![64, 0] S64x128.size inb_1_0).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![64, 0] S64x128.size inb_1_0).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![64, 0] S64x128.size inb_1_0).toLoadRect) (kernelRun0_A.sl.r_276 c arg2 harg2 arg3 harg3 arg5 harg5 arg8 arg10 arg11 arg13 x0 x1 x3) from rfl).trans ?_
  rw [readChunk _ _ 1 0 64 0 _ rfl rfl, readChunk _ _ 1 0 64 0 _ rfl rfl, readChunk _ _ 1 0 64 0 _ rfl rfl, stA_0_0, readU, readL, readT]
  rfl

/-- Head 1's state after chunk 1. -/
theorem stA_1_1 : kernelRun0_A.sl.r_282 (F := F) c arg2 harg2 arg3 harg3 arg5 harg5 arg8 arg10 arg11 arg13 x0 x1 x3 = stF (kOf (F := F) x0 x1) (vOf (F := F) x0) (bOf (F := F) x0 x1 x3) (zeros (F := F)) 1 2 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![64, 128] S64x128.size inb_1_1).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![64, 128] S64x128.size inb_1_1).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![64, 128] S64x128.size inb_1_1).toLoadRect) (kernelRun0_A.sl.r_277 c arg2 harg2 arg3 harg3 arg5 harg5 arg8 arg10 arg11 arg13 x0 x1 x3) from rfl).trans ?_
  rw [readChunk _ _ 1 1 64 128 _ rfl rfl, readChunk _ _ 1 1 64 128 _ rfl rfl, readChunk _ _ 1 1 64 128 _ rfl rfl, stA_0_1, readU, readL, readT]
  rfl

/-- Head 2's state after chunk 1. -/
theorem stA_1_2 : kernelRun0_A.sl.r_283 (F := F) c arg2 harg2 arg3 harg3 arg5 harg5 arg8 arg10 arg11 arg13 x0 x1 x3 = stF (kOf (F := F) x0 x1) (vOf (F := F) x0) (bOf (F := F) x0 x1 x3) (zeros (F := F)) 2 2 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![64, 256] S64x128.size inb_1_2).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![64, 256] S64x128.size inb_1_2).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![64, 256] S64x128.size inb_1_2).toLoadRect) (kernelRun0_A.sl.r_278 c arg2 harg2 arg3 harg3 arg5 harg5 arg8 arg10 arg11 arg13 x0 x1 x3) from rfl).trans ?_
  rw [readChunk _ _ 1 2 64 256 _ rfl rfl, readChunk _ _ 1 2 64 256 _ rfl rfl, readChunk _ _ 1 2 64 256 _ rfl rfl, stA_0_2, readU, readL, readT]
  rfl

/-- Head 3's state after chunk 1. -/
theorem stA_1_3 : kernelRun0_A.sl.r_284 (F := F) c arg2 harg2 arg3 harg3 arg5 harg5 arg8 arg10 arg11 arg13 x0 x1 x3 = stF (kOf (F := F) x0 x1) (vOf (F := F) x0) (bOf (F := F) x0 x1 x3) (zeros (F := F)) 3 2 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![64, 384] S64x128.size inb_1_3).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![64, 384] S64x128.size inb_1_3).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![64, 384] S64x128.size inb_1_3).toLoadRect) (kernelRun0_A.sl.r_279 c arg2 harg2 arg3 harg3 arg5 harg5 arg8 arg10 arg11 arg13 x0 x1 x3) from rfl).trans ?_
  rw [readChunk _ _ 1 3 64 384 _ rfl rfl, readChunk _ _ 1 3 64 384 _ rfl rfl, readChunk _ _ 1 3 64 384 _ rfl rfl, stA_0_3, readU, readL, readT]
  rfl

/-- Head 0's state after chunk 2. -/
theorem stA_2_0 : kernelRun0_A.sl.r_285 (F := F) c arg2 harg2 arg3 harg3 arg5 harg5 arg8 arg10 arg11 arg13 x0 x1 x3 = stF (kOf (F := F) x0 x1) (vOf (F := F) x0) (bOf (F := F) x0 x1 x3) (zeros (F := F)) 0 3 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![128, 0] S64x128.size inb_2_0).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![128, 0] S64x128.size inb_2_0).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![128, 0] S64x128.size inb_2_0).toLoadRect) (kernelRun0_A.sl.r_281 c arg2 harg2 arg3 harg3 arg5 harg5 arg8 arg10 arg11 arg13 x0 x1 x3) from rfl).trans ?_
  rw [readChunk _ _ 2 0 128 0 _ rfl rfl, readChunk _ _ 2 0 128 0 _ rfl rfl, readChunk _ _ 2 0 128 0 _ rfl rfl, stA_1_0, readU, readL, readT]
  rfl

/-- Head 1's state after chunk 2. -/
theorem stA_2_1 : kernelRun0_A.sl.r_286 (F := F) c arg2 harg2 arg3 harg3 arg5 harg5 arg8 arg10 arg11 arg13 x0 x1 x3 = stF (kOf (F := F) x0 x1) (vOf (F := F) x0) (bOf (F := F) x0 x1 x3) (zeros (F := F)) 1 3 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![128, 128] S64x128.size inb_2_1).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![128, 128] S64x128.size inb_2_1).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![128, 128] S64x128.size inb_2_1).toLoadRect) (kernelRun0_A.sl.r_282 c arg2 harg2 arg3 harg3 arg5 harg5 arg8 arg10 arg11 arg13 x0 x1 x3) from rfl).trans ?_
  rw [readChunk _ _ 2 1 128 128 _ rfl rfl, readChunk _ _ 2 1 128 128 _ rfl rfl, readChunk _ _ 2 1 128 128 _ rfl rfl, stA_1_1, readU, readL, readT]
  rfl

/-- Head 2's state after chunk 2. -/
theorem stA_2_2 : kernelRun0_A.sl.r_287 (F := F) c arg2 harg2 arg3 harg3 arg5 harg5 arg8 arg10 arg11 arg13 x0 x1 x3 = stF (kOf (F := F) x0 x1) (vOf (F := F) x0) (bOf (F := F) x0 x1 x3) (zeros (F := F)) 2 3 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![128, 256] S64x128.size inb_2_2).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![128, 256] S64x128.size inb_2_2).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![128, 256] S64x128.size inb_2_2).toLoadRect) (kernelRun0_A.sl.r_283 c arg2 harg2 arg3 harg3 arg5 harg5 arg8 arg10 arg11 arg13 x0 x1 x3) from rfl).trans ?_
  rw [readChunk _ _ 2 2 128 256 _ rfl rfl, readChunk _ _ 2 2 128 256 _ rfl rfl, readChunk _ _ 2 2 128 256 _ rfl rfl, stA_1_2, readU, readL, readT]
  rfl

/-- Head 3's state after chunk 2. -/
theorem stA_2_3 : kernelRun0_A.sl.r_288 (F := F) c arg2 harg2 arg3 harg3 arg5 harg5 arg8 arg10 arg11 arg13 x0 x1 x3 = stF (kOf (F := F) x0 x1) (vOf (F := F) x0) (bOf (F := F) x0 x1 x3) (zeros (F := F)) 3 3 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![128, 384] S64x128.size inb_2_3).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![128, 384] S64x128.size inb_2_3).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![128, 384] S64x128.size inb_2_3).toLoadRect) (kernelRun0_A.sl.r_284 c arg2 harg2 arg3 harg3 arg5 harg5 arg8 arg10 arg11 arg13 x0 x1 x3) from rfl).trans ?_
  rw [readChunk _ _ 2 3 128 384 _ rfl rfl, readChunk _ _ 2 3 128 384 _ rfl rfl, readChunk _ _ 2 3 128 384 _ rfl rfl, stA_1_3, readU, readL, readT]
  rfl

/-- Head 0's state after chunk 3. -/
theorem stA_3_0 : kernelRun0_A.sl.r_289 (F := F) c arg2 harg2 arg3 harg3 arg5 harg5 arg8 arg10 arg11 arg13 x0 x1 x3 = stF (kOf (F := F) x0 x1) (vOf (F := F) x0) (bOf (F := F) x0 x1 x3) (zeros (F := F)) 0 4 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![192, 0] S64x128.size inb_3_0).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![192, 0] S64x128.size inb_3_0).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![192, 0] S64x128.size inb_3_0).toLoadRect) (kernelRun0_A.sl.r_285 c arg2 harg2 arg3 harg3 arg5 harg5 arg8 arg10 arg11 arg13 x0 x1 x3) from rfl).trans ?_
  rw [readChunk _ _ 3 0 192 0 _ rfl rfl, readChunk _ _ 3 0 192 0 _ rfl rfl, readChunk _ _ 3 0 192 0 _ rfl rfl, stA_2_0, readU, readL, readT]
  rfl

/-- Head 1's state after chunk 3. -/
theorem stA_3_1 : kernelRun0_A.sl.r_290 (F := F) c arg2 harg2 arg3 harg3 arg5 harg5 arg8 arg10 arg11 arg13 x0 x1 x3 = stF (kOf (F := F) x0 x1) (vOf (F := F) x0) (bOf (F := F) x0 x1 x3) (zeros (F := F)) 1 4 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![192, 128] S64x128.size inb_3_1).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![192, 128] S64x128.size inb_3_1).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![192, 128] S64x128.size inb_3_1).toLoadRect) (kernelRun0_A.sl.r_286 c arg2 harg2 arg3 harg3 arg5 harg5 arg8 arg10 arg11 arg13 x0 x1 x3) from rfl).trans ?_
  rw [readChunk _ _ 3 1 192 128 _ rfl rfl, readChunk _ _ 3 1 192 128 _ rfl rfl, readChunk _ _ 3 1 192 128 _ rfl rfl, stA_2_1, readU, readL, readT]
  rfl

/-- Head 2's state after chunk 3. -/
theorem stA_3_2 : kernelRun0_A.sl.r_291 (F := F) c arg2 harg2 arg3 harg3 arg5 harg5 arg8 arg10 arg11 arg13 x0 x1 x3 = stF (kOf (F := F) x0 x1) (vOf (F := F) x0) (bOf (F := F) x0 x1 x3) (zeros (F := F)) 2 4 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![192, 256] S64x128.size inb_3_2).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![192, 256] S64x128.size inb_3_2).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![192, 256] S64x128.size inb_3_2).toLoadRect) (kernelRun0_A.sl.r_287 c arg2 harg2 arg3 harg3 arg5 harg5 arg8 arg10 arg11 arg13 x0 x1 x3) from rfl).trans ?_
  rw [readChunk _ _ 3 2 192 256 _ rfl rfl, readChunk _ _ 3 2 192 256 _ rfl rfl, readChunk _ _ 3 2 192 256 _ rfl rfl, stA_2_2, readU, readL, readT]
  rfl

/-- Head 3's state after chunk 3. -/
theorem stA_3_3 : kernelRun0_A.sl.r_292 (F := F) c arg2 harg2 arg3 harg3 arg5 harg5 arg8 arg10 arg11 arg13 x0 x1 x3 = stF (kOf (F := F) x0 x1) (vOf (F := F) x0) (bOf (F := F) x0 x1 x3) (zeros (F := F)) 3 4 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![192, 384] S64x128.size inb_3_3).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![192, 384] S64x128.size inb_3_3).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![192, 384] S64x128.size inb_3_3).toLoadRect) (kernelRun0_A.sl.r_288 c arg2 harg2 arg3 harg3 arg5 harg5 arg8 arg10 arg11 arg13 x0 x1 x3) from rfl).trans ?_
  rw [readChunk _ _ 3 3 192 384 _ rfl rfl, readChunk _ _ 3 3 192 384 _ rfl rfl, readChunk _ _ 3 3 192 384 _ rfl rfl, stA_2_3, readU, readL, readT]
  rfl

/-- Head 0's output rows of chunk 0. -/
theorem outA_0_0 : k0_pay305 (F := F) (kernelRun0_A.sl.r_225 c arg2 harg2 arg3 harg3 arg5 harg5 arg9 arg10 arg11 arg12 arg13 x0 x1 x3) (kernelRun0_A.sl.r_226 c arg2 harg2 arg3 harg3 arg5 harg5 arg9 arg13 x0 x1 x3) (kernelRun0_A.sl.r_273 c arg8) = outF (qOf (F := F) x0) (kOf (F := F) x0 x1) (vOf (F := F) x0) (lOf (F := F) x0 x1) (bOf (F := F) x0 x1 x3) (zeros (F := F)) 0 0 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![0, 0] S64x128.size inb_0_0).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![0, 0] S64x128.size inb_0_0).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![0, 0] S64x128.size inb_0_0).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![0, 0] S64x128.size inb_0_0).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![0, 0] S64x128.size inb_0_0).toLoadRect) (shapeCast S128x128 (arg8.view.readCov (Val := Elt F) [⟨Rect.unit (s := S4x128x128) ![0, 0, 0] S4x128x128.size inb_S4x128x128_S4x128x128_0_0_0, k0_pay1⟩] (Rect.unit (s := S4x128x128) ![0, 0, 0] S1x128x128.size inb_S4x128x128_S1x128x128_0_0_0).toLoadRect) shapeCasts_S1x128x128_S128x128)) shapeCasts_S64x128_S64x128 from rfl).trans ?_
  rw [shapeCast_self, readChunk _ _ 0 0 0 0 _ rfl rfl, readChunk _ _ 0 0 0 0 _ rfl rfl, readChunk _ _ 0 0 0 0 _ rfl rfl, readChunk _ _ 0 0 0 0 _ rfl rfl, readChunk _ _ 0 0 0 0 _ rfl rfl, readStZero arg8 0 0 rfl _, readU, readL, readT]
  rfl

/-- Head 1's output rows of chunk 0. -/
theorem outA_0_1 : k0_pay306 (F := F) (kernelRun0_A.sl.r_228 c arg2 harg2 arg3 harg3 arg5 harg5 arg9 arg10 arg11 arg12 arg13 x0 x1 x3) (kernelRun0_A.sl.r_229 c arg2 harg2 arg3 harg3 arg5 harg5 arg9 arg13 x0 x1 x3) (kernelRun0_A.sl.v2287 c arg8) = outF (qOf (F := F) x0) (kOf (F := F) x0 x1) (vOf (F := F) x0) (lOf (F := F) x0 x1) (bOf (F := F) x0 x1 x3) (zeros (F := F)) 0 1 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![0, 128] S64x128.size inb_0_1).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![0, 128] S64x128.size inb_0_1).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![0, 128] S64x128.size inb_0_1).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![0, 128] S64x128.size inb_0_1).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![0, 128] S64x128.size inb_0_1).toLoadRect) (shapeCast S128x128 (arg8.view.readCov (Val := Elt F) [⟨Rect.unit (s := S4x128x128) ![0, 0, 0] S4x128x128.size inb_S4x128x128_S4x128x128_0_0_0, k0_pay1⟩] (Rect.unit (s := S4x128x128) ![1, 0, 0] S1x128x128.size inb_S4x128x128_S1x128x128_1_0_0).toLoadRect) shapeCasts_S1x128x128_S128x128)) shapeCasts_S64x128_S64x128 from rfl).trans ?_
  rw [shapeCast_self, readChunk _ _ 0 1 0 128 _ rfl rfl, readChunk _ _ 0 1 0 128 _ rfl rfl, readChunk _ _ 0 1 0 128 _ rfl rfl, readChunk _ _ 0 1 0 128 _ rfl rfl, readChunk _ _ 0 1 0 128 _ rfl rfl, readStZero arg8 1 1 rfl _, readU, readL, readT]
  rfl

/-- Head 2's output rows of chunk 0. -/
theorem outA_0_2 : k0_pay307 (F := F) (kernelRun0_A.sl.r_274 c arg2 harg2 arg3 harg3 arg5 harg5 arg8 arg9 arg10 arg11 arg12 arg13 x0 x1 x3) = outF (qOf (F := F) x0) (kOf (F := F) x0 x1) (vOf (F := F) x0) (lOf (F := F) x0 x1) (bOf (F := F) x0 x1 x3) (zeros (F := F)) 0 2 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![0, 256] S64x128.size inb_0_2).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![0, 256] S64x128.size inb_0_2).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![0, 256] S64x128.size inb_0_2).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![0, 256] S64x128.size inb_0_2).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![0, 256] S64x128.size inb_0_2).toLoadRect) (shapeCast S128x128 (arg8.view.readCov (Val := Elt F) [⟨Rect.unit (s := S4x128x128) ![0, 0, 0] S4x128x128.size inb_S4x128x128_S4x128x128_0_0_0, k0_pay1⟩] (Rect.unit (s := S4x128x128) ![2, 0, 0] S1x128x128.size inb_S4x128x128_S1x128x128_2_0_0).toLoadRect) shapeCasts_S1x128x128_S128x128)) shapeCasts_S64x128_S64x128 from rfl).trans ?_
  rw [shapeCast_self, readChunk _ _ 0 2 0 256 _ rfl rfl, readChunk _ _ 0 2 0 256 _ rfl rfl, readChunk _ _ 0 2 0 256 _ rfl rfl, readChunk _ _ 0 2 0 256 _ rfl rfl, readChunk _ _ 0 2 0 256 _ rfl rfl, readStZero arg8 2 2 rfl _, readU, readL, readT]
  rfl

/-- Head 3's output rows of chunk 0. -/
theorem outA_0_3 : k0_pay308 (F := F) (kernelRun0_A.sl.r_275 c arg2 harg2 arg3 harg3 arg5 harg5 arg8 arg9 arg10 arg11 arg12 arg13 x0 x1 x3) = outF (qOf (F := F) x0) (kOf (F := F) x0 x1) (vOf (F := F) x0) (lOf (F := F) x0 x1) (bOf (F := F) x0 x1 x3) (zeros (F := F)) 0 3 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![0, 384] S64x128.size inb_0_3).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![0, 384] S64x128.size inb_0_3).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![0, 384] S64x128.size inb_0_3).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![0, 384] S64x128.size inb_0_3).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![0, 384] S64x128.size inb_0_3).toLoadRect) (shapeCast S128x128 (arg8.view.readCov (Val := Elt F) [⟨Rect.unit (s := S4x128x128) ![0, 0, 0] S4x128x128.size inb_S4x128x128_S4x128x128_0_0_0, k0_pay1⟩] (Rect.unit (s := S4x128x128) ![3, 0, 0] S1x128x128.size inb_S4x128x128_S1x128x128_3_0_0).toLoadRect) shapeCasts_S1x128x128_S128x128)) shapeCasts_S64x128_S64x128 from rfl).trans ?_
  rw [shapeCast_self, readChunk _ _ 0 3 0 384 _ rfl rfl, readChunk _ _ 0 3 0 384 _ rfl rfl, readChunk _ _ 0 3 0 384 _ rfl rfl, readChunk _ _ 0 3 0 384 _ rfl rfl, readChunk _ _ 0 3 0 384 _ rfl rfl, readStZero arg8 3 3 rfl _, readU, readL, readT]
  rfl

/-- Head 0's output rows of chunk 1. -/
theorem outA_1_0 : k0_pay314 (F := F) (kernelRun0_A.sl.r_237 c arg2 harg2 arg3 harg3 arg5 harg5 arg9 arg10 arg11 arg12 arg13 x0 x1 x3) (kernelRun0_A.sl.r_238 c arg2 harg2 arg3 harg3 arg5 harg5 arg9 arg13 x0 x1 x3) (kernelRun0_A.sl.r_276 c arg2 harg2 arg3 harg3 arg5 harg5 arg8 arg10 arg11 arg13 x0 x1 x3) = outF (qOf (F := F) x0) (kOf (F := F) x0 x1) (vOf (F := F) x0) (lOf (F := F) x0 x1) (bOf (F := F) x0 x1 x3) (zeros (F := F)) 1 0 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![64, 0] S64x128.size inb_1_0).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![64, 0] S64x128.size inb_1_0).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![64, 0] S64x128.size inb_1_0).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![64, 0] S64x128.size inb_1_0).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![64, 0] S64x128.size inb_1_0).toLoadRect) (kernelRun0_A.sl.r_276 c arg2 harg2 arg3 harg3 arg5 harg5 arg8 arg10 arg11 arg13 x0 x1 x3)) shapeCasts_S64x128_S64x128 from rfl).trans ?_
  rw [shapeCast_self, readChunk _ _ 1 0 64 0 _ rfl rfl, readChunk _ _ 1 0 64 0 _ rfl rfl, readChunk _ _ 1 0 64 0 _ rfl rfl, readChunk _ _ 1 0 64 0 _ rfl rfl, readChunk _ _ 1 0 64 0 _ rfl rfl, stA_0_0, readU, readL, readT]
  rfl

/-- Head 1's output rows of chunk 1. -/
theorem outA_1_1 : k0_pay315 (F := F) (kernelRun0_A.sl.r_240 c arg2 harg2 arg3 harg3 arg5 harg5 arg9 arg10 arg11 arg12 arg13 x0 x1 x3) (kernelRun0_A.sl.r_241 c arg2 harg2 arg3 harg3 arg5 harg5 arg9 arg13 x0 x1 x3) (kernelRun0_A.sl.r_277 c arg2 harg2 arg3 harg3 arg5 harg5 arg8 arg10 arg11 arg13 x0 x1 x3) = outF (qOf (F := F) x0) (kOf (F := F) x0 x1) (vOf (F := F) x0) (lOf (F := F) x0 x1) (bOf (F := F) x0 x1 x3) (zeros (F := F)) 1 1 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![64, 128] S64x128.size inb_1_1).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![64, 128] S64x128.size inb_1_1).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![64, 128] S64x128.size inb_1_1).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![64, 128] S64x128.size inb_1_1).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![64, 128] S64x128.size inb_1_1).toLoadRect) (kernelRun0_A.sl.r_277 c arg2 harg2 arg3 harg3 arg5 harg5 arg8 arg10 arg11 arg13 x0 x1 x3)) shapeCasts_S64x128_S64x128 from rfl).trans ?_
  rw [shapeCast_self, readChunk _ _ 1 1 64 128 _ rfl rfl, readChunk _ _ 1 1 64 128 _ rfl rfl, readChunk _ _ 1 1 64 128 _ rfl rfl, readChunk _ _ 1 1 64 128 _ rfl rfl, readChunk _ _ 1 1 64 128 _ rfl rfl, stA_0_1, readU, readL, readT]
  rfl

/-- Head 2's output rows of chunk 1. -/
theorem outA_1_2 : k0_pay316 (F := F) (kernelRun0_A.sl.r_243 c arg2 harg2 arg3 harg3 arg5 harg5 arg9 arg10 arg11 arg12 arg13 x0 x1 x3) (kernelRun0_A.sl.r_244 c arg2 harg2 arg3 harg3 arg5 harg5 arg9 arg13 x0 x1 x3) (kernelRun0_A.sl.r_278 c arg2 harg2 arg3 harg3 arg5 harg5 arg8 arg10 arg11 arg13 x0 x1 x3) = outF (qOf (F := F) x0) (kOf (F := F) x0 x1) (vOf (F := F) x0) (lOf (F := F) x0 x1) (bOf (F := F) x0 x1 x3) (zeros (F := F)) 1 2 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![64, 256] S64x128.size inb_1_2).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![64, 256] S64x128.size inb_1_2).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![64, 256] S64x128.size inb_1_2).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![64, 256] S64x128.size inb_1_2).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![64, 256] S64x128.size inb_1_2).toLoadRect) (kernelRun0_A.sl.r_278 c arg2 harg2 arg3 harg3 arg5 harg5 arg8 arg10 arg11 arg13 x0 x1 x3)) shapeCasts_S64x128_S64x128 from rfl).trans ?_
  rw [shapeCast_self, readChunk _ _ 1 2 64 256 _ rfl rfl, readChunk _ _ 1 2 64 256 _ rfl rfl, readChunk _ _ 1 2 64 256 _ rfl rfl, readChunk _ _ 1 2 64 256 _ rfl rfl, readChunk _ _ 1 2 64 256 _ rfl rfl, stA_0_2, readU, readL, readT]
  rfl

/-- Head 3's output rows of chunk 1. -/
theorem outA_1_3 : k0_pay317 (F := F) (kernelRun0_A.sl.r_280 c arg2 harg2 arg3 harg3 arg5 harg5 arg8 arg9 arg10 arg11 arg12 arg13 x0 x1 x3) = outF (qOf (F := F) x0) (kOf (F := F) x0 x1) (vOf (F := F) x0) (lOf (F := F) x0 x1) (bOf (F := F) x0 x1 x3) (zeros (F := F)) 1 3 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![64, 384] S64x128.size inb_1_3).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![64, 384] S64x128.size inb_1_3).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![64, 384] S64x128.size inb_1_3).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![64, 384] S64x128.size inb_1_3).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![64, 384] S64x128.size inb_1_3).toLoadRect) (kernelRun0_A.sl.r_279 c arg2 harg2 arg3 harg3 arg5 harg5 arg8 arg10 arg11 arg13 x0 x1 x3)) shapeCasts_S64x128_S64x128 from rfl).trans ?_
  rw [shapeCast_self, readChunk _ _ 1 3 64 384 _ rfl rfl, readChunk _ _ 1 3 64 384 _ rfl rfl, readChunk _ _ 1 3 64 384 _ rfl rfl, readChunk _ _ 1 3 64 384 _ rfl rfl, readChunk _ _ 1 3 64 384 _ rfl rfl, stA_0_3, readU, readL, readT]
  rfl

/-- Head 0's output rows of chunk 2. -/
theorem outA_2_0 : k0_pay322 (F := F) (kernelRun0_A.sl.r_249 c arg2 harg2 arg3 harg3 arg5 harg5 arg9 arg10 arg11 arg12 arg13 x0 x1 x3) (kernelRun0_A.sl.r_250 c arg2 harg2 arg3 harg3 arg5 harg5 arg9 arg13 x0 x1 x3) (kernelRun0_A.sl.r_281 c arg2 harg2 arg3 harg3 arg5 harg5 arg8 arg10 arg11 arg13 x0 x1 x3) = outF (qOf (F := F) x0) (kOf (F := F) x0 x1) (vOf (F := F) x0) (lOf (F := F) x0 x1) (bOf (F := F) x0 x1 x3) (zeros (F := F)) 2 0 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![128, 0] S64x128.size inb_2_0).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![128, 0] S64x128.size inb_2_0).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![128, 0] S64x128.size inb_2_0).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![128, 0] S64x128.size inb_2_0).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![128, 0] S64x128.size inb_2_0).toLoadRect) (kernelRun0_A.sl.r_281 c arg2 harg2 arg3 harg3 arg5 harg5 arg8 arg10 arg11 arg13 x0 x1 x3)) shapeCasts_S64x128_S64x128 from rfl).trans ?_
  rw [shapeCast_self, readChunk _ _ 2 0 128 0 _ rfl rfl, readChunk _ _ 2 0 128 0 _ rfl rfl, readChunk _ _ 2 0 128 0 _ rfl rfl, readChunk _ _ 2 0 128 0 _ rfl rfl, readChunk _ _ 2 0 128 0 _ rfl rfl, stA_1_0, readU, readL, readT]
  rfl

/-- Head 1's output rows of chunk 2. -/
theorem outA_2_1 : k0_pay323 (F := F) (kernelRun0_A.sl.r_252 c arg2 harg2 arg3 harg3 arg5 harg5 arg9 arg10 arg11 arg12 arg13 x0 x1 x3) (kernelRun0_A.sl.r_253 c arg2 harg2 arg3 harg3 arg5 harg5 arg9 arg13 x0 x1 x3) (kernelRun0_A.sl.r_282 c arg2 harg2 arg3 harg3 arg5 harg5 arg8 arg10 arg11 arg13 x0 x1 x3) = outF (qOf (F := F) x0) (kOf (F := F) x0 x1) (vOf (F := F) x0) (lOf (F := F) x0 x1) (bOf (F := F) x0 x1 x3) (zeros (F := F)) 2 1 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![128, 128] S64x128.size inb_2_1).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![128, 128] S64x128.size inb_2_1).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![128, 128] S64x128.size inb_2_1).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![128, 128] S64x128.size inb_2_1).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![128, 128] S64x128.size inb_2_1).toLoadRect) (kernelRun0_A.sl.r_282 c arg2 harg2 arg3 harg3 arg5 harg5 arg8 arg10 arg11 arg13 x0 x1 x3)) shapeCasts_S64x128_S64x128 from rfl).trans ?_
  rw [shapeCast_self, readChunk _ _ 2 1 128 128 _ rfl rfl, readChunk _ _ 2 1 128 128 _ rfl rfl, readChunk _ _ 2 1 128 128 _ rfl rfl, readChunk _ _ 2 1 128 128 _ rfl rfl, readChunk _ _ 2 1 128 128 _ rfl rfl, stA_1_1, readU, readL, readT]
  rfl

/-- Head 2's output rows of chunk 2. -/
theorem outA_2_2 : k0_pay324 (F := F) (kernelRun0_A.sl.r_255 c arg2 harg2 arg3 harg3 arg5 harg5 arg9 arg10 arg11 arg12 arg13 x0 x1 x3) (kernelRun0_A.sl.r_256 c arg2 harg2 arg3 harg3 arg5 harg5 arg9 arg13 x0 x1 x3) (kernelRun0_A.sl.r_283 c arg2 harg2 arg3 harg3 arg5 harg5 arg8 arg10 arg11 arg13 x0 x1 x3) = outF (qOf (F := F) x0) (kOf (F := F) x0 x1) (vOf (F := F) x0) (lOf (F := F) x0 x1) (bOf (F := F) x0 x1 x3) (zeros (F := F)) 2 2 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![128, 256] S64x128.size inb_2_2).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![128, 256] S64x128.size inb_2_2).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![128, 256] S64x128.size inb_2_2).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![128, 256] S64x128.size inb_2_2).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![128, 256] S64x128.size inb_2_2).toLoadRect) (kernelRun0_A.sl.r_283 c arg2 harg2 arg3 harg3 arg5 harg5 arg8 arg10 arg11 arg13 x0 x1 x3)) shapeCasts_S64x128_S64x128 from rfl).trans ?_
  rw [shapeCast_self, readChunk _ _ 2 2 128 256 _ rfl rfl, readChunk _ _ 2 2 128 256 _ rfl rfl, readChunk _ _ 2 2 128 256 _ rfl rfl, readChunk _ _ 2 2 128 256 _ rfl rfl, readChunk _ _ 2 2 128 256 _ rfl rfl, stA_1_2, readU, readL, readT]
  rfl

/-- Head 3's output rows of chunk 2. -/
theorem outA_2_3 : k0_pay325 (F := F) (kernelRun0_A.sl.r_258 c arg2 harg2 arg3 harg3 arg5 harg5 arg9 arg10 arg11 arg12 arg13 x0 x1 x3) (kernelRun0_A.sl.r_259 c arg2 harg2 arg3 harg3 arg5 harg5 arg9 arg13 x0 x1 x3) (kernelRun0_A.sl.r_284 c arg2 harg2 arg3 harg3 arg5 harg5 arg8 arg10 arg11 arg13 x0 x1 x3) = outF (qOf (F := F) x0) (kOf (F := F) x0 x1) (vOf (F := F) x0) (lOf (F := F) x0 x1) (bOf (F := F) x0 x1 x3) (zeros (F := F)) 2 3 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![128, 384] S64x128.size inb_2_3).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![128, 384] S64x128.size inb_2_3).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![128, 384] S64x128.size inb_2_3).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![128, 384] S64x128.size inb_2_3).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![128, 384] S64x128.size inb_2_3).toLoadRect) (kernelRun0_A.sl.r_284 c arg2 harg2 arg3 harg3 arg5 harg5 arg8 arg10 arg11 arg13 x0 x1 x3)) shapeCasts_S64x128_S64x128 from rfl).trans ?_
  rw [shapeCast_self, readChunk _ _ 2 3 128 384 _ rfl rfl, readChunk _ _ 2 3 128 384 _ rfl rfl, readChunk _ _ 2 3 128 384 _ rfl rfl, readChunk _ _ 2 3 128 384 _ rfl rfl, readChunk _ _ 2 3 128 384 _ rfl rfl, stA_1_3, readU, readL, readT]
  rfl

/-- Head 0's output rows of chunk 3. -/
theorem outA_3_0 : k0_pay330 (F := F) (kernelRun0_A.sl.r_261 c arg2 harg2 arg3 harg3 arg5 harg5 arg9 arg10 arg11 arg12 arg13 x0 x1 x3) (kernelRun0_A.sl.r_262 c arg2 harg2 arg3 harg3 arg5 harg5 arg9 arg13 x0 x1 x3) (kernelRun0_A.sl.r_285 c arg2 harg2 arg3 harg3 arg5 harg5 arg8 arg10 arg11 arg13 x0 x1 x3) = outF (qOf (F := F) x0) (kOf (F := F) x0 x1) (vOf (F := F) x0) (lOf (F := F) x0 x1) (bOf (F := F) x0 x1 x3) (zeros (F := F)) 3 0 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![192, 0] S64x128.size inb_3_0).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![192, 0] S64x128.size inb_3_0).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![192, 0] S64x128.size inb_3_0).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![192, 0] S64x128.size inb_3_0).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![192, 0] S64x128.size inb_3_0).toLoadRect) (kernelRun0_A.sl.r_285 c arg2 harg2 arg3 harg3 arg5 harg5 arg8 arg10 arg11 arg13 x0 x1 x3)) shapeCasts_S64x128_S64x128 from rfl).trans ?_
  rw [shapeCast_self, readChunk _ _ 3 0 192 0 _ rfl rfl, readChunk _ _ 3 0 192 0 _ rfl rfl, readChunk _ _ 3 0 192 0 _ rfl rfl, readChunk _ _ 3 0 192 0 _ rfl rfl, readChunk _ _ 3 0 192 0 _ rfl rfl, stA_2_0, readU, readL, readT]
  rfl

/-- Head 1's output rows of chunk 3. -/
theorem outA_3_1 : k0_pay331 (F := F) (kernelRun0_A.sl.r_264 c arg2 harg2 arg3 harg3 arg5 harg5 arg9 arg10 arg11 arg12 arg13 x0 x1 x3) (kernelRun0_A.sl.r_265 c arg2 harg2 arg3 harg3 arg5 harg5 arg9 arg13 x0 x1 x3) (kernelRun0_A.sl.r_286 c arg2 harg2 arg3 harg3 arg5 harg5 arg8 arg10 arg11 arg13 x0 x1 x3) = outF (qOf (F := F) x0) (kOf (F := F) x0 x1) (vOf (F := F) x0) (lOf (F := F) x0 x1) (bOf (F := F) x0 x1 x3) (zeros (F := F)) 3 1 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![192, 128] S64x128.size inb_3_1).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![192, 128] S64x128.size inb_3_1).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![192, 128] S64x128.size inb_3_1).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![192, 128] S64x128.size inb_3_1).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![192, 128] S64x128.size inb_3_1).toLoadRect) (kernelRun0_A.sl.r_286 c arg2 harg2 arg3 harg3 arg5 harg5 arg8 arg10 arg11 arg13 x0 x1 x3)) shapeCasts_S64x128_S64x128 from rfl).trans ?_
  rw [shapeCast_self, readChunk _ _ 3 1 192 128 _ rfl rfl, readChunk _ _ 3 1 192 128 _ rfl rfl, readChunk _ _ 3 1 192 128 _ rfl rfl, readChunk _ _ 3 1 192 128 _ rfl rfl, readChunk _ _ 3 1 192 128 _ rfl rfl, stA_2_1, readU, readL, readT]
  rfl

/-- Head 2's output rows of chunk 3. -/
theorem outA_3_2 : k0_pay332 (F := F) (kernelRun0_A.sl.r_267 c arg2 harg2 arg3 harg3 arg5 harg5 arg9 arg10 arg11 arg12 arg13 x0 x1 x3) (kernelRun0_A.sl.r_268 c arg2 harg2 arg3 harg3 arg5 harg5 arg9 arg13 x0 x1 x3) (kernelRun0_A.sl.r_287 c arg2 harg2 arg3 harg3 arg5 harg5 arg8 arg10 arg11 arg13 x0 x1 x3) = outF (qOf (F := F) x0) (kOf (F := F) x0 x1) (vOf (F := F) x0) (lOf (F := F) x0 x1) (bOf (F := F) x0 x1 x3) (zeros (F := F)) 3 2 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![192, 256] S64x128.size inb_3_2).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![192, 256] S64x128.size inb_3_2).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![192, 256] S64x128.size inb_3_2).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![192, 256] S64x128.size inb_3_2).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![192, 256] S64x128.size inb_3_2).toLoadRect) (kernelRun0_A.sl.r_287 c arg2 harg2 arg3 harg3 arg5 harg5 arg8 arg10 arg11 arg13 x0 x1 x3)) shapeCasts_S64x128_S64x128 from rfl).trans ?_
  rw [shapeCast_self, readChunk _ _ 3 2 192 256 _ rfl rfl, readChunk _ _ 3 2 192 256 _ rfl rfl, readChunk _ _ 3 2 192 256 _ rfl rfl, readChunk _ _ 3 2 192 256 _ rfl rfl, readChunk _ _ 3 2 192 256 _ rfl rfl, stA_2_2, readU, readL, readT]
  rfl

/-- Head 3's output rows of chunk 3. -/
theorem outA_3_3 : k0_pay333 (F := F) (kernelRun0_A.sl.r_270 c arg2 harg2 arg3 harg3 arg5 harg5 arg9 arg10 arg11 arg12 arg13 x0 x1 x3) (kernelRun0_A.sl.r_271 c arg2 harg2 arg3 harg3 arg5 harg5 arg9 arg13 x0 x1 x3) (kernelRun0_A.sl.r_288 c arg2 harg2 arg3 harg3 arg5 harg5 arg8 arg10 arg11 arg13 x0 x1 x3) = outF (qOf (F := F) x0) (kOf (F := F) x0 x1) (vOf (F := F) x0) (lOf (F := F) x0 x1) (bOf (F := F) x0 x1 x3) (zeros (F := F)) 3 3 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![192, 384] S64x128.size inb_3_3).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![192, 384] S64x128.size inb_3_3).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![192, 384] S64x128.size inb_3_3).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![192, 384] S64x128.size inb_3_3).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![192, 384] S64x128.size inb_3_3).toLoadRect) (kernelRun0_A.sl.r_288 c arg2 harg2 arg3 harg3 arg5 harg5 arg8 arg10 arg11 arg13 x0 x1 x3)) shapeCasts_S64x128_S64x128 from rfl).trans ?_
  rw [shapeCast_self, readChunk _ _ 3 3 192 384 _ rfl rfl, readChunk _ _ 3 3 192 384 _ rfl rfl, readChunk _ _ 3 3 192 384 _ rfl rfl, readChunk _ _ 3 3 192 384 _ rfl rfl, readChunk _ _ 3 3 192 384 _ rfl rfl, stA_2_3, readU, readL, readT]
  rfl

/-- The block's rows, all heads, as the kernel reads them back. -/
theorem rowsA : kernelRun0_A.sl.v2481 (F := F) c arg2 harg2 arg3 harg3 arg5 harg5 arg8 arg9 arg10 arg11 arg12 arg13 arg14 x0 x1 x3 = rowsF (qOf (F := F) x0) (kOf (F := F) x0 x1) (vOf (F := F) x0) (lOf (F := F) x0 x1) (bOf (F := F) x0 x1 x3) (zeros (F := F)) := by
  refine (show _ = arg14.view.readCov (Val := Elt F) [⟨Rect.unit (s := S256x512) ![192, 384] S64x128.size inb_3_3, k0_pay333 (kernelRun0_A.sl.r_270 c arg2 harg2 arg3 harg3 arg5 harg5 arg9 arg10 arg11 arg12 arg13 x0 x1 x3) (kernelRun0_A.sl.r_271 c arg2 harg2 arg3 harg3 arg5 harg5 arg9 arg13 x0 x1 x3) (kernelRun0_A.sl.r_288 c arg2 harg2 arg3 harg3 arg5 harg5 arg8 arg10 arg11 arg13 x0 x1 x3)⟩, ⟨Rect.unit (s := S256x512) ![192, 256] S64x128.size inb_3_2, k0_pay332 (kernelRun0_A.sl.r_267 c arg2 harg2 arg3 harg3 arg5 harg5 arg9 arg10 arg11 arg12 arg13 x0 x1 x3) (kernelRun0_A.sl.r_268 c arg2 harg2 arg3 harg3 arg5 harg5 arg9 arg13 x0 x1 x3) (kernelRun0_A.sl.r_287 c arg2 harg2 arg3 harg3 arg5 harg5 arg8 arg10 arg11 arg13 x0 x1 x3)⟩, ⟨Rect.unit (s := S256x512) ![192, 128] S64x128.size inb_3_1, k0_pay331 (kernelRun0_A.sl.r_264 c arg2 harg2 arg3 harg3 arg5 harg5 arg9 arg10 arg11 arg12 arg13 x0 x1 x3) (kernelRun0_A.sl.r_265 c arg2 harg2 arg3 harg3 arg5 harg5 arg9 arg13 x0 x1 x3) (kernelRun0_A.sl.r_286 c arg2 harg2 arg3 harg3 arg5 harg5 arg8 arg10 arg11 arg13 x0 x1 x3)⟩, ⟨Rect.unit (s := S256x512) ![192, 0] S64x128.size inb_3_0, k0_pay330 (kernelRun0_A.sl.r_261 c arg2 harg2 arg3 harg3 arg5 harg5 arg9 arg10 arg11 arg12 arg13 x0 x1 x3) (kernelRun0_A.sl.r_262 c arg2 harg2 arg3 harg3 arg5 harg5 arg9 arg13 x0 x1 x3) (kernelRun0_A.sl.r_285 c arg2 harg2 arg3 harg3 arg5 harg5 arg8 arg10 arg11 arg13 x0 x1 x3)⟩, ⟨Rect.unit (s := S256x512) ![128, 384] S64x128.size inb_2_3, k0_pay325 (kernelRun0_A.sl.r_258 c arg2 harg2 arg3 harg3 arg5 harg5 arg9 arg10 arg11 arg12 arg13 x0 x1 x3) (kernelRun0_A.sl.r_259 c arg2 harg2 arg3 harg3 arg5 harg5 arg9 arg13 x0 x1 x3) (kernelRun0_A.sl.r_284 c arg2 harg2 arg3 harg3 arg5 harg5 arg8 arg10 arg11 arg13 x0 x1 x3)⟩, ⟨Rect.unit (s := S256x512) ![128, 256] S64x128.size inb_2_2, k0_pay324 (kernelRun0_A.sl.r_255 c arg2 harg2 arg3 harg3 arg5 harg5 arg9 arg10 arg11 arg12 arg13 x0 x1 x3) (kernelRun0_A.sl.r_256 c arg2 harg2 arg3 harg3 arg5 harg5 arg9 arg13 x0 x1 x3) (kernelRun0_A.sl.r_283 c arg2 harg2 arg3 harg3 arg5 harg5 arg8 arg10 arg11 arg13 x0 x1 x3)⟩, ⟨Rect.unit (s := S256x512) ![128, 128] S64x128.size inb_2_1, k0_pay323 (kernelRun0_A.sl.r_252 c arg2 harg2 arg3 harg3 arg5 harg5 arg9 arg10 arg11 arg12 arg13 x0 x1 x3) (kernelRun0_A.sl.r_253 c arg2 harg2 arg3 harg3 arg5 harg5 arg9 arg13 x0 x1 x3) (kernelRun0_A.sl.r_282 c arg2 harg2 arg3 harg3 arg5 harg5 arg8 arg10 arg11 arg13 x0 x1 x3)⟩, ⟨Rect.unit (s := S256x512) ![128, 0] S64x128.size inb_2_0, k0_pay322 (kernelRun0_A.sl.r_249 c arg2 harg2 arg3 harg3 arg5 harg5 arg9 arg10 arg11 arg12 arg13 x0 x1 x3) (kernelRun0_A.sl.r_250 c arg2 harg2 arg3 harg3 arg5 harg5 arg9 arg13 x0 x1 x3) (kernelRun0_A.sl.r_281 c arg2 harg2 arg3 harg3 arg5 harg5 arg8 arg10 arg11 arg13 x0 x1 x3)⟩, ⟨Rect.unit (s := S256x512) ![64, 384] S64x128.size inb_1_3, k0_pay317 (kernelRun0_A.sl.r_280 c arg2 harg2 arg3 harg3 arg5 harg5 arg8 arg9 arg10 arg11 arg12 arg13 x0 x1 x3)⟩, ⟨Rect.unit (s := S256x512) ![64, 256] S64x128.size inb_1_2, k0_pay316 (kernelRun0_A.sl.r_243 c arg2 harg2 arg3 harg3 arg5 harg5 arg9 arg10 arg11 arg12 arg13 x0 x1 x3) (kernelRun0_A.sl.r_244 c arg2 harg2 arg3 harg3 arg5 harg5 arg9 arg13 x0 x1 x3) (kernelRun0_A.sl.r_278 c arg2 harg2 arg3 harg3 arg5 harg5 arg8 arg10 arg11 arg13 x0 x1 x3)⟩, ⟨Rect.unit (s := S256x512) ![64, 128] S64x128.size inb_1_1, k0_pay315 (kernelRun0_A.sl.r_240 c arg2 harg2 arg3 harg3 arg5 harg5 arg9 arg10 arg11 arg12 arg13 x0 x1 x3) (kernelRun0_A.sl.r_241 c arg2 harg2 arg3 harg3 arg5 harg5 arg9 arg13 x0 x1 x3) (kernelRun0_A.sl.r_277 c arg2 harg2 arg3 harg3 arg5 harg5 arg8 arg10 arg11 arg13 x0 x1 x3)⟩, ⟨Rect.unit (s := S256x512) ![64, 0] S64x128.size inb_1_0, k0_pay314 (kernelRun0_A.sl.r_237 c arg2 harg2 arg3 harg3 arg5 harg5 arg9 arg10 arg11 arg12 arg13 x0 x1 x3) (kernelRun0_A.sl.r_238 c arg2 harg2 arg3 harg3 arg5 harg5 arg9 arg13 x0 x1 x3) (kernelRun0_A.sl.r_276 c arg2 harg2 arg3 harg3 arg5 harg5 arg8 arg10 arg11 arg13 x0 x1 x3)⟩, ⟨Rect.unit (s := S256x512) ![0, 384] S64x128.size inb_0_3, k0_pay308 (kernelRun0_A.sl.r_275 c arg2 harg2 arg3 harg3 arg5 harg5 arg8 arg9 arg10 arg11 arg12 arg13 x0 x1 x3)⟩, ⟨Rect.unit (s := S256x512) ![0, 256] S64x128.size inb_0_2, k0_pay307 (kernelRun0_A.sl.r_274 c arg2 harg2 arg3 harg3 arg5 harg5 arg8 arg9 arg10 arg11 arg12 arg13 x0 x1 x3)⟩, ⟨Rect.unit (s := S256x512) ![0, 128] S64x128.size inb_0_1, k0_pay306 (kernelRun0_A.sl.r_228 c arg2 harg2 arg3 harg3 arg5 harg5 arg9 arg10 arg11 arg12 arg13 x0 x1 x3) (kernelRun0_A.sl.r_229 c arg2 harg2 arg3 harg3 arg5 harg5 arg9 arg13 x0 x1 x3) (kernelRun0_A.sl.v2287 c arg8)⟩, ⟨Rect.unit (s := S256x512) ![0, 0] S64x128.size inb_0_0, k0_pay305 (kernelRun0_A.sl.r_225 c arg2 harg2 arg3 harg3 arg5 harg5 arg9 arg10 arg11 arg12 arg13 x0 x1 x3) (kernelRun0_A.sl.r_226 c arg2 harg2 arg3 harg3 arg5 harg5 arg9 arg13 x0 x1 x3) (kernelRun0_A.sl.r_273 c arg8)⟩] (Rect.unit (s := S256x512) ![0, 0] S256x512.size inb_S256x512_S256x512_0_0).toLoadRect from rfl).trans ?_
  rw [outA_3_3, outA_3_2, outA_3_1, outA_3_0, outA_2_3, outA_2_2, outA_2_1, outA_2_0, outA_1_3, outA_1_2, outA_1_1, outA_1_0, outA_0_3, outA_0_2, outA_0_1, outA_0_0]
  exact readRows arg14 _ _ _ _ _ _

end Cert.Hgrn
-- ==== Proof.WordsB.lean ====
/-
  The kernel's run at one grid point, its named intermediates read as chunk steps: the state of each of the four heads after
  each of the four chunks of 64 rows, and the 16 blocks of output rows. Here a later point, which takes up the states it finds.
-/
module

public import proofs.«01_k».proof.Proof.Chunk
public import proofs.«01_k».proof.Proof.Loads
public import proofs.«01_k».proof.Proof.Gen.KernelIdeal.Frame

@[expose] public section

set_option maxHeartbeats 1000000

noncomputable section

open Idealize.ShloMosaic Idealize.ShloMosaic.TcCoe Idealize.SL.Sem
open Cert.KernelIdeal Cert.KernelIdeal.Gen

namespace Cert.Hgrn

variable {F : FTy → Type} [FloatOps F]
variable (c : Dev nD) (arg2 : Memref sig .tc .vmem S1x256x2048 .f32) (harg2 : arg2.IsWhole) (arg3 : Memref sig .tc .vmem S2x512 .f32) (harg3 : arg3.IsWhole)
variable (arg4 : Memref sig .tc .vmem S1x512 .f32) (harg4 : arg4.IsWhole)
variable (arg5 : Memref sig .tc .vmem S256x256 .bf16) (harg5 : arg5.IsWhole) (arg6 : Memref sig .tc .vmem S512x512 .bf16) (harg6 : arg6.IsWhole)
variable (arg8 : Memref sig .tc .vmem S4x128x128 .f32) (harg8 : arg8.IsWhole)
variable (arg9 arg10 arg11 arg12 arg13 arg14 : Memref sig .tc .vmem S256x512 .f32)
variable (x0 : Vec F S1x256x2048 .f32) (x1 : Vec F S2x512 .f32) (x2 : Vec F S1x512 .f32) (x3 : Vec F S256x256 .bf16) (x4 : Vec F S512x512 .bf16) (xs0 : Vec F S4x128x128 .f32)

/-- Head 0's state after chunk 0. -/
theorem stB_0_0 : kernelRun0_B.sl.r_276 (F := F) c arg2 harg2 arg3 harg3 arg5 harg5 arg8 harg8 arg10 arg11 arg13 x0 x1 x3 xs0 = stF (kOf (F := F) x0 x1) (vOf (F := F) x0) (bOf (F := F) x0 x1 x3) xs0 0 1 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![0, 0] S64x128.size inb_0_0).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![0, 0] S64x128.size inb_0_0).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![0, 0] S64x128.size inb_0_0).toLoadRect) (shapeCast S128x128 (View.readAt (Elt F) arg8.view (Rect.unit (s := S4x128x128) ![0, 0, 0] S1x128x128.size inb_S4x128x128_S1x128x128_0_0_0).toLoadRect (harg8.unread xs0)) shapeCasts_S1x128x128_S128x128) from rfl).trans ?_
  rw [readChunk _ _ 0 0 0 0 _ rfl rfl, readChunk _ _ 0 0 0 0 _ rfl rfl, readChunk _ _ 0 0 0 0 _ rfl rfl, readSt arg8 harg8 xs0 0 0 rfl _, readU, readL, readT]
  rfl

/-- Head 1's state after chunk 0. -/
theorem stB_0_1 : kernelRun0_B.sl.r_277 (F := F) c arg2 harg2 arg3 harg3 arg5 harg5 arg8 harg8 arg10 arg11 arg13 x0 x1 x3 xs0 = stF (kOf (F := F) x0 x1) (vOf (F := F) x0) (bOf (F := F) x0 x1 x3) xs0 1 1 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![0, 128] S64x128.size inb_0_1).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![0, 128] S64x128.size inb_0_1).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![0, 128] S64x128.size inb_0_1).toLoadRect) (shapeCast S128x128 (View.readAt (Elt F) arg8.view (Rect.unit (s := S4x128x128) ![1, 0, 0] S1x128x128.size inb_S4x128x128_S1x128x128_1_0_0).toLoadRect (harg8.unread xs0)) shapeCasts_S1x128x128_S128x128) from rfl).trans ?_
  rw [readChunk _ _ 0 1 0 128 _ rfl rfl, readChunk _ _ 0 1 0 128 _ rfl rfl, readChunk _ _ 0 1 0 128 _ rfl rfl, readSt arg8 harg8 xs0 1 1 rfl _, readU, readL, readT]
  rfl

/-- Head 2's state after chunk 0. -/
theorem stB_0_2 : kernelRun0_B.sl.r_278 (F := F) c arg2 harg2 arg3 harg3 arg5 harg5 arg8 harg8 arg10 arg11 arg13 x0 x1 x3 xs0 = stF (kOf (F := F) x0 x1) (vOf (F := F) x0) (bOf (F := F) x0 x1 x3) xs0 2 1 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![0, 256] S64x128.size inb_0_2).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![0, 256] S64x128.size inb_0_2).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![0, 256] S64x128.size inb_0_2).toLoadRect) (shapeCast S128x128 (View.readAt (Elt F) arg8.view (Rect.unit (s := S4x128x128) ![2, 0, 0] S1x128x128.size inb_S4x128x128_S1x128x128_2_0_0).toLoadRect (harg8.unread xs0)) shapeCasts_S1x128x128_S128x128) from rfl).trans ?_
  rw [readChunk _ _ 0 2 0 256 _ rfl rfl, readChunk _ _ 0 2 0 256 _ rfl rfl, readChunk _ _ 0 2 0 256 _ rfl rfl, readSt arg8 harg8 xs0 2 2 rfl _, readU, readL, readT]
  rfl

/-- Head 3's state after chunk 0. -/
theorem stB_0_3 : kernelRun0_B.sl.r_279 (F := F) c arg2 harg2 arg3 harg3 arg5 harg5 arg8 harg8 arg10 arg11 arg13 x0 x1 x3 xs0 = stF (kOf (F := F) x0 x1) (vOf (F := F) x0) (bOf (F := F) x0 x1 x3) xs0 3 1 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![0, 384] S64x128.size inb_0_3).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![0, 384] S64x128.size inb_0_3).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![0, 384] S64x128.size inb_0_3).toLoadRect) (shapeCast S128x128 (View.readAt (Elt F) arg8.view (Rect.unit (s := S4x128x128) ![3, 0, 0] S1x128x128.size inb_S4x128x128_S1x128x128_3_0_0).toLoadRect (harg8.unread xs0)) shapeCasts_S1x128x128_S128x128) from rfl).trans ?_
  rw [readChunk _ _ 0 3 0 384 _ rfl rfl, readChunk _ _ 0 3 0 384 _ rfl rfl, readChunk _ _ 0 3 0 384 _ rfl rfl, readSt arg8 harg8 xs0 3 3 rfl _, readU, readL, readT]
  rfl

/-- Head 0's state after chunk 1. -/
theorem stB_1_0 : kernelRun0_B.sl.r_281 (F := F) c arg2 harg2 arg3 harg3 arg5 harg5 arg8 harg8 arg10 arg11 arg13 x0 x1 x3 xs0 = stF (kOf (F := F) x0 x1) (vOf (F := F) x0) (bOf (F := F) x0 x1 x3) xs0 0 2 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![64, 0] S64x128.size inb_1_0).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![64, 0] S64x128.size inb_1_0).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![64, 0] S64x128.size inb_1_0).toLoadRect) (kernelRun0_B.sl.r_276 c arg2 harg2 arg3 harg3 arg5 harg5 arg8 harg8 arg10 arg11 arg13 x0 x1 x3 xs0) from rfl).trans ?_
  rw [readChunk _ _ 1 0 64 0 _ rfl rfl, readChunk _ _ 1 0 64 0 _ rfl rfl, readChunk _ _ 1 0 64 0 _ rfl rfl, stB_0_0, readU, readL, readT]
  rfl

/-- Head 1's state after chunk 1. -/
theorem stB_1_1 : kernelRun0_B.sl.r_282 (F := F) c arg2 harg2 arg3 harg3 arg5 harg5 arg8 harg8 arg10 arg11 arg13 x0 x1 x3 xs0 = stF (kOf (F := F) x0 x1) (vOf (F := F) x0) (bOf (F := F) x0 x1 x3) xs0 1 2 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![64, 128] S64x128.size inb_1_1).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![64, 128] S64x128.size inb_1_1).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![64, 128] S64x128.size inb_1_1).toLoadRect) (kernelRun0_B.sl.r_277 c arg2 harg2 arg3 harg3 arg5 harg5 arg8 harg8 arg10 arg11 arg13 x0 x1 x3 xs0) from rfl).trans ?_
  rw [readChunk _ _ 1 1 64 128 _ rfl rfl, readChunk _ _ 1 1 64 128 _ rfl rfl, readChunk _ _ 1 1 64 128 _ rfl rfl, stB_0_1, readU, readL, readT]
  rfl

/-- Head 2's state after chunk 1. -/
theorem stB_1_2 : kernelRun0_B.sl.r_283 (F := F) c arg2 harg2 arg3 harg3 arg5 harg5 arg8 harg8 arg10 arg11 arg13 x0 x1 x3 xs0 = stF (kOf (F := F) x0 x1) (vOf (F := F) x0) (bOf (F := F) x0 x1 x3) xs0 2 2 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![64, 256] S64x128.size inb_1_2).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![64, 256] S64x128.size inb_1_2).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![64, 256] S64x128.size inb_1_2).toLoadRect) (kernelRun0_B.sl.r_278 c arg2 harg2 arg3 harg3 arg5 harg5 arg8 harg8 arg10 arg11 arg13 x0 x1 x3 xs0) from rfl).trans ?_
  rw [readChunk _ _ 1 2 64 256 _ rfl rfl, readChunk _ _ 1 2 64 256 _ rfl rfl, readChunk _ _ 1 2 64 256 _ rfl rfl, stB_0_2, readU, readL, readT]
  rfl

/-- Head 3's state after chunk 1. -/
theorem stB_1_3 : kernelRun0_B.sl.r_284 (F := F) c arg2 harg2 arg3 harg3 arg5 harg5 arg8 harg8 arg10 arg11 arg13 x0 x1 x3 xs0 = stF (kOf (F := F) x0 x1) (vOf (F := F) x0) (bOf (F := F) x0 x1 x3) xs0 3 2 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![64, 384] S64x128.size inb_1_3).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![64, 384] S64x128.size inb_1_3).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![64, 384] S64x128.size inb_1_3).toLoadRect) (kernelRun0_B.sl.r_279 c arg2 harg2 arg3 harg3 arg5 harg5 arg8 harg8 arg10 arg11 arg13 x0 x1 x3 xs0) from rfl).trans ?_
  rw [readChunk _ _ 1 3 64 384 _ rfl rfl, readChunk _ _ 1 3 64 384 _ rfl rfl, readChunk _ _ 1 3 64 384 _ rfl rfl, stB_0_3, readU, readL, readT]
  rfl

/-- Head 0's state after chunk 2. -/
theorem stB_2_0 : kernelRun0_B.sl.r_285 (F := F) c arg2 harg2 arg3 harg3 arg5 harg5 arg8 harg8 arg10 arg11 arg13 x0 x1 x3 xs0 = stF (kOf (F := F) x0 x1) (vOf (F := F) x0) (bOf (F := F) x0 x1 x3) xs0 0 3 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![128, 0] S64x128.size inb_2_0).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![128, 0] S64x128.size inb_2_0).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![128, 0] S64x128.size inb_2_0).toLoadRect) (kernelRun0_B.sl.r_281 c arg2 harg2 arg3 harg3 arg5 harg5 arg8 harg8 arg10 arg11 arg13 x0 x1 x3 xs0) from rfl).trans ?_
  rw [readChunk _ _ 2 0 128 0 _ rfl rfl, readChunk _ _ 2 0 128 0 _ rfl rfl, readChunk _ _ 2 0 128 0 _ rfl rfl, stB_1_0, readU, readL, readT]
  rfl

/-- Head 1's state after chunk 2. -/
theorem stB_2_1 : kernelRun0_B.sl.r_286 (F := F) c arg2 harg2 arg3 harg3 arg5 harg5 arg8 harg8 arg10 arg11 arg13 x0 x1 x3 xs0 = stF (kOf (F := F) x0 x1) (vOf (F := F) x0) (bOf (F := F) x0 x1 x3) xs0 1 3 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![128, 128] S64x128.size inb_2_1).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![128, 128] S64x128.size inb_2_1).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![128, 128] S64x128.size inb_2_1).toLoadRect) (kernelRun0_B.sl.r_282 c arg2 harg2 arg3 harg3 arg5 harg5 arg8 harg8 arg10 arg11 arg13 x0 x1 x3 xs0) from rfl).trans ?_
  rw [readChunk _ _ 2 1 128 128 _ rfl rfl, readChunk _ _ 2 1 128 128 _ rfl rfl, readChunk _ _ 2 1 128 128 _ rfl rfl, stB_1_1, readU, readL, readT]
  rfl

/-- Head 2's state after chunk 2. -/
theorem stB_2_2 : kernelRun0_B.sl.r_287 (F := F) c arg2 harg2 arg3 harg3 arg5 harg5 arg8 harg8 arg10 arg11 arg13 x0 x1 x3 xs0 = stF (kOf (F := F) x0 x1) (vOf (F := F) x0) (bOf (F := F) x0 x1 x3) xs0 2 3 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![128, 256] S64x128.size inb_2_2).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![128, 256] S64x128.size inb_2_2).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![128, 256] S64x128.size inb_2_2).toLoadRect) (kernelRun0_B.sl.r_283 c arg2 harg2 arg3 harg3 arg5 harg5 arg8 harg8 arg10 arg11 arg13 x0 x1 x3 xs0) from rfl).trans ?_
  rw [readChunk _ _ 2 2 128 256 _ rfl rfl, readChunk _ _ 2 2 128 256 _ rfl rfl, readChunk _ _ 2 2 128 256 _ rfl rfl, stB_1_2, readU, readL, readT]
  rfl

/-- Head 3's state after chunk 2. -/
theorem stB_2_3 : kernelRun0_B.sl.r_288 (F := F) c arg2 harg2 arg3 harg3 arg5 harg5 arg8 harg8 arg10 arg11 arg13 x0 x1 x3 xs0 = stF (kOf (F := F) x0 x1) (vOf (F := F) x0) (bOf (F := F) x0 x1 x3) xs0 3 3 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![128, 384] S64x128.size inb_2_3).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![128, 384] S64x128.size inb_2_3).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![128, 384] S64x128.size inb_2_3).toLoadRect) (kernelRun0_B.sl.r_284 c arg2 harg2 arg3 harg3 arg5 harg5 arg8 harg8 arg10 arg11 arg13 x0 x1 x3 xs0) from rfl).trans ?_
  rw [readChunk _ _ 2 3 128 384 _ rfl rfl, readChunk _ _ 2 3 128 384 _ rfl rfl, readChunk _ _ 2 3 128 384 _ rfl rfl, stB_1_3, readU, readL, readT]
  rfl

/-- Head 0's state after chunk 3. -/
theorem stB_3_0 : kernelRun0_B.sl.r_289 (F := F) c arg2 harg2 arg3 harg3 arg5 harg5 arg8 harg8 arg10 arg11 arg13 x0 x1 x3 xs0 = stF (kOf (F := F) x0 x1) (vOf (F := F) x0) (bOf (F := F) x0 x1 x3) xs0 0 4 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![192, 0] S64x128.size inb_3_0).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![192, 0] S64x128.size inb_3_0).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![192, 0] S64x128.size inb_3_0).toLoadRect) (kernelRun0_B.sl.r_285 c arg2 harg2 arg3 harg3 arg5 harg5 arg8 harg8 arg10 arg11 arg13 x0 x1 x3 xs0) from rfl).trans ?_
  rw [readChunk _ _ 3 0 192 0 _ rfl rfl, readChunk _ _ 3 0 192 0 _ rfl rfl, readChunk _ _ 3 0 192 0 _ rfl rfl, stB_2_0, readU, readL, readT]
  rfl

/-- Head 1's state after chunk 3. -/
theorem stB_3_1 : kernelRun0_B.sl.r_290 (F := F) c arg2 harg2 arg3 harg3 arg5 harg5 arg8 harg8 arg10 arg11 arg13 x0 x1 x3 xs0 = stF (kOf (F := F) x0 x1) (vOf (F := F) x0) (bOf (F := F) x0 x1 x3) xs0 1 4 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![192, 128] S64x128.size inb_3_1).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![192, 128] S64x128.size inb_3_1).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![192, 128] S64x128.size inb_3_1).toLoadRect) (kernelRun0_B.sl.r_286 c arg2 harg2 arg3 harg3 arg5 harg5 arg8 harg8 arg10 arg11 arg13 x0 x1 x3 xs0) from rfl).trans ?_
  rw [readChunk _ _ 3 1 192 128 _ rfl rfl, readChunk _ _ 3 1 192 128 _ rfl rfl, readChunk _ _ 3 1 192 128 _ rfl rfl, stB_2_1, readU, readL, readT]
  rfl

/-- Head 2's state after chunk 3. -/
theorem stB_3_2 : kernelRun0_B.sl.r_291 (F := F) c arg2 harg2 arg3 harg3 arg5 harg5 arg8 harg8 arg10 arg11 arg13 x0 x1 x3 xs0 = stF (kOf (F := F) x0 x1) (vOf (F := F) x0) (bOf (F := F) x0 x1 x3) xs0 2 4 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![192, 256] S64x128.size inb_3_2).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![192, 256] S64x128.size inb_3_2).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![192, 256] S64x128.size inb_3_2).toLoadRect) (kernelRun0_B.sl.r_287 c arg2 harg2 arg3 harg3 arg5 harg5 arg8 harg8 arg10 arg11 arg13 x0 x1 x3 xs0) from rfl).trans ?_
  rw [readChunk _ _ 3 2 192 256 _ rfl rfl, readChunk _ _ 3 2 192 256 _ rfl rfl, readChunk _ _ 3 2 192 256 _ rfl rfl, stB_2_2, readU, readL, readT]
  rfl

/-- Head 3's state after chunk 3. -/
theorem stB_3_3 : kernelRun0_B.sl.r_292 (F := F) c arg2 harg2 arg3 harg3 arg5 harg5 arg8 harg8 arg10 arg11 arg13 x0 x1 x3 xs0 = stF (kOf (F := F) x0 x1) (vOf (F := F) x0) (bOf (F := F) x0 x1 x3) xs0 3 4 := by
  refine (show _ = chunkS (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![192, 384] S64x128.size inb_3_3).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![192, 384] S64x128.size inb_3_3).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![192, 384] S64x128.size inb_3_3).toLoadRect) (kernelRun0_B.sl.r_288 c arg2 harg2 arg3 harg3 arg5 harg5 arg8 harg8 arg10 arg11 arg13 x0 x1 x3 xs0) from rfl).trans ?_
  rw [readChunk _ _ 3 3 192 384 _ rfl rfl, readChunk _ _ 3 3 192 384 _ rfl rfl, readChunk _ _ 3 3 192 384 _ rfl rfl, stB_2_3, readU, readL, readT]
  rfl

/-- Head 0's output rows of chunk 0. -/
theorem outB_0_0 : k0_pay305 (F := F) (kernelRun0_B.sl.r_225 c arg2 harg2 arg3 harg3 arg5 harg5 arg9 arg10 arg11 arg12 arg13 x0 x1 x3) (kernelRun0_B.sl.r_226 c arg2 harg2 arg3 harg3 arg5 harg5 arg9 arg13 x0 x1 x3) (kernelRun0_B.sl.r_273 c arg8 harg8 xs0) = outF (qOf (F := F) x0) (kOf (F := F) x0 x1) (vOf (F := F) x0) (lOf (F := F) x0 x1) (bOf (F := F) x0 x1 x3) xs0 0 0 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![0, 0] S64x128.size inb_0_0).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![0, 0] S64x128.size inb_0_0).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![0, 0] S64x128.size inb_0_0).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![0, 0] S64x128.size inb_0_0).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![0, 0] S64x128.size inb_0_0).toLoadRect) (shapeCast S128x128 (View.readAt (Elt F) arg8.view (Rect.unit (s := S4x128x128) ![0, 0, 0] S1x128x128.size inb_S4x128x128_S1x128x128_0_0_0).toLoadRect (harg8.unread xs0)) shapeCasts_S1x128x128_S128x128)) shapeCasts_S64x128_S64x128 from rfl).trans ?_
  rw [shapeCast_self, readChunk _ _ 0 0 0 0 _ rfl rfl, readChunk _ _ 0 0 0 0 _ rfl rfl, readChunk _ _ 0 0 0 0 _ rfl rfl, readChunk _ _ 0 0 0 0 _ rfl rfl, readChunk _ _ 0 0 0 0 _ rfl rfl, readSt arg8 harg8 xs0 0 0 rfl _, readU, readL, readT]
  rfl

/-- Head 1's output rows of chunk 0. -/
theorem outB_0_1 : k0_pay306 (F := F) (kernelRun0_B.sl.r_228 c arg2 harg2 arg3 harg3 arg5 harg5 arg9 arg10 arg11 arg12 arg13 x0 x1 x3) (kernelRun0_B.sl.r_229 c arg2 harg2 arg3 harg3 arg5 harg5 arg9 arg13 x0 x1 x3) (View.readAt (Elt F) arg8.view (Rect.unit (s := S4x128x128) ![1, 0, 0] S1x128x128.size inb_S4x128x128_S1x128x128_1_0_0).toLoadRect (Memref.IsWhole.unread harg8 xs0)) = outF (qOf (F := F) x0) (kOf (F := F) x0 x1) (vOf (F := F) x0) (lOf (F := F) x0 x1) (bOf (F := F) x0 x1 x3) xs0 0 1 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![0, 128] S64x128.size inb_0_1).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![0, 128] S64x128.size inb_0_1).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![0, 128] S64x128.size inb_0_1).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![0, 128] S64x128.size inb_0_1).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![0, 128] S64x128.size inb_0_1).toLoadRect) (shapeCast S128x128 (View.readAt (Elt F) arg8.view (Rect.unit (s := S4x128x128) ![1, 0, 0] S1x128x128.size inb_S4x128x128_S1x128x128_1_0_0).toLoadRect (harg8.unread xs0)) shapeCasts_S1x128x128_S128x128)) shapeCasts_S64x128_S64x128 from rfl).trans ?_
  rw [shapeCast_self, readChunk _ _ 0 1 0 128 _ rfl rfl, readChunk _ _ 0 1 0 128 _ rfl rfl, readChunk _ _ 0 1 0 128 _ rfl rfl, readChunk _ _ 0 1 0 128 _ rfl rfl, readChunk _ _ 0 1 0 128 _ rfl rfl, readSt arg8 harg8 xs0 1 1 rfl _, readU, readL, readT]
  rfl

/-- Head 2's output rows of chunk 0. -/
theorem outB_0_2 : k0_pay307 (F := F) (kernelRun0_B.sl.r_274 c arg2 harg2 arg3 harg3 arg5 harg5 arg8 harg8 arg9 arg10 arg11 arg12 arg13 x0 x1 x3 xs0) = outF (qOf (F := F) x0) (kOf (F := F) x0 x1) (vOf (F := F) x0) (lOf (F := F) x0 x1) (bOf (F := F) x0 x1 x3) xs0 0 2 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![0, 256] S64x128.size inb_0_2).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![0, 256] S64x128.size inb_0_2).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![0, 256] S64x128.size inb_0_2).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![0, 256] S64x128.size inb_0_2).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![0, 256] S64x128.size inb_0_2).toLoadRect) (shapeCast S128x128 (View.readAt (Elt F) arg8.view (Rect.unit (s := S4x128x128) ![2, 0, 0] S1x128x128.size inb_S4x128x128_S1x128x128_2_0_0).toLoadRect (harg8.unread xs0)) shapeCasts_S1x128x128_S128x128)) shapeCasts_S64x128_S64x128 from rfl).trans ?_
  rw [shapeCast_self, readChunk _ _ 0 2 0 256 _ rfl rfl, readChunk _ _ 0 2 0 256 _ rfl rfl, readChunk _ _ 0 2 0 256 _ rfl rfl, readChunk _ _ 0 2 0 256 _ rfl rfl, readChunk _ _ 0 2 0 256 _ rfl rfl, readSt arg8 harg8 xs0 2 2 rfl _, readU, readL, readT]
  rfl

/-- Head 3's output rows of chunk 0. -/
theorem outB_0_3 : k0_pay308 (F := F) (kernelRun0_B.sl.r_275 c arg2 harg2 arg3 harg3 arg5 harg5 arg8 harg8 arg9 arg10 arg11 arg12 arg13 x0 x1 x3 xs0) = outF (qOf (F := F) x0) (kOf (F := F) x0 x1) (vOf (F := F) x0) (lOf (F := F) x0 x1) (bOf (F := F) x0 x1 x3) xs0 0 3 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![0, 384] S64x128.size inb_0_3).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![0, 384] S64x128.size inb_0_3).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![0, 384] S64x128.size inb_0_3).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![0, 384] S64x128.size inb_0_3).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![0, 384] S64x128.size inb_0_3).toLoadRect) (shapeCast S128x128 (View.readAt (Elt F) arg8.view (Rect.unit (s := S4x128x128) ![3, 0, 0] S1x128x128.size inb_S4x128x128_S1x128x128_3_0_0).toLoadRect (harg8.unread xs0)) shapeCasts_S1x128x128_S128x128)) shapeCasts_S64x128_S64x128 from rfl).trans ?_
  rw [shapeCast_self, readChunk _ _ 0 3 0 384 _ rfl rfl, readChunk _ _ 0 3 0 384 _ rfl rfl, readChunk _ _ 0 3 0 384 _ rfl rfl, readChunk _ _ 0 3 0 384 _ rfl rfl, readChunk _ _ 0 3 0 384 _ rfl rfl, readSt arg8 harg8 xs0 3 3 rfl _, readU, readL, readT]
  rfl

/-- Head 0's output rows of chunk 1. -/
theorem outB_1_0 : k0_pay314 (F := F) (kernelRun0_B.sl.r_237 c arg2 harg2 arg3 harg3 arg5 harg5 arg9 arg10 arg11 arg12 arg13 x0 x1 x3) (kernelRun0_B.sl.r_238 c arg2 harg2 arg3 harg3 arg5 harg5 arg9 arg13 x0 x1 x3) (kernelRun0_B.sl.r_276 c arg2 harg2 arg3 harg3 arg5 harg5 arg8 harg8 arg10 arg11 arg13 x0 x1 x3 xs0) = outF (qOf (F := F) x0) (kOf (F := F) x0 x1) (vOf (F := F) x0) (lOf (F := F) x0 x1) (bOf (F := F) x0 x1 x3) xs0 1 0 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![64, 0] S64x128.size inb_1_0).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![64, 0] S64x128.size inb_1_0).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![64, 0] S64x128.size inb_1_0).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![64, 0] S64x128.size inb_1_0).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![64, 0] S64x128.size inb_1_0).toLoadRect) (kernelRun0_B.sl.r_276 c arg2 harg2 arg3 harg3 arg5 harg5 arg8 harg8 arg10 arg11 arg13 x0 x1 x3 xs0)) shapeCasts_S64x128_S64x128 from rfl).trans ?_
  rw [shapeCast_self, readChunk _ _ 1 0 64 0 _ rfl rfl, readChunk _ _ 1 0 64 0 _ rfl rfl, readChunk _ _ 1 0 64 0 _ rfl rfl, readChunk _ _ 1 0 64 0 _ rfl rfl, readChunk _ _ 1 0 64 0 _ rfl rfl, stB_0_0, readU, readL, readT]
  rfl

/-- Head 1's output rows of chunk 1. -/
theorem outB_1_1 : k0_pay315 (F := F) (kernelRun0_B.sl.r_240 c arg2 harg2 arg3 harg3 arg5 harg5 arg9 arg10 arg11 arg12 arg13 x0 x1 x3) (kernelRun0_B.sl.r_241 c arg2 harg2 arg3 harg3 arg5 harg5 arg9 arg13 x0 x1 x3) (kernelRun0_B.sl.r_277 c arg2 harg2 arg3 harg3 arg5 harg5 arg8 harg8 arg10 arg11 arg13 x0 x1 x3 xs0) = outF (qOf (F := F) x0) (kOf (F := F) x0 x1) (vOf (F := F) x0) (lOf (F := F) x0 x1) (bOf (F := F) x0 x1 x3) xs0 1 1 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![64, 128] S64x128.size inb_1_1).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![64, 128] S64x128.size inb_1_1).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![64, 128] S64x128.size inb_1_1).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![64, 128] S64x128.size inb_1_1).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![64, 128] S64x128.size inb_1_1).toLoadRect) (kernelRun0_B.sl.r_277 c arg2 harg2 arg3 harg3 arg5 harg5 arg8 harg8 arg10 arg11 arg13 x0 x1 x3 xs0)) shapeCasts_S64x128_S64x128 from rfl).trans ?_
  rw [shapeCast_self, readChunk _ _ 1 1 64 128 _ rfl rfl, readChunk _ _ 1 1 64 128 _ rfl rfl, readChunk _ _ 1 1 64 128 _ rfl rfl, readChunk _ _ 1 1 64 128 _ rfl rfl, readChunk _ _ 1 1 64 128 _ rfl rfl, stB_0_1, readU, readL, readT]
  rfl

/-- Head 2's output rows of chunk 1. -/
theorem outB_1_2 : k0_pay316 (F := F) (kernelRun0_B.sl.r_243 c arg2 harg2 arg3 harg3 arg5 harg5 arg9 arg10 arg11 arg12 arg13 x0 x1 x3) (kernelRun0_B.sl.r_244 c arg2 harg2 arg3 harg3 arg5 harg5 arg9 arg13 x0 x1 x3) (kernelRun0_B.sl.r_278 c arg2 harg2 arg3 harg3 arg5 harg5 arg8 harg8 arg10 arg11 arg13 x0 x1 x3 xs0) = outF (qOf (F := F) x0) (kOf (F := F) x0 x1) (vOf (F := F) x0) (lOf (F := F) x0 x1) (bOf (F := F) x0 x1 x3) xs0 1 2 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![64, 256] S64x128.size inb_1_2).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![64, 256] S64x128.size inb_1_2).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![64, 256] S64x128.size inb_1_2).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![64, 256] S64x128.size inb_1_2).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![64, 256] S64x128.size inb_1_2).toLoadRect) (kernelRun0_B.sl.r_278 c arg2 harg2 arg3 harg3 arg5 harg5 arg8 harg8 arg10 arg11 arg13 x0 x1 x3 xs0)) shapeCasts_S64x128_S64x128 from rfl).trans ?_
  rw [shapeCast_self, readChunk _ _ 1 2 64 256 _ rfl rfl, readChunk _ _ 1 2 64 256 _ rfl rfl, readChunk _ _ 1 2 64 256 _ rfl rfl, readChunk _ _ 1 2 64 256 _ rfl rfl, readChunk _ _ 1 2 64 256 _ rfl rfl, stB_0_2, readU, readL, readT]
  rfl

/-- Head 3's output rows of chunk 1. -/
theorem outB_1_3 : k0_pay317 (F := F) (kernelRun0_B.sl.r_280 c arg2 harg2 arg3 harg3 arg5 harg5 arg8 harg8 arg9 arg10 arg11 arg12 arg13 x0 x1 x3 xs0) = outF (qOf (F := F) x0) (kOf (F := F) x0 x1) (vOf (F := F) x0) (lOf (F := F) x0 x1) (bOf (F := F) x0 x1 x3) xs0 1 3 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![64, 384] S64x128.size inb_1_3).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![64, 384] S64x128.size inb_1_3).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![64, 384] S64x128.size inb_1_3).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![64, 384] S64x128.size inb_1_3).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![64, 384] S64x128.size inb_1_3).toLoadRect) (kernelRun0_B.sl.r_279 c arg2 harg2 arg3 harg3 arg5 harg5 arg8 harg8 arg10 arg11 arg13 x0 x1 x3 xs0)) shapeCasts_S64x128_S64x128 from rfl).trans ?_
  rw [shapeCast_self, readChunk _ _ 1 3 64 384 _ rfl rfl, readChunk _ _ 1 3 64 384 _ rfl rfl, readChunk _ _ 1 3 64 384 _ rfl rfl, readChunk _ _ 1 3 64 384 _ rfl rfl, readChunk _ _ 1 3 64 384 _ rfl rfl, stB_0_3, readU, readL, readT]
  rfl

/-- Head 0's output rows of chunk 2. -/
theorem outB_2_0 : k0_pay322 (F := F) (kernelRun0_B.sl.r_249 c arg2 harg2 arg3 harg3 arg5 harg5 arg9 arg10 arg11 arg12 arg13 x0 x1 x3) (kernelRun0_B.sl.r_250 c arg2 harg2 arg3 harg3 arg5 harg5 arg9 arg13 x0 x1 x3) (kernelRun0_B.sl.r_281 c arg2 harg2 arg3 harg3 arg5 harg5 arg8 harg8 arg10 arg11 arg13 x0 x1 x3 xs0) = outF (qOf (F := F) x0) (kOf (F := F) x0 x1) (vOf (F := F) x0) (lOf (F := F) x0 x1) (bOf (F := F) x0 x1 x3) xs0 2 0 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![128, 0] S64x128.size inb_2_0).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![128, 0] S64x128.size inb_2_0).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![128, 0] S64x128.size inb_2_0).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![128, 0] S64x128.size inb_2_0).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![128, 0] S64x128.size inb_2_0).toLoadRect) (kernelRun0_B.sl.r_281 c arg2 harg2 arg3 harg3 arg5 harg5 arg8 harg8 arg10 arg11 arg13 x0 x1 x3 xs0)) shapeCasts_S64x128_S64x128 from rfl).trans ?_
  rw [shapeCast_self, readChunk _ _ 2 0 128 0 _ rfl rfl, readChunk _ _ 2 0 128 0 _ rfl rfl, readChunk _ _ 2 0 128 0 _ rfl rfl, readChunk _ _ 2 0 128 0 _ rfl rfl, readChunk _ _ 2 0 128 0 _ rfl rfl, stB_1_0, readU, readL, readT]
  rfl

/-- Head 1's output rows of chunk 2. -/
theorem outB_2_1 : k0_pay323 (F := F) (kernelRun0_B.sl.r_252 c arg2 harg2 arg3 harg3 arg5 harg5 arg9 arg10 arg11 arg12 arg13 x0 x1 x3) (kernelRun0_B.sl.r_253 c arg2 harg2 arg3 harg3 arg5 harg5 arg9 arg13 x0 x1 x3) (kernelRun0_B.sl.r_282 c arg2 harg2 arg3 harg3 arg5 harg5 arg8 harg8 arg10 arg11 arg13 x0 x1 x3 xs0) = outF (qOf (F := F) x0) (kOf (F := F) x0 x1) (vOf (F := F) x0) (lOf (F := F) x0 x1) (bOf (F := F) x0 x1 x3) xs0 2 1 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![128, 128] S64x128.size inb_2_1).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![128, 128] S64x128.size inb_2_1).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![128, 128] S64x128.size inb_2_1).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![128, 128] S64x128.size inb_2_1).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![128, 128] S64x128.size inb_2_1).toLoadRect) (kernelRun0_B.sl.r_282 c arg2 harg2 arg3 harg3 arg5 harg5 arg8 harg8 arg10 arg11 arg13 x0 x1 x3 xs0)) shapeCasts_S64x128_S64x128 from rfl).trans ?_
  rw [shapeCast_self, readChunk _ _ 2 1 128 128 _ rfl rfl, readChunk _ _ 2 1 128 128 _ rfl rfl, readChunk _ _ 2 1 128 128 _ rfl rfl, readChunk _ _ 2 1 128 128 _ rfl rfl, readChunk _ _ 2 1 128 128 _ rfl rfl, stB_1_1, readU, readL, readT]
  rfl

/-- Head 2's output rows of chunk 2. -/
theorem outB_2_2 : k0_pay324 (F := F) (kernelRun0_B.sl.r_255 c arg2 harg2 arg3 harg3 arg5 harg5 arg9 arg10 arg11 arg12 arg13 x0 x1 x3) (kernelRun0_B.sl.r_256 c arg2 harg2 arg3 harg3 arg5 harg5 arg9 arg13 x0 x1 x3) (kernelRun0_B.sl.r_283 c arg2 harg2 arg3 harg3 arg5 harg5 arg8 harg8 arg10 arg11 arg13 x0 x1 x3 xs0) = outF (qOf (F := F) x0) (kOf (F := F) x0 x1) (vOf (F := F) x0) (lOf (F := F) x0 x1) (bOf (F := F) x0 x1 x3) xs0 2 2 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![128, 256] S64x128.size inb_2_2).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![128, 256] S64x128.size inb_2_2).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![128, 256] S64x128.size inb_2_2).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![128, 256] S64x128.size inb_2_2).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![128, 256] S64x128.size inb_2_2).toLoadRect) (kernelRun0_B.sl.r_283 c arg2 harg2 arg3 harg3 arg5 harg5 arg8 harg8 arg10 arg11 arg13 x0 x1 x3 xs0)) shapeCasts_S64x128_S64x128 from rfl).trans ?_
  rw [shapeCast_self, readChunk _ _ 2 2 128 256 _ rfl rfl, readChunk _ _ 2 2 128 256 _ rfl rfl, readChunk _ _ 2 2 128 256 _ rfl rfl, readChunk _ _ 2 2 128 256 _ rfl rfl, readChunk _ _ 2 2 128 256 _ rfl rfl, stB_1_2, readU, readL, readT]
  rfl

/-- Head 3's output rows of chunk 2. -/
theorem outB_2_3 : k0_pay325 (F := F) (kernelRun0_B.sl.r_258 c arg2 harg2 arg3 harg3 arg5 harg5 arg9 arg10 arg11 arg12 arg13 x0 x1 x3) (kernelRun0_B.sl.r_259 c arg2 harg2 arg3 harg3 arg5 harg5 arg9 arg13 x0 x1 x3) (kernelRun0_B.sl.r_284 c arg2 harg2 arg3 harg3 arg5 harg5 arg8 harg8 arg10 arg11 arg13 x0 x1 x3 xs0) = outF (qOf (F := F) x0) (kOf (F := F) x0 x1) (vOf (F := F) x0) (lOf (F := F) x0 x1) (bOf (F := F) x0 x1 x3) xs0 2 3 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![128, 384] S64x128.size inb_2_3).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![128, 384] S64x128.size inb_2_3).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![128, 384] S64x128.size inb_2_3).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![128, 384] S64x128.size inb_2_3).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![128, 384] S64x128.size inb_2_3).toLoadRect) (kernelRun0_B.sl.r_284 c arg2 harg2 arg3 harg3 arg5 harg5 arg8 harg8 arg10 arg11 arg13 x0 x1 x3 xs0)) shapeCasts_S64x128_S64x128 from rfl).trans ?_
  rw [shapeCast_self, readChunk _ _ 2 3 128 384 _ rfl rfl, readChunk _ _ 2 3 128 384 _ rfl rfl, readChunk _ _ 2 3 128 384 _ rfl rfl, readChunk _ _ 2 3 128 384 _ rfl rfl, readChunk _ _ 2 3 128 384 _ rfl rfl, stB_1_3, readU, readL, readT]
  rfl

/-- Head 0's output rows of chunk 3. -/
theorem outB_3_0 : k0_pay330 (F := F) (kernelRun0_B.sl.r_261 c arg2 harg2 arg3 harg3 arg5 harg5 arg9 arg10 arg11 arg12 arg13 x0 x1 x3) (kernelRun0_B.sl.r_262 c arg2 harg2 arg3 harg3 arg5 harg5 arg9 arg13 x0 x1 x3) (kernelRun0_B.sl.r_285 c arg2 harg2 arg3 harg3 arg5 harg5 arg8 harg8 arg10 arg11 arg13 x0 x1 x3 xs0) = outF (qOf (F := F) x0) (kOf (F := F) x0 x1) (vOf (F := F) x0) (lOf (F := F) x0 x1) (bOf (F := F) x0 x1 x3) xs0 3 0 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![192, 0] S64x128.size inb_3_0).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![192, 0] S64x128.size inb_3_0).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![192, 0] S64x128.size inb_3_0).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![192, 0] S64x128.size inb_3_0).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![192, 0] S64x128.size inb_3_0).toLoadRect) (kernelRun0_B.sl.r_285 c arg2 harg2 arg3 harg3 arg5 harg5 arg8 harg8 arg10 arg11 arg13 x0 x1 x3 xs0)) shapeCasts_S64x128_S64x128 from rfl).trans ?_
  rw [shapeCast_self, readChunk _ _ 3 0 192 0 _ rfl rfl, readChunk _ _ 3 0 192 0 _ rfl rfl, readChunk _ _ 3 0 192 0 _ rfl rfl, readChunk _ _ 3 0 192 0 _ rfl rfl, readChunk _ _ 3 0 192 0 _ rfl rfl, stB_2_0, readU, readL, readT]
  rfl

/-- Head 1's output rows of chunk 3. -/
theorem outB_3_1 : k0_pay331 (F := F) (kernelRun0_B.sl.r_264 c arg2 harg2 arg3 harg3 arg5 harg5 arg9 arg10 arg11 arg12 arg13 x0 x1 x3) (kernelRun0_B.sl.r_265 c arg2 harg2 arg3 harg3 arg5 harg5 arg9 arg13 x0 x1 x3) (kernelRun0_B.sl.r_286 c arg2 harg2 arg3 harg3 arg5 harg5 arg8 harg8 arg10 arg11 arg13 x0 x1 x3 xs0) = outF (qOf (F := F) x0) (kOf (F := F) x0 x1) (vOf (F := F) x0) (lOf (F := F) x0 x1) (bOf (F := F) x0 x1 x3) xs0 3 1 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![192, 128] S64x128.size inb_3_1).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![192, 128] S64x128.size inb_3_1).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![192, 128] S64x128.size inb_3_1).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![192, 128] S64x128.size inb_3_1).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![192, 128] S64x128.size inb_3_1).toLoadRect) (kernelRun0_B.sl.r_286 c arg2 harg2 arg3 harg3 arg5 harg5 arg8 harg8 arg10 arg11 arg13 x0 x1 x3 xs0)) shapeCasts_S64x128_S64x128 from rfl).trans ?_
  rw [shapeCast_self, readChunk _ _ 3 1 192 128 _ rfl rfl, readChunk _ _ 3 1 192 128 _ rfl rfl, readChunk _ _ 3 1 192 128 _ rfl rfl, readChunk _ _ 3 1 192 128 _ rfl rfl, readChunk _ _ 3 1 192 128 _ rfl rfl, stB_2_1, readU, readL, readT]
  rfl

/-- Head 2's output rows of chunk 3. -/
theorem outB_3_2 : k0_pay332 (F := F) (kernelRun0_B.sl.r_267 c arg2 harg2 arg3 harg3 arg5 harg5 arg9 arg10 arg11 arg12 arg13 x0 x1 x3) (kernelRun0_B.sl.r_268 c arg2 harg2 arg3 harg3 arg5 harg5 arg9 arg13 x0 x1 x3) (kernelRun0_B.sl.r_287 c arg2 harg2 arg3 harg3 arg5 harg5 arg8 harg8 arg10 arg11 arg13 x0 x1 x3 xs0) = outF (qOf (F := F) x0) (kOf (F := F) x0 x1) (vOf (F := F) x0) (lOf (F := F) x0 x1) (bOf (F := F) x0 x1 x3) xs0 3 2 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![192, 256] S64x128.size inb_3_2).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![192, 256] S64x128.size inb_3_2).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![192, 256] S64x128.size inb_3_2).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![192, 256] S64x128.size inb_3_2).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![192, 256] S64x128.size inb_3_2).toLoadRect) (kernelRun0_B.sl.r_287 c arg2 harg2 arg3 harg3 arg5 harg5 arg8 harg8 arg10 arg11 arg13 x0 x1 x3 xs0)) shapeCasts_S64x128_S64x128 from rfl).trans ?_
  rw [shapeCast_self, readChunk _ _ 3 2 192 256 _ rfl rfl, readChunk _ _ 3 2 192 256 _ rfl rfl, readChunk _ _ 3 2 192 256 _ rfl rfl, readChunk _ _ 3 2 192 256 _ rfl rfl, readChunk _ _ 3 2 192 256 _ rfl rfl, stB_2_2, readU, readL, readT]
  rfl

/-- Head 3's output rows of chunk 3. -/
theorem outB_3_3 : k0_pay333 (F := F) (kernelRun0_B.sl.r_270 c arg2 harg2 arg3 harg3 arg5 harg5 arg9 arg10 arg11 arg12 arg13 x0 x1 x3) (kernelRun0_B.sl.r_271 c arg2 harg2 arg3 harg3 arg5 harg5 arg9 arg13 x0 x1 x3) (kernelRun0_B.sl.r_288 c arg2 harg2 arg3 harg3 arg5 harg5 arg8 harg8 arg10 arg11 arg13 x0 x1 x3 xs0) = outF (qOf (F := F) x0) (kOf (F := F) x0 x1) (vOf (F := F) x0) (lOf (F := F) x0 x1) (bOf (F := F) x0 x1 x3) xs0 3 3 := by
  refine (show _ = shapeCast S64x128 (chunkO (arg9.view.readCov (Val := Elt F) [⟨Rect.unit (s := S256x512) ![0, 0] S256x512.size inb_S256x512_S256x512_0_0, k0_pay7 (k0_pay6 (View.readAt (Elt F) arg2.view (Rect.unit (s := S1x256x2048) ![0, 0, 0] S1x256x2048.size inb_S1x256x2048_S1x256x2048_0_0_0).toLoadRect (harg2.unread x0)))⟩] (Rect.unit (s := S256x512) ![192, 384] S64x128.size inb_3_3).toLoadRect) (arg10.view.readCov (Val := Elt F) [⟨Rect.unit (s := S256x512) ![0, 0] S256x512.size inb_S256x512_S256x512_0_0, k0_pay8 (k0_pay3 (View.readAt (Elt F) arg3.view (Rect.unit (s := S2x512) ![0, 0] S2x512.size inb_S2x512_S2x512_0_0).toLoadRect (harg3.unread x1))) (k0_pay4 (View.readAt (Elt F) arg2.view (Rect.unit (s := S1x256x2048) ![0, 0, 0] S1x256x2048.size inb_S1x256x2048_S1x256x2048_0_0_0).toLoadRect (harg2.unread x0)))⟩] (Rect.unit (s := S256x512) ![192, 384] S64x128.size inb_3_3).toLoadRect) (arg11.view.readCov (Val := Elt F) [⟨Rect.unit (s := S256x512) ![0, 0] S256x512.size inb_S256x512_S256x512_0_0, k0_pay9 (k0_pay2 (View.readAt (Elt F) arg2.view (Rect.unit (s := S1x256x2048) ![0, 0, 0] S1x256x2048.size inb_S1x256x2048_S1x256x2048_0_0_0).toLoadRect (harg2.unread x0)))⟩] (Rect.unit (s := S256x512) ![192, 384] S64x128.size inb_3_3).toLoadRect) (arg12.view.readCov (Val := Elt F) [⟨Rect.unit (s := S256x512) ![0, 0] S256x512.size inb_S256x512_S256x512_0_0, k0_pay11 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1)))⟩] (Rect.unit (s := S256x512) ![192, 384] S64x128.size inb_3_3).toLoadRect) (arg13.view.readCov (Val := Elt F) [⟨Rect.unit (s := S256x512) ![0, 0] S256x512.size inb_S256x512_S256x512_0_0, k0_pay12 (k0_pay5 (View.readAt (Elt F) arg2.view (Rect.unit (s := S1x256x2048) ![0, 0, 0] S1x256x2048.size inb_S1x256x2048_S1x256x2048_0_0_0).toLoadRect (harg2.unread x0)) (View.readAt (Elt F) arg3.view (Rect.unit (s := S2x512) ![0, 0] S2x512.size inb_S2x512_S2x512_0_0).toLoadRect (harg3.unread x1))) (View.readAt (Elt F) arg5.view (Rect.unit (s := S256x256) ![0, 0] S256x256.size inb_S256x256_S256x256_0_0).toLoadRect (harg5.unread x3))⟩] (Rect.unit (s := S256x512) ![192, 384] S64x128.size inb_3_3).toLoadRect) (kernelRun0_B.sl.r_288 c arg2 harg2 arg3 harg3 arg5 harg5 arg8 harg8 arg10 arg11 arg13 x0 x1 x3 xs0)) shapeCasts_S64x128_S64x128 from rfl).trans ?_
  rw [shapeCast_self, readChunk _ _ 3 3 192 384 _ rfl rfl, readChunk _ _ 3 3 192 384 _ rfl rfl, readChunk _ _ 3 3 192 384 _ rfl rfl, readChunk _ _ 3 3 192 384 _ rfl rfl, readChunk _ _ 3 3 192 384 _ rfl rfl, stB_2_3, readU, readL, readT]
  rfl

/-- The block's rows, all heads, as the kernel reads them back. -/
theorem rowsB : kernelRun0_B.sl.v2481 (F := F) c arg2 harg2 arg3 harg3 arg5 harg5 arg8 harg8 arg9 arg10 arg11 arg12 arg13 arg14 x0 x1 x3 xs0 = rowsF (qOf (F := F) x0) (kOf (F := F) x0 x1) (vOf (F := F) x0) (lOf (F := F) x0 x1) (bOf (F := F) x0 x1 x3) xs0 := by
  refine (show _ = arg14.view.readCov (Val := Elt F) [⟨Rect.unit (s := S256x512) ![192, 384] S64x128.size inb_3_3, k0_pay333 (kernelRun0_B.sl.r_270 c arg2 harg2 arg3 harg3 arg5 harg5 arg9 arg10 arg11 arg12 arg13 x0 x1 x3) (kernelRun0_B.sl.r_271 c arg2 harg2 arg3 harg3 arg5 harg5 arg9 arg13 x0 x1 x3) (kernelRun0_B.sl.r_288 c arg2 harg2 arg3 harg3 arg5 harg5 arg8 harg8 arg10 arg11 arg13 x0 x1 x3 xs0)⟩, ⟨Rect.unit (s := S256x512) ![192, 256] S64x128.size inb_3_2, k0_pay332 (kernelRun0_B.sl.r_267 c arg2 harg2 arg3 harg3 arg5 harg5 arg9 arg10 arg11 arg12 arg13 x0 x1 x3) (kernelRun0_B.sl.r_268 c arg2 harg2 arg3 harg3 arg5 harg5 arg9 arg13 x0 x1 x3) (kernelRun0_B.sl.r_287 c arg2 harg2 arg3 harg3 arg5 harg5 arg8 harg8 arg10 arg11 arg13 x0 x1 x3 xs0)⟩, ⟨Rect.unit (s := S256x512) ![192, 128] S64x128.size inb_3_1, k0_pay331 (kernelRun0_B.sl.r_264 c arg2 harg2 arg3 harg3 arg5 harg5 arg9 arg10 arg11 arg12 arg13 x0 x1 x3) (kernelRun0_B.sl.r_265 c arg2 harg2 arg3 harg3 arg5 harg5 arg9 arg13 x0 x1 x3) (kernelRun0_B.sl.r_286 c arg2 harg2 arg3 harg3 arg5 harg5 arg8 harg8 arg10 arg11 arg13 x0 x1 x3 xs0)⟩, ⟨Rect.unit (s := S256x512) ![192, 0] S64x128.size inb_3_0, k0_pay330 (kernelRun0_B.sl.r_261 c arg2 harg2 arg3 harg3 arg5 harg5 arg9 arg10 arg11 arg12 arg13 x0 x1 x3) (kernelRun0_B.sl.r_262 c arg2 harg2 arg3 harg3 arg5 harg5 arg9 arg13 x0 x1 x3) (kernelRun0_B.sl.r_285 c arg2 harg2 arg3 harg3 arg5 harg5 arg8 harg8 arg10 arg11 arg13 x0 x1 x3 xs0)⟩, ⟨Rect.unit (s := S256x512) ![128, 384] S64x128.size inb_2_3, k0_pay325 (kernelRun0_B.sl.r_258 c arg2 harg2 arg3 harg3 arg5 harg5 arg9 arg10 arg11 arg12 arg13 x0 x1 x3) (kernelRun0_B.sl.r_259 c arg2 harg2 arg3 harg3 arg5 harg5 arg9 arg13 x0 x1 x3) (kernelRun0_B.sl.r_284 c arg2 harg2 arg3 harg3 arg5 harg5 arg8 harg8 arg10 arg11 arg13 x0 x1 x3 xs0)⟩, ⟨Rect.unit (s := S256x512) ![128, 256] S64x128.size inb_2_2, k0_pay324 (kernelRun0_B.sl.r_255 c arg2 harg2 arg3 harg3 arg5 harg5 arg9 arg10 arg11 arg12 arg13 x0 x1 x3) (kernelRun0_B.sl.r_256 c arg2 harg2 arg3 harg3 arg5 harg5 arg9 arg13 x0 x1 x3) (kernelRun0_B.sl.r_283 c arg2 harg2 arg3 harg3 arg5 harg5 arg8 harg8 arg10 arg11 arg13 x0 x1 x3 xs0)⟩, ⟨Rect.unit (s := S256x512) ![128, 128] S64x128.size inb_2_1, k0_pay323 (kernelRun0_B.sl.r_252 c arg2 harg2 arg3 harg3 arg5 harg5 arg9 arg10 arg11 arg12 arg13 x0 x1 x3) (kernelRun0_B.sl.r_253 c arg2 harg2 arg3 harg3 arg5 harg5 arg9 arg13 x0 x1 x3) (kernelRun0_B.sl.r_282 c arg2 harg2 arg3 harg3 arg5 harg5 arg8 harg8 arg10 arg11 arg13 x0 x1 x3 xs0)⟩, ⟨Rect.unit (s := S256x512) ![128, 0] S64x128.size inb_2_0, k0_pay322 (kernelRun0_B.sl.r_249 c arg2 harg2 arg3 harg3 arg5 harg5 arg9 arg10 arg11 arg12 arg13 x0 x1 x3) (kernelRun0_B.sl.r_250 c arg2 harg2 arg3 harg3 arg5 harg5 arg9 arg13 x0 x1 x3) (kernelRun0_B.sl.r_281 c arg2 harg2 arg3 harg3 arg5 harg5 arg8 harg8 arg10 arg11 arg13 x0 x1 x3 xs0)⟩, ⟨Rect.unit (s := S256x512) ![64, 384] S64x128.size inb_1_3, k0_pay317 (kernelRun0_B.sl.r_280 c arg2 harg2 arg3 harg3 arg5 harg5 arg8 harg8 arg9 arg10 arg11 arg12 arg13 x0 x1 x3 xs0)⟩, ⟨Rect.unit (s := S256x512) ![64, 256] S64x128.size inb_1_2, k0_pay316 (kernelRun0_B.sl.r_243 c arg2 harg2 arg3 harg3 arg5 harg5 arg9 arg10 arg11 arg12 arg13 x0 x1 x3) (kernelRun0_B.sl.r_244 c arg2 harg2 arg3 harg3 arg5 harg5 arg9 arg13 x0 x1 x3) (kernelRun0_B.sl.r_278 c arg2 harg2 arg3 harg3 arg5 harg5 arg8 harg8 arg10 arg11 arg13 x0 x1 x3 xs0)⟩, ⟨Rect.unit (s := S256x512) ![64, 128] S64x128.size inb_1_1, k0_pay315 (kernelRun0_B.sl.r_240 c arg2 harg2 arg3 harg3 arg5 harg5 arg9 arg10 arg11 arg12 arg13 x0 x1 x3) (kernelRun0_B.sl.r_241 c arg2 harg2 arg3 harg3 arg5 harg5 arg9 arg13 x0 x1 x3) (kernelRun0_B.sl.r_277 c arg2 harg2 arg3 harg3 arg5 harg5 arg8 harg8 arg10 arg11 arg13 x0 x1 x3 xs0)⟩, ⟨Rect.unit (s := S256x512) ![64, 0] S64x128.size inb_1_0, k0_pay314 (kernelRun0_B.sl.r_237 c arg2 harg2 arg3 harg3 arg5 harg5 arg9 arg10 arg11 arg12 arg13 x0 x1 x3) (kernelRun0_B.sl.r_238 c arg2 harg2 arg3 harg3 arg5 harg5 arg9 arg13 x0 x1 x3) (kernelRun0_B.sl.r_276 c arg2 harg2 arg3 harg3 arg5 harg5 arg8 harg8 arg10 arg11 arg13 x0 x1 x3 xs0)⟩, ⟨Rect.unit (s := S256x512) ![0, 384] S64x128.size inb_0_3, k0_pay308 (kernelRun0_B.sl.r_275 c arg2 harg2 arg3 harg3 arg5 harg5 arg8 harg8 arg9 arg10 arg11 arg12 arg13 x0 x1 x3 xs0)⟩, ⟨Rect.unit (s := S256x512) ![0, 256] S64x128.size inb_0_2, k0_pay307 (kernelRun0_B.sl.r_274 c arg2 harg2 arg3 harg3 arg5 harg5 arg8 harg8 arg9 arg10 arg11 arg12 arg13 x0 x1 x3 xs0)⟩, ⟨Rect.unit (s := S256x512) ![0, 128] S64x128.size inb_0_1, k0_pay306 (kernelRun0_B.sl.r_228 c arg2 harg2 arg3 harg3 arg5 harg5 arg9 arg10 arg11 arg12 arg13 x0 x1 x3) (kernelRun0_B.sl.r_229 c arg2 harg2 arg3 harg3 arg5 harg5 arg9 arg13 x0 x1 x3) (View.readAt (Elt F) arg8.view (Rect.unit (s := S4x128x128) ![1, 0, 0] S1x128x128.size inb_S4x128x128_S1x128x128_1_0_0).toLoadRect (Memref.IsWhole.unread harg8 xs0))⟩, ⟨Rect.unit (s := S256x512) ![0, 0] S64x128.size inb_0_0, k0_pay305 (kernelRun0_B.sl.r_225 c arg2 harg2 arg3 harg3 arg5 harg5 arg9 arg10 arg11 arg12 arg13 x0 x1 x3) (kernelRun0_B.sl.r_226 c arg2 harg2 arg3 harg3 arg5 harg5 arg9 arg13 x0 x1 x3) (kernelRun0_B.sl.r_273 c arg8 harg8 xs0)⟩] (Rect.unit (s := S256x512) ![0, 0] S256x512.size inb_S256x512_S256x512_0_0).toLoadRect from rfl).trans ?_
  rw [outB_3_3, outB_3_2, outB_3_1, outB_3_0, outB_2_3, outB_2_2, outB_2_1, outB_2_0, outB_1_3, outB_1_2, outB_1_1, outB_1_0, outB_0_3, outB_0_2, outB_0_1, outB_0_0]
  exact readRows arg14 _ _ _ _ _ _

end Cert.Hgrn
-- ==== Proof.Point.lean ====
/-
  What a grid point leaves: its block of the result, and the four heads' states, each as a function of the blocks the point
  reads and of the states the point before left.
-/
module

public import proofs.«01_k».proof.Proof.WordsA
public import proofs.«01_k».proof.Proof.WordsB

@[expose] public section

set_option maxHeartbeats 1000000

noncomputable section

open Idealize.ShloMosaic hiding ix1 ix2 ix3 ix4 ix5
open Idealize.ShloMosaic.ValueIdx
open Idealize.ShloMosaic.TcCoe Idealize.SL.Sem
open Cert.KernelIdeal Cert.KernelIdeal.Gen

namespace Cert.Hgrn

variable {F : FTy → Type} [FloatOps F]

/-- The four heads' states a point leaves. -/
def leaveF (u : Vec F S1x256x2048 .f32) (lb : Vec F S2x512 .f32) (tri : Vec F S256x256 .bf16) (S : FVec F S4x128x128 .f32) : FVec F S4x128x128 .f32 := fun j =>
  stF (kOf u lb) (vOf u) (bOf u lb tri) S (j 0) 4 (ix2 (j 1) (j 2))

/-- The block of the result a point leaves: its rows normalised, weighted and gated. -/
def blockF (u : Vec F S1x256x2048 .f32) (lb : Vec F S2x512 .f32) (nw : Vec F S1x512 .f32) (tri : Vec F S256x256 .bf16) (g : Vec F S512x512 .bf16)
    (S : FVec F S4x128x128 .f32) : FVec F S1x256x512 .bf16 :=
  k0_pay341 (k0_pay338 (rowsF (qOf u) (kOf u lb) (vOf u) (lOf u lb) (bOf u lb tri) S) g nw) (k0_pay339 (k0_pay2 u)) k0_pay340

/-- One head's store at an index: that head's indices hold it, the others what was there. -/
theorem canonHead (o : ℕ) (inb : ∀ x, (![o, 0, 0] : Fin 3 → Nat) x + S1x128x128.size x ≤ S4x128x128.size x) (w : FVec F S1x128x128 .f32)
    (L : List (View.Piece (Elt F) S4x128x128 .f32)) (a : Fin 4) (i j : Fin 128) :
    View.canon ((⟨Rect.unit ![o, 0, 0] S1x128x128.size inb, w⟩ : View.Piece (Elt F) S4x128x128 .f32) :: L) (ix3 a i j)
      = if a.val = o then w (ix3 0 i j) else View.canon L (ix3 a i j) := by
  split
  · rename_i h
    have e : (ix3 a i j : S4x128x128.Idx) = (Rect.unit (s := S4x128x128) ![o, 0, 0] S1x128x128.size inb).emb (ix3 (0 : Fin 1) i j) := by
      funext x
      apply Fin.ext
      rw [Rect.emb_apply]
      match x with
      | ⟨0, _⟩ => show a.val = o + 1 * 0; omega
      | ⟨1, _⟩ => show i.val = 0 + 1 * i.val; omega
      | ⟨2, _⟩ => show j.val = 0 + 1 * j.val; omega
    rw [e, View.canon_cons_emb]
  · rename_i h
    refine View.canon_cons_of_not_mem _ _ ?_
    intro hm
    have h0 := (Rect.mem_set_unit (inb := inb)).mp hm 0
    have h1 : o ≤ a.val ∧ a.val < o + 1 := h0
    omega

/-- The four heads' stores leave the four states. -/
theorem canonHeads (w0 w1 w2 w3 : FVec F S1x128x128 .f32) (L : List (View.Piece (Elt F) S4x128x128 .f32)) (G : FVec F S4x128x128 .f32)
    (h0 : ∀ i j, w0 (ix3 0 i j) = G (ix3 0 i j)) (h1 : ∀ i j, w1 (ix3 0 i j) = G (ix3 1 i j))
    (h2 : ∀ i j, w2 (ix3 0 i j) = G (ix3 2 i j)) (h3 : ∀ i j, w3 (ix3 0 i j) = G (ix3 3 i j)) :
    View.canon ((⟨Rect.unit ![3, 0, 0] S1x128x128.size inb_S4x128x128_S1x128x128_3_0_0, w3⟩ : View.Piece (Elt F) S4x128x128 .f32)
      :: ⟨Rect.unit ![2, 0, 0] S1x128x128.size inb_S4x128x128_S1x128x128_2_0_0, w2⟩ :: ⟨Rect.unit ![1, 0, 0] S1x128x128.size inb_S4x128x128_S1x128x128_1_0_0, w1⟩
      :: ⟨Rect.unit ![0, 0, 0] S1x128x128.size inb_S4x128x128_S1x128x128_0_0_0, w0⟩ :: L) = G := by
  funext k
  obtain ⟨a, i, j, rfl⟩ : ∃ a i j, k = ix3 a i j := ⟨k 0, k 1, k 2, ValueIdx.eq_ix3 k⟩
  rw [canonHead, canonHead, canonHead, canonHead]
  match a with
  | ⟨0, _⟩ => exact h0 i j
  | ⟨1, _⟩ => exact h1 i j
  | ⟨2, _⟩ => exact h2 i j
  | ⟨3, _⟩ => exact h3 i j

/-- A head's state as it is stored. -/
theorem storeHead (X : FVec F S128x128 .f32) (i j : Fin 128) : shapeCast S1x128x128 X shapeCasts_S128x128_S1x128x128 (ix3 0 i j) = X (ix2 i j) :=
  shapeCast_apply _ _ _ (ix2 i j) (by
    rw [Shape.rowMajor_val_three, Shape.rowMajor_val_two]
    show i.val * 128 + j.val = (0 * 128 + i.val) * 128 + j.val; omega)

theorem outA_eq (c : Dev nD) (i : grid0.Coords) (arg2 : Memref sig .tc .vmem S1x256x2048 .f32) (harg2 : arg2.IsWhole) (arg3 : Memref sig .tc .vmem S2x512 .f32) (harg3 : arg3.IsWhole) (arg4 : Memref sig .tc .vmem S1x512 .f32) (harg4 : arg4.IsWhole) (arg5 : Memref sig .tc .vmem S256x256 .bf16) (harg5 : arg5.IsWhole) (arg6 : Memref sig .tc .vmem S512x512 .bf16) (harg6 : arg6.IsWhole) (arg7 : Memref sig .tc .vmem S1x256x512 .bf16) (harg7 : arg7.IsWhole) (arg8 : Memref sig .tc .vmem S4x128x128 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (hc0 : cond0_0 i)
    (x0 : Vec F S1x256x2048 .f32) (x1 : Vec F S2x512 .f32) (x2 : Vec F S1x512 .f32) (x3 : Vec F S256x256 .bf16) (x4 : Vec F S512x512 .bf16) :
    out0_A_5 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 = blockF x0 x1 x2 x3 x4 (zeros (F := F)) := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4)]
  unfold kernelRun0_A
  dsimp only
  rw [View.canon_unit_zero (by funext x; match x with | ⟨0, _⟩ => rfl | ⟨1, _⟩ => rfl | ⟨2, _⟩ => rfl)]
  refine (show _ = k0_pay341 (k0_pay338 (kernelRun0_A.sl.v2481 c arg2 harg2 arg3 harg3 arg5 harg5 arg8 arg9 arg10 arg11 arg12 arg13 arg14 x0 x1 x3) (View.readAt (Elt F) arg6.view (Rect.unit (s := S512x512) ![0, 0] S512x512.size inb_S512x512_S512x512_0_0).toLoadRect (harg6.unread x4))
      (View.readAt (Elt F) arg4.view (Rect.unit (s := S1x512) ![0, 0] S1x512.size inb_S1x512_S1x512_0_0).toLoadRect (harg4.unread x2))) (k0_pay339 (k0_pay2 (View.readAt (Elt F) arg2.view (Rect.unit (s := S1x256x2048) ![0, 0, 0] S1x256x2048.size inb_S1x256x2048_S1x256x2048_0_0_0).toLoadRect (harg2.unread x0)))) k0_pay340 from rfl).trans ?_
  rw [rowsA, readG, readN, readU]
  rfl

theorem soutA_eq (c : Dev nD) (i : grid0.Coords) (arg2 : Memref sig .tc .vmem S1x256x2048 .f32) (harg2 : arg2.IsWhole) (arg3 : Memref sig .tc .vmem S2x512 .f32) (harg3 : arg3.IsWhole) (arg4 : Memref sig .tc .vmem S1x512 .f32) (harg4 : arg4.IsWhole) (arg5 : Memref sig .tc .vmem S256x256 .bf16) (harg5 : arg5.IsWhole) (arg6 : Memref sig .tc .vmem S512x512 .bf16) (harg6 : arg6.IsWhole) (arg7 : Memref sig .tc .vmem S1x256x512 .bf16) (harg7 : arg7.IsWhole) (arg8 : Memref sig .tc .vmem S4x128x128 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (hc0 : cond0_0 i)
    (x0 : Vec F S1x256x2048 .f32) (x1 : Vec F S2x512 .f32) (x2 : Vec F S1x512 .f32) (x3 : Vec F S256x256 .bf16) (x4 : Vec F S512x512 .bf16) :
    sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 = leaveF x0 x1 x3 (zeros (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4)]
  unfold kernelRun0_A
  dsimp only
  refine canonHeads _ _ _ _ _ _ ?_ ?_ ?_ ?_
  · exact fun i j => (storeHead _ i j).trans (congrFun (stA_3_0 ..) (ix2 i j))
  · exact fun i j => (storeHead _ i j).trans (congrFun (stA_3_1 ..) (ix2 i j))
  · exact fun i j => (storeHead _ i j).trans (congrFun (stA_3_2 ..) (ix2 i j))
  · exact fun i j => (storeHead _ i j).trans (congrFun (stA_3_3 ..) (ix2 i j))

theorem outB_eq (c : Dev nD) (i : grid0.Coords) (arg2 : Memref sig .tc .vmem S1x256x2048 .f32) (harg2 : arg2.IsWhole) (arg3 : Memref sig .tc .vmem S2x512 .f32) (harg3 : arg3.IsWhole) (arg4 : Memref sig .tc .vmem S1x512 .f32) (harg4 : arg4.IsWhole) (arg5 : Memref sig .tc .vmem S256x256 .bf16) (harg5 : arg5.IsWhole) (arg6 : Memref sig .tc .vmem S512x512 .bf16) (harg6 : arg6.IsWhole) (arg7 : Memref sig .tc .vmem S1x256x512 .bf16) (harg7 : arg7.IsWhole) (arg8 : Memref sig .tc .vmem S4x128x128 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (hc0 : ¬cond0_0 i)
    (x0 : Vec F S1x256x2048 .f32) (x1 : Vec F S2x512 .f32) (x2 : Vec F S1x512 .f32) (x3 : Vec F S256x256 .bf16) (x4 : Vec F S512x512 .bf16) (xs0 : Vec F S4x128x128 .f32) :
    out0_B_5 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 = blockF x0 x1 x2 x3 x4 xs0 := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0)]
  unfold kernelRun0_B
  dsimp only
  rw [View.canon_unit_zero (by funext x; match x with | ⟨0, _⟩ => rfl | ⟨1, _⟩ => rfl | ⟨2, _⟩ => rfl)]
  refine (show _ = k0_pay341 (k0_pay338 (kernelRun0_B.sl.v2481 c arg2 harg2 arg3 harg3 arg5 harg5 arg8 harg8 arg9 arg10 arg11 arg12 arg13 arg14 x0 x1 x3 xs0) (View.readAt (Elt F) arg6.view (Rect.unit (s := S512x512) ![0, 0] S512x512.size inb_S512x512_S512x512_0_0).toLoadRect (harg6.unread x4))
      (View.readAt (Elt F) arg4.view (Rect.unit (s := S1x512) ![0, 0] S1x512.size inb_S1x512_S1x512_0_0).toLoadRect (harg4.unread x2))) (k0_pay339 (k0_pay2 (View.readAt (Elt F) arg2.view (Rect.unit (s := S1x256x2048) ![0, 0, 0] S1x256x2048.size inb_S1x256x2048_S1x256x2048_0_0_0).toLoadRect (harg2.unread x0)))) k0_pay340 from rfl).trans ?_
  rw [rowsB, readG, readN, readU]
  rfl

theorem soutB_eq (c : Dev nD) (i : grid0.Coords) (arg2 : Memref sig .tc .vmem S1x256x2048 .f32) (harg2 : arg2.IsWhole) (arg3 : Memref sig .tc .vmem S2x512 .f32) (harg3 : arg3.IsWhole) (arg4 : Memref sig .tc .vmem S1x512 .f32) (harg4 : arg4.IsWhole) (arg5 : Memref sig .tc .vmem S256x256 .bf16) (harg5 : arg5.IsWhole) (arg6 : Memref sig .tc .vmem S512x512 .bf16) (harg6 : arg6.IsWhole) (arg7 : Memref sig .tc .vmem S1x256x512 .bf16) (harg7 : arg7.IsWhole) (arg8 : Memref sig .tc .vmem S4x128x128 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (hc0 : ¬cond0_0 i)
    (x0 : Vec F S1x256x2048 .f32) (x1 : Vec F S2x512 .f32) (x2 : Vec F S1x512 .f32) (x3 : Vec F S256x256 .bf16) (x4 : Vec F S512x512 .bf16) (xs0 : Vec F S4x128x128 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 = leaveF x0 x1 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0)]
  unfold kernelRun0_B
  dsimp only
  refine canonHeads _ _ _ _ _ _ ?_ ?_ ?_ ?_
  · exact fun i j => (storeHead _ i j).trans (congrFun (stB_3_0 ..) (ix2 i j))
  · exact fun i j => (storeHead _ i j).trans (congrFun (stB_3_1 ..) (ix2 i j))
  · exact fun i j => (storeHead _ i j).trans (congrFun (stB_3_2 ..) (ix2 i j))
  · exact fun i j => (storeHead _ i j).trans (congrFun (stB_3_3 ..) (ix2 i j))

end Cert.Hgrn
-- ==== Proof.HostK.lean ====
/-
  The arrays the kernel's host code prepares: the block-triangular mask of ones, the head mask of ones, the norm's weights as
  a row.
-/
module

public import proofs.«01_k».proof.Proof.Point
public import proofs.«01_k».proof.Proof.Gen.KernelIdeal.Value
public import Idealize.ShloMosaic.Lib.StableHlo.ReadAt

@[expose] public section

set_option maxHeartbeats 2000000

noncomputable section

open Idealize.ShloMosaic hiding ix1 ix2 ix3 ix4 ix5
open Idealize.ShloMosaic.ValueIdx
open Idealize.ShloMosaic.TcCoe Idealize.SL.Sem
open Cert.KernelIdeal Cert.KernelIdeal.Gen

namespace Cert.Hgrn

/-- Division of a word rounding towards minus infinity, as the host computes it from the one rounding towards zero. -/
def floorDiv (x d : BitVec 32) : BitVec 32 :=
  Scalar.select (IntOp.andi (IntOp.cmpi .ne (if x = 0 then (0 : BitVec 32) else if x.msb = true then -1 else 1) (if d = 0 then 0 else if BitVec.msb d = true then -1 else 1))
      (IntOp.cmpi .ne (IntOp.remsi .host x d) 0#32))
    (IntOp.subi (IntOp.divsi .host x d) 1#32) (IntOp.divsi .host x d)

theorem floorDiv_64 : ∀ i : Fin 256, floorDiv (BitVec.ofNat 32 i.val) 64#32 = BitVec.ofNat 32 (i.val / 64) := by decide +kernel

theorem floorDiv_128 : ∀ i : Fin 512, floorDiv (BitVec.ofNat 32 i.val) 128#32 = BitVec.ofNat 32 (i.val / 128) := by decide +kernel

theorem eq_word (a b : ℕ) (ha : a < 2 ^ 31) (hb : b < 2 ^ 31) : IntOp.cmpi .eq (BitVec.ofNat 32 a) (BitVec.ofNat 32 b) = if a = b then 1#1 else 0#1 := by
  have h : (BitVec.ofNat 32 a = BitVec.ofNat 32 b) ↔ a = b := by
    constructor
    · intro h
      have := congrArg BitVec.toNat h
      rw [BitVec.toNat_ofNat, BitVec.toNat_ofNat, Nat.mod_eq_of_lt (by omega), Nat.mod_eq_of_lt (by omega)] at this
      exact this
    · rintro rfl; rfl
  by_cases e : a = b
  · subst e
    show BitVec.ofBool (BitVec.ofNat 32 a == BitVec.ofNat 32 a) = _
    rw [beq_self_eq_true, if_pos rfl]
    rfl
  · rw [if_neg e]
    have h' : ¬ (BitVec.ofNat 32 a = BitVec.ofNat 32 b) := fun hh => e (h.mp hh)
    show BitVec.ofBool (BitVec.ofNat 32 a == BitVec.ofNat 32 b) = _
    rw [beq_eq_false_iff_ne.mpr h']
    rfl

theorem sge_word (a b : ℕ) (ha : a < 2 ^ 31) (hb : b < 2 ^ 31) : IntOp.cmpi .sge (BitVec.ofNat 32 a) (BitVec.ofNat 32 b) = if b ≤ a then 1#1 else 0#1 := by
  have e1 : (BitVec.ofNat 32 a).toInt = a := by
    rw [BitVec.toInt_eq_toNat_of_lt (by rw [BitVec.toNat_ofNat, Nat.mod_eq_of_lt (by omega)]; omega), BitVec.toNat_ofNat, Nat.mod_eq_of_lt (by omega)]
  have e2 : (BitVec.ofNat 32 b).toInt = b := by
    rw [BitVec.toInt_eq_toNat_of_lt (by rw [BitVec.toNat_ofNat, Nat.mod_eq_of_lt (by omega)]; omega), BitVec.toNat_ofNat, Nat.mod_eq_of_lt (by omega)]
  show BitVec.ofBool (BitVec.sle _ _) = _
  rw [BitVec.sle]
  show BitVec.ofBool (decide ((BitVec.ofNat 32 b).toInt ≤ (BitVec.ofNat 32 a).toInt)) = _
  rw [e1, e2]
  by_cases h : b ≤ a
  · rw [if_pos h, decide_eq_true (by omega)]; rfl
  · rw [if_neg h, decide_eq_false (by omega)]; rfl

theorem bit_real (p : Prop) [Decidable p] : (FloatOps.uitofp .bf16 (if p then 1#1 else 0#1 : BitVec 1) : Ideal .bf16) = (if p then (1 : EReal) else 0) := by
  by_cases h : p
  · rw [if_pos h, if_pos h]
    show (((1#1 : BitVec 1).toNat : ℝ) : EReal) = 1
    simp
  · rw [if_neg h, if_neg h]
    show (((0#1 : BitVec 1).toNat : ℝ) : EReal) = 0
    simp

theorem and_bits (p q : Prop) [Decidable p] [Decidable q] : IntOp.andi (if p then 1#1 else 0#1) (if q then 1#1 else 0#1) = if p ∧ q then 1#1 else 0#1 := by
  by_cases hp : p <;> by_cases hq : q <;> simp [hp, hq, IntOp.andi]

variable (m : (ℓ : Loc nD τ sig) → Buf (Elt Ideal) ℓ)

/-- The block-triangular mask: one where the two rows lie in the same chunk of 64 and the second is not later. -/
def triE (i j : Fin 256) : EReal := if i.val / 64 = j.val / 64 ∧ j.val ≤ i.val then 1 else 0

theorem triV (c : Dev nD) (i j : Fin 256) : (V m c main_v14 : S256x256.Idx → EReal) (ix2 i j) = triE i j := by
  unfold V
  after_reads_at
  refine (show _ = (FloatOps.uitofp .bf16 (IntOp.andi (IntOp.cmpi .eq (floorDiv (BitVec.ofNat 32 i.val) 64#32) (floorDiv (BitVec.ofNat 32 j.val) 64#32))
    (IntOp.cmpi .sge (BitVec.ofNat 32 i.val) (BitVec.ofNat 32 j.val))) : Ideal .bf16) from rfl).trans ?_
  rw [floorDiv_64, floorDiv_64, eq_word _ _ (by omega) (by omega), sge_word _ _ (by omega) (by omega), and_bits, bit_real]
  rfl

/-- The head mask: one where the two columns lie in the same head. -/
def sumE (i j : Fin 512) : EReal := if i.val / 128 = j.val / 128 then 1 else 0

theorem sumV (c : Dev nD) (i j : Fin 512) : (V m c main_v23 : S512x512.Idx → EReal) (ix2 i j) = sumE i j := by
  unfold V
  after_reads_at
  refine (show _ = (FloatOps.uitofp .bf16 (IntOp.cmpi .eq (floorDiv (BitVec.ofNat 32 i.val) 128#32) (floorDiv (BitVec.ofNat 32 j.val) 128#32)) : Ideal .bf16) from rfl).trans ?_
  rw [floorDiv_128, floorDiv_128, eq_word _ _ (by omega) (by omega), bit_real]
  rfl

theorem nwV (c : Dev nD) (l : Fin 512) : (V m c main_v24 : S1x512.Idx → EReal) (ix2 0 l) = (m (c, Proc.tc.devRef main_arg2) : S512.Idx → EReal) (ix1 l) := by
  unfold V
  after_reads_at
  rfl

end Cert.Hgrn
-- ==== Proof.PointVal.lean ====
/-
  What the kernel's gate arrays hold, over the extended reals, at a row and a lane of a grid point's block.
-/
module

public import proofs.«01_k».proof.Proof.Gates
public import proofs.«01_k».proof.Proof.Chunk
public import proofs.«01_k».proof.Proof.Point
public import proofs.«01_k».proof.Proof.HostK

@[expose] public section

noncomputable section

open scoped BigOperators
open Idealize.ShloMosaic hiding ix1 ix2 ix3 ix4 ix5
open Idealize.ShloMosaic.ValueIdx
open Cert.KernelIdeal Cert.KernelIdeal.Gen

namespace Cert.Hgrn

variable (u : Vec Ideal S1x256x2048 .f32) (lb : Vec Ideal S2x512 .f32)

/-- The block's rows. -/
theorem u_apply (r : Fin 256) (j : Fin 2048) : k0_pay2 u (ix2 r j) = u (ix3 0 r j) :=
  shapeCast_apply _ _ _ (ix3 (0 : Fin 1) r j) (by
    rw [Shape.rowMajor_val_three, Shape.rowMajor_val_two]
    show (0 * 256 + r.val) * 2048 + j.val = r.val * 2048 + j.val; omega)

theorem castSame (X : FVec Ideal S256x512 .f32) (j : S256x512.Idx) : shapeCast S256x512 X shapeCasts_S256x512_S256x512 j = X j :=
  shapeCast_apply _ _ _ j rfl

/-- The kernel's lower bound. -/
theorem lb_apply (l : Fin 512) : k0_pay3 lb (ix2 0 l) = lbE (lb (ix2 0 l)) (lb (ix2 1 l)) := by
  have c1 : ∀ (X : FVec Ideal S512 .f32), shapeCast S1x512 X shapeCasts_S512_S1x512 (ix2 0 l) = X (ix1 l) := fun X =>
    shapeCast_apply _ _ _ (ix1 l) (by
      rw [Shape.rowMajor_val_two, Shape.rowMajor_val_one]
      show l.val = 0 * 512 + l.val; omega)
  have hmax : (multiReduction (F := Ideal) (φ := .f32) .maximumf [0] S512 lb 0xFF800000#32 reduces_S2x512_S512 (.inl rfl) rfl (ix1 l) : EReal) = max (lb (ix2 0 l)) (lb (ix2 1 l)) := by
    refine (Ideal.multiReduction_maximumf_single lb _ reduces_S2x512_S512 (.inl rfl) rfl (ix1 l)).trans ?_
    have e : ∀ k : Fin 2, (lb ∘ reduces_S2x512_S512.lift (ix1 l)) k = lb (ix2 k l) := fun k => by
      refine congrArg lb ?_
      funext x
      match x with
      | ⟨0, _⟩ => rfl
      | ⟨1, _⟩ => rfl
    refine (congrArg (fun b : EReal => (Finset.univ : Finset (Fin 2)).fold max b (lb ∘ reduces_S2x512_S512.lift (ix1 l))) ninf_lit).trans ?_
    exact (fold_max2 _).trans (by rw [e, e])
  have hexp : ∀ i : Fin 2, (exp (F := Ideal) (φ := .f32) (subf (F := Ideal) lb (broadcastTo S2x512 (shapeCast S1x512 (multiReduction (F := Ideal) (φ := .f32) .maximumf [0] S512 lb 0xFF800000#32 reduces_S2x512_S512 (.inl rfl) rfl) shapeCasts_S512_S1x512) broadcasts_S1x512_S2x512)) (ix2 i l) : EReal)
      = Ideal.exp (lb (ix2 i l) - max (lb (ix2 0 l)) (lb (ix2 1 l))) := fun i => by
    show Ideal.exp (lb (ix2 i l) - broadcastTo S2x512 _ broadcasts_S1x512_S2x512 (ix2 i l)) = _
    rw [bcastRow, c1, hmax]
  unfold k0_pay3 lbE
  try dsimp only
  show Ideal.div (shapeCast S1x512 _ shapeCasts_S512_S1x512 (ix2 0 l)) (shapeCast S1x512 _ shapeCasts_S512_S1x512 (ix2 0 l)) = _
  rw [c1, c1]
  refine congrArg₂ Ideal.div ?_ ?_
  · refine (Ideal.multiReduction_add_single _ _ reduces_S1x512_S512 (.inl rfl) rfl (ix1 l)).trans ?_
    refine (Fin.sum_univ_one _).trans ?_
    have e : reduces_S1x512_S512.lift (ix1 l) (0 : Fin 1) = ix2 (0 : Fin 1) l := by
      funext x
      match x with
      | ⟨0, _⟩ => rfl
      | ⟨1, _⟩ => rfl
    refine (congrArg _ e).trans ?_
    rw [slice2 0 0 _ _ (0 : Fin 1) l (by omega) (by omega)]
    exact (congrArg _ (by congr 1 <;> exact Fin.ext (by simp))).trans (hexp 0)
  · refine (Ideal.multiReduction_add_single _ _ reduces_S2x512_S512 (.inl rfl) rfl (ix1 l)).trans ?_
    have e : ∀ k : Fin 2, reduces_S2x512_S512.lift (ix1 l) k = ix2 k l := fun k => by
      funext x
      match x with
      | ⟨0, _⟩ => rfl
      | ⟨1, _⟩ => rfl
    refine (Fin.sum_univ_two _).trans ?_
    exact congrArg₂ (· + ·) ((congrArg _ (e 0)).trans (hexp 0)) ((congrArg _ (e 1)).trans (hexp 1))

/-- The kernel's sigmoid of the forget column. -/
theorem sig_apply (r : Fin 256) (l : Fin 512) : k0_pay4 u (ix2 r l) = Ideal.logistic (u (ix3 0 r ⟨512 + l.val, by omega⟩)) := by
  unfold k0_pay4
  try dsimp only
  show Ideal.ofBits .f32 0x3F000000#32 * Ideal.tanh (Ideal.ofBits .f32 0x3F000000#32 * extractStridedSlice S256x512 ![0, 512] (k0_pay2 u) slices_S256x2048_o0_512_S256x512 (ix2 r l)) + Ideal.ofBits .f32 0x3F000000#32 = _
  rw [slice2 0 512 _ _ r l (by omega) (by omega), half_lit, half_tanh, u_apply]
  congr 3; exact Fin.ext (by simp)

/-- The query. -/
theorem q_apply (r : Fin 256) (l : Fin 512) : qOf u (ix2 r l) = gateQ (u (ix3 0 r ⟨l.val, by omega⟩)) := by
  unfold qOf k0_pay7 k0_pay6 gateQ
  try dsimp only
  rw [castSame]
  show extractStridedSlice S256x512 ![0, 0] (k0_pay2 u) slices_S256x2048_o0_0_S256x512 (ix2 r l) * (Ideal.ofBits .f32 0x3F000000#32 * Ideal.tanh (Ideal.ofBits .f32 0x3F000000#32 * extractStridedSlice S256x512 ![0, 0] (k0_pay2 u) slices_S256x2048_o0_0_S256x512 (ix2 r l)) + Ideal.ofBits .f32 0x3F000000#32) = _
  rw [slice2 0 0 _ _ r l (by omega) (by omega), half_lit, half_tanh, u_apply]
  have e : (ix3 (0 : Fin 1) (⟨0 + r.val, by omega⟩ : Fin 256) (⟨0 + l.val, by omega⟩ : Fin 2048)) = ix3 0 r ⟨l.val, by omega⟩ := by
    congr 1 <;> exact Fin.ext (by simp)
  rw [e]

/-- The value. -/
theorem v_apply (r : Fin 256) (l : Fin 512) : vOf u (ix2 r l) = u (ix3 0 r ⟨1024 + l.val, by omega⟩) := by
  unfold vOf k0_pay9
  try dsimp only
  rw [castSame, slice2 0 1024 _ _ r l (by omega) (by omega), u_apply]
  congr 2; exact Fin.ext (by simp)

/-- The key. -/
theorem k_apply (r : Fin 256) (l : Fin 512) :
    kOf u lb (ix2 r l) = gateK (lbE (lb (ix2 0 l)) (lb (ix2 1 l))) (u (ix3 0 r ⟨512 + l.val, by omega⟩)) := by
  unfold kOf k0_pay8 gateK
  try dsimp only
  rw [castSame]
  show broadcastTo S256x512 _ broadcasts_S1x512_S256x512 (ix2 r l) * (Ideal.ofBits .f32 0x3F800000#32 - k0_pay4 u (ix2 r l)) = _
  rw [bcastRow]
  show (Ideal.ofBits .f32 0x3F800000#32 - k0_pay3 lb (ix2 0 l)) * _ = _
  rw [one_lit, lb_apply, sig_apply, one_sub_logistic]

/-- The logarithm of the forget gate. -/
theorem log_apply (r : Fin 256) (l : Fin 512) :
    k0_pay10 (k0_pay5 u lb) (ix2 r l) = gateL (lbE (lb (ix2 0 l)) (lb (ix2 1 l))) (u (ix3 0 r ⟨512 + l.val, by omega⟩)) := by
  unfold k0_pay10 k0_pay5 gateL
  try dsimp only
  show Ideal.log (broadcastTo S256x512 _ broadcasts_S1x512_S256x512 (ix2 r l) + broadcastTo S256x512 _ broadcasts_S1x512_S256x512 (ix2 r l) * k0_pay4 u (ix2 r l)) = _
  rw [bcastRow, bcastRow]
  show Ideal.log (k0_pay3 lb (ix2 0 l) + (Ideal.ofBits .f32 0x3F800000#32 - k0_pay3 lb (ix2 0 l)) * k0_pay4 u (ix2 r l)) = _
  rw [one_lit, lb_apply, sig_apply]

theorem l_apply (r : Fin 256) (l : Fin 512) :
    lOf u lb (ix2 r l) = gateL (lbE (lb (ix2 0 l)) (lb (ix2 1 l))) (u (ix3 0 r ⟨512 + l.val, by omega⟩)) := by
  unfold lOf k0_pay11
  try dsimp only
  rw [castSame, log_apply]

/-- A sum over 256 rows of which only those of chunk `n` up to row `r` count. -/
theorem sum_tri (n : Fin 4) (r : Fin 64) (f : Fin 256 → EReal) (i : Fin 256) (hi : i.val = 64 * n.val + r.val) :
    ∑ c : Fin 256, triE i c * f c = ∑ s : Fin 64, if s ≤ r then f ⟨64 * n.val + s.val, by omega⟩ else 0 := by
  have e : ∀ c : Fin 256, triE i c * f c = if i.val / 64 = c.val / 64 ∧ c.val ≤ i.val then f c else 0 := fun c => by
    unfold triE
    split <;> simp
  simp only [e]
  rw [← Finset.sum_filter, ← Finset.sum_filter]
  refine (Finset.sum_nbij' (fun s : Fin 64 => (⟨64 * n.val + s.val, by omega⟩ : Fin 256)) (fun c : Fin 256 => (⟨c.val % 64, by omega⟩ : Fin 64)) ?_ ?_ ?_ ?_ ?_).symm
  · intro s hs
    simp only [Finset.mem_filter, Finset.mem_univ, true_and, Fin.le_def] at hs ⊢
    omega
  · intro c hc
    simp only [Finset.mem_filter, Finset.mem_univ, true_and, Fin.le_def] at hc ⊢
    omega
  · intro s hs
    apply Fin.ext
    show (64 * n.val + s.val) % 64 = s.val
    omega
  · intro c hc
    simp only [Finset.mem_filter, Finset.mem_univ, true_and, Fin.le_def] at hc
    apply Fin.ext
    show 64 * n.val + c.val % 64 = c.val
    omega
  · intro s hs; rfl

/-- The running sums of the gate's logarithm: within each chunk of 64 rows, over the rows up to the row itself. The two
    corrections the kernel adds are zero, or the sum is minus infinity with them and without. -/
theorem b_apply (tri : Vec Ideal S256x256 .bf16) (ht : ∀ i j, (tri : S256x256.Idx → EReal) (ix2 i j) = triE i j)
    (hl : ∀ r l, (lOf u lb (ix2 r l) : EReal) ≠ ⊤) (n : Fin 4) (r : Fin 64) (l : Fin 512) :
    bOf u lb tri (ix2 (⟨64 * n.val + r.val, by omega⟩ : Fin 256) l)
      = ∑ s : Fin 64, if s ≤ r then lOf u lb (ix2 (⟨64 * n.val + s.val, by omega⟩ : Fin 256) l) else 0 := by
  have h10 : ∀ i j, k0_pay10 (k0_pay5 u lb) (ix2 i j) = lOf u lb (ix2 i j) := fun i j => by rw [l_apply, log_apply]
  unfold bOf k0_pay12
  try dsimp only
  rw [castSame]
  show matmul _ none _ _ _ _ + (matmul _ none _ _ _ _ + matmul _ none _ _ _ _) = _
  unfold dot_S256x256_S256x512_S256x512_1_0_0_1_n_n
  rw [mmPlain, mmPlain, mmPlain]
  have tt : ∀ i j, shapeCast S256x256 tri shapeCasts_S256x256_S256x256 (ix2 i j) = triE i j := fun i j =>
    (shapeCast_apply _ _ _ (ix2 i j) rfl).trans (ht i j)
  refine (congrArg₂ (· + ·) (Finset.sum_congr rfl (fun c _ => congrArg (· * _) (tt _ c)))
    (congrArg₂ (· + ·) (Finset.sum_congr rfl (fun c _ => congrArg (· * _) (tt _ c))) (Finset.sum_congr rfl (fun c _ => congrArg (· * _) (tt _ c))))).trans ?_
  · refine (sum_corrected (fun c : Fin 256 => (64 * n.val + r.val) / 64 = c.val / 64 ∧ c.val ≤ 64 * n.val + r.val) (fun c => triE ⟨64 * n.val + r.val, by omega⟩ c)
      (fun c => (k0_pay10 (k0_pay5 u lb) (ix2 c l) : EReal)) (fun c => rfl) (fun c => by rw [h10]; exact hl c l)).trans ?_
    refine (sum_tri n r (fun c => k0_pay10 (k0_pay5 u lb) (ix2 c l)) _ rfl).trans ?_
    refine Finset.sum_congr rfl fun s _ => ?_
    rw [h10]

end Cert.Hgrn

end
-- ==== Proof.PointOut.lean ====
/-
  What a grid point computes, in the recurrence's terms: the states its four chunks pass on, its rows, and its block of the result.
-/
module

public import proofs.«01_k».proof.Proof.PointVal

@[expose] public section

noncomputable section

open scoped BigOperators
open Idealize.ShloMosaic hiding ix1 ix2 ix3 ix4 ix5
open Idealize.ShloMosaic.ValueIdx
open Cert.KernelIdeal Cert.KernelIdeal.Gen

namespace Cert.Hgrn

/-- A head's state after some of the point's chunks is the recurrence's, when it was before them. -/
theorem st_state (K V B : FVec Ideal S256x512 .f32) (S : FVec Ideal S4x128x128 .f32) (h : Fin 4) (k v b : ℕ → Fin 64 → Fin 128 → EReal) (t : ℕ)
    (hK : ∀ c : Fin 4, at2 (cutF K c h) = k (4 * t + c.val)) (hV : ∀ c : Fin 4, at2 (cutF V c h) = v (4 * t + c.val))
    (hB : ∀ c : Fin 4, at2 (cutF B c h) = b (4 * t + c.val)) (hS : at2 (headF S h) = state k v b (4 * t)) :
    ∀ c ≤ 4, at2 (stF K V B S h c) = state k v b (4 * t + c)
  | 0, _ => hS
  | c + 1, hc => by
    have ih := st_state K V B S h k v b t hK hV hB hS c (by omega)
    have e : (Fin.ofNat 4 c).val = c := by show c % 4 = c; omega
    funext w x
    show chunkS (cutF K (Fin.ofNat 4 c) h) (cutF V (Fin.ofNat 4 c) h) (cutF B (Fin.ofNat 4 c) h) (stF K V B S h c) (ix2 w x) = _
    rw [chunkS_apply, hK, hV, hB, ih, e]
    rfl

/-- A row of the point's results is the recurrence's. -/
theorem out_row (Q K V L B : FVec Ideal S256x512 .f32) (S : FVec Ideal S4x128x128 .f32) (h : Fin 4) (q k v l b : ℕ → Fin 64 → Fin 128 → EReal) (t : ℕ)
    (hQ : ∀ c : Fin 4, at2 (cutF Q c h) = q (4 * t + c.val))
    (hK : ∀ c : Fin 4, at2 (cutF K c h) = k (4 * t + c.val)) (hV : ∀ c : Fin 4, at2 (cutF V c h) = v (4 * t + c.val))
    (hL : ∀ c : Fin 4, at2 (cutF L c h) = l (4 * t + c.val))
    (hB : ∀ c : Fin 4, at2 (cutF B c h) = b (4 * t + c.val)) (hS : at2 (headF S h) = state k v b (4 * t))
    (rd : ∀ n r s e, s ≤ r → b n r e = ⊥ ∨ (Fin' (b n r e) ∧ Fin' (b n s e) ∧ Fin' (l n s e))) (n : Fin 4) (r : Fin 64) (w : Fin 128) :
    outF Q K V L B S n h (ix2 r w)
      = out (q (4 * t + n.val)) (k (4 * t + n.val)) (v (4 * t + n.val)) (b (4 * t + n.val)) (state k v b (4 * t + n.val)) r w := by
  unfold outF
  rw [chunkO_apply _ _ _ _ _ _ (fun r s e hs => by rw [hB, hL]; exact rd _ r s e hs),
    hQ, hK, hV, hB, st_state K V B S h k v b t hK hV hB hS n.val (by omega)]

/-- A sum over all lanes of which only those of lane `j`'s head count. -/
theorem sum_lanes (j : Fin 512) (f : Fin 512 → EReal) :
    ∑ c : Fin 512, f c * sumE c j = ∑ e : Fin 128, f (laneOf ⟨j.val / 128, by omega⟩ e) := by
  have e : ∀ c : Fin 512, f c * sumE c j = if c.val / 128 = j.val / 128 then f c else 0 := fun c => by
    unfold sumE
    split <;> simp
  simp only [e]
  rw [← Finset.sum_filter]
  refine (Finset.sum_nbij' (fun e : Fin 128 => laneOf ⟨j.val / 128, by omega⟩ e) (fun c : Fin 512 => (⟨c.val % 128, by omega⟩ : Fin 128)) ?_ ?_ ?_ ?_ ?_).symm
  · intro x _
    simp only [Finset.mem_filter, Finset.mem_univ, true_and, laneOf]
    omega
  · intro c hc
    exact Finset.mem_univ _
  · intro x _
    apply Fin.ext
    show (128 * (j.val / 128) + x.val) % 128 = x.val
    omega
  · intro c hc
    simp only [Finset.mem_filter, Finset.mem_univ, true_and] at hc
    apply Fin.ext
    show 128 * (j.val / 128) + c.val % 128 = c.val
    omega
  · intro x _; rfl

/-- The point's block of the result: its rows normalised, weighted and gated. -/
theorem block_apply (u : Vec Ideal S1x256x2048 .f32) (lb : Vec Ideal S2x512 .f32) (nw : Vec Ideal S1x512 .f32) (tri : Vec Ideal S256x256 .bf16)
    (g : Vec Ideal S512x512 .bf16) (S : FVec Ideal S4x128x128 .f32) (hg : ∀ i j, (g : S512x512.Idx → EReal) (ix2 i j) = sumE i j) (i : Fin 256) (j : Fin 512) :
    blockF u lb nw tri g S (ix3 0 i j)
      = finish (fun e => rowsF (qOf u) (kOf u lb) (vOf u) (lOf u lb) (bOf u lb tri) S (ix2 i (laneOf ⟨j.val / 128, by omega⟩ e))) ⟨j.val % 128, Nat.mod_lt _ (by decide)⟩
          (nw (ix2 0 j)) (u (ix3 0 i (colOf 3 j))) := by
  unfold blockF
  generalize rowsF (qOf u) (kOf u lb) (vOf u) (lOf u lb) (bOf u lb tri) S = R
  unfold k0_pay341 k0_pay338 k0_pay339 k0_pay340 finish
  try dsimp only
  refine (shapeCast_apply _ _ _ (ix2 i j) (by
    rw [Shape.rowMajor_val_three, Shape.rowMajor_val_two]
    show i.val * 512 + j.val = (0 * 256 + i.val) * 512 + j.val; omega)).trans ?_
  have hj : laneOf ⟨j.val / 128, by omega⟩ ⟨j.val % 128, Nat.mod_lt _ (by decide)⟩ = j := Fin.ext (by show 128 * (j.val / 128) + j.val % 128 = j.val; omega)
  rw [hj]
  refine congrArg₂ (· * ·) (congrArg₂ (· * ·) (congrArg (R (ix2 i j) * ·) (congrArg Ideal.rsqrt (congrArg (· + _) (congrArg₂ (· * ·) ?_ r128_lit)))) ?_) ?_
  · refine (mmPlain dot_S256x512_S512x512_S256x512_1_0_0_1_n_n_wf _ _ i j).trans ?_
    refine Eq.trans ?_ (sum_lanes j fun c => R (ix2 i c) * R (ix2 i c))
    refine Finset.sum_congr rfl fun c _ => congrArg (R (ix2 i c) * R (ix2 i c) * ·) ?_
    exact (shapeCast_apply _ _ _ (ix2 c j) rfl).trans (hg c j)
  · refine (bcastRow _ _ i j).trans ?_
    exact shapeCast_apply _ _ _ (ix2 0 j) rfl
  · show Ideal.ofBits .f32 0x3F000000#32 * Ideal.tanh (Ideal.ofBits .f32 0x3F000000#32 * extractStridedSlice S256x512 ![0, 1536] (k0_pay2 u) slices_S256x2048_o0_1536_S256x512 (ix2 i j)) + Ideal.ofBits .f32 0x3F000000#32 = _
    rw [slice2 0 1536 _ _ i j (by omega) (by omega), half_lit, half_tanh, u_apply]
    congr 3; exact Fin.ext (by simp)

end Cert.Hgrn

end
-- ==== Proof.Step.lean ====
/-
  One grid point, in the recurrence's terms: from the states after the chunks before it, the block of the result it writes and the
  states it leaves.
-/
module

public import proofs.«01_k».proof.Proof.PointOut

@[expose] public section

noncomputable section

open scoped BigOperators
open Idealize.ShloMosaic hiding ix1 ix2 ix3 ix4 ix5
open Idealize.ShloMosaic.ValueIdx
open Cert.KernelIdeal Cert.KernelIdeal.Gen

namespace Cert.Hgrn

variable (X : Fin 4 → Fin 4096 → Fin 2048 → EReal) (L : Fin 2 → Fin 512 → EReal) (N : Fin 512 → EReal)
variable (b : Fin 4) (ti : ℕ) (hti : ti < 16)
variable (u : Vec Ideal S1x256x2048 .f32) (hu : ∀ i j (t : Fin 4096), t.val = 256 * ti + i.val → (u (ix3 0 i j) : EReal) = X b t j)
variable (lb : Vec Ideal S2x512 .f32) (hlb : ∀ i l, (lb (ix2 i l) : EReal) = L i l)
variable (tri : Vec Ideal S256x256 .bf16) (ht : ∀ i j, (tri : S256x256.Idx → EReal) (ix2 i j) = triE i j)

include hti hu in
/-- The block at a row and a column of one of its four groups. -/
theorem u_col (c : Fin 4) (r : Fin 64) (k : Fin 2048) (g : Fin 4) (l : Fin 512) (hk : k.val = 512 * g.val + l.val) (i : Fin 256) (hi : i.val = 64 * c.val + r.val) :
    (u (ix3 0 i k) : EReal) = X b (rowOf (4 * ti + c.val) r) (colOf g l) := by
  rw [hu i k (rowOf (4 * ti + c.val) r) (by show (64 * (4 * ti + c.val) + r.val) % 4096 = 256 * ti + i.val; omega)]
  have e2 : k = colOf g l := Fin.ext hk
  rw [e2]

include hti hu in
theorem cut_q (c h : Fin 4) : at2 (cutF (qOf u) c h) = gq X b h (4 * ti + c.val) := by
  funext r e
  refine (q_apply u ⟨64 * c.val + r.val, by omega⟩ (laneOf h e)).trans ?_
  unfold gq
  rw [u_col X b ti hti u hu c r _ 0 (laneOf h e) (by show _ = 512 * 0 + _; simp) _ rfl]

include hti hu in
theorem cut_v (c h : Fin 4) : at2 (cutF (vOf u) c h) = gv X b h (4 * ti + c.val) := by
  funext r e
  refine (v_apply u ⟨64 * c.val + r.val, by omega⟩ (laneOf h e)).trans ?_
  unfold gv
  rw [u_col X b ti hti u hu c r _ 2 (laneOf h e) rfl _ rfl]

include hti hu hlb in
theorem cut_k (c h : Fin 4) : at2 (cutF (kOf u lb) c h) = gk X L b h (4 * ti + c.val) := by
  funext r e
  refine (k_apply u lb ⟨64 * c.val + r.val, by omega⟩ (laneOf h e)).trans ?_
  unfold gk lbOf
  rw [u_col X b ti hti u hu c r _ 1 (laneOf h e) rfl _ rfl, hlb, hlb]

include hti hu hlb in
theorem l_at (c h : Fin 4) (r : Fin 64) (e : Fin 128) (i : Fin 256) (hi : i.val = 64 * c.val + r.val) : lOf u lb (ix2 i (laneOf h e)) = gl X L b h (4 * ti + c.val) r e := by
  refine (l_apply u lb i (laneOf h e)).trans ?_
  unfold gl lbOf
  rw [u_col X b ti hti u hu c r _ 1 (laneOf h e) rfl _ hi, hlb, hlb]

include hti hu hlb in
theorem cut_l (c h : Fin 4) : at2 (cutF (lOf u lb) c h) = gl X L b h (4 * ti + c.val) := by
  funext r e
  exact l_at X L b ti hti u hu lb hlb c h r e _ rfl

include hti hu hlb ht in
theorem cut_b (c h : Fin 4) : at2 (cutF (bOf u lb tri) c h) = gb X L b h (4 * ti + c.val) := by
  funext r e
  refine (b_apply u lb tri ht (fun i l => ?_) c r (laneOf h e)).trans ?_
  · rw [l_apply, hlb, hlb]; exact gateL_ne_top (lbE_ne_top _ _) _
  · unfold gb cum
    refine Finset.sum_congr rfl fun s _ => ?_
    rw [l_at X L b ti hti u hu lb hlb c h s e _ rfl]

variable (S : FVec Ideal S4x128x128 .f32)
  (hS : ∀ h, at2 (headF S h) = state (gk X L b h) (gv X b h) (gb X L b h) (4 * ti))

include hti hu hlb ht hS in
/-- The states the point leaves are the recurrence's four chunks on. -/
theorem leave_state (h : Fin 4) : at2 (headF (leaveF u lb tri S) h) = state (gk X L b h) (gv X b h) (gb X L b h) (4 * (ti + 1)) := by
  have e := st_state (kOf u lb) (vOf u) (bOf u lb tri) S h _ _ _ ti (fun c => cut_k X L b ti hti u hu lb hlb c h) (fun c => cut_v X b ti hti u hu c h)
    (fun c => cut_b X L b ti hti u hu lb hlb tri ht c h) (hS h) 4 (le_refl _)
  rw [show 4 * (ti + 1) = 4 * ti + 4 by omega, ← e]
  rfl

include hti hu hlb ht hS in
/-- The block the point writes is the layer's result at its rows. -/
theorem block_hgrn (nw : Vec Ideal S1x512 .f32) (hN : ∀ l, (nw (ix2 0 l) : EReal) = N l) (g : Vec Ideal S512x512 .bf16)
    (hg : ∀ i j, (g : S512x512.Idx → EReal) (ix2 i j) = sumE i j) (i : Fin 256) (j : Fin 512)
    (t : Fin 4096) (htv : t.val = 256 * ti + i.val) : blockF u lb nw tri g S (ix3 0 i j) = hgrn X L N b t j := by
  have et : t = ⟨256 * ti + i.val, by omega⟩ := Fin.ext htv
  rw [et]
  rw [block_apply u lb nw tri g S hg i j, hN]
  unfold hgrn
  rw [hu i _ ⟨256 * ti + i.val, by omega⟩ rfl]
  congr 1
  funext e
  have hc : i.val / 64 < 4 := by omega
  have hd : (128 * (j.val / 128) + e.val) / 128 = j.val / 128 := by omega
  have hm : (128 * (j.val / 128) + e.val) % 128 = e.val := by omega
  have e1 : rowsF (qOf u) (kOf u lb) (vOf u) (lOf u lb) (bOf u lb tri) S (ix2 i (laneOf ⟨j.val / 128, by omega⟩ e))
      = outF (qOf u) (kOf u lb) (vOf u) (lOf u lb) (bOf u lb tri) S ⟨i.val / 64, hc⟩ ⟨j.val / 128, by omega⟩ (ix2 (⟨i.val % 64, by omega⟩ : Fin 64) e) := by
    show outF (qOf u) (kOf u lb) (vOf u) (lOf u lb) (bOf u lb tri) S ⟨i.val / 64, hc⟩ ⟨(128 * (j.val / 128) + e.val) / 128, by omega⟩ (ix2 (⟨i.val % 64, by omega⟩ : Fin 64) (⟨(128 * (j.val / 128) + e.val) % 128, by omega⟩ : Fin 128)) = _
    have e3 : (⟨(128 * (j.val / 128) + e.val) / 128, by omega⟩ : Fin 4) = ⟨j.val / 128, by omega⟩ := Fin.ext hd
    have e4 : (⟨(128 * (j.val / 128) + e.val) % 128, by omega⟩ : Fin 128) = e := Fin.ext hm
    rw [e3, e4]
  rw [e1, out_row _ _ _ _ _ S ⟨j.val / 128, by omega⟩ (gq X b _) (gk X L b _) (gv X b _) (gl X L b _) (gb X L b _) ti (fun c => cut_q X b ti hti u hu c _)
    (fun c => cut_k X L b ti hti u hu lb hlb c _) (fun c => cut_v X b ti hti u hu c _) (fun c => cut_l X L b ti hti u hu lb hlb c _)
    (fun c => cut_b X L b ti hti u hu lb hlb tri ht c _) (hS _) (fun n r s e hs => gb_dec X b _ n r s e hs)]
  unfold rowE
  have en : 4 * ti + i.val / 64 = (256 * ti + i.val) / 64 := by omega
  have er : (⟨i.val % 64, by omega⟩ : Fin 64) = ⟨(256 * ti + i.val) % 64, Nat.mod_lt _ (by decide)⟩ := Fin.ext (by show i.val % 64 = (256 * ti + i.val) % 64; omega)
  show out (gq X b _ (4 * ti + i.val / 64)) (gk X L b _ (4 * ti + i.val / 64)) (gv X b _ (4 * ti + i.val / 64)) (gb X L b _ (4 * ti + i.val / 64)) (state _ _ _ (4 * ti + i.val / 64)) _ _ = _
  rw [en, er]

end Cert.Hgrn

end
-- ==== Proof.Array.lean ====
/-
  What the kernel leaves in its result: the layer's value at every batch, row and lane.
-/
module

public import proofs.«01_k».proof.Proof.Step
public import proofs.«01_k».proof.Proof.Gen.KernelIdeal.Value

@[expose] public section

noncomputable section

open scoped BigOperators
open Idealize.ShloMosaic hiding ix1 ix2 ix3 ix4 ix5
open Idealize.ShloMosaic.ValueIdx
open Idealize.ShloMosaic.TcCoe Idealize.SL.Sem
open Cert.KernelIdeal Cert.KernelIdeal.Gen Cert.KernelIdeal.Value

namespace Cert.Hgrn

variable (m : (ℓ : Loc nD τ sig) → Buf (Elt Ideal) ℓ) (c : Dev nD)

/-- The projections. -/
def kX (b : Fin 4) (t : Fin 4096) (j : Fin 2048) : EReal := (m ((c : Thread nD τ).loc main_arg0) : S4x4096x2048.Idx → EReal) (ix3 b t j)
/-- The lower bounds' logits. -/
def kL (i : Fin 2) (l : Fin 512) : EReal := (m ((c : Thread nD τ).loc main_arg1) : S2x512.Idx → EReal) (ix2 i l)
/-- The norm's weights. -/
def kN (l : Fin 512) : EReal := (m ((c : Thread nD τ).loc main_arg2) : S512.Idx → EReal) (ix1 l)

/-- The printed index maps over the grid: the projections' block is the point's batch and block of rows, the other four are whole. -/
theorem idx0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)

theorem lt64 (t : Fin cfg0.N) : t.val < 64 := lt_of_lt_of_eq t.isLt N_0

/-- A point's batch. -/
def batch (t : Fin cfg0.N) : Fin 4 := ⟨t.val / 16, by have := lt64 t; omega⟩

theorem read0 (t : Fin cfg0.N) (i : Fin 256) (j : Fin 2048) (r : Fin 4096)
    (hr : r.val = 256 * (t.val % 16) + i.val) : (iblk m c 0 t : S1x256x2048.Idx → EReal) (ix3 0 i j) = kX m c (batch t) r j := by
  obtain ⟨e0, e1, e2⟩ := idx0 t
  unfold iblk kX
  rw [View.read_apply]
  show V m c main_arg0 _ = _
  rw [V_main_arg0]
  congr 1
  funext a
  apply Fin.ext
  match a with
  | ⟨0, _⟩ => show win0_0.index t (0 : Fin 3) * 1 + 1 * 0 = t.val / 16; omega
  | ⟨1, _⟩ => show win0_0.index t (1 : Fin 3) * 256 + 1 * i.val = r.val; omega
  | ⟨2, _⟩ => show win0_0.index t (2 : Fin 3) * 2048 + 1 * j.val = j.val; omega

theorem read1 (t : Fin cfg0.N) (i : Fin 2) (l : Fin 512) : (iblk m c 1 t : S2x512.Idx → EReal) (ix2 i l) = kL m c i l := by
  obtain ⟨e0, e1⟩ := idx1 t
  unfold iblk kL
  rw [View.read_apply]
  show V m c main_arg1 _ = _
  rw [V_main_arg1]
  congr 1
  funext a
  apply Fin.ext
  match a with
  | ⟨0, _⟩ => show win0_1.index t (0 : Fin 2) * 2 + 1 * i.val = i.val; omega
  | ⟨1, _⟩ => show win0_1.index t (1 : Fin 2) * 512 + 1 * l.val = l.val; omega

theorem read2 (t : Fin cfg0.N) (l : Fin 512) : (iblk m c 2 t : S1x512.Idx → EReal) (ix2 0 l) = kN m c l := by
  obtain ⟨e0, e1⟩ := idx2 t
  refine Eq.trans ?_ (nwV m c l)
  unfold iblk
  rw [View.read_apply]
  show V m c main_v24 _ = V m c main_v24 _
  congr 1
  funext a
  apply Fin.ext
  match a with
  | ⟨0, _⟩ => show win0_2.index t (0 : Fin 2) * 1 + 1 * 0 = 0; omega
  | ⟨1, _⟩ => show win0_2.index t (1 : Fin 2) * 512 + 1 * l.val = l.val; omega

theorem read3 (t : Fin cfg0.N) (i j : Fin 256) : (iblk m c 3 t : S256x256.Idx → EReal) (ix2 i j) = triE i j := by
  obtain ⟨e0, e1⟩ := idx3 t
  refine Eq.trans ?_ (triV m c i j)
  unfold iblk
  rw [View.read_apply]
  show V m c main_v14 _ = V m c main_v14 _
  congr 1
  funext a
  apply Fin.ext
  match a with
  | ⟨0, _⟩ => show win0_3.index t (0 : Fin 2) * 256 + 1 * i.val = i.val; omega
  | ⟨1, _⟩ => show win0_3.index t (1 : Fin 2) * 256 + 1 * j.val = j.val; omega

theorem read4 (t : Fin cfg0.N) (i j : Fin 512) : (iblk m c 4 t : S512x512.Idx → EReal) (ix2 i j) = sumE i j := by
  obtain ⟨e0, e1⟩ := idx4 t
  refine Eq.trans ?_ (sumV m c i j)
  unfold iblk
  rw [View.read_apply]
  show V m c main_v23 _ = V m c main_v23 _
  congr 1
  funext a
  apply Fin.ext
  match a with
  | ⟨0, _⟩ => show win0_4.index t (0 : Fin 2) * 512 + 1 * i.val = i.val; omega
  | ⟨1, _⟩ => show win0_4.index t (1 : Fin 2) * 512 + 1 * j.val = j.val; omega

/-- Nothing is carried into a batch's first point. -/
theorem zero_state (h : Fin 4) (k v b : ℕ → Fin 64 → Fin 128 → EReal) : at2 (headF (zeros (F := Ideal)) h) = state k v b (4 * 0) := by
  funext w e
  show Ideal.ofBits .f32 0x00000000#32 = 0
  exact zero_lit

/-- What the induction over the points says of a point: its states are the recurrence's, its block the layer's result. -/
def Good (t : Fin cfg0.N) (a : Vec Ideal S1x256x512 .bf16 × Vec Ideal S4x128x128 .f32) : Prop :=
  (∀ h, (at2 (headF (F := Ideal) a.2 h) : Fin 128 → Fin 128 → EReal) = state (gk (kX m c) (kL m c) (batch t) h) (gv (kX m c) (batch t) h)
      (gb (kX m c) (kL m c) (batch t) h) (4 * (t.val % 16 + 1)))
  ∧ ∀ (i : Fin 256) (j : Fin 512) (r : Fin 4096), r.val = 256 * (t.val % 16) + i.val → (a.1 (ix3 0 i j) : EReal) = hgrn (kX m c) (kL m c) (kN m c) (batch t) r j

/-- A batch's first point. -/
theorem good_A (t : Fin cfg0.N) (acc : Vec Ideal S1x256x512 .bf16 × Vec Ideal S4x128x128 .f32) (h0 : t.val % 16 = 0) :
    Good m c t (stAt0 m c t.val t.isLt acc) := by
  rw [stAt0_A m c t acc h0, outA_eq, soutA_eq]
  have hS : ∀ h, at2 (headF (zeros (F := Ideal)) h) = state (gk (kX m c) (kL m c) (batch t) h) (gv (kX m c) (batch t) h)
      (gb (kX m c) (kL m c) (batch t) h) (4 * (t.val % 16)) := fun h => by rw [h0]; exact zero_state h _ _ _
  exact ⟨fun h => leave_state (kX m c) (kL m c) _ (t.val % 16) (by omega) _ (read0 m c t) _ (read1 m c t) _ (read3 m c t) _ hS h,
    fun i j r hr => block_hgrn (kX m c) (kL m c) (kN m c) _ (t.val % 16) (by omega) _ (read0 m c t) _ (read1 m c t) _ (read3 m c t) _ hS _ (read2 m c t) _ (read4 m c t) i j r hr⟩

/-- A later point of a batch, over what the point before it left. -/
theorem good_B (t t' : Fin cfg0.N) (ht : t.val = t'.val + 1) (acc : Vec Ideal S1x256x512 .bf16 × Vec Ideal S4x128x128 .f32) (h0 : ¬t.val % 16 = 0) (ih : Good m c t' acc) :
    Good m c t (stAt0 m c t.val t.isLt acc) := by
  have eb : batch t' = batch t := Fin.ext (by show t'.val / 16 = t.val / 16; omega)
  have er : t'.val % 16 + 1 = t.val % 16 := by omega
  rw [stAt0_B m c t acc h0, outB_eq, soutB_eq]
  have hS := ih.1
  rw [eb, er] at hS
  exact ⟨fun h => leave_state (kX m c) (kL m c) _ (t.val % 16) (by omega) _ (read0 m c t) _ (read1 m c t) _ (read3 m c t) _ hS h,
    fun i j r hr => block_hgrn (kX m c) (kL m c) (kN m c) _ (t.val % 16) (by omega) _ (read0 m c t) _ (read1 m c t) _ (read3 m c t) _ hS _ (read2 m c t) _ (read4 m c t) i j r hr⟩

/-- Every point. -/
theorem good : ∀ (n : ℕ) (hn : n < cfg0.N), Good m c ⟨n, hn⟩ (outsAt0 m c n hn)
  | 0, hn => by
    rw [outsAt0_zero]
    exact good_A m c ⟨0, hn⟩ junk0 rfl
  | n + 1, hn => by
    rw [outsAt0_succ]
    by_cases h0 : (n + 1) % 16 = 0
    · exact good_A m c ⟨n + 1, hn⟩ _ h0
    · exact good_B m c ⟨n + 1, hn⟩ ⟨n, Nat.lt_of_succ_lt hn⟩ rfl _ h0 (good n (Nat.lt_of_succ_lt hn))

/-- The kernel's result is the layer's. -/
theorem result (b : Fin 4) (t : Fin 4096) (l : Fin 512) : (G5 m c : S4x4096x512.Idx → EReal) (ix3 b t l) = hgrn (kX m c) (kL m c) (kN m c) b t l := by
  have hp : pt5Of (ix3 b t l) = 16 * b.val + t.val / 256 := by
    show 16 * (b.val / 1 - 0) + 1 * (t.val / 256 - 0) + 1 * (l.val / 512 - 0) = _
    omega
  have hlt : 16 * b.val + t.val / 256 < cfg0.N := by rw [show cfg0.N = 64 from N_0]; omega
  have hl : loc5Of (ix3 b t l) = ix3 0 (⟨t.val % 256, by omega⟩ : Fin 256) l := by
    funext a
    apply Fin.ext
    match a with
    | ⟨0, _⟩ => show b.val % 1 = 0; omega
    | ⟨1, _⟩ => rfl
    | ⟨2, _⟩ => show l.val % 512 = l.val; omega
  unfold G5
  rw [dif_pos (by rw [hp]; exact hlt), hl, fold0_congr m c _ _ (16 * b.val + t.val / 256) (by omega) hp, ← outsAt0_sweep m c _ hlt,
    (good m c _ hlt).2 ⟨t.val % 256, by omega⟩ l t (by show t.val = 256 * ((16 * b.val + t.val / 256) % 16) + t.val % 256; omega)]
  have eb : batch ⟨16 * b.val + t.val / 256, hlt⟩ = b := Fin.ext (by show (16 * b.val + t.val / 256) / 16 = b.val; omega)
  rw [eb]

end Cert.Hgrn

end
-- ==== Proof.Equation.lean ====
/-
  The reference's result, entry by entry, and the kernel's: the same function of the same three arguments.
-/
module

public import proofs.«01_k».proof.Proof.RefLoop
public import proofs.«01_k».proof.Proof.RefPost
public import proofs.«01_k».proof.Proof.Array

@[expose] public section

noncomputable section

open Idealize.ShloMosaic hiding ix1 ix2 ix3 ix4 ix5
open Idealize.ShloMosaic.ValueIdx
open Idealize.ShloMosaic.TcCoe Idealize.SL.Sem Idealize.ShloMosaic.StableHlo

namespace Cert.Hgrn

namespace Ref

open Cert.ReferenceIdeal Cert.ReferenceIdeal.Gen Cert.ReferenceIdeal.Value

/-- The lines after the loop give the layer's result from the recurrence's rows, the norm's weights and the gate columns. -/
theorem result_of (W : Valuation τ sig (Elt Ideal)) (X : Fin 4 → Fin 4096 → Fin 2048 → EReal) (L : Fin 2 → Fin 512 → EReal) (N : Fin 512 → EReal)
    (hO : ∀ (n : Fin 64) (b h : Fin 4) (r : Fin 64) (w : Fin 128), ((W (Proc.devRef .tc main_v60_7) : S64x4x4x64x128.Idx → EReal) (ix5 n b h r w) : EReal) = rowE X L b h n.val r w)
    (hN : ∀ l, ((W (Proc.devRef .tc main_arg2) : S512.Idx → EReal) (ix1 l) : EReal) = N l)
    (hG : ∀ b t l, ((W (Proc.devRef .tc main_v45) : S4x4096x512.Idx → EReal) (ix3 b t l) : EReal) = X b t (colOf 3 l)) (b : Fin 4) (t : Fin 4096) (l : Fin 512) :
    ((after (hostOps0_9 (F := Ideal)) W (Proc.devRef .tc main_v84) : S4x4096x512.Idx → EReal) (ix3 b t l) : EReal) = hgrn X L N b t l := by
  refine (congrFun (post_reads W) (ix3 b t l)).trans ?_
  refine (postR_apply _ _ _ b t l).trans ?_
  unfold hgrn
  rw [hN, hG]
  congr 1
  funext w
  exact hO _ b _ _ w

variable (m : (ℓ : Loc nD τ sig) → Buf (Elt Ideal) ℓ) (c : Dev nD)

/-- The reference's result is the layer's. -/
theorem result (b : Fin 4) (t : Fin 4096) (l : Fin 512) :
    ((finalContents condOps preI bodyI postI 64 m c (Proc.devRef .tc main_v84) : S4x4096x512.Idx → EReal) (ix3 b t l) : EReal)
      = hgrn (rX m c) (rL m c) (rN m c) b t l :=
  result_of (after condOps (atTrip condOps bodyI (entryContents preI m) 64 c)) (rX m c) (rL m c) (rN m c) (loop_out m c)
    (fun l => congrFun ((exit_keep m c (r := main_arg2) (by decide +kernel)).trans (entry_arg2 m c)) (ix1 l))
    (fun b t l => (congrFun (exit_keep m c (r := main_v45) (by decide +kernel)) (ix3 b t l)).trans (entry_g m c b t l)) b t l

end Ref

/-- Of equal arguments the two programs compute equal results. -/
theorem equation (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (StableHlo.finalContents Cert.ReferenceIdeal.Value.condOps Cert.ReferenceIdeal.Value.preI Cert.ReferenceIdeal.Value.bodyI Cert.ReferenceIdeal.Value.postI 64 m' c
        (Proc.devRef .tc Cert.ReferenceIdeal.main_v84) : Cert.KernelIdeal.S4x4096x512.Idx → EReal)
      = Cert.KernelIdeal.Value.G5 m c := by
  have hX : Ref.rX m' c = kX m c := by
    funext b t j
    exact congrFun h0 (ix3 b t j)
  have hL : Ref.rL m' c = kL m c := by
    funext i l
    exact congrFun h1 (ix2 i l)
  have hN : Ref.rN m' c = kN m c := by
    funext l
    exact congrFun h2 (ix1 l)
  funext i
  obtain ⟨b, t, l, rfl⟩ : ∃ (b : Fin 4) (t : Fin 4096) (l : Fin 512), i = ix3 b t l := ⟨i 0, i 1, i 2, by
    funext a
    match a with
    | ⟨0, _⟩ => rfl
    | ⟨1, _⟩ => rfl
    | ⟨2, _⟩ => rfl⟩
  refine (Ref.result m' c b t l).trans ?_
  rw [hX, hL, hN]
  exact (result m c b t l).symm

end Cert.Hgrn

end
-- ==== Proof.ProjKernel.lean ====
/-
  The projection's kernel: each of its three results is the product of the rows and of that result's columns of the weights.
-/
module

public import proofs.«01_k».proof.Proof.Read2
public import proofs.«01_k».proof.Proof.Gen.Kernel2Ideal.Value
public import Idealize.ShloMosaic.Lib.StableHlo.ReadAt

@[expose] public section

noncomputable section

open scoped BigOperators
open Idealize.ShloMosaic hiding ix1 ix2 ix3 ix4 ix5
open Idealize.ShloMosaic.ValueIdx
open Idealize.ShloMosaic.TcCoe Idealize.SL.Sem
open Cert.Kernel2Ideal Cert.Kernel2Ideal.Gen Cert.Kernel2Ideal.Value

namespace Cert.Proj

variable (m : (ℓ : Loc nD τ sig) → Buf (Elt Ideal) ℓ) (c : Dev nD)

/-- The rows of `A` times the columns of `B`. -/
def prod {n : ℕ} (A : S16384x1024.Idx → EReal) (B : (⟨2, ![1024, n]⟩ : Shape).Idx → EReal) : (⟨2, ![16384, n]⟩ : Shape).Idx → EReal :=
  fun i => ∑ k : Fin 1024, A (ix2 (i 0) k) * B (ix2 k (i 1))

/-- A row times a column, entry by entry. -/
theorem prod_of {n : ℕ} (A : S16384x1024.Idx → EReal) (B : (⟨2, ![1024, n]⟩ : Shape).Idx → EReal) (f g : Fin 1024 → EReal) (r : Fin 16384) (j : Fin n)
    (hf : ∀ k, f k = A (ix2 r k)) (hg : ∀ k, g k = B (ix2 k j)) : ∑ k : Fin 1024, f k * g k = prod A B (ix2 r j) :=
  Finset.sum_congr rfl fun k _ => congrArg₂ (fun a b : EReal => a * b) (hf k) (hg k)

/-- The rows' block is the point's, the weights' blocks are whole. -/
theorem idx0 : ∀ t : Fin cfg0.N, win0_0.index t (0 : Fin 2) = t.val ∧ win0_0.index t (1 : Fin 2) = 0 := (by decide +kernel : ∀ t : Fin grid0.N, _)

theorem read0 (t : Fin cfg0.N) (i : Fin 256) (k : Fin 1024) (r : Fin 16384) (hr : r.val = 256 * t.val + i.val) :
    (iblk m c 0 t : S256x1024.Idx → EReal) (ix2 i k) = (V m c main_v0 : S16384x1024.Idx → EReal) (ix2 r k) := by
  obtain ⟨e0, e1⟩ := idx0 t
  unfold iblk
  rw [View.read_apply]
  show V m c main_v0 _ = V m c main_v0 _
  congr 1
  funext a
  apply Fin.ext
  match a with
  | ⟨0, _⟩ => show win0_0.index t (0 : Fin 2) * 256 + 1 * i.val = r.val; omega
  | ⟨1, _⟩ => show win0_0.index t (1 : Fin 2) * 1024 + 1 * k.val = k.val; omega

/-! ## The RWKV columns -/

theorem idx1 : ∀ t : Fin cfg0.N, win0_1.index t (0 : Fin 2) = 0 ∧ win0_1.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)

theorem read1 (t : Fin cfg0.N) (k : Fin 1024) (j : Fin 1792) :
    (iblk m c 1 t : S1024x1792.Idx → EReal) (ix2 k j) = (V m c main_v2 : S1024x1792.Idx → EReal) (ix2 k j) := by
  obtain ⟨e0, e1⟩ := idx1 t
  unfold iblk
  rw [View.read_apply]
  show V m c main_v2 _ = V m c main_v2 _
  congr 1
  funext a
  apply Fin.ext
  match a with
  | ⟨0, _⟩ => show win0_1.index t (0 : Fin 2) * 1024 + 1 * k.val = k.val; omega
  | ⟨1, _⟩ => show win0_1.index t (1 : Fin 2) * 1792 + 1 * j.val = j.val; omega

/-- The point's stored product. -/
theorem pay4 (x : Vec Ideal S256x1024 .f32) (y : Vec Ideal S1024x1792 .bf16) (i : Fin 256) (j : Fin 1792) :
    (k0_pay2 (F := Ideal) x y (ix2 i j) : EReal) = ∑ k : Fin 1024, (x (ix2 i k) : EReal) * y (ix2 k j) := by
  unfold k0_pay2 k0_pay1
  rw [shapeCast_self, shapeCast_self]
  exact Cert.Hgrn.mmPlain _ _ _ i j

/-- What a point writes back is its block of the product. -/
theorem flushed4_eq (t : Fin cfg0.N) :
    (dats m 0 c).flushed 4 t = ((cfg0.win 4).blk t).view.read (Elt Ideal) (prod (V m c main_v0) (V m c main_v2) : S16384x1792.Idx → EReal) := by
  obtain ⟨e0, e1⟩ := idx4 t
  have ht : t.val < 64 := lt_of_lt_of_eq t.isLt N_0
  rw [flushed4]
  funext z
  obtain ⟨i, j, rfl⟩ : ∃ (i : Fin 256) (j : Fin 1792), z = ix2 i j := ⟨z 0, z 1, by
    funext a
    match a with
    | ⟨0, _⟩ => rfl
    | ⟨1, _⟩ => rfl⟩
  rw [View.read_apply]
  have hz : ((cfg0.win 4).blk t).view.emb (ix2 i j) = (ix2 (⟨256 * t.val + i.val, by omega⟩ : Fin 16384) j : S16384x1792.Idx) := by
    funext a
    apply Fin.ext
    match a with
    | ⟨0, _⟩ => show win0_4.index t (0 : Fin 2) * 256 + 1 * i.val = 256 * t.val + i.val; omega
    | ⟨1, _⟩ => show win0_4.index t (1 : Fin 2) * 1792 + 1 * j.val = j.val; omega
  rw [hz]
  show out0_4 (F := Ideal) (iblk m c 0 t) (iblk m c 1 t) (iblk m c 2 t) (iblk m c 3 t) (ix2 i j) = _
  unfold out0_4
  have z2 : (![0, 0] : Fin 2 → ℕ) = fun _ => 0 := by funext a; match a with | ⟨0, _⟩ => rfl | ⟨1, _⟩ => rfl
  rw [View.canon_unit_zero z2, View.ld_unit_zero z2, View.ld_unit_zero z2]
  refine (pay4 _ _ i j).trans ?_
  exact prod_of _ _ _ _ _ _ (fun k => read0 m c t i k _ rfl) (fun k => read1 m c t k j)

/-- The points' blocks cover the result. -/
theorem covered4 (z : S16384x1792.Idx) : ∃ t : Fin cfg0.N, (cfg0.win 4).flush t = true ∧ z ∈ ((cfg0.win 4).blk t).view.set := by
  have h0 : (z 0).val < 16384 := (z 0).isLt
  have hlt : (z 0).val / 256 < cfg0.N := by rw [show cfg0.N = 64 from N_0]; omega
  refine ⟨⟨(z 0).val / 256, hlt⟩, flush0_4 _, ?_⟩
  obtain ⟨e0, e1⟩ := idx4 ⟨(z 0).val / 256, hlt⟩
  have hz : ((cfg0.win 4).blk ⟨(z 0).val / 256, hlt⟩).view.emb (ix2 (⟨(z 0).val % 256, by omega⟩ : Fin 256) (⟨(z 1).val, (z 1).isLt⟩ : Fin 1792) : S256x1792.Idx) = z := by
    funext a
    apply Fin.ext
    match a with
    | ⟨0, _⟩ => show win0_4.index _ (0 : Fin 2) * 256 + 1 * ((z 0).val % 256) = (z 0).val; rw [e0]; show (z 0).val / 256 * 256 + 1 * ((z 0).val % 256) = (z 0).val; omega
    | ⟨1, _⟩ => show win0_4.index _ (1 : Fin 2) * 1792 + 1 * (z 1).val = (z 1).val; rw [e1]; omega
  have h := ((cfg0.win 4).blk ⟨(z 0).val / 256, hlt⟩).view.emb_mem_set (ix2 (⟨(z 0).val % 256, by omega⟩ : Fin 256) (⟨(z 1).val, (z 1).isLt⟩ : Fin 1792) : S256x1792.Idx)
  rwa [hz] at h

/-- The RWKV result after the run. -/
theorem final4 : (dats m 0 c).arrAt 4 cfg0.N = (prod (V m c main_v0) (V m c main_v2) : S16384x1792.Idx → EReal) :=
  (dats m 0 c).arrAt_eq_of_cover 4 _ (fun t _ => flushed4_eq m c t) covered4

/-! ## The HGRN2 columns -/

theorem idx2 : ∀ t : Fin cfg0.N, win0_2.index t (0 : Fin 2) = 0 ∧ win0_2.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)

theorem read2 (t : Fin cfg0.N) (k : Fin 1024) (j : Fin 2048) :
    (iblk m c 2 t : S1024x2048.Idx → EReal) (ix2 k j) = (V m c main_v3 : S1024x2048.Idx → EReal) (ix2 k j) := by
  obtain ⟨e0, e1⟩ := idx2 t
  unfold iblk
  rw [View.read_apply]
  show V m c main_v3 _ = V m c main_v3 _
  congr 1
  funext a
  apply Fin.ext
  match a with
  | ⟨0, _⟩ => show win0_2.index t (0 : Fin 2) * 1024 + 1 * k.val = k.val; omega
  | ⟨1, _⟩ => show win0_2.index t (1 : Fin 2) * 2048 + 1 * j.val = j.val; omega

/-- The point's stored product. -/
theorem pay5 (x : Vec Ideal S256x1024 .f32) (y : Vec Ideal S1024x2048 .bf16) (i : Fin 256) (j : Fin 2048) :
    (k0_pay3 (F := Ideal) x y (ix2 i j) : EReal) = ∑ k : Fin 1024, (x (ix2 i k) : EReal) * y (ix2 k j) := by
  unfold k0_pay3 k0_pay1
  rw [shapeCast_self, shapeCast_self]
  exact Cert.Hgrn.mmPlain _ _ _ i j

/-- What a point writes back is its block of the product. -/
theorem flushed5_eq (t : Fin cfg0.N) :
    (dats m 0 c).flushed 5 t = ((cfg0.win 5).blk t).view.read (Elt Ideal) (prod (V m c main_v0) (V m c main_v3) : S16384x2048.Idx → EReal) := by
  obtain ⟨e0, e1⟩ := idx5 t
  have ht : t.val < 64 := lt_of_lt_of_eq t.isLt N_0
  rw [flushed5]
  funext z
  obtain ⟨i, j, rfl⟩ : ∃ (i : Fin 256) (j : Fin 2048), z = ix2 i j := ⟨z 0, z 1, by
    funext a
    match a with
    | ⟨0, _⟩ => rfl
    | ⟨1, _⟩ => rfl⟩
  rw [View.read_apply]
  have hz : ((cfg0.win 5).blk t).view.emb (ix2 i j) = (ix2 (⟨256 * t.val + i.val, by omega⟩ : Fin 16384) j : S16384x2048.Idx) := by
    funext a
    apply Fin.ext
    match a with
    | ⟨0, _⟩ => show win0_5.index t (0 : Fin 2) * 256 + 1 * i.val = 256 * t.val + i.val; omega
    | ⟨1, _⟩ => show win0_5.index t (1 : Fin 2) * 2048 + 1 * j.val = j.val; omega
  rw [hz]
  show out0_5 (F := Ideal) (iblk m c 0 t) (iblk m c 1 t) (iblk m c 2 t) (iblk m c 3 t) (ix2 i j) = _
  unfold out0_5
  have z2 : (![0, 0] : Fin 2 → ℕ) = fun _ => 0 := by funext a; match a with | ⟨0, _⟩ => rfl | ⟨1, _⟩ => rfl
  rw [View.canon_unit_zero z2, View.ld_unit_zero z2, View.ld_unit_zero z2]
  refine (pay5 _ _ i j).trans ?_
  exact prod_of _ _ _ _ _ _ (fun k => read0 m c t i k _ rfl) (fun k => read2 m c t k j)

/-- The points' blocks cover the result. -/
theorem covered5 (z : S16384x2048.Idx) : ∃ t : Fin cfg0.N, (cfg0.win 5).flush t = true ∧ z ∈ ((cfg0.win 5).blk t).view.set := by
  have h0 : (z 0).val < 16384 := (z 0).isLt
  have hlt : (z 0).val / 256 < cfg0.N := by rw [show cfg0.N = 64 from N_0]; omega
  refine ⟨⟨(z 0).val / 256, hlt⟩, flush0_5 _, ?_⟩
  obtain ⟨e0, e1⟩ := idx5 ⟨(z 0).val / 256, hlt⟩
  have hz : ((cfg0.win 5).blk ⟨(z 0).val / 256, hlt⟩).view.emb (ix2 (⟨(z 0).val % 256, by omega⟩ : Fin 256) (⟨(z 1).val, (z 1).isLt⟩ : Fin 2048) : S256x2048.Idx) = z := by
    funext a
    apply Fin.ext
    match a with
    | ⟨0, _⟩ => show win0_5.index _ (0 : Fin 2) * 256 + 1 * ((z 0).val % 256) = (z 0).val; rw [e0]; show (z 0).val / 256 * 256 + 1 * ((z 0).val % 256) = (z 0).val; omega
    | ⟨1, _⟩ => show win0_5.index _ (1 : Fin 2) * 2048 + 1 * (z 1).val = (z 1).val; rw [e1]; omega
  have h := ((cfg0.win 5).blk ⟨(z 0).val / 256, hlt⟩).view.emb_mem_set (ix2 (⟨(z 0).val % 256, by omega⟩ : Fin 256) (⟨(z 1).val, (z 1).isLt⟩ : Fin 2048) : S256x2048.Idx)
  rwa [hz] at h

/-- The HGRN2 result after the run. -/
theorem final5 : (dats m 0 c).arrAt 5 cfg0.N = (prod (V m c main_v0) (V m c main_v3) : S16384x2048.Idx → EReal) :=
  (dats m 0 c).arrAt_eq_of_cover 5 _ (fun t _ => flushed5_eq m c t) covered5

/-! ## The gate columns -/

theorem idx3 : ∀ t : Fin cfg0.N, win0_3.index t (0 : Fin 2) = 0 ∧ win0_3.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)

theorem read3 (t : Fin cfg0.N) (k : Fin 1024) (j : Fin 2048) :
    (iblk m c 3 t : S1024x2048.Idx → EReal) (ix2 k j) = (V m c main_v4 : S1024x2048.Idx → EReal) (ix2 k j) := by
  obtain ⟨e0, e1⟩ := idx3 t
  unfold iblk
  rw [View.read_apply]
  show V m c main_v4 _ = V m c main_v4 _
  congr 1
  funext a
  apply Fin.ext
  match a with
  | ⟨0, _⟩ => show win0_3.index t (0 : Fin 2) * 1024 + 1 * k.val = k.val; omega
  | ⟨1, _⟩ => show win0_3.index t (1 : Fin 2) * 2048 + 1 * j.val = j.val; omega

/-- The point's stored product. -/
theorem pay6 (x : Vec Ideal S256x1024 .f32) (y : Vec Ideal S1024x2048 .bf16) (i : Fin 256) (j : Fin 2048) :
    (k0_pay4 (F := Ideal) x y (ix2 i j) : EReal) = ∑ k : Fin 1024, (x (ix2 i k) : EReal) * y (ix2 k j) := by
  unfold k0_pay4 k0_pay1
  rw [shapeCast_self, shapeCast_self]
  exact Cert.Hgrn.mmPlain _ _ _ i j

/-- What a point writes back is its block of the product. -/
theorem flushed6_eq (t : Fin cfg0.N) :
    (dats m 0 c).flushed 6 t = ((cfg0.win 6).blk t).view.read (Elt Ideal) (prod (V m c main_v0) (V m c main_v4) : S16384x2048.Idx → EReal) := by
  obtain ⟨e0, e1⟩ := idx6 t
  have ht : t.val < 64 := lt_of_lt_of_eq t.isLt N_0
  rw [flushed6]
  funext z
  obtain ⟨i, j, rfl⟩ : ∃ (i : Fin 256) (j : Fin 2048), z = ix2 i j := ⟨z 0, z 1, by
    funext a
    match a with
    | ⟨0, _⟩ => rfl
    | ⟨1, _⟩ => rfl⟩
  rw [View.read_apply]
  have hz : ((cfg0.win 6).blk t).view.emb (ix2 i j) = (ix2 (⟨256 * t.val + i.val, by omega⟩ : Fin 16384) j : S16384x2048.Idx) := by
    funext a
    apply Fin.ext
    match a with
    | ⟨0, _⟩ => show win0_6.index t (0 : Fin 2) * 256 + 1 * i.val = 256 * t.val + i.val; omega
    | ⟨1, _⟩ => show win0_6.index t (1 : Fin 2) * 2048 + 1 * j.val = j.val; omega
  rw [hz]
  show out0_6 (F := Ideal) (iblk m c 0 t) (iblk m c 1 t) (iblk m c 2 t) (iblk m c 3 t) (ix2 i j) = _
  unfold out0_6
  have z2 : (![0, 0] : Fin 2 → ℕ) = fun _ => 0 := by funext a; match a with | ⟨0, _⟩ => rfl | ⟨1, _⟩ => rfl
  rw [View.canon_unit_zero z2, View.ld_unit_zero z2, View.ld_unit_zero z2]
  refine (pay6 _ _ i j).trans ?_
  exact prod_of _ _ _ _ _ _ (fun k => read0 m c t i k _ rfl) (fun k => read3 m c t k j)

/-- The points' blocks cover the result. -/
theorem covered6 (z : S16384x2048.Idx) : ∃ t : Fin cfg0.N, (cfg0.win 6).flush t = true ∧ z ∈ ((cfg0.win 6).blk t).view.set := by
  have h0 : (z 0).val < 16384 := (z 0).isLt
  have hlt : (z 0).val / 256 < cfg0.N := by rw [show cfg0.N = 64 from N_0]; omega
  refine ⟨⟨(z 0).val / 256, hlt⟩, flush0_6 _, ?_⟩
  obtain ⟨e0, e1⟩ := idx6 ⟨(z 0).val / 256, hlt⟩
  have hz : ((cfg0.win 6).blk ⟨(z 0).val / 256, hlt⟩).view.emb (ix2 (⟨(z 0).val % 256, by omega⟩ : Fin 256) (⟨(z 1).val, (z 1).isLt⟩ : Fin 2048) : S256x2048.Idx) = z := by
    funext a
    apply Fin.ext
    match a with
    | ⟨0, _⟩ => show win0_6.index _ (0 : Fin 2) * 256 + 1 * ((z 0).val % 256) = (z 0).val; rw [e0]; show (z 0).val / 256 * 256 + 1 * ((z 0).val % 256) = (z 0).val; omega
    | ⟨1, _⟩ => show win0_6.index _ (1 : Fin 2) * 2048 + 1 * (z 1).val = (z 1).val; rw [e1]; omega
  have h := ((cfg0.win 6).blk ⟨(z 0).val / 256, hlt⟩).view.emb_mem_set (ix2 (⟨(z 0).val % 256, by omega⟩ : Fin 256) (⟨(z 1).val, (z 1).isLt⟩ : Fin 2048) : S256x2048.Idx)
  rwa [hz] at h

/-- The gate result after the run. -/
theorem final6 : (dats m 0 c).arrAt 6 cfg0.N = (prod (V m c main_v0) (V m c main_v4) : S16384x2048.Idx → EReal) :=
  (dats m 0 c).arrAt_eq_of_cover 6 _ (fun t _ => flushed6_eq m c t) covered6

/-! ## The arrays the host code prepares -/

/-- Row `4096 b + t` of the flattened rows is row `t` of batch `b`. -/
theorem rowsV (b : Fin 4) (t : Fin 4096) (k : Fin 1024) (r : Fin 16384) (hr : r.val = 4096 * b.val + t.val) :
    (V m c main_v0 : S16384x1024.Idx → EReal) (ix2 r k) = (m (c, Proc.tc.devRef main_arg0) : S4x4096x1024.Idx → EReal) (ix3 b t k) := by
  unfold V
  after_reads_at
  refine congrArg (m (c, Proc.tc.devRef main_arg0) : S4x4096x1024.Idx → EReal) ?_
  funext a
  apply Fin.ext
  match a with
  | ⟨0, _⟩ => show r.val / 4096 = b.val; omega
  | ⟨1, _⟩ => show r.val % 4096 = t.val; omega
  | ⟨2, _⟩ => rfl

/-- The columns of the weights from 0 on. -/
theorem colsV_0 (k : Fin 1024) (j : Fin 1792) (q : Fin 5888) (hq : q.val = 0 + j.val) :
    (V m c main_v2 : S1024x1792.Idx → EReal) (ix2 k j) = (m (c, Proc.tc.devRef main_arg1) : S1024x5888.Idx → EReal) (ix2 k q) := by
  unfold V
  after_reads_at
  refine congrArg (m (c, Proc.tc.devRef main_arg1) : S1024x5888.Idx → EReal) ?_
  funext a
  apply Fin.ext
  match a with
  | ⟨0, _⟩ => rfl
  | ⟨1, _⟩ => show j.val = q.val; omega

/-- The columns of the weights from 1792 on. -/
theorem colsV_1792 (k : Fin 1024) (j : Fin 2048) (q : Fin 5888) (hq : q.val = 1792 + j.val) :
    (V m c main_v3 : S1024x2048.Idx → EReal) (ix2 k j) = (m (c, Proc.tc.devRef main_arg1) : S1024x5888.Idx → EReal) (ix2 k q) := by
  unfold V
  after_reads_at
  refine congrArg (m (c, Proc.tc.devRef main_arg1) : S1024x5888.Idx → EReal) ?_
  funext a
  apply Fin.ext
  match a with
  | ⟨0, _⟩ => rfl
  | ⟨1, _⟩ => show 1792 + j.val = q.val; omega

/-- The columns of the weights from 3840 on. -/
theorem colsV_3840 (k : Fin 1024) (j : Fin 2048) (q : Fin 5888) (hq : q.val = 3840 + j.val) :
    (V m c main_v4 : S1024x2048.Idx → EReal) (ix2 k j) = (m (c, Proc.tc.devRef main_arg1) : S1024x5888.Idx → EReal) (ix2 k q) := by
  unfold V
  after_reads_at
  refine congrArg (m (c, Proc.tc.devRef main_arg1) : S1024x5888.Idx → EReal) ?_
  funext a
  apply Fin.ext
  match a with
  | ⟨0, _⟩ => rfl
  | ⟨1, _⟩ => show 3840 + j.val = q.val; omega

end Cert.Proj

end
-- ==== Proof.Proj.lean ====
/-
  The projection: of equal arguments the kernel's three results are the reference's.
-/
module

public import proofs.«01_k».proof.Proof.ProjKernel
public import proofs.«01_k».proof.Proof.Gen.Reference2Ideal.Run
public import proofs.«01_k».proof.Defs
public import Idealize.ShloMosaic.Lib.Quiescent

@[expose] public section

noncomputable section

open scoped BigOperators
open Idealize.ShloMosaic hiding ix1 ix2 ix3 ix4 ix5
open Idealize.ShloMosaic.ValueIdx
open Idealize.ShloMosaic.TcCoe Idealize.SL.Sem
open Cert.Reference2Ideal Cert.Reference2Ideal.Gen

namespace Cert.Proj

/-- The projection at a batch, a row and a column. -/
theorem dot_rows (A : S4x4096x1024.Idx → EReal) (B : S1024x5888.Idx → EReal) (b : Fin 4) (t : Fin 4096) (q : Fin 5888) :
    (Host.dotGeneral (F := Ideal) (φ₁ := .f32) (φ₂ := .f32) dot_S4x4096x1024_S1024x5888_S4x4096x5888_2_0_01_1_n_n none A B (ix3 b t q) : EReal)
      = ∑ k : Fin 1024, A (ix3 b t k) * B (ix2 k q) := by
  refine (Ideal.dotGeneral_apply (φ₁ := .f32) (φ₂ := .f32) dot_S4x4096x1024_S1024x5888_S4x4096x5888_2_0_01_1_n_n none _ A B _).trans ?_
  rw [← Equiv.sum_comp (contrEquiv1 dot_S4x4096x1024_S1024x5888_S4x4096x5888_2_0_01_1_n_n 1024 rfl rfl).symm]
  refine Finset.sum_congr rfl fun k _ => ?_
  have ck := contrEquiv1_symm_val dot_S4x4096x1024_S1024x5888_S4x4096x5888_2_0_01_1_n_n 1024 rfl rfl k
  congr 2
  · funext ax; apply Fin.ext
    match ax with
    | ⟨0, _⟩ => rfl
    | ⟨1, _⟩ => rfl
    | ⟨2, _⟩ => exact ck
  · funext ax; apply Fin.ext
    match ax with
    | ⟨0, _⟩ => exact ck
    | ⟨1, _⟩ => rfl

/-- The `n` columns from `o` on of an array, its rows flattened, read at row `4096 b + t`. -/
theorem flat_cols {n : ℕ} (o : ℕ) (Y : S4x4096x5888.Idx → EReal) (h : Shape.Slices S4x4096x5888 ![0, 0, o] ⟨3, ![4, 4096, n]⟩)
    (hc : Shape.ShapeCasts ⟨3, ![4, 4096, n]⟩ ⟨2, ![16384, n]⟩) (r : Fin 16384) (j : Fin n) (b : Fin 4) (t : Fin 4096) (q : Fin 5888)
    (hr : r.val = 4096 * b.val + t.val) (hq : q.val = o + j.val) :
    shapeCast ⟨2, ![16384, n]⟩ (extractStridedSlice ⟨3, ![4, 4096, n]⟩ ![0, 0, o] Y h) hc (ix2 r j) = Y (ix3 b t q) := by
  refine (shapeCast_apply _ _ _ (ix3 b t j) ?_).trans ?_
  · rw [Shape.rowMajor_val_three, Shape.rowMajor_val_two]
    show (b.val * 4096 + t.val) * n + j.val = r.val * n + j.val
    rw [hr, mul_comm 4096]
  · refine extractStridedSlice_apply _ _ _ _ _ fun ax => ?_
    match ax with
    | ⟨0, _⟩ => show b.val = 0 + b.val; omega
    | ⟨1, _⟩ => show t.val = 0 + t.val; omega
    | ⟨2, _⟩ => exact hq

/-- A flattened slice of the projection is the product of the flattened rows and the slice's columns. -/
theorem flat_prod {n : ℕ} (o : ℕ) (A : S4x4096x1024.Idx → EReal) (B : S1024x5888.Idx → EReal)
    (h : Shape.Slices S4x4096x5888 ![0, 0, o] ⟨3, ![4, 4096, n]⟩) (hc : Shape.ShapeCasts ⟨3, ![4, 4096, n]⟩ ⟨2, ![16384, n]⟩) (ho : o + n ≤ 5888)
    (A' : Cert.Kernel2Ideal.S16384x1024.Idx → EReal) (B' : (⟨2, ![1024, n]⟩ : Shape).Idx → EReal)
    (hA : ∀ b t k (r : Fin 16384), r.val = 4096 * b.val + t.val → A' (ix2 r k) = A (ix3 b t k))
    (hB : ∀ k j (q : Fin 5888), q.val = o + j.val → B' (ix2 k j) = B (ix2 k q)) :
    (shapeCast ⟨2, ![16384, n]⟩ (extractStridedSlice ⟨3, ![4, 4096, n]⟩ ![0, 0, o]
      (Host.dotGeneral (F := Ideal) (φ₁ := .f32) (φ₂ := .f32) dot_S4x4096x1024_S1024x5888_S4x4096x5888_2_0_01_1_n_n none A B) h) hc
        : (⟨2, ![16384, n]⟩ : Shape).Idx → EReal) = prod A' B' := by
  funext z
  obtain ⟨r, j, rfl⟩ : ∃ (r : Fin 16384) (j : Fin n), z = ix2 r j := ⟨z 0, z 1, by
    funext a
    match a with
    | ⟨0, _⟩ => rfl
    | ⟨1, _⟩ => rfl⟩
  have hr := r.isLt
  have hj := j.isLt
  have e : r.val = 4096 * (r.val / 4096) + r.val % 4096 := by omega
  refine (flat_cols o _ h hc r j ⟨r.val / 4096, by omega⟩ ⟨r.val % 4096, by omega⟩ ⟨o + j.val, by omega⟩ e rfl).trans ?_
  refine (dot_rows A B _ _ _).trans ?_
  exact prod_of _ _ _ _ _ _ (fun k => (hA _ _ k r e).symm) (fun k => (hB k j _ rfl).symm)

/-- The reference's frame: every execution ends, with its arguments unchanged and every counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c => ⟨(h c).2.2.2.1, (h c).2.2.2.2⟩, sem_eq_zero_of_no_sems rfl _⟩) (Cert.Reference2Ideal.Value.run m ρ)

/-- From memories agreeing on the rows and the weights both programs run, end with equal results and leave their arguments unchanged. -/
theorem value : algebraic_Kernel2Ideal_Reference2Ideal (hKernel2Ideal := Cert.Kernel2Ideal.Gen.facts) (hReference2Ideal := Cert.Reference2Ideal.Gen.facts) := by
  intro m g m' g' _ he
  refine ⟨_, _, _, Cert.Kernel2Ideal.Value.run_blocks m g, (θ_run _ _ _).mono (fun r h c => ?_) (Cert.Reference2Ideal.Value.run m' g')⟩
  obtain ⟨h1, h2, h3, h4, h5⟩ := h c
  obtain ⟨e0, e1⟩ := he c
  refine ⟨h1.trans (Eq.trans ?_ (final4 m c).symm), h2.trans (Eq.trans ?_ (final5 m c).symm), h3.trans (Eq.trans ?_ (final6 m c).symm), h4, h5⟩
  · exact flat_prod 0 _ _ _ _ (by omega) _ _ (fun b t k r hr => (rowsV m c b t k r hr).trans (congrFun e0 _).symm) (fun k j q hq => (colsV_0 m c k j q hq).trans (congrFun e1 _).symm)
  · exact flat_prod 1792 _ _ _ _ (by omega) _ _ (fun b t k r hr => (rowsV m c b t k r hr).trans (congrFun e0 _).symm) (fun k j q hq => (colsV_1792 m c k j q hq).trans (congrFun e1 _).symm)
  · exact flat_prod 3840 _ _ _ _ (by omega) _ _ (fun b t k r hr => (rowsV m c b t k r hr).trans (congrFun e0 _).symm) (fun k j q hq => (colsV_3840 m c k j q hq).trans (congrFun e1 _).symm)

end Cert.Proj

end
-- ==== Proof.MergeRow.lean ====
/-
  The merge of the two branches in plain terms, row by row over the extended reals, and the kernel's payloads read as those terms.
-/
module

public import proofs.«01_k».proof.Proof.Spec
public import proofs.«01_k».proof.Proof.Read2
public import proofs.«01_k».proof.Proof.Gen.Kernel3Ideal.Value

@[expose] public section

noncomputable section

open scoped BigOperators
open Idealize.ShloMosaic hiding ix1 ix2 ix3 ix4 ix5
open Idealize.ShloMosaic.ValueIdx
open Idealize.ShloMosaic.TcCoe Idealize.SL.Sem
open Cert.Kernel3Ideal Cert.Kernel3Ideal.Gen
open Cert.Hgrn (half_lit half_tanh mmPlain bcastRow)

namespace Cert.Merge

/-- A row of the two branches, each projected, gated by the logistic function and added. -/
def gated (ya yb : Fin 512 → EReal) (ga gb : Fin 1024 → EReal) (A B : S512x1024.Idx → EReal) (j : Fin 1024) : EReal :=
  Ideal.logistic (ga j) * (∑ k : Fin 512, ya k * A (ix2 k j)) + Ideal.logistic (gb j) * (∑ k : Fin 512, yb k * B (ix2 k j))

/-- A row of the residual, scaled, plus the row of the merged branches projected. -/
def summed (x w : Fin 1024 → EReal) (O : S1024x1024.Idx → EReal) (j : Fin 1024) : EReal :=
  Ideal.ofBits .f32 0x3F9837F0#32 * x j + ∑ k : Fin 1024, w k * O (ix2 k j)

/-- The mean of a row. -/
def mean (h : Fin 1024 → EReal) : EReal := Ideal.div (∑ j : Fin 1024, h j) (Ideal.ofBits .f32 0x44800000#32)

/-- A row normalised: its mean taken off, divided by the root of its variance plus the small literal, weighted and shifted. -/
def normed (h g b : Fin 1024 → EReal) (j : Fin 1024) : EReal :=
  (h j - mean h) * Ideal.rsqrt (mean (fun e => (h e - mean h) * (h e - mean h)) + Ideal.ofBits .f32 0x3727C5AC#32) * g j + b j

/-- One row of the result. -/
def rowOut (x : Fin 1024 → EReal) (ya yb : Fin 512 → EReal) (ga gb : Fin 1024 → EReal) (A B : S512x1024.Idx → EReal) (O : S1024x1024.Idx → EReal)
    (g b : Fin 1024 → EReal) : Fin 1024 → EReal :=
  normed (summed x (gated ya yb ga gb A B) O) g b

/-- A column of 256 entries repeated along the rows. -/
theorem bcastCol (x : S256x1.Idx → EReal) (i : Fin 256) (j : Fin 1024) : broadcastTo S256x1024 x broadcasts_S256x1_S256x1024 (ix2 i j) = x (ix2 i 0) :=
  broadcastTo_apply _ _ _ _ fun ax => by
    match ax with
    | ⟨0, _⟩ => rfl
    | ⟨1, _⟩ => rfl

/-- The kernel's mean of each row. -/
theorem mean_apply (h : FVec Ideal S256x1024 .f32) (i : Fin 256) :
    (divf (F := Ideal) (φ := .f32) (shapeCast S256x1 (multiReduction (F := Ideal) (φ := .f32) .add [1] S256 h 0x00000000#32 reduces_S256x1024_S256 (.inl rfl) rfl) shapeCasts_S256_S256x1)
      (broadcast S256x1 (Scalar.ofBits (F := Ideal) .f32 0x44800000#32)) (ix2 i 0) : EReal) = mean fun j => h (ix2 i j) := by
  refine congrArg (fun s : EReal => Ideal.div s (Ideal.ofBits .f32 0x44800000#32)) ?_
  refine (shapeCast_apply _ _ _ (ix1 i) rfl).trans ?_
  refine (Ideal.multiReduction_add_single _ _ reduces_S256x1024_S256 (.inl rfl) rfl (ix1 i)).trans ?_
  refine Finset.sum_congr rfl fun j _ => congrArg h ?_
  funext a
  match a with
  | ⟨0, _⟩ => rfl
  | ⟨1, _⟩ => rfl

/-- The kernel's layer norm of a row. -/
theorem norm_apply (h : FVec Ideal S256x1024 .f32) (g b : Vec Ideal S1x1024 .f32) (i : Fin 256) (j : Fin 1024) :
    (k0_pay7 h g b (ix2 i j) : EReal) = normed (fun e => h (ix2 i e)) (fun e => g (ix2 0 e)) (fun e => b (ix2 0 e)) j := by
  unfold k0_pay7 normed
  try dsimp only
  rw [shapeCast_self, shapeCast_self]
  have hd : ∀ e : Fin 1024, (subf (F := Ideal) (φ := .f32) h (broadcastTo S256x1024 (divf (F := Ideal) (φ := .f32) (shapeCast S256x1 (multiReduction (F := Ideal) (φ := .f32) .add [1] S256 h 0x00000000#32 reduces_S256x1024_S256 (.inl rfl) rfl) shapeCasts_S256_S256x1)
      (broadcast S256x1 (Scalar.ofBits (F := Ideal) .f32 0x44800000#32))) broadcasts_S256x1_S256x1024) (ix2 i e) : EReal) = h (ix2 i e) - mean fun j => h (ix2 i j) :=
    fun e => congrArg (fun s : EReal => h (ix2 i e) - s) ((bcastCol _ i e).trans (mean_apply h i))
  refine congrArg₂ (fun p q : EReal => p + q) (congrArg₂ (fun p q : EReal => p * q) (congrArg₂ (fun p q : EReal => p * q) (hd j) ?_) (bcastRow _ _ i j)) (bcastRow _ _ i j)
  refine (bcastCol _ i j).trans ?_
  refine congrArg (fun s : EReal => Ideal.rsqrt (s + Ideal.ofBits .f32 0x3727C5AC#32)) ?_
  refine (mean_apply _ i).trans ?_
  exact congrArg mean (funext fun e => congrArg₂ (fun p q : EReal => p * q) (hd e) (hd e))

/-- The kernel's residual and projected merge of a row. -/
theorem summed_apply (w : FVec Ideal S256x1024 .f32) (x : Vec Ideal S256x1024 .f32) (O : Vec Ideal S1024x1024 .bf16) (i : Fin 256) (j : Fin 1024) :
    (k0_pay5 w x O (ix2 i j) : EReal) = summed (fun e => x (ix2 i e)) (fun e => w (ix2 i e)) O j := by
  unfold k0_pay5 summed
  try dsimp only
  rw [shapeCast_self, shapeCast_self]
  exact congrArg (fun s : EReal => Ideal.ofBits .f32 0x3F9837F0#32 * x (ix2 i j) + s) (mmPlain dot_S256x1024_S1024x1024_S256x1024_1_0_0_1_n_n_wf _ _ i j)

/-- The kernel's sigmoid is the logistic function. -/
theorem tanh_logistic (x : EReal) : Ideal.ofBits .f32 0x3F000000#32 * Ideal.tanh (Ideal.ofBits .f32 0x3F000000#32 * x) + Ideal.ofBits .f32 0x3F000000#32 = Ideal.logistic x := by
  rw [half_lit, half_tanh]

/-- The kernel's gated sum of a row. -/
theorem gated_apply (ya yb : Vec Ideal S256x512 .bf16) (A B : Vec Ideal S512x1024 .bf16) (ga gb : Vec Ideal S256x1024 .f32) (i : Fin 256) (j : Fin 1024) :
    (k0_pay2 ya A yb B ga gb (ix2 i j) : EReal)
      = gated (fun k => ya (ix2 i k)) (fun k => yb (ix2 i k)) (fun e => ga (ix2 i e)) (fun e => gb (ix2 i e)) A B j := by
  unfold k0_pay2 gated
  try dsimp only
  simp only [shapeCast_self]
  exact congrArg₂ (fun p q : EReal => p + q)
    (congrArg₂ (fun p q : EReal => p * q) (tanh_logistic _) (mmPlain dot_S256x512_S512x1024_S256x1024_1_0_0_1_n_n_wf _ _ i j))
    (congrArg₂ (fun p q : EReal => p * q) (tanh_logistic _) (mmPlain dot_S256x512_S512x1024_S256x1024_1_0_0_1_n_n_wf _ _ i j))

/-- Half a block's stored rows. -/
theorem half_apply (ya yb : Vec Ideal S256x512 .bf16) (A B : Vec Ideal S512x1024 .bf16) (ga gb x : Vec Ideal S256x1024 .f32) (O : Vec Ideal S1024x1024 .bf16)
    (g b : Vec Ideal S1x1024 .f32) (i : Fin 256) (j : Fin 1024) :
    (k0_pay7 (k0_pay5 (k0_pay2 ya A yb B ga gb) x O) g b (ix2 i j) : EReal)
      = rowOut (fun e => x (ix2 i e)) (fun k => ya (ix2 i k)) (fun k => yb (ix2 i k)) (fun e => ga (ix2 i e)) (fun e => gb (ix2 i e)) A B O
          (fun e => g (ix2 0 e)) (fun e => b (ix2 0 e)) j := by
  refine (norm_apply _ g b i j).trans ?_
  unfold rowOut
  refine congrArg (fun h => normed h (fun e => g (ix2 0 e)) (fun e => b (ix2 0 e)) j) (funext fun e => ?_)
  refine (summed_apply _ x O i e).trans ?_
  exact congrArg (fun w => summed (fun e => x (ix2 i e)) w O e) (funext fun k => gated_apply ya yb A B ga gb i k)

/-- Both halves are computed alike. -/
theorem upper_eq (ya yb : Vec Ideal S256x512 .bf16) (A B : Vec Ideal S512x1024 .bf16) (ga gb x : Vec Ideal S256x1024 .f32) (O : Vec Ideal S1024x1024 .bf16)
    (g b : Vec Ideal S1x1024 .f32) :
    k0_pay15 (k0_pay8 (k0_pay6 (k0_pay3 ya) (k0_pay4 A) yb B ga gb) x O) g b = k0_pay7 (k0_pay5 (k0_pay2 ya A yb B ga gb) x O) g b := rfl

end Cert.Merge

end
-- ==== Proof.MergeKernel.lean ====
/-
  The merge's kernel: its result is, row by row, the merge of the rows of the arrays the host code prepares.
-/
module

public import proofs.«01_k».proof.Proof.MergeRow
public import Idealize.ShloMosaic.Lib.StableHlo.ReadAt

@[expose] public section

noncomputable section

open scoped BigOperators
open Idealize.ShloMosaic hiding ix1 ix2 ix3 ix4 ix5
open Idealize.ShloMosaic.ValueIdx
open Idealize.ShloMosaic.TcCoe Idealize.SL.Sem
open Cert.Kernel3Ideal Cert.Kernel3Ideal.Gen Cert.Kernel3Ideal.Value

namespace Cert.Merge

/-! ## One point's block -/

/-- The two stores of a block, read at a row: the lower half's rows are the last store's. -/
theorem canonHalves (w0 w1 : FVec Ideal S256x1024 .f32) (G : S512x1024.Idx → EReal)
    (h0 : ∀ (i : Fin 256) (j : Fin 1024), (w0 (ix2 i j) : EReal) = G (ix2 ⟨i.val, by omega⟩ j))
    (h1 : ∀ (i : Fin 256) (j : Fin 1024), (w1 (ix2 i j) : EReal) = G (ix2 ⟨256 + i.val, by omega⟩ j)) (i : Fin 512) (j : Fin 1024) :
    (View.canon ([⟨r0_10, w1⟩, ⟨r0_5, w0⟩] : List (View.Piece (Elt Ideal) S512x1024 .f32)) (ix2 i j) : EReal) = G (ix2 i j) := by
  by_cases h : 256 ≤ i.val
  · have e : (ix2 i j : S512x1024.Idx) = r0_10.emb (ix2 (⟨i.val - 256, by omega⟩ : Fin 256) j) := by
      funext a
      apply Fin.ext
      rw [Rect.emb_apply]
      match a with
      | ⟨0, _⟩ => show i.val = 256 + 1 * (i.val - 256); omega
      | ⟨1, _⟩ => show j.val = 0 + 1 * j.val; omega
    refine (congrArg _ e).trans ((View.canon_cons_emb _ _ _ _).trans ((h1 _ j).trans (congrArg G ?_)))
    exact congrArg (fun q : Fin 512 => (ix2 q j : S512x1024.Idx)) (Fin.ext (by show 256 + (i.val - 256) = i.val; omega))
  · refine (View.canon_cons_of_not_mem _ _ ?_).trans ?_
    · intro hm
      have h2 := (Rect.mem_set_unit (inb := inb_S512x1024_S256x1024_256_0)).mp hm 0
      have h3 : 256 ≤ i.val ∧ i.val < 256 + 256 := h2
      omega
    · have e : (ix2 i j : S512x1024.Idx) = r0_5.emb (ix2 (⟨i.val, by omega⟩ : Fin 256) j) := by
        funext a
        apply Fin.ext
        rw [Rect.emb_apply]
        match a with
        | ⟨0, _⟩ => show i.val = 0 + 1 * i.val; omega
        | ⟨1, _⟩ => show j.val = 0 + 1 * j.val; omega
      exact (congrArg _ e).trans ((View.canon_cons_emb _ _ _ _).trans (h0 _ j))

/-- A load of some rows and columns, read at an index. -/
theorem ldAt {a b c d : ℕ} {e : EltTy} (X : (⟨2, ![a, b]⟩ : Shape).Idx → Elt Ideal e) (o p : ℕ) (inb) (i : Fin c) (j : Fin d) (r : Fin a) (q : Fin b)
    (hr : r.val = o + i.val) (hq : q.val = p + j.val) :
    View.ld X (Rect.unit (s := ⟨2, ![a, b]⟩) ![o, p] (⟨2, ![c, d]⟩ : Shape).size inb) (ix2 i j) = X (ix2 r q) :=
  congrArg X (funext fun x => Fin.ext (by
    match x with
    | ⟨0, _⟩ => show o + 1 * i.val = r.val; omega
    | ⟨1, _⟩ => show p + 1 * j.val = q.val; omega))

/-- The result's row of a block from the block's rows. -/
def blockRow (x0 : S512x1024.Idx → EReal) (x1 x2 : S512x512.Idx → EReal) (x3 : S512x2048.Idx → EReal) (x4 x5 : S512x1024.Idx → EReal)
    (x6 : S1024x1024.Idx → EReal) (x7 x8 : S1x1024.Idx → EReal) : S512x1024.Idx → EReal := fun z =>
  rowOut (fun e => x0 (ix2 (z 0) e)) (fun k => x1 (ix2 (z 0) k)) (fun k => x2 (ix2 (z 0) k)) (fun e => x3 (ix2 (z 0) (⟨e.val, by omega⟩ : Fin 2048)))
    (fun e => x3 (ix2 (z 0) (⟨1024 + e.val, by omega⟩ : Fin 2048))) x4 x5 x6 (fun e => x7 (ix2 0 e)) (fun e => x8 (ix2 0 e)) (z 1)

/-- Two rows agreeing in every argument have equal results. -/
theorem rowOut_congr {x x' : Fin 1024 → EReal} {ya ya' yb yb' : Fin 512 → EReal} {ga ga' gb gb' : Fin 1024 → EReal} {A A' B B' : S512x1024.Idx → EReal}
    {O O' : S1024x1024.Idx → EReal} {g g' b b' : Fin 1024 → EReal} (hx : ∀ e, x e = x' e) (hya : ∀ e, ya e = ya' e) (hyb : ∀ e, yb e = yb' e)
    (hga : ∀ e, ga e = ga' e) (hgb : ∀ e, gb e = gb' e) (hA : ∀ i j, A (ix2 i j) = A' (ix2 i j)) (hB : ∀ i j, B (ix2 i j) = B' (ix2 i j))
    (hO : ∀ i j, O (ix2 i j) = O' (ix2 i j)) (hg : ∀ e, g e = g' e) (hb : ∀ e, b e = b' e) (j : Fin 1024) :
    rowOut x ya yb ga gb A B O g b j = rowOut x' ya' yb' ga' gb' A' B' O' g' b' j := by
  obtain rfl : x = x' := funext hx
  obtain rfl : ya = ya' := funext hya
  obtain rfl : yb = yb' := funext hyb
  obtain rfl : ga = ga' := funext hga
  obtain rfl : gb = gb' := funext hgb
  obtain rfl : A = A' := funext fun z => by rw [ValueIdx.eq_ix2 z]; exact hA _ _
  obtain rfl : B = B' := funext fun z => by rw [ValueIdx.eq_ix2 z]; exact hB _ _
  obtain rfl : O = O' := funext fun z => by rw [ValueIdx.eq_ix2 z]; exact hO _ _
  obtain rfl : g = g' := funext hg
  obtain rfl : b = b' := funext hb
  rfl

/-- The block a point leaves is the merge of its blocks' rows. -/
theorem out_apply (x0 : Vec Ideal S512x1024 .f32) (x1 x2 : Vec Ideal S512x512 .bf16) (x3 : Vec Ideal S512x2048 .f32) (x4 x5 : Vec Ideal S512x1024 .bf16)
    (x6 : Vec Ideal S1024x1024 .bf16) (x7 x8 : Vec Ideal S1x1024 .f32) (x9 : Vec Ideal S128x1024 .f32) (i : Fin 512) (j : Fin 1024) :
    (out0_10 x0 x1 x2 x3 x4 x5 x6 x7 x8 x9 (ix2 i j) : EReal) = blockRow x0 x1 x2 x3 x4 x5 x6 x7 x8 (ix2 i j) := by
  unfold out0_10
  refine canonHalves _ _ _ (fun i j => ?_) (fun i j => ?_) i j
  · unfold k0_pay20
    refine (half_apply _ _ _ _ _ _ _ _ _ _ i j).trans ?_
    exact rowOut_congr (fun e => ldAt x0 0 0 _ i e _ _ (by simp) (by simp)) (fun e => ldAt x1 0 0 _ i e _ _ (by simp) (by simp)) (fun e => ldAt x2 0 0 _ i e _ _ (by simp) (by simp))
      (fun e => ldAt x3 0 0 _ i e _ _ (by simp) (by simp)) (fun e => ldAt x3 0 1024 _ i e _ _ (by simp) (by simp))
      (fun k e => ldAt x4 0 0 _ k e _ _ (by simp) (by simp)) (fun k e => ldAt x5 0 0 _ k e _ _ (by simp) (by simp)) (fun k e => ldAt x6 0 0 _ k e _ _ (by simp) (by simp))
      (fun e => ldAt x7 0 0 _ 0 e _ _ (by simp) (by simp)) (fun e => ldAt x8 0 0 _ 0 e _ _ (by simp) (by simp)) j
  · unfold k0_pay21
    refine (congrFun (upper_eq _ _ _ _ _ _ _ _ _ _) (ix2 i j)).trans ((half_apply _ _ _ _ _ _ _ _ _ _ i j).trans ?_)
    exact rowOut_congr (fun e => ldAt x0 256 0 _ i e _ _ rfl (by simp)) (fun e => ldAt x1 256 0 _ i e _ _ rfl (by simp)) (fun e => ldAt x2 256 0 _ i e _ _ rfl (by simp))
      (fun e => ldAt x3 256 0 _ i e _ _ rfl (by simp)) (fun e => ldAt x3 256 1024 _ i e _ _ rfl rfl)
      (fun k e => ldAt x4 0 0 _ k e _ _ (by simp) (by simp)) (fun k e => ldAt x5 0 0 _ k e _ _ (by simp) (by simp)) (fun k e => ldAt x6 0 0 _ k e _ _ (by simp) (by simp))
      (fun e => ldAt x7 0 0 _ 0 e _ _ (by simp) (by simp)) (fun e => ldAt x8 0 0 _ 0 e _ _ (by simp) (by simp)) j

/-! ## The blocks are the arrays' -/

variable (m : (ℓ : Loc nD τ sig) → Buf (Elt Ideal) ℓ) (c : Dev nD)

theorem idx0 : ∀ t : Fin cfg0.N, win0_0.index t (0 : Fin 2) = t.val ∧ win0_0.index t (1 : Fin 2) = 0 := (by decide +kernel : ∀ t : Fin grid0.N, _)

/-- The residual's block is the point's rows. -/
theorem read0 (t : Fin cfg0.N) (i : Fin 512) (k : Fin 1024) (r : Fin 16384) (hr : r.val = 512 * t.val + i.val) :
    (iblk m c 0 t : S512x1024.Idx → EReal) (ix2 i k) = (V m c main_v0 : S16384x1024.Idx → EReal) (ix2 r k) := by
  obtain ⟨e0, e1⟩ := idx0 t
  unfold iblk
  rw [View.read_apply]
  show V m c main_v0 _ = V m c main_v0 _
  congr 1
  funext a
  apply Fin.ext
  match a with
  | ⟨0, _⟩ => show win0_0.index t (0 : Fin 2) * 512 + 1 * i.val = r.val; omega
  | ⟨1, _⟩ => show win0_0.index t (1 : Fin 2) * 1024 + 1 * k.val = k.val; omega

theorem idx1 : ∀ t : Fin cfg0.N, win0_1.index t (0 : Fin 2) = t.val ∧ win0_1.index t (1 : Fin 2) = 0 := (by decide +kernel : ∀ t : Fin grid0.N, _)

/-- The first branch's block is the point's rows. -/
theorem read1 (t : Fin cfg0.N) (i : Fin 512) (k : Fin 512) (r : Fin 16384) (hr : r.val = 512 * t.val + i.val) :
    (iblk m c 1 t : S512x512.Idx → EReal) (ix2 i k) = (V m c main_v8 : S16384x512.Idx → EReal) (ix2 r k) := by
  obtain ⟨e0, e1⟩ := idx1 t
  unfold iblk
  rw [View.read_apply]
  show V m c main_v8 _ = V m c main_v8 _
  congr 1
  funext a
  apply Fin.ext
  match a with
  | ⟨0, _⟩ => show win0_1.index t (0 : Fin 2) * 512 + 1 * i.val = r.val; omega
  | ⟨1, _⟩ => show win0_1.index t (1 : Fin 2) * 512 + 1 * k.val = k.val; omega

theorem idx2 : ∀ t : Fin cfg0.N, win0_2.index t (0 : Fin 2) = t.val ∧ win0_2.index t (1 : Fin 2) = 0 := (by decide +kernel : ∀ t : Fin grid0.N, _)

/-- The second branch's block is the point's rows. -/
theorem read2 (t : Fin cfg0.N) (i : Fin 512) (k : Fin 512) (r : Fin 16384) (hr : r.val = 512 * t.val + i.val) :
    (iblk m c 2 t : S512x512.Idx → EReal) (ix2 i k) = (V m c main_v9 : S16384x512.Idx → EReal) (ix2 r k) := by
  obtain ⟨e0, e1⟩ := idx2 t
  unfold iblk
  rw [View.read_apply]
  show V m c main_v9 _ = V m c main_v9 _
  congr 1
  funext a
  apply Fin.ext
  match a with
  | ⟨0, _⟩ => show win0_2.index t (0 : Fin 2) * 512 + 1 * i.val = r.val; omega
  | ⟨1, _⟩ => show win0_2.index t (1 : Fin 2) * 512 + 1 * k.val = k.val; omega

theorem idx3 : ∀ t : Fin cfg0.N, win0_3.index t (0 : Fin 2) = t.val ∧ win0_3.index t (1 : Fin 2) = 0 := (by decide +kernel : ∀ t : Fin grid0.N, _)

/-- The gates' block is the point's rows. -/
theorem read3 (t : Fin cfg0.N) (i : Fin 512) (k : Fin 2048) (r : Fin 16384) (hr : r.val = 512 * t.val + i.val) :
    (iblk m c 3 t : S512x2048.Idx → EReal) (ix2 i k) = (V m c main_v10 : S16384x2048.Idx → EReal) (ix2 r k) := by
  obtain ⟨e0, e1⟩ := idx3 t
  unfold iblk
  rw [View.read_apply]
  show V m c main_v10 _ = V m c main_v10 _
  congr 1
  funext a
  apply Fin.ext
  match a with
  | ⟨0, _⟩ => show win0_3.index t (0 : Fin 2) * 512 + 1 * i.val = r.val; omega
  | ⟨1, _⟩ => show win0_3.index t (1 : Fin 2) * 2048 + 1 * k.val = k.val; omega

theorem idx4 : ∀ t : Fin cfg0.N, win0_4.index t (0 : Fin 2) = 0 ∧ win0_4.index t (1 : Fin 2) = 0 := (by decide +kernel : ∀ t : Fin grid0.N, _)

/-- The first branch's weights are whole. -/
theorem read4 (t : Fin cfg0.N) (i : Fin 512) (k : Fin 1024) :
    (iblk m c 4 t : S512x1024.Idx → EReal) (ix2 i k) = (V m c main_v11 : S512x1024.Idx → EReal) (ix2 i k) := by
  obtain ⟨e0, e1⟩ := idx4 t
  unfold iblk
  rw [View.read_apply]
  show V m c main_v11 _ = V m c main_v11 _
  congr 1
  funext a
  apply Fin.ext
  match a with
  | ⟨0, _⟩ => show win0_4.index t (0 : Fin 2) * 512 + 1 * i.val = i.val; omega
  | ⟨1, _⟩ => show win0_4.index t (1 : Fin 2) * 1024 + 1 * k.val = k.val; omega

theorem idx5 : ∀ t : Fin cfg0.N, win0_5.index t (0 : Fin 2) = 0 ∧ win0_5.index t (1 : Fin 2) = 0 := (by decide +kernel : ∀ t : Fin grid0.N, _)

/-- The second branch's weights are whole. -/
theorem read5 (t : Fin cfg0.N) (i : Fin 512) (k : Fin 1024) :
    (iblk m c 5 t : S512x1024.Idx → EReal) (ix2 i k) = (V m c main_v12 : S512x1024.Idx → EReal) (ix2 i k) := by
  obtain ⟨e0, e1⟩ := idx5 t
  unfold iblk
  rw [View.read_apply]
  show V m c main_v12 _ = V m c main_v12 _
  congr 1
  funext a
  apply Fin.ext
  match a with
  | ⟨0, _⟩ => show win0_5.index t (0 : Fin 2) * 512 + 1 * i.val = i.val; omega
  | ⟨1, _⟩ => show win0_5.index t (1 : Fin 2) * 1024 + 1 * k.val = k.val; omega

theorem idx6 : ∀ t : Fin cfg0.N, win0_6.index t (0 : Fin 2) = 0 ∧ win0_6.index t (1 : Fin 2) = 0 := (by decide +kernel : ∀ t : Fin grid0.N, _)

/-- The output's weights are whole. -/
theorem read6 (t : Fin cfg0.N) (i : Fin 1024) (k : Fin 1024) :
    (iblk m c 6 t : S1024x1024.Idx → EReal) (ix2 i k) = (V m c main_v13 : S1024x1024.Idx → EReal) (ix2 i k) := by
  obtain ⟨e0, e1⟩ := idx6 t
  unfold iblk
  rw [View.read_apply]
  show V m c main_v13 _ = V m c main_v13 _
  congr 1
  funext a
  apply Fin.ext
  match a with
  | ⟨0, _⟩ => show win0_6.index t (0 : Fin 2) * 1024 + 1 * i.val = i.val; omega
  | ⟨1, _⟩ => show win0_6.index t (1 : Fin 2) * 1024 + 1 * k.val = k.val; omega

theorem idx7 : ∀ t : Fin cfg0.N, win0_7.index t (0 : Fin 2) = 0 ∧ win0_7.index t (1 : Fin 2) = 0 := (by decide +kernel : ∀ t : Fin grid0.N, _)

/-- The norm's weights are whole. -/
theorem read7 (t : Fin cfg0.N) (i : Fin 1) (k : Fin 1024) :
    (iblk m c 7 t : S1x1024.Idx → EReal) (ix2 i k) = (V m c main_v14 : S1x1024.Idx → EReal) (ix2 i k) := by
  obtain ⟨e0, e1⟩ := idx7 t
  unfold iblk
  rw [View.read_apply]
  show V m c main_v14 _ = V m c main_v14 _
  congr 1
  funext a
  apply Fin.ext
  match a with
  | ⟨0, _⟩ => show win0_7.index t (0 : Fin 2) * 1 + 1 * i.val = i.val; omega
  | ⟨1, _⟩ => show win0_7.index t (1 : Fin 2) * 1024 + 1 * k.val = k.val; omega

theorem idx8 : ∀ t : Fin cfg0.N, win0_8.index t (0 : Fin 2) = 0 ∧ win0_8.index t (1 : Fin 2) = 0 := (by decide +kernel : ∀ t : Fin grid0.N, _)

/-- The norm's shifts are whole. -/
theorem read8 (t : Fin cfg0.N) (i : Fin 1) (k : Fin 1024) :
    (iblk m c 8 t : S1x1024.Idx → EReal) (ix2 i k) = (V m c main_v15 : S1x1024.Idx → EReal) (ix2 i k) := by
  obtain ⟨e0, e1⟩ := idx8 t
  unfold iblk
  rw [View.read_apply]
  show V m c main_v15 _ = V m c main_v15 _
  congr 1
  funext a
  apply Fin.ext
  match a with
  | ⟨0, _⟩ => show win0_8.index t (0 : Fin 2) * 1 + 1 * i.val = i.val; omega
  | ⟨1, _⟩ => show win0_8.index t (1 : Fin 2) * 1024 + 1 * k.val = k.val; omega

theorem idx10 : ∀ t : Fin cfg0.N, win0_10.index t (0 : Fin 2) = t.val ∧ win0_10.index t (1 : Fin 2) = 0 := (by decide +kernel : ∀ t : Fin grid0.N, _)

/-- The whole result from the arrays the host code prepares. -/
def whole (X : S16384x1024.Idx → EReal) (Ya Yb : S16384x512.Idx → EReal) (Gt : S16384x2048.Idx → EReal) (A B : S512x1024.Idx → EReal)
    (O : S1024x1024.Idx → EReal) (g b : S1x1024.Idx → EReal) : S16384x1024.Idx → EReal := fun z =>
  rowOut (fun e => X (ix2 (z 0) e)) (fun k => Ya (ix2 (z 0) k)) (fun k => Yb (ix2 (z 0) k)) (fun e => Gt (ix2 (z 0) (⟨e.val, by omega⟩ : Fin 2048)))
    (fun e => Gt (ix2 (z 0) (⟨1024 + e.val, by omega⟩ : Fin 2048))) A B O (fun e => g (ix2 0 e)) (fun e => b (ix2 0 e)) (z 1)

/-- What a point writes back is its block of the whole result. -/
theorem flushed10_eq (t : Fin cfg0.N) :
    (dats m 0 c).flushed 10 t = ((cfg0.win 10).blk t).view.read (Elt Ideal)
      (whole (V m c main_v0) (V m c main_v8) (V m c main_v9) (V m c main_v10) (V m c main_v11) (V m c main_v12) (V m c main_v13) (V m c main_v14) (V m c main_v15) : S16384x1024.Idx → EReal) := by
  obtain ⟨e0, e1⟩ := idx10 t
  have ht : t.val < 32 := lt_of_lt_of_eq t.isLt N_0
  rw [flushed10]
  funext z
  obtain ⟨i, j, rfl⟩ : ∃ (i : Fin 512) (j : Fin 1024), z = ix2 i j := ⟨z 0, z 1, by
    funext a
    match a with
    | ⟨0, _⟩ => rfl
    | ⟨1, _⟩ => rfl⟩
  rw [View.read_apply]
  have hz : ((cfg0.win 10).blk t).view.emb (ix2 i j) = (ix2 (⟨512 * t.val + i.val, by omega⟩ : Fin 16384) j : S16384x1024.Idx) := by
    funext a
    apply Fin.ext
    match a with
    | ⟨0, _⟩ => show win0_10.index t (0 : Fin 2) * 512 + 1 * i.val = 512 * t.val + i.val; omega
    | ⟨1, _⟩ => show win0_10.index t (1 : Fin 2) * 1024 + 1 * j.val = j.val; omega
  rw [hz]
  show out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 i j) = _
  refine (out_apply _ _ _ _ _ _ _ _ _ _ i j).trans ?_
  unfold blockRow whole
  exact rowOut_congr (fun e => read0 m c t i e _ rfl) (fun e => read1 m c t i e _ rfl) (fun e => read2 m c t i e _ rfl)
    (fun e => read3 m c t i _ _ rfl) (fun e => read3 m c t i _ _ rfl) (fun k e => read4 m c t k e) (fun k e => read5 m c t k e) (fun k e => read6 m c t k e)
    (fun e => read7 m c t 0 e) (fun e => read8 m c t 0 e) j

/-- The points' blocks cover the result. -/
theorem covered10 (z : S16384x1024.Idx) : ∃ t : Fin cfg0.N, (cfg0.win 10).flush t = true ∧ z ∈ ((cfg0.win 10).blk t).view.set := by
  have h0 : (z 0).val < 16384 := (z 0).isLt
  have hlt : (z 0).val / 512 < cfg0.N := by rw [show cfg0.N = 32 from N_0]; omega
  refine ⟨⟨(z 0).val / 512, hlt⟩, flush0_10 _, ?_⟩
  obtain ⟨e0, e1⟩ := idx10 ⟨(z 0).val / 512, hlt⟩
  have hz : ((cfg0.win 10).blk ⟨(z 0).val / 512, hlt⟩).view.emb (ix2 (⟨(z 0).val % 512, by omega⟩ : Fin 512) (⟨(z 1).val, (z 1).isLt⟩ : Fin 1024) : S512x1024.Idx) = z := by
    funext a
    apply Fin.ext
    match a with
    | ⟨0, _⟩ => show win0_10.index _ (0 : Fin 2) * 512 + 1 * ((z 0).val % 512) = (z 0).val; rw [e0]; show (z 0).val / 512 * 512 + 1 * ((z 0).val % 512) = (z 0).val; omega
    | ⟨1, _⟩ => show win0_10.index _ (1 : Fin 2) * 1024 + 1 * (z 1).val = (z 1).val; rw [e1]; omega
  have h := ((cfg0.win 10).blk ⟨(z 0).val / 512, hlt⟩).view.emb_mem_set (ix2 (⟨(z 0).val % 512, by omega⟩ : Fin 512) (⟨(z 1).val, (z 1).isLt⟩ : Fin 1024) : S512x1024.Idx)
  rwa [hz] at h

/-- The result after the run. -/
theorem final10 : (dats m 0 c).arrAt 10 cfg0.N
    = (whole (V m c main_v0) (V m c main_v8) (V m c main_v9) (V m c main_v10) (V m c main_v11) (V m c main_v12) (V m c main_v13) (V m c main_v14) (V m c main_v15) : S16384x1024.Idx → EReal) :=
  (dats m 0 c).arrAt_eq_of_cover 10 _ (fun t _ => flushed10_eq m c t) covered10

/-! ## The arrays the host code prepares -/

/-- Row `4096 b + t` of the flattened residual is row `t` of batch `b`. -/
theorem xV (b : Fin 4) (t : Fin 4096) (k : Fin 1024) (r : Fin 16384) (hr : r.val = 4096 * b.val + t.val) :
    (V m c main_v0 : S16384x1024.Idx → EReal) (ix2 r k) = (m (c, Proc.tc.devRef main_arg0) : S4x4096x1024.Idx → EReal) (ix3 b t k) := by
  unfold V
  after_reads_at
  refine congrArg (m (c, Proc.tc.devRef main_arg0) : S4x4096x1024.Idx → EReal) ?_
  funext a
  apply Fin.ext
  match a with
  | ⟨0, _⟩ => show r.val / 4096 = b.val; omega
  | ⟨1, _⟩ => show r.val % 4096 = t.val; omega
  | ⟨2, _⟩ => rfl

/-- Row `4096 b + t` of the flattened first branch is row `t` of batch `b`. -/
theorem yaV (b : Fin 4) (t : Fin 4096) (k : Fin 512) (r : Fin 16384) (hr : r.val = 4096 * b.val + t.val) :
    (V m c main_v8 : S16384x512.Idx → EReal) (ix2 r k) = (m (c, Proc.tc.devRef main_arg1) : S4x4096x512.Idx → EReal) (ix3 b t k) := by
  unfold V
  after_reads_at
  refine congrArg (m (c, Proc.tc.devRef main_arg1) : S4x4096x512.Idx → EReal) ?_
  funext a
  apply Fin.ext
  match a with
  | ⟨0, _⟩ => show r.val / 4096 = b.val; omega
  | ⟨1, _⟩ => show r.val % 4096 = t.val; omega
  | ⟨2, _⟩ => rfl

/-- Row `4096 b + t` of the flattened second branch is row `t` of batch `b`. -/
theorem ybV (b : Fin 4) (t : Fin 4096) (k : Fin 512) (r : Fin 16384) (hr : r.val = 4096 * b.val + t.val) :
    (V m c main_v9 : S16384x512.Idx → EReal) (ix2 r k) = (m (c, Proc.tc.devRef main_arg2) : S4x4096x512.Idx → EReal) (ix3 b t k) := by
  unfold V
  after_reads_at
  refine congrArg (m (c, Proc.tc.devRef main_arg2) : S4x4096x512.Idx → EReal) ?_
  funext a
  apply Fin.ext
  match a with
  | ⟨0, _⟩ => show r.val / 4096 = b.val; omega
  | ⟨1, _⟩ => show r.val % 4096 = t.val; omega
  | ⟨2, _⟩ => rfl

/-- Row `4096 b + t` of the flattened gates is row `t` of batch `b`. -/
theorem gtV (b : Fin 4) (t : Fin 4096) (k : Fin 2048) (r : Fin 16384) (hr : r.val = 4096 * b.val + t.val) :
    (V m c main_v10 : S16384x2048.Idx → EReal) (ix2 r k) = (m (c, Proc.tc.devRef main_arg3) : S4x4096x2048.Idx → EReal) (ix3 b t k) := by
  unfold V
  after_reads_at
  refine congrArg (m (c, Proc.tc.devRef main_arg3) : S4x4096x2048.Idx → EReal) ?_
  funext a
  apply Fin.ext
  match a with
  | ⟨0, _⟩ => show r.val / 4096 = b.val; omega
  | ⟨1, _⟩ => show r.val % 4096 = t.val; omega
  | ⟨2, _⟩ => rfl

/-- The first branch's weights are the argument's. -/
theorem waV (k : Fin 512) (j : Fin 1024) : (V m c main_v11 : S512x1024.Idx → EReal) (ix2 k j) = (m (c, Proc.tc.devRef main_arg4) : S512x1024.Idx → EReal) (ix2 k j) := by
  unfold V
  after_reads_at
  rfl

/-- The second branch's weights are the argument's. -/
theorem wbV (k : Fin 512) (j : Fin 1024) : (V m c main_v12 : S512x1024.Idx → EReal) (ix2 k j) = (m (c, Proc.tc.devRef main_arg5) : S512x1024.Idx → EReal) (ix2 k j) := by
  unfold V
  after_reads_at
  rfl

/-- The output's weights are the argument's. -/
theorem woV (k : Fin 1024) (j : Fin 1024) : (V m c main_v13 : S1024x1024.Idx → EReal) (ix2 k j) = (m (c, Proc.tc.devRef main_arg6) : S1024x1024.Idx → EReal) (ix2 k j) := by
  unfold V
  after_reads_at
  rfl

/-- The norm's weights are the argument's. -/
theorem lnV (j : Fin 1024) : (V m c main_v14 : S1x1024.Idx → EReal) (ix2 0 j) = (m (c, Proc.tc.devRef main_arg7) : S1024.Idx → EReal) (ix1 j) := by
  unfold V
  after_reads_at
  refine congrArg (m (c, Proc.tc.devRef main_arg7) : S1024.Idx → EReal) ?_
  funext a
  apply Fin.ext
  match a with
  | ⟨0, _⟩ => rfl

/-- The norm's shifts are the argument's. -/
theorem lbV (j : Fin 1024) : (V m c main_v15 : S1x1024.Idx → EReal) (ix2 0 j) = (m (c, Proc.tc.devRef main_arg8) : S1024.Idx → EReal) (ix1 j) := by
  unfold V
  after_reads_at
  refine congrArg (m (c, Proc.tc.devRef main_arg8) : S1024.Idx → EReal) ?_
  funext a
  apply Fin.ext
  match a with
  | ⟨0, _⟩ => rfl

end Cert.Merge

end
-- ==== Proof.Merge.lean ====
/-
  The merge: of equal arguments the kernel's result is the reference's.
-/
module

public import proofs.«01_k».proof.Proof.MergeKernel
public import proofs.«01_k».proof.Proof.Gen.Reference3Ideal.Run
public import proofs.«01_k».proof.Defs
public import Idealize.ShloMosaic.Lib.Quiescent

@[expose] public section

noncomputable section

open scoped BigOperators
open Idealize.ShloMosaic hiding ix1 ix2 ix3 ix4 ix5
open Idealize.ShloMosaic.ValueIdx
open Idealize.ShloMosaic.TcCoe Idealize.SL.Sem
open Cert.Reference3Ideal Cert.Reference3Ideal.Gen
open Cert.Hgrn (one_lit zero_lit)

namespace Cert.Merge

/-! ## The reference's lines -/

/-- The reference's sigmoid of the gates. -/
def sigR (G : FVec Ideal S4x4096x2048 .f32) : FVec Ideal S4x4096x2048 .f32 :=
  Host.divf (broadcastInDim S4x4096x2048 ![] bcast_S_S4x4096x2048 (constant S_ .f32 0x3F800000#32))
    (addf (broadcastInDim S4x4096x2048 ![] bcast_S_S4x4096x2048 (constant S_ .f32 0x3F800000#32)) (Host.exp (Host.negf G)))

/-- The two branches projected, gated and added. -/
def gatedR (Ya Yb : FVec Ideal S4x4096x512 .bf16) (G : FVec Ideal S4x4096x2048 .f32) (A B : FVec Ideal S512x1024 .f32) : FVec Ideal S4x4096x1024 .f32 :=
  addf (mulf (extractStridedSlice S4x4096x1024 ![0, 0, 0] (sigR G) slices_S4x4096x2048_S4x4096x1024_0_0_0) (Host.dotGeneral dot_S4x4096x512_S512x1024_S4x4096x1024_2_0_01_1_n_n none (extf .f32 Ya bitsLt_bf16_f32) A))
    (mulf (extractStridedSlice S4x4096x1024 ![0, 0, 1024] (sigR G) slices_S4x4096x2048_S4x4096x1024_0_0_1024) (Host.dotGeneral dot_S4x4096x512_S512x1024_S4x4096x1024_2_0_01_1_n_n none (extf .f32 Yb bitsLt_bf16_f32) B))

/-- The scaled residual plus the projected merge. -/
def summedR (X W : FVec Ideal S4x4096x1024 .f32) (O : FVec Ideal S1024x1024 .f32) : FVec Ideal S4x4096x1024 .f32 :=
  addf (mulf (broadcastInDim S4x4096x1024 ![] bcast_S_S4x4096x1024 (constant S_ .f32 0x3F9837F0#32)) X) (Host.dotGeneral dot_S4x4096x1024_S1024x1024_S4x4096x1024_2_0_01_1_n_n none W O)

/-- The mean of each row. -/
def meanR (H : FVec Ideal S4x4096x1024 .f32) : FVec Ideal S4x4096x1 .f32 :=
  Host.divf (broadcastInDim S4x4096x1 ![0, 1] bcast_S4x4096_S4x4096x1_0_1 (Host.reduceAdd H (constant S_ .f32 0x00000000#32) reducesTo_S4x4096x1024_S4x4096_d2 h_S_))
    (broadcastInDim S4x4096x1 ![] bcast_S_S4x4096x1 (constant S_ .f32 0x44800000#32))

/-- Each row less its mean. -/
def offR (H : FVec Ideal S4x4096x1024 .f32) : FVec Ideal S4x4096x1024 .f32 :=
  subf H (broadcastInDim S4x4096x1024 ![0, 1, 2] bcast_S4x4096x1_S4x4096x1024_0_1_2 (meanR H))

/-- The layer norm. -/
def normR (H : FVec Ideal S4x4096x1024 .f32) (g b : FVec Ideal S1024 .f32) : FVec Ideal S4x4096x1024 .f32 :=
  addf (mulf (mulf (offR H) (broadcastInDim S4x4096x1024 ![0, 1, 2] bcast_S4x4096x1_S4x4096x1024_0_1_2 (Host.rsqrt (addf (meanR (mulf (offR H) (offR H)))
      (broadcastInDim S4x4096x1 ![] bcast_S_S4x4096x1 (constant S_ .f32 0x3727C5AC#32))))))
    (broadcastInDim S4x4096x1024 ![0, 1, 2] bcast_S1x1x1024_S4x4096x1024_0_1_2 (broadcastInDim S1x1x1024 ![2] bcast_S1024_S1x1x1024_2 g)))
    (broadcastInDim S4x4096x1024 ![0, 1, 2] bcast_S1x1x1024_S4x4096x1024_0_1_2 (broadcastInDim S1x1x1024 ![2] bcast_S1024_S1x1x1024_2 b))

/-- The reference's result is those lines composed. -/
theorem res_eq (m : (ℓ : Loc nD τ sig) → Buf (Elt Ideal) ℓ) (c : Dev nD) :
    (Cert.Reference3Ideal.Value.res_main_v43 m c : S16384x1024.Idx → EReal)
      = shapeCast S16384x1024 (normR (summedR (m ((c.tc : Thread nD τ).loc main_arg0))
          (gatedR (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
          (m ((c.tc : Thread nD τ).loc main_arg6))) (m ((c.tc : Thread nD τ).loc main_arg7)) (m ((c.tc : Thread nD τ).loc main_arg8))) shapeCasts_S4x4096x1024_S16384x1024 := rfl

/-! ## Read at a row -/

theorem sigR_apply (G : S4x4096x2048.Idx → EReal) (i : S4x4096x2048.Idx) : (sigR G i : EReal) = Ideal.logistic (G i) := by
  show Ideal.div (Ideal.ofBits .f32 0x3F800000#32) (Ideal.ofBits .f32 0x3F800000#32 + Ideal.exp (-(G i))) = _
  rw [one_lit]
  rfl

/-- A branch's projection at a row and a column. -/
theorem dot512 (A : S4x4096x512.Idx → EReal) (B : S512x1024.Idx → EReal) (b : Fin 4) (t : Fin 4096) (q : Fin 1024) :
    (Host.dotGeneral (F := Ideal) (φ₁ := .f32) (φ₂ := .f32) dot_S4x4096x512_S512x1024_S4x4096x1024_2_0_01_1_n_n none A B (ix3 b t q) : EReal)
      = ∑ k : Fin 512, A (ix3 b t k) * B (ix2 k q) := by
  refine (Ideal.dotGeneral_apply (φ₁ := .f32) (φ₂ := .f32) dot_S4x4096x512_S512x1024_S4x4096x1024_2_0_01_1_n_n none _ A B _).trans ?_
  rw [← Equiv.sum_comp (contrEquiv1 dot_S4x4096x512_S512x1024_S4x4096x1024_2_0_01_1_n_n 512 rfl rfl).symm]
  refine Finset.sum_congr rfl fun k _ => ?_
  have ck := contrEquiv1_symm_val dot_S4x4096x512_S512x1024_S4x4096x1024_2_0_01_1_n_n 512 rfl rfl k
  congr 2
  · funext ax; apply Fin.ext
    match ax with
    | ⟨0, _⟩ => rfl
    | ⟨1, _⟩ => rfl
    | ⟨2, _⟩ => exact ck
  · funext ax; apply Fin.ext
    match ax with
    | ⟨0, _⟩ => exact ck
    | ⟨1, _⟩ => rfl

/-- The output's projection at a row and a column. -/
theorem dot1024 (A : S4x4096x1024.Idx → EReal) (B : S1024x1024.Idx → EReal) (b : Fin 4) (t : Fin 4096) (q : Fin 1024) :
    (Host.dotGeneral (F := Ideal) (φ₁ := .f32) (φ₂ := .f32) dot_S4x4096x1024_S1024x1024_S4x4096x1024_2_0_01_1_n_n none A B (ix3 b t q) : EReal)
      = ∑ k : Fin 1024, A (ix3 b t k) * B (ix2 k q) := by
  refine (Ideal.dotGeneral_apply (φ₁ := .f32) (φ₂ := .f32) dot_S4x4096x1024_S1024x1024_S4x4096x1024_2_0_01_1_n_n none _ A B _).trans ?_
  rw [← Equiv.sum_comp (contrEquiv1 dot_S4x4096x1024_S1024x1024_S4x4096x1024_2_0_01_1_n_n 1024 rfl rfl).symm]
  refine Finset.sum_congr rfl fun k _ => ?_
  have ck := contrEquiv1_symm_val dot_S4x4096x1024_S1024x1024_S4x4096x1024_2_0_01_1_n_n 1024 rfl rfl k
  congr 2
  · funext ax; apply Fin.ext
    match ax with
    | ⟨0, _⟩ => rfl
    | ⟨1, _⟩ => rfl
    | ⟨2, _⟩ => exact ck
  · funext ax; apply Fin.ext
    match ax with
    | ⟨0, _⟩ => exact ck
    | ⟨1, _⟩ => rfl

/-- Half the gates' columns. -/
theorem gate_cols (o : ℕ) (G : S4x4096x2048.Idx → EReal) (h : Shape.Slices S4x4096x2048 ![0, 0, o] S4x4096x1024) (b : Fin 4) (t : Fin 4096) (j : Fin 1024) (q : Fin 2048)
    (hq : q.val = o + j.val) : (extractStridedSlice S4x4096x1024 ![0, 0, o] (sigR G) h (ix3 b t j) : EReal) = Ideal.logistic (G (ix3 b t q)) := by
  refine (extractStridedSlice_apply _ _ _ _ (ix3 b t q) fun ax => ?_).trans (sigR_apply G _)
  match ax with
  | ⟨0, _⟩ => show b.val = 0 + b.val; omega
  | ⟨1, _⟩ => show t.val = 0 + t.val; omega
  | ⟨2, _⟩ => exact hq

theorem gatedR_apply (Ya Yb : S4x4096x512.Idx → EReal) (G : S4x4096x2048.Idx → EReal) (A B : S512x1024.Idx → EReal) (b : Fin 4) (t : Fin 4096) (j : Fin 1024) :
    (gatedR Ya Yb G A B (ix3 b t j) : EReal)
      = gated (fun k => Ya (ix3 b t k)) (fun k => Yb (ix3 b t k)) (fun e => G (ix3 b t (⟨e.val, by omega⟩ : Fin 2048)))
          (fun e => G (ix3 b t (⟨1024 + e.val, by omega⟩ : Fin 2048))) A B j :=
  congrArg₂ (fun p q : EReal => p + q)
    (congrArg₂ (fun p q : EReal => p * q) (gate_cols 0 G _ b t j _ (Nat.zero_add _).symm) (dot512 Ya A b t j))
    (congrArg₂ (fun p q : EReal => p * q) (gate_cols 1024 G _ b t j _ rfl) (dot512 Yb B b t j))

theorem summedR_apply (X W : S4x4096x1024.Idx → EReal) (O : S1024x1024.Idx → EReal) (b : Fin 4) (t : Fin 4096) (j : Fin 1024) :
    (summedR X W O (ix3 b t j) : EReal) = summed (fun e => X (ix3 b t e)) (fun e => W (ix3 b t e)) O j :=
  congrArg (fun s : EReal => Ideal.ofBits .f32 0x3F9837F0#32 * X (ix3 b t j) + s) (dot1024 W O b t j)

/-- The index of a reduced row's lane. -/
theorem lift_row (h : S4x4096x1024.Reduces [2] S4x4096) (b : Fin 4) (t : Fin 4096) (e : Fin 1024) : h.lift (ix2 b t) e = ix3 b t e := by
  funext d
  match d with
  | ⟨0, _⟩ => rfl
  | ⟨1, _⟩ => rfl
  | ⟨2, _⟩ => rfl

theorem meanR_apply (H : S4x4096x1024.Idx → EReal) (b : Fin 4) (t : Fin 4096) : (meanR H (ix3 b t 0) : EReal) = mean fun e => H (ix3 b t e) := by
  refine congrArg (fun s : EReal => Ideal.div s (Ideal.ofBits .f32 0x44800000#32)) ?_
  refine (broadcastInDim_apply _ _ _ _ (ix2 b t) (fun d => match d with | ⟨0, _⟩ => rfl | ⟨1, _⟩ => rfl)).trans ?_
  refine (Ideal.hostReduceAdd_single reducesTo_S4x4096x1024_S4x4096_d2 (by decide : S4x4096x1024.Reduces [2] S4x4096) _ _ (ix2 b t)).trans ?_
  refine (congrArg (fun x : EReal => x + _) zero_lit).trans ((zero_add _).trans ?_)
  exact Finset.sum_congr rfl fun e _ => congrArg H (lift_row _ b t e)

/-- A column repeated along the rows. -/
theorem bcastColR (x : S4x4096x1.Idx → EReal) (b : Fin 4) (t : Fin 4096) (j : Fin 1024) :
    broadcastInDim S4x4096x1024 ![0, 1, 2] bcast_S4x4096x1_S4x4096x1024_0_1_2 x (ix3 b t j) = x (ix3 b t 0) :=
  broadcastInDim_apply _ _ _ _ (ix3 b t (0 : Fin 1)) (fun d => match d with | ⟨0, _⟩ => rfl | ⟨1, _⟩ => rfl | ⟨2, _⟩ => rfl)

/-- A vector repeated for every row. -/
theorem bcastVecR (g : S1024.Idx → EReal) (b : Fin 4) (t : Fin 4096) (j : Fin 1024) :
    broadcastInDim S4x4096x1024 ![0, 1, 2] bcast_S1x1x1024_S4x4096x1024_0_1_2 (broadcastInDim S1x1x1024 ![2] bcast_S1024_S1x1x1024_2 g) (ix3 b t j) = g (ix1 j) :=
  (broadcastInDim_apply _ _ _ _ (ix3 (0 : Fin 1) (0 : Fin 1) j) (fun d => match d with | ⟨0, _⟩ => rfl | ⟨1, _⟩ => rfl | ⟨2, _⟩ => rfl)).trans
    (broadcastInDim_apply _ _ _ _ (ix1 j) (fun d => match d with | ⟨0, _⟩ => rfl))

theorem offR_apply (H : S4x4096x1024.Idx → EReal) (b : Fin 4) (t : Fin 4096) (j : Fin 1024) :
    (offR H (ix3 b t j) : EReal) = H (ix3 b t j) - mean fun e => H (ix3 b t e) :=
  congrArg (fun s : EReal => H (ix3 b t j) - s) ((bcastColR _ b t j).trans (meanR_apply H b t))

theorem normR_apply (H : S4x4096x1024.Idx → EReal) (g s : S1024.Idx → EReal) (b : Fin 4) (t : Fin 4096) (j : Fin 1024) :
    (normR H g s (ix3 b t j) : EReal) = normed (fun e => H (ix3 b t e)) (fun e => g (ix1 e)) (fun e => s (ix1 e)) j := by
  unfold normR normed
  refine congrArg₂ (fun p q : EReal => p + q) (congrArg₂ (fun p q : EReal => p * q) (congrArg₂ (fun p q : EReal => p * q) (offR_apply H b t j) ?_) (bcastVecR g b t j)) (bcastVecR s b t j)
  refine (bcastColR _ b t j).trans ?_
  refine congrArg (fun s : EReal => Ideal.rsqrt (s + Ideal.ofBits .f32 0x3727C5AC#32)) ?_
  refine (meanR_apply _ b t).trans ?_
  exact congrArg mean (funext fun e => congrArg₂ (fun p q : EReal => p * q) (offR_apply H b t e) (offR_apply H b t e))

/-- The reference's lines at a flattened row. -/
theorem ref_apply (X : S4x4096x1024.Idx → EReal) (Ya Yb : S4x4096x512.Idx → EReal) (G : S4x4096x2048.Idx → EReal) (A B : S512x1024.Idx → EReal)
    (O : S1024x1024.Idx → EReal) (g s : S1024.Idx → EReal) (r : Fin 16384) (j : Fin 1024) (b : Fin 4) (t : Fin 4096) (hr : r.val = 4096 * b.val + t.val) :
    (shapeCast S16384x1024 (normR (summedR X (gatedR Ya Yb G A B) O) g s) shapeCasts_S4x4096x1024_S16384x1024 (ix2 r j) : EReal)
      = rowOut (fun e => X (ix3 b t e)) (fun k => Ya (ix3 b t k)) (fun k => Yb (ix3 b t k)) (fun e => G (ix3 b t (⟨e.val, by omega⟩ : Fin 2048)))
          (fun e => G (ix3 b t (⟨1024 + e.val, by omega⟩ : Fin 2048))) A B O (fun e => g (ix1 e)) (fun e => s (ix1 e)) j := by
  refine (shapeCast_apply _ _ _ (ix3 b t j) ?_).trans ?_
  · rw [Shape.rowMajor_val_three, Shape.rowMajor_val_two]
    show (b.val * 4096 + t.val) * 1024 + j.val = r.val * 1024 + j.val
    rw [hr, mul_comm 4096]
  · refine (normR_apply _ g s b t j).trans ?_
    unfold rowOut
    refine congrArg (fun h => normed h (fun e => g (ix1 e)) (fun e => s (ix1 e)) j) (funext fun e => ?_)
    refine (summedR_apply X _ O b t e).trans ?_
    exact congrArg (fun w => summed (fun e => X (ix3 b t e)) w O e) (funext fun k => gatedR_apply Ya Yb G A B b t k)

/-! ## The claims -/

/-- The reference's frame: every execution ends, with its arguments unchanged and every counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  (θ_run _ _ _).mono (fun r h => ⟨fun c => (h c).2, sem_eq_zero_of_no_sems rfl _⟩) (Cert.Reference3Ideal.Value.run m ρ)

/-- From memories agreeing on the arguments both programs run, end with equal results and leave their arguments unchanged. -/
theorem value : algebraic_Kernel3Ideal_Reference3Ideal (hKernel3Ideal := Cert.Kernel3Ideal.Gen.facts) (hReference3Ideal := Cert.Reference3Ideal.Gen.facts) := by
  intro m g m' g' _ he
  refine ⟨_, (θ_run _ _ _).mono (fun r h c => ⟨(h c).1, (h c).2.2⟩) (Cert.Kernel3Ideal.Value.run_blocks m g), (θ_run _ _ _).mono (fun r h c => ?_) (Cert.Reference3Ideal.Value.run m' g')⟩
  obtain ⟨h1, h2⟩ := h c
  obtain ⟨e0, e1, e2, e3, e4, e5, e6, e7, e8, -, -⟩ := he c
  refine ⟨h1.trans (Eq.trans ?_ (final10 m c).symm), h2⟩
  refine (res_eq m' c).trans ?_
  funext z
  obtain ⟨r, j, rfl⟩ : ∃ (r : Fin 16384) (j : Fin 1024), z = ix2 r j := ⟨z 0, z 1, by
    funext a
    match a with
    | ⟨0, _⟩ => rfl
    | ⟨1, _⟩ => rfl⟩
  have hr := r.isLt
  have e : r.val = 4096 * (r.val / 4096) + r.val % 4096 := by omega
  refine (ref_apply _ _ _ _ _ _ _ _ _ r j ⟨r.val / 4096, by omega⟩ ⟨r.val % 4096, by omega⟩ e).trans ?_
  unfold whole
  exact rowOut_congr (fun k => (congrFun e0 _).trans (xV m c _ _ k r e).symm) (fun k => (congrFun e1 _).trans (yaV m c _ _ k r e).symm)
    (fun k => (congrFun e2 _).trans (ybV m c _ _ k r e).symm) (fun k => (congrFun e3 _).trans (gtV m c _ _ _ r e).symm)
    (fun k => (congrFun e3 _).trans (gtV m c _ _ _ r e).symm) (fun k l => (congrFun e4 _).trans (waV m c k l).symm)
    (fun k l => (congrFun e5 _).trans (wbV m c k l).symm) (fun k l => (congrFun e6 _).trans (woV m c k l).symm)
    (fun k => (congrFun e7 _).trans (lnV m c k).symm) (fun k => (congrFun e8 _).trans (lbV m c k).symm) j

end Cert.Merge

end
-- ==== Proof.LogitFinite.lean ====
/-
  A normalised row is real wherever its weights and shifts are: a row that holds an infinity has a variance of plus infinity, the inverse root of which is zero.
-/
module

public import proofs.«01_k».proof.Proof.MergeRow

@[expose] public section

noncomputable section

open scoped BigOperators
open Idealize.ShloMosaic hiding ix1 ix2 ix3 ix4 ix5
open Cert.Hgrn (Fin' sum_real real_of_ne sub_self_real)
open Cert.Merge (mean normed)

namespace Cert.Logit

/-- The literal 1024. -/
theorem c1024_lit : Ideal.ofBits .f32 0x44800000#32 = ((1024 : ℝ) : EReal) := by
  simp only [Ideal.ofBits, Ideal.ieee, BitVec.extractLsb', BitVec.toNat_ofNat]
  norm_num [Nat.shiftRight_eq_div_pow]

/-- The small literal is a positive real. -/
theorem eps_lit : ∃ e : ℝ, 0 < e ∧ Ideal.ofBits .f32 0x3727C5AC#32 = (e : EReal) := by
  refine ⟨(10995116 : ℝ) * (2 : ℝ) ^ (-40 : ℤ), by positivity, ?_⟩
  simp only [Ideal.ofBits, Ideal.ieee, BitVec.extractLsb', BitVec.toNat_ofNat]
  norm_num [Nat.shiftRight_eq_div_pow]

theorem real_mul {x y : EReal} (hx : Fin' x) (hy : Fin' y) : Fin' (x * y) := by
  obtain ⟨x, rfl⟩ := hx
  obtain ⟨y, rfl⟩ := hy
  exact ⟨x * y, (EReal.coe_mul x y).symm⟩

theorem real_add {x y : EReal} (hx : Fin' x) (hy : Fin' y) : Fin' (x + y) := by
  obtain ⟨x, rfl⟩ := hx
  obtain ⟨y, rfl⟩ := hy
  exact ⟨x + y, (EReal.coe_add x y).symm⟩

theorem real_sub {x y : EReal} (hx : Fin' x) (hy : Fin' y) : Fin' (x - y) := by
  obtain ⟨x, rfl⟩ := hx
  obtain ⟨y, rfl⟩ := hy
  exact ⟨x - y, (EReal.coe_sub x y).symm⟩

/-- A 1024th of a real. -/
theorem div1024 (x : ℝ) : Ideal.div (x : EReal) (Ideal.ofBits .f32 0x44800000#32) = ((x / 1024 : ℝ) : EReal) := by
  rw [c1024_lit]
  unfold Ideal.div
  rw [if_neg (by rw [← EReal.coe_zero]; exact fun h => by have := EReal.coe_injective h; norm_num at this), ← EReal.coe_inv, ← EReal.coe_mul, div_eq_mul_inv]

theorem div1024_inf {x : EReal} (h : x = ⊤ ∨ x = ⊥) : Ideal.div x (Ideal.ofBits .f32 0x44800000#32) = x := by
  rw [c1024_lit]
  unfold Ideal.div
  rw [if_neg (by rw [← EReal.coe_zero]; exact fun h => by have := EReal.coe_injective h; norm_num at this), ← EReal.coe_inv]
  rcases h with rfl | rfl
  · exact EReal.top_mul_coe_of_pos (by norm_num)
  · exact EReal.bot_mul_coe_of_pos (by norm_num)

/-- A sum with an infinite term is an infinity. -/
theorem sum_inf {ι : Type} [DecidableEq ι] (s : Finset ι) (f : ι → EReal) (i : ι) (hi : i ∈ s) (h : f i = ⊤ ∨ f i = ⊥) : ∑ j ∈ s, f j = ⊤ ∨ ∑ j ∈ s, f j = ⊥ := by
  rw [← Finset.add_sum_erase s f hi]
  rcases h with h | h <;> rw [h]
  · by_cases hr : ∑ j ∈ s.erase i, f j = ⊥
    · right; rw [hr, EReal.add_bot]
    · left; exact EReal.top_add_of_ne_bot hr
  · right; rw [EReal.bot_add]

/-- A sum of plus infinities is plus infinity. -/
theorem sum_top {ι : Type} [DecidableEq ι] (s : Finset ι) (i : ι) (hi : i ∈ s) : ∑ _j ∈ s, (⊤ : EReal) = ⊤ := by
  rcases sum_inf s (fun _ => (⊤ : EReal)) i hi (Or.inl rfl) with h | h
  · exact h
  · have h0 : (0 : EReal) ≤ ∑ _j ∈ s, (⊤ : EReal) := Finset.sum_nonneg fun _ _ => le_top
    rw [h] at h0
    exact absurd h0 (by simp)

/-- Anything less an infinity is an infinity. -/
theorem sub_inf (x : EReal) {y : EReal} (h : y = ⊤ ∨ y = ⊥) : x - y = ⊤ ∨ x - y = ⊥ := by
  rcases h with rfl | rfl
  · right; rw [sub_eq_add_neg, EReal.neg_top, EReal.add_bot]
  · rw [sub_eq_add_neg, EReal.neg_bot]
    by_cases hx : x = ⊥
    · right; rw [hx, EReal.bot_add]
    · left; exact EReal.add_top_of_ne_bot hx

theorem sq_inf {x : EReal} (h : x = ⊤ ∨ x = ⊥) : x * x = ⊤ := by
  rcases h with rfl | rfl
  · exact EReal.top_mul_top
  · exact EReal.bot_mul_bot

/-- The inverse root of a positive real is real. -/
theorem rsqrt_pos {x : ℝ} (h : 0 < x) : Fin' (Ideal.rsqrt (x : EReal)) := by
  refine ⟨(Real.sqrt x)⁻¹, ?_⟩
  show (if x < 0 then (⊥ : EReal) else if x = 0 then ⊤ else ((Real.sqrt x)⁻¹ : ℝ)) = _
  rw [if_neg (not_lt.2 h.le), if_neg h.ne']

/-- Whatever the row, its entries less their mean, divided by the root of the variance plus the small literal, are real. -/
theorem scaled_real (h : Fin 1024 → EReal) (j : Fin 1024) :
    Fin' ((h j - mean h) * Ideal.rsqrt (mean (fun e => (h e - mean h) * (h e - mean h)) + Ideal.ofBits .f32 0x3727C5AC#32)) := by
  obtain ⟨ε, hε, he⟩ := eps_lit
  by_cases hr : ∀ e, Fin' (h e)
  · have hm : Fin' (mean h) := by
      obtain ⟨s, hs⟩ := sum_real Finset.univ h fun e _ => hr e
      exact ⟨s / 1024, (congrArg (fun x => Ideal.div x _) hs).trans (div1024 s)⟩
    have hd : ∀ e, Fin' (h e - mean h) := fun e => real_sub (hr e) hm
    refine real_mul (hd j) ?_
    obtain ⟨s, hs⟩ := sum_real Finset.univ (fun e => (h e - mean h) * (h e - mean h)) fun e _ => real_mul (hd e) (hd e)
    have h0 : 0 ≤ s := by
      have : (0 : EReal) ≤ (s : EReal) := by
        rw [← hs]
        refine Finset.sum_nonneg fun e _ => ?_
        obtain ⟨x, hx⟩ := hd e
        rw [hx, ← EReal.coe_mul]
        exact EReal.coe_nonneg.2 (mul_self_nonneg x)
      exact EReal.coe_nonneg.1 this
    have hv : mean (fun e => (h e - mean h) * (h e - mean h)) = ((s / 1024 : ℝ) : EReal) := (congrArg (fun x => Ideal.div x _) hs).trans (div1024 s)
    rw [hv, he, ← EReal.coe_add]
    exact rsqrt_pos (by positivity)
  · obtain ⟨i, hi⟩ := not_forall.1 hr
    have hi' : h i = ⊤ ∨ h i = ⊥ := by
      by_contra hc
      rw [not_or] at hc
      exact hi (real_of_ne hc.2 hc.1)
    have hs := sum_inf Finset.univ h i (Finset.mem_univ _) hi'
    have hm : mean h = ⊤ ∨ mean h = ⊥ := by
      have e : mean h = ∑ j : Fin 1024, h j := div1024_inf hs
      rw [e]; exact hs
    have hq : (fun e => (h e - mean h) * (h e - mean h)) = fun _ => (⊤ : EReal) := funext fun e => sq_inf (sub_inf (h e) hm)
    have ht : ∑ _j : Fin 1024, (⊤ : EReal) = ⊤ := sum_top Finset.univ (0 : Fin 1024) (Finset.mem_univ _)
    have hv : mean (fun _ => (⊤ : EReal)) = ⊤ := by
      show Ideal.div (∑ _j : Fin 1024, (⊤ : EReal)) (Ideal.ofBits .f32 0x44800000#32) = ⊤
      rw [ht]
      exact div1024_inf (Or.inl rfl)
    rw [hq, hv, he, EReal.top_add_coe]
    refine ⟨0, ?_⟩
    show _ * (0 : EReal) = _
    rw [mul_zero, EReal.coe_zero]

/-- A normalised row is real where its weights and shifts are. -/
theorem normed_real (h g b : Fin 1024 → EReal) (hg : ∀ e, Fin' (g e)) (hb : ∀ e, Fin' (b e)) (j : Fin 1024) : Fin' (normed h g b j) :=
  real_add (real_mul (scaled_real h j) (hg j)) (hb j)

/-- Weights and values each split in a rounded part and the rest, multiplied in three products: without rounding, the product of reals. -/
theorem split3 (w x : Fin 1024 → EReal) (hw : ∀ k, Fin' (w k)) (hx : ∀ k, Fin' (x k)) :
    ∑ k, w k * x k + (∑ k, w k * (x k - x k) + ∑ k, (w k - w k) * x k) = ∑ k, x k * w k := by
  have e1 : ∑ k, w k * (x k - x k) = 0 := Finset.sum_eq_zero fun k _ => by rw [sub_self_real (hx k), mul_zero]
  have e2 : ∑ k, (w k - w k) * x k = 0 := Finset.sum_eq_zero fun k _ => by rw [sub_self_real (hw k), zero_mul]
  rw [e1, e2, add_zero, add_zero]
  exact Finset.sum_congr rfl fun k _ => mul_comm _ _

end Cert.Logit

end
-- ==== Proof.LogitKernel.lean ====
/-
  The merge's second result: the kernel's block of router logits, point by point, and the arrays the host code prepares.
-/
module

public import proofs.«01_k».proof.Proof.LogitFinite
public import proofs.«01_k».proof.Proof.MergeKernel
public import proofs.«01_k».proof.Proof.Gen.Kernel4Ideal.Value
public import Idealize.ShloMosaic.Lib.Routing.OpsSet

@[expose] public section

noncomputable section

open scoped BigOperators
open Idealize.ShloMosaic hiding ix1 ix2 ix3 ix4 ix5
open Idealize.ShloMosaic.ValueIdx
open Idealize.ShloMosaic.TcCoe Idealize.SL.Sem
open Cert.Kernel4Ideal Cert.Kernel4Ideal.Gen Cert.Kernel4Ideal.Value
open Cert.Hgrn (Fin' mmTrans transpose2 zero_lit)
open Cert.Merge (rowOut rowOut_congr ldAt half_apply)

namespace Cert.Logit

/-! ## One point's block -/

/-- The router's weights split and multiplied in three products with a normalised row split alike. -/
def split (w x : Fin 1024 → EReal) : EReal := ∑ k, w k * x k + (∑ k, w k * (x k - x k) + ∑ k, (w k - w k) * x k)

/-- The lower half's logits. -/
theorem logit_lower (H : FVec Ideal S256x1024 .f32) (g b : Vec Ideal S1x1024 .f32) (w : Vec Ideal S128x1024 .f32) (e : Fin 128) (r : Fin 256) :
    (k0_pay14 (k0_pay7 H g b) (k0_pay10 w) (k0_pay11 w) (k0_pay12 H g b) (k0_pay13 H g b) (ix2 e r) : EReal)
      = split (fun k => w (ix2 e k)) (fun k => k0_pay7 H g b (ix2 r k)) := by
  unfold k0_pay14 k0_pay13 k0_pay12 k0_pay11 k0_pay10 k0_pay9
  rw [shapeCast_self]
  exact congrArg₂ (fun p q : EReal => p + q) (mmTrans dot_S128x1024_S256x1024_S128x256_1_1_0_0_n_n_wf _ _ e r)
    (congrArg₂ (fun p q : EReal => p + q) (mmTrans dot_S128x1024_S256x1024_S128x256_1_1_0_0_n_n_wf _ _ e r) (mmTrans dot_S128x1024_S256x1024_S128x256_1_1_0_0_n_n_wf _ _ e r))

/-- The upper half's logits. -/
theorem logit_upper (H : FVec Ideal S256x1024 .f32) (g b : Vec Ideal S1x1024 .f32) (w : Vec Ideal S128x1024 .f32) (e : Fin 128) (r : Fin 256) :
    (k0_pay1 (k0_pay15 H g b) (k0_pay17 w) (k0_pay18 w) (k0_pay19 H g b) (ix2 e r) : EReal)
      = split (fun k => w (ix2 e k)) (fun k => k0_pay15 H g b (ix2 r k)) := by
  unfold k0_pay1 k0_pay19 k0_pay18 k0_pay17 k0_pay16
  rw [shapeCast_self]
  exact congrArg₂ (fun p q : EReal => p + q) (mmTrans dot_S128x1024_S256x1024_S128x256_1_1_0_0_n_n_wf _ _ e r)
    (congrArg₂ (fun p q : EReal => p + q) (mmTrans dot_S128x1024_S256x1024_S128x256_1_1_0_0_n_n_wf _ _ e r) (mmTrans dot_S128x1024_S256x1024_S128x256_1_1_0_0_n_n_wf _ _ e r))

/-- The lower half's rows. -/
theorem rows_lower (ya yb : Vec Ideal S256x512 .bf16) (A B : Vec Ideal S512x1024 .bf16) (ga gb x : Vec Ideal S256x1024 .f32) (O : Vec Ideal S1024x1024 .bf16)
    (g b : Vec Ideal S1x1024 .f32) (i : Fin 256) (j : Fin 1024) :
    (k0_pay7 (k0_pay5 (k0_pay2 ya A yb B ga gb) x O) g b (ix2 i j) : EReal)
      = rowOut (fun e => x (ix2 i e)) (fun k => ya (ix2 i k)) (fun k => yb (ix2 i k)) (fun e => ga (ix2 i e)) (fun e => gb (ix2 i e)) A B O
          (fun e => g (ix2 0 e)) (fun e => b (ix2 0 e)) j := half_apply ya yb A B ga gb x O g b i j

/-- The upper half's rows. -/
theorem rows_upper (ya yb : Vec Ideal S256x512 .bf16) (A B : Vec Ideal S512x1024 .bf16) (ga gb x : Vec Ideal S256x1024 .f32) (O : Vec Ideal S1024x1024 .bf16)
    (g b : Vec Ideal S1x1024 .f32) (i : Fin 256) (j : Fin 1024) :
    (k0_pay15 (k0_pay8 (k0_pay6 (k0_pay3 ya) (k0_pay4 A) yb B ga gb) x O) g b (ix2 i j) : EReal)
      = rowOut (fun e => x (ix2 i e)) (fun k => ya (ix2 i k)) (fun k => yb (ix2 i k)) (fun e => ga (ix2 i e)) (fun e => gb (ix2 i e)) A B O
          (fun e => g (ix2 0 e)) (fun e => b (ix2 0 e)) j := rows_lower ya yb A B ga gb x O g b i j

/-- The two stores of a block, read at a column: the lower half's columns are the first store's. -/
theorem canonCols (w0 w1 : FVec Ideal S128x256 .f32) (G : S128x512.Idx → EReal)
    (h0 : ∀ (e : Fin 128) (i : Fin 256), (w0 (ix2 e i) : EReal) = G (ix2 e ⟨i.val, by omega⟩))
    (h1 : ∀ (e : Fin 128) (i : Fin 256), (w1 (ix2 e i) : EReal) = G (ix2 e ⟨256 + i.val, by omega⟩)) (e : Fin 128) (i : Fin 512) :
    (View.canon ([⟨r0_13, w1⟩, ⟨r0_12, w0⟩] : List (View.Piece (Elt Ideal) S128x512 .f32)) (ix2 e i) : EReal) = G (ix2 e i) := by
  by_cases h : 256 ≤ i.val
  · have q : (ix2 e i : S128x512.Idx) = r0_13.emb (ix2 e (⟨i.val - 256, by omega⟩ : Fin 256)) := by
      funext a
      apply Fin.ext
      rw [Rect.emb_apply]
      match a with
      | ⟨0, _⟩ => show e.val = 0 + 1 * e.val; omega
      | ⟨1, _⟩ => show i.val = 256 + 1 * (i.val - 256); omega
    refine (congrArg _ q).trans ((View.canon_cons_emb _ _ _ _).trans ((h1 _ _).trans (congrArg G ?_)))
    exact congrArg (fun q : Fin 512 => (ix2 e q : S128x512.Idx)) (Fin.ext (by show 256 + (i.val - 256) = i.val; omega))
  · refine (View.canon_cons_of_not_mem _ _ ?_).trans ?_
    · intro hm
      have h2 := (Rect.mem_set_unit (inb := inb_S128x512_S128x256_0_256)).mp hm 1
      have h3 : 256 ≤ i.val ∧ i.val < 256 + 256 := h2
      omega
    · have q : (ix2 e i : S128x512.Idx) = r0_12.emb (ix2 e (⟨i.val, by omega⟩ : Fin 256)) := by
        funext a
        apply Fin.ext
        rw [Rect.emb_apply]
        match a with
        | ⟨0, _⟩ => show e.val = 0 + 1 * e.val; omega
        | ⟨1, _⟩ => show i.val = 0 + 1 * i.val; omega
      exact (congrArg _ q).trans ((View.canon_cons_emb _ _ _ _).trans (h0 _ _))

/-- The block of logits from the block's rows and the router's weights. -/
def blockLogits (x0 : S512x1024.Idx → EReal) (x1 x2 : S512x512.Idx → EReal) (x3 : S512x2048.Idx → EReal) (x4 x5 : S512x1024.Idx → EReal)
    (x6 : S1024x1024.Idx → EReal) (x7 x8 : S1x1024.Idx → EReal) (x9 : S128x1024.Idx → EReal) : S128x512.Idx → EReal := fun z =>
  split (fun k => x9 (ix2 (z 0) k))
    (rowOut (fun e => x0 (ix2 (z 1) e)) (fun k => x1 (ix2 (z 1) k)) (fun k => x2 (ix2 (z 1) k)) (fun e => x3 (ix2 (z 1) (⟨e.val, by omega⟩ : Fin 2048)))
      (fun e => x3 (ix2 (z 1) (⟨1024 + e.val, by omega⟩ : Fin 2048))) x4 x5 x6 (fun e => x7 (ix2 0 e)) (fun e => x8 (ix2 0 e)))

theorem split_congr {w w' x x' : Fin 1024 → EReal} (hw : ∀ k, w k = w' k) (hx : ∀ k, x k = x' k) : split w x = split w' x' := by
  obtain rfl : w = w' := funext hw
  obtain rfl : x = x' := funext hx
  rfl

/-- The block a point leaves is its rows' logits. -/
theorem out_apply (x0 : Vec Ideal S512x1024 .f32) (x1 x2 : Vec Ideal S512x512 .bf16) (x3 : Vec Ideal S512x2048 .f32) (x4 x5 : Vec Ideal S512x1024 .bf16)
    (x6 : Vec Ideal S1024x1024 .bf16) (x7 x8 : Vec Ideal S1x1024 .f32) (x9 : Vec Ideal S128x1024 .f32) (e : Fin 128) (i : Fin 512) :
    (out0_11 x0 x1 x2 x3 x4 x5 x6 x7 x8 x9 (ix2 e i) : EReal) = blockLogits x0 x1 x2 x3 x4 x5 x6 x7 x8 x9 (ix2 e i) := by
  unfold out0_11
  refine canonCols _ _ _ (fun e i => ?_) (fun e i => ?_) e i
  · refine (logit_lower _ _ _ _ e i).trans (split_congr (fun k => ldAt x9 0 0 _ e k _ _ (by simp) (by simp)) fun j => ?_)
    unfold k0_pay20
    refine (rows_lower _ _ _ _ _ _ _ _ _ _ i j).trans ?_
    exact rowOut_congr (fun e => ldAt x0 0 0 _ i e _ _ (by simp) (by simp)) (fun e => ldAt x1 0 0 _ i e _ _ (by simp) (by simp)) (fun e => ldAt x2 0 0 _ i e _ _ (by simp) (by simp))
      (fun e => ldAt x3 0 0 _ i e _ _ (by simp) (by simp)) (fun e => ldAt x3 0 1024 _ i e _ _ (by simp) (by simp))
      (fun k e => ldAt x4 0 0 _ k e _ _ (by simp) (by simp)) (fun k e => ldAt x5 0 0 _ k e _ _ (by simp) (by simp)) (fun k e => ldAt x6 0 0 _ k e _ _ (by simp) (by simp))
      (fun e => ldAt x7 0 0 _ 0 e _ _ (by simp) (by simp)) (fun e => ldAt x8 0 0 _ 0 e _ _ (by simp) (by simp)) j
  · refine (logit_upper _ _ _ _ e i).trans (split_congr (fun k => ldAt x9 0 0 _ e k _ _ (by simp) (by simp)) fun j => ?_)
    unfold k0_pay21
    refine (rows_upper _ _ _ _ _ _ _ _ _ _ i j).trans ?_
    exact rowOut_congr (fun e => ldAt x0 256 0 _ i e _ _ rfl (by simp)) (fun e => ldAt x1 256 0 _ i e _ _ rfl (by simp)) (fun e => ldAt x2 256 0 _ i e _ _ rfl (by simp))
      (fun e => ldAt x3 256 0 _ i e _ _ rfl (by simp)) (fun e => ldAt x3 256 1024 _ i e _ _ rfl rfl)
      (fun k e => ldAt x4 0 0 _ k e _ _ (by simp) (by simp)) (fun k e => ldAt x5 0 0 _ k e _ _ (by simp) (by simp)) (fun k e => ldAt x6 0 0 _ k e _ _ (by simp) (by simp))
      (fun e => ldAt x7 0 0 _ 0 e _ _ (by simp) (by simp)) (fun e => ldAt x8 0 0 _ 0 e _ _ (by simp) (by simp)) j

/-! ## The blocks are the arrays' -/

variable (m : (ℓ : Loc nD τ sig) → Buf (Elt Ideal) ℓ) (c : Dev nD)

theorem idx0 : ∀ t : Fin cfg0.N, win0_0.index t (0 : Fin 2) = t.val ∧ win0_0.index t (1 : Fin 2) = 0 := (by decide +kernel : ∀ t : Fin grid0.N, _)

/-- The residual's block is the point's rows. -/
theorem read0 (t : Fin cfg0.N) (i : Fin 512) (k : Fin 1024) (r : Fin 16384) (hr : r.val = 512 * t.val + i.val) :
    (iblk m c 0 t : S512x1024.Idx → EReal) (ix2 i k) = (V m c main_v0 : S16384x1024.Idx → EReal) (ix2 r k) := by
  obtain ⟨e0, e1⟩ := idx0 t
  unfold iblk
  rw [View.read_apply]
  show V m c main_v0 _ = V m c main_v0 _
  congr 1
  funext a
  apply Fin.ext
  match a with
  | ⟨0, _⟩ => show win0_0.index t (0 : Fin 2) * 512 + 1 * i.val = r.val; omega
  | ⟨1, _⟩ => show win0_0.index t (1 : Fin 2) * 1024 + 1 * k.val = k.val; omega

theorem idx1 : ∀ t : Fin cfg0.N, win0_1.index t (0 : Fin 2) = t.val ∧ win0_1.index t (1 : Fin 2) = 0 := (by decide +kernel : ∀ t : Fin grid0.N, _)

/-- The first branch's block is the point's rows. -/
theorem read1 (t : Fin cfg0.N) (i : Fin 512) (k : Fin 512) (r : Fin 16384) (hr : r.val = 512 * t.val + i.val) :
    (iblk m c 1 t : S512x512.Idx → EReal) (ix2 i k) = (V m c main_v8 : S16384x512.Idx → EReal) (ix2 r k) := by
  obtain ⟨e0, e1⟩ := idx1 t
  unfold iblk
  rw [View.read_apply]
  show V m c main_v8 _ = V m c main_v8 _
  congr 1
  funext a
  apply Fin.ext
  match a with
  | ⟨0, _⟩ => show win0_1.index t (0 : Fin 2) * 512 + 1 * i.val = r.val; omega
  | ⟨1, _⟩ => show win0_1.index t (1 : Fin 2) * 512 + 1 * k.val = k.val; omega

theorem idx2 : ∀ t : Fin cfg0.N, win0_2.index t (0 : Fin 2) = t.val ∧ win0_2.index t (1 : Fin 2) = 0 := (by decide +kernel : ∀ t : Fin grid0.N, _)

/-- The second branch's block is the point's rows. -/
theorem read2 (t : Fin cfg0.N) (i : Fin 512) (k : Fin 512) (r : Fin 16384) (hr : r.val = 512 * t.val + i.val) :
    (iblk m c 2 t : S512x512.Idx → EReal) (ix2 i k) = (V m c main_v9 : S16384x512.Idx → EReal) (ix2 r k) := by
  obtain ⟨e0, e1⟩ := idx2 t
  unfold iblk
  rw [View.read_apply]
  show V m c main_v9 _ = V m c main_v9 _
  congr 1
  funext a
  apply Fin.ext
  match a with
  | ⟨0, _⟩ => show win0_2.index t (0 : Fin 2) * 512 + 1 * i.val = r.val; omega
  | ⟨1, _⟩ => show win0_2.index t (1 : Fin 2) * 512 + 1 * k.val = k.val; omega

theorem idx3 : ∀ t : Fin cfg0.N, win0_3.index t (0 : Fin 2) = t.val ∧ win0_3.index t (1 : Fin 2) = 0 := (by decide +kernel : ∀ t : Fin grid0.N, _)

/-- The gates' block is the point's rows. -/
theorem read3 (t : Fin cfg0.N) (i : Fin 512) (k : Fin 2048) (r : Fin 16384) (hr : r.val = 512 * t.val + i.val) :
    (iblk m c 3 t : S512x2048.Idx → EReal) (ix2 i k) = (V m c main_v10 : S16384x2048.Idx → EReal) (ix2 r k) := by
  obtain ⟨e0, e1⟩ := idx3 t
  unfold iblk
  rw [View.read_apply]
  show V m c main_v10 _ = V m c main_v10 _
  congr 1
  funext a
  apply Fin.ext
  match a with
  | ⟨0, _⟩ => show win0_3.index t (0 : Fin 2) * 512 + 1 * i.val = r.val; omega
  | ⟨1, _⟩ => show win0_3.index t (1 : Fin 2) * 2048 + 1 * k.val = k.val; omega

theorem idx4 : ∀ t : Fin cfg0.N, win0_4.index t (0 : Fin 2) = 0 ∧ win0_4.index t (1 : Fin 2) = 0 := (by decide +kernel : ∀ t : Fin grid0.N, _)

/-- The first branch's weights are whole. -/
theorem read4 (t : Fin cfg0.N) (i : Fin 512) (k : Fin 1024) :
    (iblk m c 4 t : S512x1024.Idx → EReal) (ix2 i k) = (V m c main_v11 : S512x1024.Idx → EReal) (ix2 i k) := by
  obtain ⟨e0, e1⟩ := idx4 t
  unfold iblk
  rw [View.read_apply]
  show V m c main_v11 _ = V m c main_v11 _
  congr 1
  funext a
  apply Fin.ext
  match a with
  | ⟨0, _⟩ => show win0_4.index t (0 : Fin 2) * 512 + 1 * i.val = i.val; omega
  | ⟨1, _⟩ => show win0_4.index t (1 : Fin 2) * 1024 + 1 * k.val = k.val; omega

theorem idx5 : ∀ t : Fin cfg0.N, win0_5.index t (0 : Fin 2) = 0 ∧ win0_5.index t (1 : Fin 2) = 0 := (by decide +kernel : ∀ t : Fin grid0.N, _)

/-- The second branch's weights are whole. -/
theorem read5 (t : Fin cfg0.N) (i : Fin 512) (k : Fin 1024) :
    (iblk m c 5 t : S512x1024.Idx → EReal) (ix2 i k) = (V m c main_v12 : S512x1024.Idx → EReal) (ix2 i k) := by
  obtain ⟨e0, e1⟩ := idx5 t
  unfold iblk
  rw [View.read_apply]
  show V m c main_v12 _ = V m c main_v12 _
  congr 1
  funext a
  apply Fin.ext
  match a with
  | ⟨0, _⟩ => show win0_5.index t (0 : Fin 2) * 512 + 1 * i.val = i.val; omega
  | ⟨1, _⟩ => show win0_5.index t (1 : Fin 2) * 1024 + 1 * k.val = k.val; omega

theorem idx6 : ∀ t : Fin cfg0.N, win0_6.index t (0 : Fin 2) = 0 ∧ win0_6.index t (1 : Fin 2) = 0 := (by decide +kernel : ∀ t : Fin grid0.N, _)

/-- The output's weights are whole. -/
theorem read6 (t : Fin cfg0.N) (i : Fin 1024) (k : Fin 1024) :
    (iblk m c 6 t : S1024x1024.Idx → EReal) (ix2 i k) = (V m c main_v13 : S1024x1024.Idx → EReal) (ix2 i k) := by
  obtain ⟨e0, e1⟩ := idx6 t
  unfold iblk
  rw [View.read_apply]
  show V m c main_v13 _ = V m c main_v13 _
  congr 1
  funext a
  apply Fin.ext
  match a with
  | ⟨0, _⟩ => show win0_6.index t (0 : Fin 2) * 1024 + 1 * i.val = i.val; omega
  | ⟨1, _⟩ => show win0_6.index t (1 : Fin 2) * 1024 + 1 * k.val = k.val; omega

theorem idx7 : ∀ t : Fin cfg0.N, win0_7.index t (0 : Fin 2) = 0 ∧ win0_7.index t (1 : Fin 2) = 0 := (by decide +kernel : ∀ t : Fin grid0.N, _)

/-- The norm's weights are whole. -/
theorem read7 (t : Fin cfg0.N) (i : Fin 1) (k : Fin 1024) :
    (iblk m c 7 t : S1x1024.Idx → EReal) (ix2 i k) = (V m c main_v14 : S1x1024.Idx → EReal) (ix2 i k) := by
  obtain ⟨e0, e1⟩ := idx7 t
  unfold iblk
  rw [View.read_apply]
  show V m c main_v14 _ = V m c main_v14 _
  congr 1
  funext a
  apply Fin.ext
  match a with
  | ⟨0, _⟩ => show win0_7.index t (0 : Fin 2) * 1 + 1 * i.val = i.val; omega
  | ⟨1, _⟩ => show win0_7.index t (1 : Fin 2) * 1024 + 1 * k.val = k.val; omega

theorem idx8 : ∀ t : Fin cfg0.N, win0_8.index t (0 : Fin 2) = 0 ∧ win0_8.index t (1 : Fin 2) = 0 := (by decide +kernel : ∀ t : Fin grid0.N, _)

/-- The norm's shifts are whole. -/
theorem read8 (t : Fin cfg0.N) (i : Fin 1) (k : Fin 1024) :
    (iblk m c 8 t : S1x1024.Idx → EReal) (ix2 i k) = (V m c main_v15 : S1x1024.Idx → EReal) (ix2 i k) := by
  obtain ⟨e0, e1⟩ := idx8 t
  unfold iblk
  rw [View.read_apply]
  show V m c main_v15 _ = V m c main_v15 _
  congr 1
  funext a
  apply Fin.ext
  match a with
  | ⟨0, _⟩ => show win0_8.index t (0 : Fin 2) * 1 + 1 * i.val = i.val; omega
  | ⟨1, _⟩ => show win0_8.index t (1 : Fin 2) * 1024 + 1 * k.val = k.val; omega

theorem idx9 : ∀ t : Fin cfg0.N, win0_9.index t (0 : Fin 2) = 0 ∧ win0_9.index t (1 : Fin 2) = 0 := (by decide +kernel : ∀ t : Fin grid0.N, _)

/-- The router's weights are whole. -/
theorem read9 (t : Fin cfg0.N) (i : Fin 128) (k : Fin 1024) :
    (iblk m c 9 t : S128x1024.Idx → EReal) (ix2 i k) = (V m c main_v7 : S128x1024.Idx → EReal) (ix2 i k) := by
  obtain ⟨e0, e1⟩ := idx9 t
  unfold iblk
  rw [View.read_apply]
  show V m c main_v7 _ = V m c main_v7 _
  congr 1
  funext a
  apply Fin.ext
  match a with
  | ⟨0, _⟩ => show win0_9.index t (0 : Fin 2) * 128 + 1 * i.val = i.val; omega
  | ⟨1, _⟩ => show win0_9.index t (1 : Fin 2) * 1024 + 1 * k.val = k.val; omega

theorem idx11 : ∀ t : Fin cfg0.N, win0_11.index t (0 : Fin 2) = 0 ∧ win0_11.index t (1 : Fin 2) = t.val := (by decide +kernel : ∀ t : Fin grid0.N, _)

/-- All the logits from the arrays the host code prepares. -/
def wholeLogits (X : S16384x1024.Idx → EReal) (Ya Yb : S16384x512.Idx → EReal) (Gt : S16384x2048.Idx → EReal) (A B : S512x1024.Idx → EReal)
    (O : S1024x1024.Idx → EReal) (g b : S1x1024.Idx → EReal) (W : S128x1024.Idx → EReal) : S128x16384.Idx → EReal := fun z =>
  split (fun k => W (ix2 (z 0) k))
    (rowOut (fun e => X (ix2 (z 1) e)) (fun k => Ya (ix2 (z 1) k)) (fun k => Yb (ix2 (z 1) k)) (fun e => Gt (ix2 (z 1) (⟨e.val, by omega⟩ : Fin 2048)))
      (fun e => Gt (ix2 (z 1) (⟨1024 + e.val, by omega⟩ : Fin 2048))) A B O (fun e => g (ix2 0 e)) (fun e => b (ix2 0 e)))

/-- What a point writes back is its block of the logits. -/
theorem flushed11_eq (t : Fin cfg0.N) :
    (dats m 0 c).flushed 11 t = ((cfg0.win 11).blk t).view.read (Elt Ideal)
      (wholeLogits (V m c main_v0) (V m c main_v8) (V m c main_v9) (V m c main_v10) (V m c main_v11) (V m c main_v12) (V m c main_v13) (V m c main_v14) (V m c main_v15) (V m c main_v7) : S128x16384.Idx → EReal) := by
  obtain ⟨e0, e1⟩ := idx11 t
  have ht : t.val < 32 := lt_of_lt_of_eq t.isLt N_0
  rw [flushed11]
  funext z
  obtain ⟨e, i, rfl⟩ : ∃ (e : Fin 128) (i : Fin 512), z = ix2 e i := ⟨z 0, z 1, by
    funext a
    match a with
    | ⟨0, _⟩ => rfl
    | ⟨1, _⟩ => rfl⟩
  rw [View.read_apply]
  have hz : ((cfg0.win 11).blk t).view.emb (ix2 e i) = (ix2 e (⟨512 * t.val + i.val, by omega⟩ : Fin 16384) : S128x16384.Idx) := by
    funext a
    apply Fin.ext
    match a with
    | ⟨0, _⟩ => show win0_11.index t (0 : Fin 2) * 128 + 1 * e.val = e.val; omega
    | ⟨1, _⟩ => show win0_11.index t (1 : Fin 2) * 512 + 1 * i.val = 512 * t.val + i.val; omega
  rw [hz]
  show out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ix2 e i) = _
  refine (out_apply _ _ _ _ _ _ _ _ _ _ e i).trans ?_
  unfold blockLogits wholeLogits
  exact split_congr (fun k => read9 m c t e k) (rowOut_congr (fun e => read0 m c t i e _ rfl) (fun e => read1 m c t i e _ rfl) (fun e => read2 m c t i e _ rfl)
    (fun e => read3 m c t i _ _ rfl) (fun e => read3 m c t i _ _ rfl) (fun k e => read4 m c t k e) (fun k e => read5 m c t k e) (fun k e => read6 m c t k e)
    (fun e => read7 m c t 0 e) (fun e => read8 m c t 0 e))

/-- The points' blocks cover the logits. -/
theorem covered11 (z : S128x16384.Idx) : ∃ t : Fin cfg0.N, (cfg0.win 11).flush t = true ∧ z ∈ ((cfg0.win 11).blk t).view.set := by
  have h1 : (z 1).val < 16384 := (z 1).isLt
  have hlt : (z 1).val / 512 < cfg0.N := by rw [show cfg0.N = 32 from N_0]; omega
  refine ⟨⟨(z 1).val / 512, hlt⟩, flush0_11 _, ?_⟩
  obtain ⟨e0, e1⟩ := idx11 ⟨(z 1).val / 512, hlt⟩
  have hz : ((cfg0.win 11).blk ⟨(z 1).val / 512, hlt⟩).view.emb (ix2 (⟨(z 0).val, (z 0).isLt⟩ : Fin 128) (⟨(z 1).val % 512, by omega⟩ : Fin 512) : S128x512.Idx) = z := by
    funext a
    apply Fin.ext
    match a with
    | ⟨0, _⟩ => show win0_11.index _ (0 : Fin 2) * 128 + 1 * (z 0).val = (z 0).val; rw [e0]; omega
    | ⟨1, _⟩ => show win0_11.index _ (1 : Fin 2) * 512 + 1 * ((z 1).val % 512) = (z 1).val; rw [e1]; show (z 1).val / 512 * 512 + 1 * ((z 1).val % 512) = (z 1).val; omega
  have h := ((cfg0.win 11).blk ⟨(z 1).val / 512, hlt⟩).view.emb_mem_set (ix2 (⟨(z 0).val, (z 0).isLt⟩ : Fin 128) (⟨(z 1).val % 512, by omega⟩ : Fin 512) : S128x512.Idx)
  rwa [hz] at h

/-- The logits after the run. -/
theorem final11 : (dats m 0 c).arrAt 11 cfg0.N
    = (wholeLogits (V m c main_v0) (V m c main_v8) (V m c main_v9) (V m c main_v10) (V m c main_v11) (V m c main_v12) (V m c main_v13) (V m c main_v14) (V m c main_v15) (V m c main_v7) : S128x16384.Idx → EReal) :=
  (dats m 0 c).arrAt_eq_of_cover 11 _ (fun t _ => flushed11_eq m c t) covered11

/-! ## The arrays the host code prepares -/

/-- Row `4096 b + t` of the flattened residual is row `t` of batch `b`. -/
theorem xV (b : Fin 4) (t : Fin 4096) (k : Fin 1024) (r : Fin 16384) (hr : r.val = 4096 * b.val + t.val) :
    (V m c main_v0 : S16384x1024.Idx → EReal) (ix2 r k) = (m (c, Proc.tc.devRef main_arg0) : S4x4096x1024.Idx → EReal) (ix3 b t k) := by
  unfold V
  after_reads_at
  refine congrArg (m (c, Proc.tc.devRef main_arg0) : S4x4096x1024.Idx → EReal) ?_
  funext a
  apply Fin.ext
  match a with
  | ⟨0, _⟩ => show r.val / 4096 = b.val; omega
  | ⟨1, _⟩ => show r.val % 4096 = t.val; omega
  | ⟨2, _⟩ => rfl

/-- Row `4096 b + t` of the flattened first branch is row `t` of batch `b`. -/
theorem yaV (b : Fin 4) (t : Fin 4096) (k : Fin 512) (r : Fin 16384) (hr : r.val = 4096 * b.val + t.val) :
    (V m c main_v8 : S16384x512.Idx → EReal) (ix2 r k) = (m (c, Proc.tc.devRef main_arg1) : S4x4096x512.Idx → EReal) (ix3 b t k) := by
  unfold V
  after_reads_at
  refine congrArg (m (c, Proc.tc.devRef main_arg1) : S4x4096x512.Idx → EReal) ?_
  funext a
  apply Fin.ext
  match a with
  | ⟨0, _⟩ => show r.val / 4096 = b.val; omega
  | ⟨1, _⟩ => show r.val % 4096 = t.val; omega
  | ⟨2, _⟩ => rfl

/-- Row `4096 b + t` of the flattened second branch is row `t` of batch `b`. -/
theorem ybV (b : Fin 4) (t : Fin 4096) (k : Fin 512) (r : Fin 16384) (hr : r.val = 4096 * b.val + t.val) :
    (V m c main_v9 : S16384x512.Idx → EReal) (ix2 r k) = (m (c, Proc.tc.devRef main_arg2) : S4x4096x512.Idx → EReal) (ix3 b t k) := by
  unfold V
  after_reads_at
  refine congrArg (m (c, Proc.tc.devRef main_arg2) : S4x4096x512.Idx → EReal) ?_
  funext a
  apply Fin.ext
  match a with
  | ⟨0, _⟩ => show r.val / 4096 = b.val; omega
  | ⟨1, _⟩ => show r.val % 4096 = t.val; omega
  | ⟨2, _⟩ => rfl

/-- Row `4096 b + t` of the flattened gates is row `t` of batch `b`. -/
theorem gtV (b : Fin 4) (t : Fin 4096) (k : Fin 2048) (r : Fin 16384) (hr : r.val = 4096 * b.val + t.val) :
    (V m c main_v10 : S16384x2048.Idx → EReal) (ix2 r k) = (m (c, Proc.tc.devRef main_arg3) : S4x4096x2048.Idx → EReal) (ix3 b t k) := by
  unfold V
  after_reads_at
  refine congrArg (m (c, Proc.tc.devRef main_arg3) : S4x4096x2048.Idx → EReal) ?_
  funext a
  apply Fin.ext
  match a with
  | ⟨0, _⟩ => show r.val / 4096 = b.val; omega
  | ⟨1, _⟩ => show r.val % 4096 = t.val; omega
  | ⟨2, _⟩ => rfl

/-- The first branch's weights are the argument's. -/
theorem waV (k : Fin 512) (j : Fin 1024) : (V m c main_v11 : S512x1024.Idx → EReal) (ix2 k j) = (m (c, Proc.tc.devRef main_arg4) : S512x1024.Idx → EReal) (ix2 k j) := by
  unfold V
  after_reads_at
  rfl

/-- The second branch's weights are the argument's. -/
theorem wbV (k : Fin 512) (j : Fin 1024) : (V m c main_v12 : S512x1024.Idx → EReal) (ix2 k j) = (m (c, Proc.tc.devRef main_arg5) : S512x1024.Idx → EReal) (ix2 k j) := by
  unfold V
  after_reads_at
  rfl

/-- The output's weights are the argument's. -/
theorem woV (k : Fin 1024) (j : Fin 1024) : (V m c main_v13 : S1024x1024.Idx → EReal) (ix2 k j) = (m (c, Proc.tc.devRef main_arg6) : S1024x1024.Idx → EReal) (ix2 k j) := by
  unfold V
  after_reads_at
  rfl

/-- The norm's weights are the argument's. -/
theorem lnV (j : Fin 1024) : (V m c main_v14 : S1x1024.Idx → EReal) (ix2 0 j) = (m (c, Proc.tc.devRef main_arg7) : S1024.Idx → EReal) (ix1 j) := by
  unfold V
  after_reads_at
  refine congrArg (m (c, Proc.tc.devRef main_arg7) : S1024.Idx → EReal) ?_
  funext a
  apply Fin.ext
  match a with
  | ⟨0, _⟩ => rfl

/-- The norm's shifts are the argument's. -/
theorem lbV (j : Fin 1024) : (V m c main_v15 : S1x1024.Idx → EReal) (ix2 0 j) = (m (c, Proc.tc.devRef main_arg8) : S1024.Idx → EReal) (ix1 j) := by
  unfold V
  after_reads_at
  refine congrArg (m (c, Proc.tc.devRef main_arg8) : S1024.Idx → EReal) ?_
  funext a
  apply Fin.ext
  match a with
  | ⟨0, _⟩ => rfl

/-! ## The router's weights -/

/-- Rows set from a start: those rows are the update's, the others the operand's. -/
theorem rows_set {A N C : ℕ} (wf : ScatterDims.WF ⟨2, ![A, C]⟩ ⟨1, ![1]⟩ ⟨2, ![N, C]⟩ [0, 1] [] [0] 0) (x : (⟨2, ![A, C]⟩ : Shape).Idx → EReal)
    (idx : IVec ⟨1, ![1]⟩ 32) (u : (⟨2, ![N, C]⟩ : Shape).Idx → EReal) (s : ℕ) (hs : (idx (ix1 0)).toInt = (s : Int)) (e : Fin A) (k : Fin C) :
    Host.scatter (⟨[0, 1], [], [0], 0, wf⟩ : ScatterDims ⟨2, ![A, C]⟩ ⟨1, ![1]⟩ ⟨2, ![N, C]⟩) (fun _ b => b) x idx u (ix2 e k)
      = if h : s ≤ e.val ∧ e.val < s + N then u (ix2 (⟨e.val - s, by omega⟩ : Fin N) k) else x (ix2 e k) := by
  have lands : ∀ (e' : Fin N) (k' : Fin C), (⟨[0, 1], [], [0], 0, wf⟩ : ScatterDims ⟨2, ![A, C]⟩ ⟨1, ![1]⟩ ⟨2, ![N, C]⟩).resultIdx? (ix2 e' k') idx = some (ix2 e k)
      ↔ s + e'.val = e.val ∧ k' = k := by
    intro e' k'
    have hst0 : (⟨[0, 1], [], [0], 0, wf⟩ : ScatterDims ⟨2, ![A, C]⟩ ⟨1, ![1]⟩ ⟨2, ![N, C]⟩).start (ix2 e' k') idx 0 = (s : Int) := by
      unfold ScatterDims.start
      rw [dif_pos (List.mem_singleton.2 rfl), ← hs]
      refine congrArg (fun z => (idx z).toInt) (funext fun b => ?_)
      match b with
      | ⟨0, _⟩ => exact Subsingleton.elim (α := Fin 1) _ _
    have hst1 : (⟨[0, 1], [], [0], 0, wf⟩ : ScatterDims ⟨2, ![A, C]⟩ ⟨1, ![1]⟩ ⟨2, ![N, C]⟩).start (ix2 e' k') idx 1 = 0 := by
      unfold ScatterDims.start
      exact dif_neg fun h => absurd (List.mem_singleton.1 h) (by decide : (1 : Fin 2) ≠ 0)
    have hw0 : (⟨[0, 1], [], [0], 0, wf⟩ : ScatterDims ⟨2, ![A, C]⟩ ⟨1, ![1]⟩ ⟨2, ![N, C]⟩).window (ix2 e' k') 0 = e'.val := rfl
    have hw1 : (⟨[0, 1], [], [0], 0, wf⟩ : ScatterDims ⟨2, ![A, C]⟩ ⟨1, ![1]⟩ ⟨2, ![N, C]⟩).window (ix2 e' k') 1 = k'.val := rfl
    rw [Routing.resultIdx?_ix2, hst0, hst1, hw0, hw1, Fin.ext_iff]
    omega
  by_cases h : s ≤ e.val ∧ e.val < s + N
  · rw [dif_pos h]
    refine Routing.scatter_set_hit _ x idx u _ _ (fun j hj => ?_) (ix2 (⟨e.val - s, by omega⟩ : Fin N) k) ((lands _ _).2 ⟨by show s + (e.val - s) = e.val; omega, rfl⟩)
    rw [ValueIdx.eq_ix2 j] at hj ⊢
    obtain ⟨h1, h2⟩ := (lands _ _).1 hj
    rw [h2]
    exact congrArg (fun q : Fin N => u (ix2 q k)) (Fin.ext (by show (j 0).val = e.val - s; omega))
  · rw [dif_neg h]
    refine Routing.scatter_set_miss _ x idx u _ fun j hj => ?_
    rw [ValueIdx.eq_ix2 j] at hj
    obtain ⟨h1, -⟩ := (lands _ _).1 hj
    have := (j 0).isLt
    have h3 : (j 0).val < N := this
    exact h ⟨by omega, by omega⟩

/-- Row `e` of the router's weights: the groups' in rows 0 to 3, the experts' in rows 8 to 39, zeros elsewhere. -/
def router (Wg : S1024x4.Idx → EReal) (We : S1024x32.Idx → EReal) (e : Fin 128) (k : Fin 1024) : EReal :=
  if h : 8 ≤ e.val ∧ e.val < 8 + 32 then We (ix2 k (⟨e.val - 8, by omega⟩ : Fin 32))
  else if h : 0 ≤ e.val ∧ e.val < 0 + 4 then Wg (ix2 k (⟨e.val - 0, by omega⟩ : Fin 4)) else 0

/-- The router's weights the host code prepares. -/
theorem wrV (e : Fin 128) (k : Fin 1024) : (V m c main_v7 : S128x1024.Idx → EReal) (ix2 e k)
    = router (m (c, Proc.tc.devRef main_arg9) : S1024x4.Idx → EReal) (m (c, Proc.tc.devRef main_arg10) : S1024x32.Idx → EReal) e k := by
  have e0 : (V m c main_v7 : S128x1024.Idx → EReal) = Host.scatter scatter_S128x1024_S1_S32x1024_01_n_0_0 (fun _ b => b)
      (Host.scatter scatter_S128x1024_S1_S4x1024_01_n_0_0 (fun _ b => b) (broadcastInDim S128x1024 ![] bcast_S_S128x1024 (constant S_ .f32 0x00000000#32 : FVec Ideal S_ .f32))
        (broadcastInDim S1 ![] bcast_S_S1 (constantI S_ 32 0#32)) (transpose S4x1024 [1, 0] (m (c, Proc.tc.devRef main_arg9) : S1024x4.Idx → EReal) transposes_S1024x4_S4x1024_1_0))
      (broadcastInDim S1 ![] bcast_S_S1 (constantI S_ 32 8#32)) (transpose S32x1024 [1, 0] (m (c, Proc.tc.devRef main_arg10) : S1024x32.Idx → EReal) transposes_S1024x32_S32x1024_1_0) := by
    funext z
    unfold V
    after_reads_at
  rw [e0]
  unfold router
  refine (rows_set scatter_S128x1024_S1_S32x1024_01_n_0_0_wf _ _ _ 8 rfl e k).trans ?_
  refine dite_congr rfl (fun h => transpose2 _ _ _ _) fun _ => ?_
  refine (rows_set scatter_S128x1024_S1_S4x1024_01_n_0_0_wf _ _ _ 0 rfl e k).trans ?_
  exact dite_congr rfl (fun h => transpose2 _ _ _ _) fun _ => zero_lit

end Cert.Logit

end
-- ==== Proof.Logit.lean ====
/-
  The merge's second result: where the norm's and the router's weights are finite, of equal arguments the kernel's logits are the reference's.
-/
module

public import proofs.«01_k».proof.Proof.LogitKernel
public import proofs.«01_k».proof.Proof.Merge
public import proofs.«01_k».proof.Proof.Gen.Reference4Ideal.Run
public import proofs.«01_k».proof.Proof.Gen.Pre_weights_finite
public import proofs.«01_k».proof.Defs
public import Idealize.ShloMosaic.Lib.Quiescent
public import Idealize.ShloMosaic.Lib.Pipeline.Value

@[expose] public section

noncomputable section

open scoped BigOperators
open Idealize.ShloMosaic hiding ix1 ix2 ix3 ix4 ix5
open Idealize.ShloMosaic.ValueIdx
open Idealize.ShloMosaic.TcCoe Idealize.SL.Sem
open Cert.Reference4Ideal Cert.Reference4Ideal.Gen
open Cert.Hgrn (Fin' real_of_ne zero_lit transpose2)
open Cert.Merge (rowOut rowOut_congr normR summedR gatedR ref_apply)

namespace Cert.Logit

/-! ## The reference's lines -/

/-- The normalised rows, flattened. -/
def rowsR (X : FVec Ideal S4x4096x1024 .f32) (Ya Yb : FVec Ideal S4x4096x512 .bf16) (G : FVec Ideal S4x4096x2048 .f32) (A B : FVec Ideal S512x1024 .f32)
    (O : FVec Ideal S1024x1024 .f32) (g b : FVec Ideal S1024 .f32) : FVec Ideal S16384x1024 .f32 :=
  shapeCast S16384x1024 (normR (summedR X (gatedR Ya Yb G A B) O) g b) shapeCasts_S4x4096x1024_S16384x1024

/-- The logits: the groups', the experts', and rows of zeros between and after them. -/
def logitsR (H : FVec Ideal S16384x1024 .f32) (Wg : FVec Ideal S1024x4 .f32) (We : FVec Ideal S1024x32 .f32) : FVec Ideal S128x16384 .f32 :=
  concatenate S128x16384 0 [⟨S4x16384, transpose S4x16384 [1, 0] (Host.dotGeneral (F := Ideal) (φ₁ := .f32) (φ₂ := .f32) dot_S16384x1024_S1024x4_S16384x4_1_0_0_1_n_n none H Wg) transposes_S16384x4_S4x16384_1_0⟩,
    ⟨S4x16384, broadcastInDim S4x16384 ![] bcast_S_S4x16384 (constant S_ .f32 0x00000000#32 : FVec Ideal S_ .f32)⟩,
    ⟨S32x16384, transpose S32x16384 [1, 0] (Host.dotGeneral (F := Ideal) (φ₁ := .f32) (φ₂ := .f32) dot_S16384x1024_S1024x32_S16384x32_1_0_0_1_n_n none H We) transposes_S16384x32_S32x16384_1_0⟩,
    ⟨S88x16384, broadcastInDim S88x16384 ![] bcast_S_S88x16384 (constant S_ .f32 0x00000000#32 : FVec Ideal S_ .f32)⟩] concatenates_S4x16384_S4x16384_S32x16384_S88x16384_S128x16384_d0

/-- The reference's result is those lines composed. -/
theorem res_eq (m : (ℓ : Loc nD τ sig) → Buf (Elt Ideal) ℓ) (c : Dev nD) :
    (Cert.Reference4Ideal.Value.res_main_v50 m c : S128x16384.Idx → EReal)
      = logitsR (rowsR (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
        (m ((c.tc : Thread nD τ).loc main_arg9)) (m ((c.tc : Thread nD τ).loc main_arg10)) := rfl

/-! ## Read at a row and a column -/

/-- The groups' product. -/
theorem dot4 (A : S16384x1024.Idx → EReal) (B : S1024x4.Idx → EReal) (r : Fin 16384) (q : Fin 4) :
    (Host.dotGeneral (F := Ideal) (φ₁ := .f32) (φ₂ := .f32) dot_S16384x1024_S1024x4_S16384x4_1_0_0_1_n_n none A B (ix2 r q) : EReal)
      = ∑ k : Fin 1024, A (ix2 r k) * B (ix2 k q) := by
  refine (Ideal.dotGeneral_apply (φ₁ := .f32) (φ₂ := .f32) dot_S16384x1024_S1024x4_S16384x4_1_0_0_1_n_n none _ A B _).trans ?_
  rw [← Equiv.sum_comp (contrEquiv1 dot_S16384x1024_S1024x4_S16384x4_1_0_0_1_n_n 1024 rfl rfl).symm]
  refine Finset.sum_congr rfl fun k _ => ?_
  have ck := contrEquiv1_symm_val dot_S16384x1024_S1024x4_S16384x4_1_0_0_1_n_n 1024 rfl rfl k
  congr 2
  · funext ax; apply Fin.ext
    match ax with
    | ⟨0, _⟩ => rfl
    | ⟨1, _⟩ => exact ck
  · funext ax; apply Fin.ext
    match ax with
    | ⟨0, _⟩ => exact ck
    | ⟨1, _⟩ => rfl

/-- The experts' product. -/
theorem dot32 (A : S16384x1024.Idx → EReal) (B : S1024x32.Idx → EReal) (r : Fin 16384) (q : Fin 32) :
    (Host.dotGeneral (F := Ideal) (φ₁ := .f32) (φ₂ := .f32) dot_S16384x1024_S1024x32_S16384x32_1_0_0_1_n_n none A B (ix2 r q) : EReal)
      = ∑ k : Fin 1024, A (ix2 r k) * B (ix2 k q) := by
  refine (Ideal.dotGeneral_apply (φ₁ := .f32) (φ₂ := .f32) dot_S16384x1024_S1024x32_S16384x32_1_0_0_1_n_n none _ A B _).trans ?_
  rw [← Equiv.sum_comp (contrEquiv1 dot_S16384x1024_S1024x32_S16384x32_1_0_0_1_n_n 1024 rfl rfl).symm]
  refine Finset.sum_congr rfl fun k _ => ?_
  have ck := contrEquiv1_symm_val dot_S16384x1024_S1024x32_S16384x32_1_0_0_1_n_n 1024 rfl rfl k
  congr 2
  · funext ax; apply Fin.ext
    match ax with
    | ⟨0, _⟩ => rfl
    | ⟨1, _⟩ => exact ck
  · funext ax; apply Fin.ext
    match ax with
    | ⟨0, _⟩ => exact ck
    | ⟨1, _⟩ => rfl

/-- A logit is the row's product with its row of the router's weights; a row of zero weights has the logit zero. -/
theorem logitsR_apply (H : S16384x1024.Idx → EReal) (Wg : S1024x4.Idx → EReal) (We : S1024x32.Idx → EReal) (e : Fin 128) (r : Fin 16384) :
    (logitsR H Wg We (ix2 e r) : EReal) = ∑ k : Fin 1024, H (ix2 r k) * router Wg We e k := by
  have he := e.isLt
  have hi : ∀ (n : ℕ) (i : Fin n) (b : Fin 2), b ≠ 0 → ((ix2 i r : (⟨2, ![n, 16384]⟩ : Shape).Idx) b).val = ((ix2 e r : S128x16384.Idx) b).val := fun n i b hb => by
    match b with
    | ⟨0, _⟩ => exact absurd rfl hb
    | ⟨1, _⟩ => rfl
  have hz : ∀ w : Fin 1024 → EReal, (∀ k, w k = 0) → (0 : EReal) = ∑ k, H (ix2 r k) * w k := fun w hw =>
    (Finset.sum_eq_zero fun k _ => by rw [hw k, mul_zero]).symm
  unfold logitsR
  by_cases h1 : e.val < 4
  · refine (concatenate_apply_piece 0 _ _ (ix2 e r) 0 (by simp) S4x16384 _ rfl rfl 0 rfl (ix2 (⟨e.val, h1⟩ : Fin 4) r) (hi 4 _) (by show 0 + e.val = e.val; omega)).trans ?_
    refine (transpose2 _ _ _ _).trans ((dot4 H Wg r _).trans (Finset.sum_congr rfl fun k _ => congrArg (fun w : EReal => H (ix2 r k) * w) ?_))
    unfold router
    rw [dif_neg (by omega), dif_pos (by omega)]
    rfl
  · by_cases h2 : e.val < 8
    · refine (concatenate_apply_piece 0 _ _ (ix2 e r) 1 (by simp) S4x16384 _ rfl rfl 4 rfl (ix2 (⟨e.val - 4, by omega⟩ : Fin 4) r) (hi 4 _) (by show 4 + (e.val - 4) = e.val; omega)).trans ?_
      refine Eq.trans zero_lit (hz _ fun k => ?_)
      unfold router
      rw [dif_neg (by omega), dif_neg (by omega)]
    · by_cases h3 : e.val < 40
      · refine (concatenate_apply_piece 0 _ _ (ix2 e r) 2 (by simp) S32x16384 _ rfl rfl 8 rfl (ix2 (⟨e.val - 8, by omega⟩ : Fin 32) r) (hi 32 _) (by show 8 + (e.val - 8) = e.val; omega)).trans ?_
        refine (transpose2 _ _ _ _).trans ((dot32 H We r _).trans (Finset.sum_congr rfl fun k _ => congrArg (fun w : EReal => H (ix2 r k) * w) ?_))
        unfold router
        rw [dif_pos (by omega)]
      · refine (concatenate_apply_piece 0 _ _ (ix2 e r) 3 (by simp) S88x16384 _ rfl rfl 40 rfl (ix2 (⟨e.val - 40, by omega⟩ : Fin 88) r) (hi 88 _) (by show 40 + (e.val - 40) = e.val; omega)).trans ?_
        refine Eq.trans zero_lit (hz _ fun k => ?_)
        unfold router
        rw [dif_neg (by omega), dif_neg (by omega)]

/-! ## The precondition -/

/-- The literal plus infinity. -/
theorem pinf_lit : Ideal.ofBits .f32 0x7F800000#32 = (⊤ : EReal) := by
  simp only [Ideal.ofBits, Ideal.ieee, BitVec.extractLsb', BitVec.toNat_ofNat]
  norm_num [Nat.shiftRight_eq_div_pow]

/-- A value whose absolute value is below plus infinity is real. -/
theorem real_of_abs {x : EReal} (h : BitVec.ofBool (decide (max x (-x) < Ideal.ofBits .f32 0x7F800000#32)) = 1#1) : Fin' x := by
  have h1 : max x (-x) < ⊤ := by
    rw [pinf_lit] at h
    by_contra hc
    rw [decide_eq_false hc] at h
    exact absurd h (by decide)
  refine real_of_ne (fun hx => ?_) fun hx => ?_
  · rw [hx] at h1; simp at h1
  · rw [hx] at h1; simp at h1

/-- A row of the router's weights is real where the weights are. -/
theorem router_real {Wg : S1024x4.Idx → EReal} {We : S1024x32.Idx → EReal} (hg : ∀ z, Fin' (Wg z)) (he : ∀ z, Fin' (We z)) (e : Fin 128) (k : Fin 1024) :
    Fin' (router Wg We e k) := by
  unfold router
  split
  · exact he _
  · split
    · exact hg _
    · exact ⟨0, rfl⟩

/-- Where the norm's and the router's weights are real, the kernel's three products are the product. -/
theorem wholeLogits_real (X : S16384x1024.Idx → EReal) (Ya Yb : Cert.Kernel4Ideal.S16384x512.Idx → EReal) (Gt : Cert.Kernel4Ideal.S16384x2048.Idx → EReal) (A B : S512x1024.Idx → EReal)
    (O : S1024x1024.Idx → EReal) (g b : Cert.Kernel4Ideal.S1x1024.Idx → EReal) (W : Cert.Kernel4Ideal.S128x1024.Idx → EReal) (hg : ∀ k : Fin 1024, Fin' (g (ix2 0 k)))
    (hb : ∀ k : Fin 1024, Fin' (b (ix2 0 k))) (e : Fin 128) (hw : ∀ k : Fin 1024, Fin' (W (ix2 e k))) (r : Fin 16384) :
    wholeLogits X Ya Yb Gt A B O g b W (ix2 e r)
      = ∑ k : Fin 1024, rowOut (fun e => X (ix2 r e)) (fun k => Ya (ix2 r k)) (fun k => Yb (ix2 r k)) (fun e => Gt (ix2 r (⟨e.val, by omega⟩ : Fin 2048)))
          (fun e => Gt (ix2 r (⟨1024 + e.val, by omega⟩ : Fin 2048))) A B O (fun e => g (ix2 0 e)) (fun e => b (ix2 0 e)) k * W (ix2 e k) :=
  split3 (fun k => W (ix2 e k)) (rowOut (fun e => X (ix2 r e)) (fun k => Ya (ix2 r k)) (fun k => Yb (ix2 r k)) (fun e => Gt (ix2 r (⟨e.val, by omega⟩ : Fin 2048)))
    (fun e => Gt (ix2 r (⟨1024 + e.val, by omega⟩ : Fin 2048))) A B O (fun e => g (ix2 0 e)) (fun e => b (ix2 0 e))) hw fun k => normed_real _ _ _ hg hb k

/-! ## The claims -/

/-- The reference's frame: every execution ends, with its arguments unchanged and every counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  (θ_run _ _ _).mono (fun r h => ⟨fun c => (h c).2, sem_eq_zero_of_no_sems rfl _⟩) (Cert.Reference4Ideal.Value.run m ρ)

/-- From memories agreeing on the arguments, the norm's and the router's weights finite, both programs run, end with equal logits and leave their arguments unchanged. -/
theorem value : algebraic_Kernel4Ideal_Reference4Ideal_pre_weights_finite (hKernel4Ideal := Cert.Kernel4Ideal.Gen.facts) (hReference4Ideal := Cert.Reference4Ideal.Gen.facts)
    (hPre_weights_finite := Cert.Pre_weights_finite.Gen.facts) := by
  intro m g m' g' hp he
  refine ⟨_, (θ_run _ _ _).mono (fun r h c => ⟨(h c).2.1, (h c).2.2⟩) (Cert.Kernel4Ideal.Value.run_blocks m g), (θ_run _ _ _).mono (fun r h c => ?_) (Cert.Reference4Ideal.Value.run m' g')⟩
  obtain ⟨h1, h2⟩ := h c
  obtain ⟨e0, e1, e2, e3, e4, e5, e6, e7, e8, e9, e10⟩ := he c
  obtain ⟨p7, p8, p9, p10⟩ := hp c
  refine ⟨h1.trans (Eq.trans ?_ (final11 m c).symm), h2⟩
  refine (res_eq m' c).trans ?_
  funext z
  obtain ⟨e, r, rfl⟩ : ∃ (e : Fin 128) (r : Fin 16384), z = ix2 e r := ⟨z 0, z 1, by
    funext a
    match a with
    | ⟨0, _⟩ => rfl
    | ⟨1, _⟩ => rfl⟩
  have hr := r.isLt
  have er : r.val = 4096 * (r.val / 4096) + r.val % 4096 := by omega
  have r7 : ∀ k : Fin 1024, Fin' ((Cert.Kernel4Ideal.Gen.V m c Cert.Kernel4Ideal.main_v14 : Cert.Kernel4Ideal.S1x1024.Idx → EReal) (ix2 0 k)) := fun k => by
    rw [lnV]; exact real_of_abs (congrFun p7 (ix1 k))
  have r8 : ∀ k : Fin 1024, Fin' ((Cert.Kernel4Ideal.Gen.V m c Cert.Kernel4Ideal.main_v15 : Cert.Kernel4Ideal.S1x1024.Idx → EReal) (ix2 0 k)) := fun k => by
    rw [lbV]; exact real_of_abs (congrFun p8 (ix1 k))
  have r9 : ∀ k : Fin 1024, Fin' ((Cert.Kernel4Ideal.Gen.V m c Cert.Kernel4Ideal.main_v7 : Cert.Kernel4Ideal.S128x1024.Idx → EReal) (ix2 e k)) := fun k => by
    rw [wrV]; exact router_real (fun z => real_of_abs (congrFun p9 z)) (fun z => real_of_abs (congrFun p10 z)) e k
  refine (logitsR_apply _ _ _ e r).trans ?_
  refine Eq.trans ?_ (wholeLogits_real _ _ _ _ _ _ _ _ _ _ r7 r8 e r9 r).symm
  refine Finset.sum_congr rfl fun k _ => congrArg₂ (fun p q : EReal => p * q) ?_ ?_
  · refine (ref_apply _ _ _ _ _ _ _ _ _ r k ⟨r.val / 4096, by omega⟩ ⟨r.val % 4096, by omega⟩ er).trans ?_
    exact rowOut_congr (fun k => (congrFun e0 _).trans (xV m c _ _ k r er).symm) (fun k => (congrFun e1 _).trans (yaV m c _ _ k r er).symm)
      (fun k => (congrFun e2 _).trans (ybV m c _ _ k r er).symm) (fun k => (congrFun e3 _).trans (gtV m c _ _ _ r er).symm)
      (fun k => (congrFun e3 _).trans (gtV m c _ _ _ r er).symm) (fun k l => (congrFun e4 _).trans (waV m c k l).symm)
      (fun k l => (congrFun e5 _).trans (wbV m c k l).symm) (fun k l => (congrFun e6 _).trans (woV m c k l).symm)
      (fun k => (congrFun e7 _).trans (lnV m c k).symm) (fun k => (congrFun e8 _).trans (lbV m c k).symm) k
  · refine Eq.trans ?_ (wrV m c e k).symm
    rw [e9, e10]

end Cert.Logit

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Pre_weights_finite
public import proofs.«01_k».proof.Proof.Equation
public import proofs.«01_k».proof.Proof.Proj
public import proofs.«01_k».proof.Proof.Merge
public import proofs.«01_k».proof.Proof.Logit
public import Idealize.ShloMosaic.Adequacy
public import Idealize.ShloMosaic.Init

@[expose] public section

noncomputable section

namespace Cert.Proof

open Idealize.ShloMosaic Idealize.SL.Sem Cert.Kernel

/-- From memories agreeing on the arguments both programs run, end with equal results and leave their arguments unchanged. -/
theorem value : algebraic_KernelIdeal_ReferenceIdeal (hKernelIdeal := Cert.KernelIdeal.Gen.facts) (hReferenceIdeal := Cert.ReferenceIdeal.Gen.facts) :=
  fun m g m' g' _ he => ⟨fun c => Cert.KernelIdeal.Value.G5 m c, Cert.KernelIdeal.Value.run m g,
    θ_run_mono (Cert.ReferenceIdeal.Value.run_fold m' g') (fun r h c =>
      ⟨(h c Cert.ReferenceIdeal.main_v84 rfl).trans (Cert.Hgrn.equation m m' c (he c).1 (he c).2.1 (he c).2.2),
        (h c Cert.ReferenceIdeal.main_arg0 rfl).trans (Cert.Hgrn.Ref.final_arg0 m' c),
        (h c Cert.ReferenceIdeal.main_arg1 rfl).trans (Cert.Hgrn.Ref.final_arg1 m' c),
        (h c Cert.ReferenceIdeal.main_arg2 rfl).trans (Cert.Hgrn.Ref.final_arg2 m' c)⟩)⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_weights_finite.Gen.facts,
  fun m ρ _ => Cert.Kernel.Gen.frame m ρ, fun m ρ _ => Cert.KernelIdeal.Gen.frame m ρ, fun m ρ _ => Cert.Hgrn.Ref.frame m ρ,
  fun m ρ _ => Cert.Kernel2.Gen.frame m ρ, fun m ρ _ => Cert.Kernel2Ideal.Gen.frame m ρ, fun m ρ _ => Cert.Proj.frame m ρ,
  fun m ρ _ => Cert.Kernel3.Gen.frame m ρ, fun m ρ _ => Cert.Kernel3Ideal.Gen.frame m ρ, fun m ρ _ => Cert.Merge.frame m ρ,
  fun m ρ _ => Cert.Kernel4.Gen.frame m ρ, fun m ρ _ => Cert.Kernel4Ideal.Gen.frame m ρ, fun m ρ _ => Cert.Kernel4Ideal.Gen.frame m ρ,
  fun m ρ _ => Cert.Logit.frame m ρ, fun m ρ _ => Cert.Logit.frame m ρ,
  trivial, value, trivial, Cert.Proj.value, trivial, Cert.Merge.value, trivial, Cert.Logit.value⟩

end Cert.Proof

end
